-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pages_in_range_KernelIdeal [hPre_pages_in_range_KernelIdeal : Cert.Pre_pages_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_in_range_ReferenceIdeal [hPre_pages_in_range_ReferenceIdeal : Cert.Pre_pages_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pages_in_range_KernelIdeal [hKernelIdeal : Cert.KernelIdeal.Facts] [hPre_pages_in_range_KernelIdeal : Cert.Pre_pages_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pages_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_in_range_ReferenceIdeal [hReferenceIdeal : Cert.ReferenceIdeal.Facts] [hPre_pages_in_range_ReferenceIdeal : Cert.Pre_pages_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pages_in_range_KernelIdeal [hKernelIdeal : Cert.KernelIdeal.Facts] [hReferenceIdeal : Cert.ReferenceIdeal.Facts] [hPre_pages_in_range_KernelIdeal : Cert.Pre_pages_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pages_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![128, 16, 16, 64]⟩ ⟨4, ![4096, 16, 16, 64]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![128, 16, 16, 64]⟩ ⟨4, ![4096, 16, 16, 64]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pages_in_range_KernelIdeal : Cert.Pre_pages_in_range_KernelIdeal.Facts) (hPre_pages_in_range_ReferenceIdeal : Cert.Pre_pages_in_range_ReferenceIdeal.Facts),
    quiescent_Kernel (hKernel := hKernel)
    ∧ quiescent_KernelIdeal (hKernelIdeal := hKernelIdeal)
    ∧ quiescent_KernelIdeal_pre_pages_in_range_KernelIdeal (hKernelIdeal := hKernelIdeal) (hPre_pages_in_range_KernelIdeal := hPre_pages_in_range_KernelIdeal)
    ∧ quiescent_ReferenceIdeal (hReferenceIdeal := hReferenceIdeal)
    ∧ quiescent_ReferenceIdeal_pre_pages_in_range_ReferenceIdeal (hReferenceIdeal := hReferenceIdeal) (hPre_pages_in_range_ReferenceIdeal := hPre_pages_in_range_ReferenceIdeal)
    ∧ preserves_Kernel_KernelIdeal
    ∧ algebraic_KernelIdeal_ReferenceIdeal_pre_pages_in_range_KernelIdeal (hKernelIdeal := hKernelIdeal) (hReferenceIdeal := hReferenceIdeal) (hPre_pages_in_range_KernelIdeal := hPre_pages_in_range_KernelIdeal)
-- ==== Pre_pages_in_range_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩

class Facts : Prop where
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  reducesTo_S16x128_S_d0_1 : S16x128.ReducesTo [0, 1] S_
  h_S_ : 0 < S_.numel
  bcast_S_S16 : S_.BroadcastsInDim S16 (![] : Fin 0 → Fin S16.rank)
  reducesTo_S16_S_d0 : S16.ReducesTo [0] S_
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  bcast_S_S128x16x16x64 : S_.BroadcastsInDim S128x16x16x64 (![] : Fin 0 → Fin S128x16x16x64.rank)
  reducesTo_S128x16x16x64_S_d0_1_2_3 : S128x16x16x64.ReducesTo [0, 1, 2, 3] S_

variable [Facts]

def fn_where {F : FTy → Type} [FloatOps F] (arg0 : IVec S16x128 1) (arg1 : IVec S16x128 1) (arg2 : IVec S_ 1) : IVec S16x128 1 :=
  let v0 : IVec S16x128 1 := broadcastInDim S16x128 ![] bcast_S_S16x128 arg2
  let v1 : IVec S16x128 1 := select arg0 arg1 v0
  v1

def fn_part1 {F : FTy → Type} [FloatOps F] (main_arg1 : FVec F S128x16x16x64 .f32) (main_v14 : IVec S_ 1) (main_v15 : FVec F S16x1x16x64 .f32) (main_v16 : FVec F S16x1x16x64 .f32) : IVec S_ 1 :=
  let main_v17 : IVec S16x1x16x64 1 := cmpf .olt main_v15 main_v16
  let main_c_5 : IVec S_ 1 := constantI S_ 1 1#1
  let main_v18 : IVec S_ 1 := (fun x v => Host.reduce IntOp.andi x v reducesTo_S16x1x16x64_S_d0_1_2_3 h_S_) main_v17 main_c_5
  let main_v19 : IVec S_ 1 := andi main_v14 main_v18
  let main_v20 : FVec F S128x16x16x64 .f32 := Host.absf main_arg1
  let main_cst_6 : FVec F S_ .f32 := constant S_ .f32 0x7F800000#32
  let main_v21 : FVec F S128x16x16x64 .f32 := broadcastInDim S128x16x16x64 ![] bcast_S_S128x16x16x64 main_cst_6
  let main_v22 : IVec S128x16x16x64 1 := cmpf .olt main_v20 main_v21
  let main_c_7 : IVec S_ 1 := constantI S_ 1 1#1
  let main_v23 : IVec S_ 1 := (fun x v => Host.reduce IntOp.andi x v reducesTo_S128x16x16x64_S_d0_1_2_3 h_S_) main_v22 main_c_7
  let main_v24 : IVec S_ 1 := andi main_v19 main_v23
  main_v24

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16 32) : IVec S_ 1 :=
  let main_v0 : IVec S16x128 32 := iotaInDim S16x128 32 1
  let main_v1 : IVec S16x1 32 := broadcastInDim S16x1 ![0] bcast_S16_S16x1_0 main_arg4
  let main_v2 : IVec S16x128 32 := broadcastInDim S16x128 ![0, 1] bcast_S16x1_S16x128_0_1 main_v1
  let main_v3 : IVec S16x128 1 := cmpi .slt main_v0 main_v2
  let main_c : IVec S_ 32 := constantI S_ 32 0#32
  let main_v4 : IVec S16x128 32 := broadcastInDim S16x128 ![] bcast_S_S16x128 main_c
  let main_v5 : IVec S16x128 1 := cmpi .sge main_arg3 main_v4
  let main_c_0 : IVec S_ 32 := constantI S_ 32 4096#32
  let main_v6 : IVec S16x128 32 := broadcastInDim S16x128 ![] bcast_S_S16x128 main_c_0
  let main_v7 : IVec S16x128 1 := cmpi .slt main_arg3 main_v6
  let main_v8 : IVec S16x128 1 := andi main_v5 main_v7
  let main_c_1 : IVec S_ 1 := constantI S_ 1 1#1
  let main_v9 : IVec S16x128 1 := fn_where (F := F) main_v3 main_v8 main_c_1
  let main_c_2 : IVec S_ 1 := constantI S_ 1 1#1
  let main_v10 : IVec S_ 1 := (fun x v => Host.reduce IntOp.andi x v reducesTo_S16x128_S_d0_1 h_S_) main_v9 main_c_2
  let main_c_3 : IVec S_ 32 := constantI S_ 32 0#32
  let main_v11 : IVec S16 32 := broadcastInDim S16 ![] bcast_S_S16 main_c_3
  let main_v12 : IVec S16 1 := cmpi .sgt main_arg4 main_v11
  let main_c_4 : IVec S_ 1 := constantI S_ 1 1#1
  let main_v13 : IVec S_ 1 := (fun x v => Host.reduce IntOp.andi x v reducesTo_S16_S_d0 h_S_) main_v12 main_c_4
  let main_v14 : IVec S_ 1 := andi main_v10 main_v13
  let main_v15 : FVec F S16x1x16x64 .f32 := Host.absf main_arg0
  let main_cst : FVec F S_ .f32 := constant S_ .f32 0x7F800000#32
  let main_v16 : FVec F S16x1x16x64 .f32 := broadcastInDim S16x1x16x64 ![] bcast_S_S16x1x16x64 main_cst
  fn_part1 (F := F) main_arg1 main_v14 main_v15 main_v16
-- ==== Pre_pages_in_range_ReferenceIdeal.lean ====
abbrev S16x1x16x64 : Shape := ⟨4, ![16, 1, 16, 64]⟩
abbrev S4096x16x16x64 : Shape := ⟨4, ![4096, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩

class Facts : Prop where
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  reducesTo_S16x128_S_d0_1 : S16x128.ReducesTo [0, 1] S_
  h_S_ : 0 < S_.numel
  bcast_S_S16 : S_.BroadcastsInDim S16 (![] : Fin 0 → Fin S16.rank)
  reducesTo_S16_S_d0 : S16.ReducesTo [0] S_
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  bcast_S_S4096x16x16x64 : S_.BroadcastsInDim S4096x16x16x64 (![] : Fin 0 → Fin S4096x16x16x64.rank)
  reducesTo_S4096x16x16x64_S_d0_1_2_3 : S4096x16x16x64.ReducesTo [0, 1, 2, 3] S_

variable [Facts]

def fn_where {F : FTy → Type} [FloatOps F] (arg0 : IVec S16x128 1) (arg1 : IVec S16x128 1) (arg2 : IVec S_ 1) : IVec S16x128 1 :=
  let v0 : IVec S16x128 1 := broadcastInDim S16x128 ![] bcast_S_S16x128 arg2
  let v1 : IVec S16x128 1 := select arg0 arg1 v0
  v1

def fn_part1 {F : FTy → Type} [FloatOps F] (main_arg1 : FVec F S4096x16x16x64 .f32) (main_v14 : IVec S_ 1) (main_v15 : FVec F S16x1x16x64 .f32) (main_v16 : FVec F S16x1x16x64 .f32) : IVec S_ 1 :=
  let main_v17 : IVec S16x1x16x64 1 := cmpf .olt main_v15 main_v16
  let main_c_5 : IVec S_ 1 := constantI S_ 1 1#1
  let main_v18 : IVec S_ 1 := (fun x v => Host.reduce IntOp.andi x v reducesTo_S16x1x16x64_S_d0_1_2_3 h_S_) main_v17 main_c_5
  let main_v19 : IVec S_ 1 := andi main_v14 main_v18
  let main_v20 : FVec F S4096x16x16x64 .f32 := Host.absf main_arg1
  let main_cst_6 : FVec F S_ .f32 := constant S_ .f32 0x7F800000#32
  let main_v21 : FVec F S4096x16x16x64 .f32 := broadcastInDim S4096x16x16x64 ![] bcast_S_S4096x16x16x64 main_cst_6
  let main_v22 : IVec S4096x16x16x64 1 := cmpf .olt main_v20 main_v21
  let main_c_7 : IVec S_ 1 := constantI S_ 1 1#1
  let main_v23 : IVec S_ 1 := (fun x v => Host.reduce IntOp.andi x v reducesTo_S4096x16x16x64_S_d0_1_2_3 h_S_) main_v22 main_c_7
  let main_v24 : IVec S_ 1 := andi main_v19 main_v23
  main_v24

def fn {F : FTy → Type} [FloatOps F] (main_arg0 : FVec F S16x1x16x64 .f32) (main_arg1 : FVec F S4096x16x16x64 .f32) (main_arg2 : FVec F S4096x16x16x64 .f32) (main_arg3 : IVec S16x128 32) (main_arg4 : IVec S16 32) : IVec S_ 1 :=
  let main_v0 : IVec S16x128 32 := iotaInDim S16x128 32 1
  let main_v1 : IVec S16x1 32 := broadcastInDim S16x1 ![0] bcast_S16_S16x1_0 main_arg4
  let main_v2 : IVec S16x128 32 := broadcastInDim S16x128 ![0, 1] bcast_S16x1_S16x128_0_1 main_v1
  let main_v3 : IVec S16x128 1 := cmpi .slt main_v0 main_v2
  let main_c : IVec S_ 32 := constantI S_ 32 0#32
  let main_v4 : IVec S16x128 32 := broadcastInDim S16x128 ![] bcast_S_S16x128 main_c
  let main_v5 : IVec S16x128 1 := cmpi .sge main_arg3 main_v4
  let main_c_0 : IVec S_ 32 := constantI S_ 32 4096#32
  let main_v6 : IVec S16x128 32 := broadcastInDim S16x128 ![] bcast_S_S16x128 main_c_0
  let main_v7 : IVec S16x128 1 := cmpi .slt main_arg3 main_v6
  let main_v8 : IVec S16x128 1 := andi main_v5 main_v7
  let main_c_1 : IVec S_ 1 := constantI S_ 1 1#1
  let main_v9 : IVec S16x128 1 := fn_where (F := F) main_v3 main_v8 main_c_1
  let main_c_2 : IVec S_ 1 := constantI S_ 1 1#1
  let main_v10 : IVec S_ 1 := (fun x v => Host.reduce IntOp.andi x v reducesTo_S16x128_S_d0_1 h_S_) main_v9 main_c_2
  let main_c_3 : IVec S_ 32 := constantI S_ 32 0#32
  let main_v11 : IVec S16 32 := broadcastInDim S16 ![] bcast_S_S16 main_c_3
  let main_v12 : IVec S16 1 := cmpi .sgt main_arg4 main_v11
  let main_c_4 : IVec S_ 1 := constantI S_ 1 1#1
  let main_v13 : IVec S_ 1 := (fun x v => Host.reduce IntOp.andi x v reducesTo_S16_S_d0 h_S_) main_v12 main_c_4
  let main_v14 : IVec S_ 1 := andi main_v10 main_v13
  let main_v15 : FVec F S16x1x16x64 .f32 := Host.absf main_arg0
  let main_cst : FVec F S_ .f32 := constant S_ .f32 0x7F800000#32
  let main_v16 : FVec F S16x1x16x64 .f32 := broadcastInDim S16x1x16x64 ![] bcast_S_S16x1x16x64 main_cst
  fn_part1 (F := F) main_arg1 main_v14 main_v15 main_v16
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S32x8x128 : Shape := ⟨3, ![32, 8, 128]⟩
abbrev S8x64 : Shape := ⟨2, ![8, 64]⟩
abbrev S32x8x64 : Shape := ⟨3, ![32, 8, 64]⟩
abbrev S32 : Shape := ⟨1, ![32]⟩
abbrev S_ : Shape := ⟨0, ![]⟩
abbrev S1 : Shape := ⟨1, ![1]⟩
abbrev S1x1 : Shape := ⟨2, ![1, 1]⟩
abbrev S16x1 : Shape := ⟨2, ![16, 1]⟩
abbrev S16x128x128 : Shape := ⟨3, ![16, 128, 128]⟩
abbrev S16x1x128 : Shape := ⟨3, ![16, 1, 128]⟩
abbrev S128x2048 : Shape := ⟨2, ![128, 2048]⟩
abbrev S16x2048 : Shape := ⟨2, ![16, 2048]⟩
abbrev S16x1x1x64 : Shape := ⟨4, ![16, 1, 1, 64]⟩
abbrev S16x64 : Shape := ⟨2, ![16, 64]⟩
abbrev S128x16x1x64 : Shape := ⟨4, ![128, 16, 1, 64]⟩
abbrev S128x16x64 : Shape := ⟨3, ![128, 16, 64]⟩
abbrev S2048x64 : Shape := ⟨2, ![2048, 64]⟩
abbrev S1x8x64 : Shape := ⟨3, ![1, 8, 64]⟩
abbrev S8x1 : Shape := ⟨2, ![8, 1]⟩
abbrev S1x8x1 : Shape := ⟨3, ![1, 8, 1]⟩
abbrev S1x8x128 : Shape := ⟨3, ![1, 8, 128]⟩
abbrev S8x128 : Shape := ⟨2, ![8, 128]⟩
abbrev S32x8x1 : Shape := ⟨3, ![32, 8, 1]⟩

abbrev nBuf : Space → Nat
  | .hbm => 6
  | .vmem => 9
  | .smem => 1
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16, .i32⟩
  | .hbm, ⟨5, _⟩ => ⟨S16x1x16x64, .f32⟩
  | .local _ .vmem, ⟨0, _⟩ => ⟨S16x1x16x64, .f32⟩
  | .local _ .vmem, ⟨1, _⟩ => ⟨S128x16x16x64, .f32⟩
  | .local _ .vmem, ⟨2, _⟩ => ⟨S128x16x16x64, .f32⟩
  | .local _ .vmem, ⟨3, _⟩ => ⟨S16x128, .i32⟩
  | .local _ .vmem, ⟨4, _⟩ => ⟨S16x1x16x64, .f32⟩
  | .local _ .vmem, ⟨5, _⟩ => ⟨S32x8x128, .f32⟩
  | .local _ .vmem, ⟨6, _⟩ => ⟨S32x8x128, .f32⟩
  | .local _ .vmem, ⟨7, _⟩ => ⟨S8x64, .f32⟩
  | .local _ .vmem, ⟨8, _⟩ => ⟨S32x8x64, .f32⟩
  | .local _ .smem, ⟨0, _⟩ => ⟨S16, .i32⟩
  | _, _ => ⟨S16x1x16x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 2 → Bool
  | ⟨0, _⟩ => false
  | ⟨1, _⟩ => true
  | _ => false

abbrev dmaSemScoped : Fin 134 → Bool
  | ⟨i, _⟩ => dmaSemScopedAt i

abbrev sig : RefSig :=
  (ofTc nBuf bufTy 2 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1770 : BitVec 32 := 0#32
  let c0_i32_1768 : BitVec 32 := 0#32
  let c1_i32_1769 : BitVec 32 := 1#32
  let v1740 : BitVec 32 := Scalar.muli c0_i32_1768 c1_i32_1769
  let v1741 : BitVec 32 := Scalar.addi c0_i32_1770 v1740
  v1741.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1770 : BitVec 32 := 0#32
  let c1_i32_1768 : BitVec 32 := 1#32
  let c1_i32_1769 : BitVec 32 := 1#32
  let v1740 : BitVec 32 := Scalar.muli c1_i32_1768 c1_i32_1769
  let v1741 : BitVec 32 := Scalar.addi c0_i32_1770 v1740
  v1741.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1770 : BitVec 32 := 0#32
  let c2_i32_1768 : BitVec 32 := 2#32
  let c1_i32_1769 : BitVec 32 := 1#32
  let v1740 : BitVec 32 := Scalar.muli c2_i32_1768 c1_i32_1769
  let v1741 : BitVec 32 := Scalar.addi c0_i32_1770 v1740
  v1741.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1770 : BitVec 32 := 0#32
  let c3_i32_1768 : BitVec 32 := 3#32
  let c1_i32_1769 : BitVec 32 := 1#32
  let v1740 : BitVec 32 := Scalar.muli c3_i32_1768 c1_i32_1769
  let v1741 : BitVec 32 := Scalar.addi c0_i32_1770 v1740
  v1741.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1770 : BitVec 32 := 0#32
  let c4_i32_1768 : BitVec 32 := 4#32
  let c1_i32_1769 : BitVec 32 := 1#32
  let v1740 : BitVec 32 := Scalar.muli c4_i32_1768 c1_i32_1769
  let v1741 : BitVec 32 := Scalar.addi c0_i32_1770 v1740
  v1741.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1770 : BitVec 32 := 0#32
  let c5_i32_1768 : BitVec 32 := 5#32
  let c1_i32_1769 : BitVec 32 := 1#32
  let v1740 : BitVec 32 := Scalar.muli c5_i32_1768 c1_i32_1769
  let v1741 : BitVec 32 := Scalar.addi c0_i32_1770 v1740
  v1741.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1770 : BitVec 32 := 0#32
  let c6_i32_1768 : BitVec 32 := 6#32
  let c1_i32_1769 : BitVec 32 := 1#32
  let v1740 : BitVec 32 := Scalar.muli c6_i32_1768 c1_i32_1769
  let v1741 : BitVec 32 := Scalar.addi c0_i32_1770 v1740
  v1741.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1770 : BitVec 32 := 0#32
  let c7_i32_1768 : BitVec 32 := 7#32
  let c1_i32_1769 : BitVec 32 := 1#32
  let v1740 : BitVec 32 := Scalar.muli c7_i32_1768 c1_i32_1769
  let v1741 : BitVec 32 := Scalar.addi c0_i32_1770 v1740
  v1741.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_1770 : BitVec 32 := 0#32
  let c8_i32_1768 : BitVec 32 := 8#32
  let c1_i32_1769 : BitVec 32 := 1#32
  let v1740 : BitVec 32 := Scalar.muli c8_i32_1768 c1_i32_1769
  let v1741 : BitVec 32 := Scalar.addi c0_i32_1770 v1740
  v1741.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_1770 : BitVec 32 := 0#32
  let c9_i32_1768 : BitVec 32 := 9#32
  let c1_i32_1769 : BitVec 32 := 1#32
  let v1740 : BitVec 32 := Scalar.muli c9_i32_1768 c1_i32_1769
  let v1741 : BitVec 32 := Scalar.addi c0_i32_1770 v1740
  v1741.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_1770 : BitVec 32 := 0#32
  let c10_i32_1768 : BitVec 32 := 10#32
  let c1_i32_1769 : BitVec 32 := 1#32
  let v1740 : BitVec 32 := Scalar.muli c10_i32_1768 c1_i32_1769
  let v1741 : BitVec 32 := Scalar.addi c0_i32_1770 v1740
  v1741.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_1770 : BitVec 32 := 0#32
  let c11_i32_1768 : BitVec 32 := 11#32
  let c1_i32_1769 : BitVec 32 := 1#32
  let v1740 : BitVec 32 := Scalar.muli c11_i32_1768 c1_i32_1769
  let v1741 : BitVec 32 := Scalar.addi c0_i32_1770 v1740
  v1741.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_1770 : BitVec 32 := 0#32
  let c12_i32_1768 : BitVec 32 := 12#32
  let c1_i32_1769 : BitVec 32 := 1#32
  let v1740 : BitVec 32 := Scalar.muli c12_i32_1768 c1_i32_1769
  let v1741 : BitVec 32 := Scalar.addi c0_i32_1770 v1740
  v1741.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_1770 : BitVec 32 := 0#32
  let c13_i32_1768 : BitVec 32 := 13#32
  let c1_i32_1769 : BitVec 32 := 1#32
  let v1740 : BitVec 32 := Scalar.muli c13_i32_1768 c1_i32_1769
  let v1741 : BitVec 32 := Scalar.addi c0_i32_1770 v1740
  v1741.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_1770 : BitVec 32 := 0#32
  let c14_i32_1768 : BitVec 32 := 14#32
  let c1_i32_1769 : BitVec 32 := 1#32
  let v1740 : BitVec 32 := Scalar.muli c14_i32_1768 c1_i32_1769
  let v1741 : BitVec 32 := Scalar.addi c0_i32_1770 v1740
  v1741.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_1770 : BitVec 32 := 0#32
  let c15_i32_1768 : BitVec 32 := 15#32
  let c1_i32_1769 : BitVec 32 := 1#32
  let v1740 : BitVec 32 := Scalar.muli c15_i32_1768 c1_i32_1769
  let v1741 : BitVec 32 := Scalar.addi c0_i32_1770 v1740
  v1741.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_1770 : BitVec 32 := 0#32
  let c16_i32_1768 : BitVec 32 := 16#32
  let c1_i32_1769 : BitVec 32 := 1#32
  let v1740 : BitVec 32 := Scalar.muli c16_i32_1768 c1_i32_1769
  let v1741 : BitVec 32 := Scalar.addi c0_i32_1770 v1740
  v1741.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_1770 : BitVec 32 := 0#32
  let c17_i32_1768 : BitVec 32 := 17#32
  let c1_i32_1769 : BitVec 32 := 1#32
  let v1740 : BitVec 32 := Scalar.muli c17_i32_1768 c1_i32_1769
  let v1741 : BitVec 32 := Scalar.addi c0_i32_1770 v1740
  v1741.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_1770 : BitVec 32 := 0#32
  let c18_i32_1768 : BitVec 32 := 18#32
  let c1_i32_1769 : BitVec 32 := 1#32
  let v1740 : BitVec 32 := Scalar.muli c18_i32_1768 c1_i32_1769
  let v1741 : BitVec 32 := Scalar.addi c0_i32_1770 v1740
  v1741.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_1770 : BitVec 32 := 0#32
  let c19_i32_1768 : BitVec 32 := 19#32
  let c1_i32_1769 : BitVec 32 := 1#32
  let v1740 : BitVec 32 := Scalar.muli c19_i32_1768 c1_i32_1769
  let v1741 : BitVec 32 := Scalar.addi c0_i32_1770 v1740
  v1741.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_1770 : BitVec 32 := 0#32
  let c20_i32_1768 : BitVec 32 := 20#32
  let c1_i32_1769 : BitVec 32 := 1#32
  let v1740 : BitVec 32 := Scalar.muli c20_i32_1768 c1_i32_1769
  let v1741 : BitVec 32 := Scalar.addi c0_i32_1770 v1740
  v1741.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_1770 : BitVec 32 := 0#32
  let c21_i32_1768 : BitVec 32 := 21#32
  let c1_i32_1769 : BitVec 32 := 1#32
  let v1740 : BitVec 32 := Scalar.muli c21_i32_1768 c1_i32_1769
  let v1741 : BitVec 32 := Scalar.addi c0_i32_1770 v1740
  v1741.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_1770 : BitVec 32 := 0#32
  let c22_i32_1768 : BitVec 32 := 22#32
  let c1_i32_1769 : BitVec 32 := 1#32
  let v1740 : BitVec 32 := Scalar.muli c22_i32_1768 c1_i32_1769
  let v1741 : BitVec 32 := Scalar.addi c0_i32_1770 v1740
  v1741.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_1770 : BitVec 32 := 0#32
  let c23_i32_1768 : BitVec 32 := 23#32
  let c1_i32_1769 : BitVec 32 := 1#32
  let v1740 : BitVec 32 := Scalar.muli c23_i32_1768 c1_i32_1769
  let v1741 : BitVec 32 := Scalar.addi c0_i32_1770 v1740
  v1741.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_1770 : BitVec 32 := 0#32
  let c24_i32_1768 : BitVec 32 := 24#32
  let c1_i32_1769 : BitVec 32 := 1#32
  let v1740 : BitVec 32 := Scalar.muli c24_i32_1768 c1_i32_1769
  let v1741 : BitVec 32 := Scalar.addi c0_i32_1770 v1740
  v1741.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_1770 : BitVec 32 := 0#32
  let c25_i32_1768 : BitVec 32 := 25#32
  let c1_i32_1769 : BitVec 32 := 1#32
  let v1740 : BitVec 32 := Scalar.muli c25_i32_1768 c1_i32_1769
  let v1741 : BitVec 32 := Scalar.addi c0_i32_1770 v1740
  v1741.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_1770 : BitVec 32 := 0#32
  let c26_i32_1768 : BitVec 32 := 26#32
  let c1_i32_1769 : BitVec 32 := 1#32
  let v1740 : BitVec 32 := Scalar.muli c26_i32_1768 c1_i32_1769
  let v1741 : BitVec 32 := Scalar.addi c0_i32_1770 v1740
  v1741.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_1770 : BitVec 32 := 0#32
  let c27_i32_1768 : BitVec 32 := 27#32
  let c1_i32_1769 : BitVec 32 := 1#32
  let v1740 : BitVec 32 := Scalar.muli c27_i32_1768 c1_i32_1769
  let v1741 : BitVec 32 := Scalar.addi c0_i32_1770 v1740
  v1741.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_1770 : BitVec 32 := 0#32
  let c28_i32_1768 : BitVec 32 := 28#32
  let c1_i32_1769 : BitVec 32 := 1#32
  let v1740 : BitVec 32 := Scalar.muli c28_i32_1768 c1_i32_1769
  let v1741 : BitVec 32 := Scalar.addi c0_i32_1770 v1740
  v1741.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_1770 : BitVec 32 := 0#32
  let c29_i32_1768 : BitVec 32 := 29#32
  let c1_i32_1769 : BitVec 32 := 1#32
  let v1740 : BitVec 32 := Scalar.muli c29_i32_1768 c1_i32_1769
  let v1741 : BitVec 32 := Scalar.addi c0_i32_1770 v1740
  v1741.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_1770 : BitVec 32 := 0#32
  let c30_i32_1768 : BitVec 32 := 30#32
  let c1_i32_1769 : BitVec 32 := 1#32
  let v1740 : BitVec 32 := Scalar.muli c30_i32_1768 c1_i32_1769
  let v1741 : BitVec 32 := Scalar.addi c0_i32_1770 v1740
  v1741.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_1770 : BitVec 32 := 0#32
  let c31_i32_1768 : BitVec 32 := 31#32
  let c1_i32_1769 : BitVec 32 := 1#32
  let v1740 : BitVec 32 := Scalar.muli c31_i32_1768 c1_i32_1769
  let v1741 : BitVec 32 := Scalar.addi c0_i32_1770 v1740
  v1741.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_83 : BitVec 32 := 0#32
  let v231 : BitVec 1 := Scalar.cmpi .ne v2 c0_i32_83
  let v232 : BitVec 32 := Scalar.extui v231
  let c0_i32_86 : BitVec 32 := 0#32
  let v233 : BitVec 1 := Scalar.cmpi .ne v232 c0_i32_86
  v233

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev33 : Nat :=
  let c0_i32_1769 : BitVec 32 := 0#32
  let c0_i32_1767 : BitVec 32 := 0#32
  let c1_i32_1768 : BitVec 32 := 1#32
  let v1740 : BitVec 32 := Scalar.muli c0_i32_1767 c1_i32_1768
  let v1741 : BitVec 32 := Scalar.addi c0_i32_1769 v1740
  v1741.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_89 : BitVec 32 := 1#32
  let v237 : BitVec 1 := Scalar.cmpi .ne v2 c1_i32_89
  let v238 : BitVec 32 := Scalar.extui v237
  let c0_i32_92 : BitVec 32 := 0#32
  let v239 : BitVec 1 := Scalar.cmpi .ne v238 c0_i32_92
  v239

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev34 : Nat :=
  let c0_i32_1769 : BitVec 32 := 0#32
  let c1_i32_1767 : BitVec 32 := 1#32
  let c1_i32_1768 : BitVec 32 := 1#32
  let v1740 : BitVec 32 := Scalar.muli c1_i32_1767 c1_i32_1768
  let v1741 : BitVec 32 := Scalar.addi c0_i32_1769 v1740
  v1741.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_131 : BitVec 32 := 2#32
  let v289 : BitVec 1 := Scalar.cmpi .ne v2 c2_i32_131
  let v290 : BitVec 32 := Scalar.extui v289
  let c0_i32_134 : BitVec 32 := 0#32
  let v291 : BitVec 1 := Scalar.cmpi .ne v290 c0_i32_134
  v291

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev35 : Nat :=
  let c0_i32_1769 : BitVec 32 := 0#32
  let c2_i32_1767 : BitVec 32 := 2#32
  let c1_i32_1768 : BitVec 32 := 1#32
  let v1740 : BitVec 32 := Scalar.muli c2_i32_1767 c1_i32_1768
  let v1741 : BitVec 32 := Scalar.addi c0_i32_1769 v1740
  v1741.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_137 : BitVec 32 := 3#32
  let v295 : BitVec 1 := Scalar.cmpi .ne v2 c3_i32_137
  let v296 : BitVec 32 := Scalar.extui v295
  let c0_i32_140 : BitVec 32 := 0#32
  let v297 : BitVec 1 := Scalar.cmpi .ne v296 c0_i32_140
  v297

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev36 : Nat :=
  let c0_i32_1769 : BitVec 32 := 0#32
  let c3_i32_1767 : BitVec 32 := 3#32
  let c1_i32_1768 : BitVec 32 := 1#32
  let v1740 : BitVec 32 := Scalar.muli c3_i32_1767 c1_i32_1768
  let v1741 : BitVec 32 := Scalar.addi c0_i32_1769 v1740
  v1741.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_179 : BitVec 32 := 4#32
  let v347 : BitVec 1 := Scalar.cmpi .ne v2 c4_i32_179
  let v348 : BitVec 32 := Scalar.extui v347
  let c0_i32_182 : BitVec 32 := 0#32
  let v349 : BitVec 1 := Scalar.cmpi .ne v348 c0_i32_182
  v349

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev37 : Nat :=
  let c0_i32_1769 : BitVec 32 := 0#32
  let c4_i32_1767 : BitVec 32 := 4#32
  let c1_i32_1768 : BitVec 32 := 1#32
  let v1740 : BitVec 32 := Scalar.muli c4_i32_1767 c1_i32_1768
  let v1741 : BitVec 32 := Scalar.addi c0_i32_1769 v1740
  v1741.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_185 : BitVec 32 := 5#32
  let v353 : BitVec 1 := Scalar.cmpi .ne v2 c5_i32_185
  let v354 : BitVec 32 := Scalar.extui v353
  let c0_i32_188 : BitVec 32 := 0#32
  let v355 : BitVec 1 := Scalar.cmpi .ne v354 c0_i32_188
  v355

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev38 : Nat :=
  let c0_i32_1769 : BitVec 32 := 0#32
  let c5_i32_1767 : BitVec 32 := 5#32
  let c1_i32_1768 : BitVec 32 := 1#32
  let v1740 : BitVec 32 := Scalar.muli c5_i32_1767 c1_i32_1768
  let v1741 : BitVec 32 := Scalar.addi c0_i32_1769 v1740
  v1741.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_227 : BitVec 32 := 6#32
  let v405 : BitVec 1 := Scalar.cmpi .ne v2 c6_i32_227
  let v406 : BitVec 32 := Scalar.extui v405
  let c0_i32_230 : BitVec 32 := 0#32
  let v407 : BitVec 1 := Scalar.cmpi .ne v406 c0_i32_230
  v407

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev39 : Nat :=
  let c0_i32_1769 : BitVec 32 := 0#32
  let c6_i32_1767 : BitVec 32 := 6#32
  let c1_i32_1768 : BitVec 32 := 1#32
  let v1740 : BitVec 32 := Scalar.muli c6_i32_1767 c1_i32_1768
  let v1741 : BitVec 32 := Scalar.addi c0_i32_1769 v1740
  v1741.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_233 : BitVec 32 := 7#32
  let v411 : BitVec 1 := Scalar.cmpi .ne v2 c7_i32_233
  let v412 : BitVec 32 := Scalar.extui v411
  let c0_i32_236 : BitVec 32 := 0#32
  let v413 : BitVec 1 := Scalar.cmpi .ne v412 c0_i32_236
  v413

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev40 : Nat :=
  let c0_i32_1769 : BitVec 32 := 0#32
  let c7_i32_1767 : BitVec 32 := 7#32
  let c1_i32_1768 : BitVec 32 := 1#32
  let v1740 : BitVec 32 := Scalar.muli c7_i32_1767 c1_i32_1768
  let v1741 : BitVec 32 := Scalar.addi c0_i32_1769 v1740
  v1741.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_275 : BitVec 32 := 8#32
  let v463 : BitVec 1 := Scalar.cmpi .ne v2 c8_i32_275
  let v464 : BitVec 32 := Scalar.extui v463
  let c0_i32_278 : BitVec 32 := 0#32
  let v465 : BitVec 1 := Scalar.cmpi .ne v464 c0_i32_278
  v465

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev41 : Nat :=
  let c0_i32_1769 : BitVec 32 := 0#32
  let c8_i32_1767 : BitVec 32 := 8#32
  let c1_i32_1768 : BitVec 32 := 1#32
  let v1740 : BitVec 32 := Scalar.muli c8_i32_1767 c1_i32_1768
  let v1741 : BitVec 32 := Scalar.addi c0_i32_1769 v1740
  v1741.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_281 : BitVec 32 := 9#32
  let v469 : BitVec 1 := Scalar.cmpi .ne v2 c9_i32_281
  let v470 : BitVec 32 := Scalar.extui v469
  let c0_i32_284 : BitVec 32 := 0#32
  let v471 : BitVec 1 := Scalar.cmpi .ne v470 c0_i32_284
  v471

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev42 : Nat :=
  let c0_i32_1769 : BitVec 32 := 0#32
  let c9_i32_1767 : BitVec 32 := 9#32
  let c1_i32_1768 : BitVec 32 := 1#32
  let v1740 : BitVec 32 := Scalar.muli c9_i32_1767 c1_i32_1768
  let v1741 : BitVec 32 := Scalar.addi c0_i32_1769 v1740
  v1741.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_323 : BitVec 32 := 10#32
  let v521 : BitVec 1 := Scalar.cmpi .ne v2 c10_i32_323
  let v522 : BitVec 32 := Scalar.extui v521
  let c0_i32_326 : BitVec 32 := 0#32
  let v523 : BitVec 1 := Scalar.cmpi .ne v522 c0_i32_326
  v523

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev43 : Nat :=
  let c0_i32_1769 : BitVec 32 := 0#32
  let c10_i32_1767 : BitVec 32 := 10#32
  let c1_i32_1768 : BitVec 32 := 1#32
  let v1740 : BitVec 32 := Scalar.muli c10_i32_1767 c1_i32_1768
  let v1741 : BitVec 32 := Scalar.addi c0_i32_1769 v1740
  v1741.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_329 : BitVec 32 := 11#32
  let v527 : BitVec 1 := Scalar.cmpi .ne v2 c11_i32_329
  let v528 : BitVec 32 := Scalar.extui v527
  let c0_i32_332 : BitVec 32 := 0#32
  let v529 : BitVec 1 := Scalar.cmpi .ne v528 c0_i32_332
  v529

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev44 : Nat :=
  let c0_i32_1769 : BitVec 32 := 0#32
  let c11_i32_1767 : BitVec 32 := 11#32
  let c1_i32_1768 : BitVec 32 := 1#32
  let v1740 : BitVec 32 := Scalar.muli c11_i32_1767 c1_i32_1768
  let v1741 : BitVec 32 := Scalar.addi c0_i32_1769 v1740
  v1741.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_371 : BitVec 32 := 12#32
  let v579 : BitVec 1 := Scalar.cmpi .ne v2 c12_i32_371
  let v580 : BitVec 32 := Scalar.extui v579
  let c0_i32_374 : BitVec 32 := 0#32
  let v581 : BitVec 1 := Scalar.cmpi .ne v580 c0_i32_374
  v581

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev45 : Nat :=
  let c0_i32_1769 : BitVec 32 := 0#32
  let c12_i32_1767 : BitVec 32 := 12#32
  let c1_i32_1768 : BitVec 32 := 1#32
  let v1740 : BitVec 32 := Scalar.muli c12_i32_1767 c1_i32_1768
  let v1741 : BitVec 32 := Scalar.addi c0_i32_1769 v1740
  v1741.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_377 : BitVec 32 := 13#32
  let v585 : BitVec 1 := Scalar.cmpi .ne v2 c13_i32_377
  let v586 : BitVec 32 := Scalar.extui v585
  let c0_i32_380 : BitVec 32 := 0#32
  let v587 : BitVec 1 := Scalar.cmpi .ne v586 c0_i32_380
  v587

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev46 : Nat :=
  let c0_i32_1769 : BitVec 32 := 0#32
  let c13_i32_1767 : BitVec 32 := 13#32
  let c1_i32_1768 : BitVec 32 := 1#32
  let v1740 : BitVec 32 := Scalar.muli c13_i32_1767 c1_i32_1768
  let v1741 : BitVec 32 := Scalar.addi c0_i32_1769 v1740
  v1741.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_419 : BitVec 32 := 14#32
  let v637 : BitVec 1 := Scalar.cmpi .ne v2 c14_i32_419
  let v638 : BitVec 32 := Scalar.extui v637
  let c0_i32_422 : BitVec 32 := 0#32
  let v639 : BitVec 1 := Scalar.cmpi .ne v638 c0_i32_422
  v639

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev47 : Nat :=
  let c0_i32_1769 : BitVec 32 := 0#32
  let c14_i32_1767 : BitVec 32 := 14#32
  let c1_i32_1768 : BitVec 32 := 1#32
  let v1740 : BitVec 32 := Scalar.muli c14_i32_1767 c1_i32_1768
  let v1741 : BitVec 32 := Scalar.addi c0_i32_1769 v1740
  v1741.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_425 : BitVec 32 := 15#32
  let v643 : BitVec 1 := Scalar.cmpi .ne v2 c15_i32_425
  let v644 : BitVec 32 := Scalar.extui v643
  let c0_i32_428 : BitVec 32 := 0#32
  let v645 : BitVec 1 := Scalar.cmpi .ne v644 c0_i32_428
  v645

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev48 : Nat :=
  let c0_i32_1769 : BitVec 32 := 0#32
  let c15_i32_1767 : BitVec 32 := 15#32
  let c1_i32_1768 : BitVec 32 := 1#32
  let v1740 : BitVec 32 := Scalar.muli c15_i32_1767 c1_i32_1768
  let v1741 : BitVec 32 := Scalar.addi c0_i32_1769 v1740
  v1741.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_465 : BitVec 32 := 16#32
  let v695 : BitVec 1 := Scalar.cmpi .ne v2 c16_i32_465
  let v696 : BitVec 32 := Scalar.extui v695
  let c0_i32_468 : BitVec 32 := 0#32
  let v697 : BitVec 1 := Scalar.cmpi .ne v696 c0_i32_468
  v697

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev49 : Nat :=
  let c0_i32_1769 : BitVec 32 := 0#32
  let c16_i32_1767 : BitVec 32 := 16#32
  let c1_i32_1768 : BitVec 32 := 1#32
  let v1740 : BitVec 32 := Scalar.muli c16_i32_1767 c1_i32_1768
  let v1741 : BitVec 32 := Scalar.addi c0_i32_1769 v1740
  v1741.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_471 : BitVec 32 := 17#32
  let v701 : BitVec 1 := Scalar.cmpi .ne v2 c17_i32_471
  let v702 : BitVec 32 := Scalar.extui v701
  let c0_i32_474 : BitVec 32 := 0#32
  let v703 : BitVec 1 := Scalar.cmpi .ne v702 c0_i32_474
  v703

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev50 : Nat :=
  let c0_i32_1769 : BitVec 32 := 0#32
  let c17_i32_1767 : BitVec 32 := 17#32
  let c1_i32_1768 : BitVec 32 := 1#32
  let v1740 : BitVec 32 := Scalar.muli c17_i32_1767 c1_i32_1768
  let v1741 : BitVec 32 := Scalar.addi c0_i32_1769 v1740
  v1741.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_511 : BitVec 32 := 18#32
  let v753 : BitVec 1 := Scalar.cmpi .ne v2 c18_i32_511
  let v754 : BitVec 32 := Scalar.extui v753
  let c0_i32_514 : BitVec 32 := 0#32
  let v755 : BitVec 1 := Scalar.cmpi .ne v754 c0_i32_514
  v755

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev51 : Nat :=
  let c0_i32_1769 : BitVec 32 := 0#32
  let c18_i32_1767 : BitVec 32 := 18#32
  let c1_i32_1768 : BitVec 32 := 1#32
  let v1740 : BitVec 32 := Scalar.muli c18_i32_1767 c1_i32_1768
  let v1741 : BitVec 32 := Scalar.addi c0_i32_1769 v1740
  v1741.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_517 : BitVec 32 := 19#32
  let v759 : BitVec 1 := Scalar.cmpi .ne v2 c19_i32_517
  let v760 : BitVec 32 := Scalar.extui v759
  let c0_i32_520 : BitVec 32 := 0#32
  let v761 : BitVec 1 := Scalar.cmpi .ne v760 c0_i32_520
  v761

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev52 : Nat :=
  let c0_i32_1769 : BitVec 32 := 0#32
  let c19_i32_1767 : BitVec 32 := 19#32
  let c1_i32_1768 : BitVec 32 := 1#32
  let v1740 : BitVec 32 := Scalar.muli c19_i32_1767 c1_i32_1768
  let v1741 : BitVec 32 := Scalar.addi c0_i32_1769 v1740
  v1741.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_557 : BitVec 32 := 20#32
  let v811 : BitVec 1 := Scalar.cmpi .ne v2 c20_i32_557
  let v812 : BitVec 32 := Scalar.extui v811
  let c0_i32_560 : BitVec 32 := 0#32
  let v813 : BitVec 1 := Scalar.cmpi .ne v812 c0_i32_560
  v813

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev53 : Nat :=
  let c0_i32_1769 : BitVec 32 := 0#32
  let c20_i32_1767 : BitVec 32 := 20#32
  let c1_i32_1768 : BitVec 32 := 1#32
  let v1740 : BitVec 32 := Scalar.muli c20_i32_1767 c1_i32_1768
  let v1741 : BitVec 32 := Scalar.addi c0_i32_1769 v1740
  v1741.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_563 : BitVec 32 := 21#32
  let v817 : BitVec 1 := Scalar.cmpi .ne v2 c21_i32_563
  let v818 : BitVec 32 := Scalar.extui v817
  let c0_i32_566 : BitVec 32 := 0#32
  let v819 : BitVec 1 := Scalar.cmpi .ne v818 c0_i32_566
  v819

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev54 : Nat :=
  let c0_i32_1769 : BitVec 32 := 0#32
  let c21_i32_1767 : BitVec 32 := 21#32
  let c1_i32_1768 : BitVec 32 := 1#32
  let v1740 : BitVec 32 := Scalar.muli c21_i32_1767 c1_i32_1768
  let v1741 : BitVec 32 := Scalar.addi c0_i32_1769 v1740
  v1741.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_603 : BitVec 32 := 22#32
  let v869 : BitVec 1 := Scalar.cmpi .ne v2 c22_i32_603
  let v870 : BitVec 32 := Scalar.extui v869
  let c0_i32_606 : BitVec 32 := 0#32
  let v871 : BitVec 1 := Scalar.cmpi .ne v870 c0_i32_606
  v871

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev55 : Nat :=
  let c0_i32_1769 : BitVec 32 := 0#32
  let c22_i32_1767 : BitVec 32 := 22#32
  let c1_i32_1768 : BitVec 32 := 1#32
  let v1740 : BitVec 32 := Scalar.muli c22_i32_1767 c1_i32_1768
  let v1741 : BitVec 32 := Scalar.addi c0_i32_1769 v1740
  v1741.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_609 : BitVec 32 := 23#32
  let v875 : BitVec 1 := Scalar.cmpi .ne v2 c23_i32_609
  let v876 : BitVec 32 := Scalar.extui v875
  let c0_i32_612 : BitVec 32 := 0#32
  let v877 : BitVec 1 := Scalar.cmpi .ne v876 c0_i32_612
  v877

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev56 : Nat :=
  let c0_i32_1769 : BitVec 32 := 0#32
  let c23_i32_1767 : BitVec 32 := 23#32
  let c1_i32_1768 : BitVec 32 := 1#32
  let v1740 : BitVec 32 := Scalar.muli c23_i32_1767 c1_i32_1768
  let v1741 : BitVec 32 := Scalar.addi c0_i32_1769 v1740
  v1741.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_649 : BitVec 32 := 24#32
  let v927 : BitVec 1 := Scalar.cmpi .ne v2 c24_i32_649
  let v928 : BitVec 32 := Scalar.extui v927
  let c0_i32_652 : BitVec 32 := 0#32
  let v929 : BitVec 1 := Scalar.cmpi .ne v928 c0_i32_652
  v929

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev57 : Nat :=
  let c0_i32_1769 : BitVec 32 := 0#32
  let c24_i32_1767 : BitVec 32 := 24#32
  let c1_i32_1768 : BitVec 32 := 1#32
  let v1740 : BitVec 32 := Scalar.muli c24_i32_1767 c1_i32_1768
  let v1741 : BitVec 32 := Scalar.addi c0_i32_1769 v1740
  v1741.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_655 : BitVec 32 := 25#32
  let v933 : BitVec 1 := Scalar.cmpi .ne v2 c25_i32_655
  let v934 : BitVec 32 := Scalar.extui v933
  let c0_i32_658 : BitVec 32 := 0#32
  let v935 : BitVec 1 := Scalar.cmpi .ne v934 c0_i32_658
  v935

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev58 : Nat :=
  let c0_i32_1769 : BitVec 32 := 0#32
  let c25_i32_1767 : BitVec 32 := 25#32
  let c1_i32_1768 : BitVec 32 := 1#32
  let v1740 : BitVec 32 := Scalar.muli c25_i32_1767 c1_i32_1768
  let v1741 : BitVec 32 := Scalar.addi c0_i32_1769 v1740
  v1741.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_695 : BitVec 32 := 26#32
  let v985 : BitVec 1 := Scalar.cmpi .ne v2 c26_i32_695
  let v986 : BitVec 32 := Scalar.extui v985
  let c0_i32_698 : BitVec 32 := 0#32
  let v987 : BitVec 1 := Scalar.cmpi .ne v986 c0_i32_698
  v987

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev59 : Nat :=
  let c0_i32_1769 : BitVec 32 := 0#32
  let c26_i32_1767 : BitVec 32 := 26#32
  let c1_i32_1768 : BitVec 32 := 1#32
  let v1740 : BitVec 32 := Scalar.muli c26_i32_1767 c1_i32_1768
  let v1741 : BitVec 32 := Scalar.addi c0_i32_1769 v1740
  v1741.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_701 : BitVec 32 := 27#32
  let v991 : BitVec 1 := Scalar.cmpi .ne v2 c27_i32_701
  let v992 : BitVec 32 := Scalar.extui v991
  let c0_i32_704 : BitVec 32 := 0#32
  let v993 : BitVec 1 := Scalar.cmpi .ne v992 c0_i32_704
  v993

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev60 : Nat :=
  let c0_i32_1769 : BitVec 32 := 0#32
  let c27_i32_1767 : BitVec 32 := 27#32
  let c1_i32_1768 : BitVec 32 := 1#32
  let v1740 : BitVec 32 := Scalar.muli c27_i32_1767 c1_i32_1768
  let v1741 : BitVec 32 := Scalar.addi c0_i32_1769 v1740
  v1741.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_741 : BitVec 32 := 28#32
  let v1043 : BitVec 1 := Scalar.cmpi .ne v2 c28_i32_741
  let v1044 : BitVec 32 := Scalar.extui v1043
  let c0_i32_744 : BitVec 32 := 0#32
  let v1045 : BitVec 1 := Scalar.cmpi .ne v1044 c0_i32_744
  v1045

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev61 : Nat :=
  let c0_i32_1769 : BitVec 32 := 0#32
  let c28_i32_1767 : BitVec 32 := 28#32
  let c1_i32_1768 : BitVec 32 := 1#32
  let v1740 : BitVec 32 := Scalar.muli c28_i32_1767 c1_i32_1768
  let v1741 : BitVec 32 := Scalar.addi c0_i32_1769 v1740
  v1741.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_747 : BitVec 32 := 29#32
  let v1049 : BitVec 1 := Scalar.cmpi .ne v2 c29_i32_747
  let v1050 : BitVec 32 := Scalar.extui v1049
  let c0_i32_750 : BitVec 32 := 0#32
  let v1051 : BitVec 1 := Scalar.cmpi .ne v1050 c0_i32_750
  v1051

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev62 : Nat :=
  let c0_i32_1769 : BitVec 32 := 0#32
  let c29_i32_1767 : BitVec 32 := 29#32
  let c1_i32_1768 : BitVec 32 := 1#32
  let v1740 : BitVec 32 := Scalar.muli c29_i32_1767 c1_i32_1768
  let v1741 : BitVec 32 := Scalar.addi c0_i32_1769 v1740
  v1741.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_787 : BitVec 32 := 30#32
  let v1101 : BitVec 1 := Scalar.cmpi .ne v2 c30_i32_787
  let v1102 : BitVec 32 := Scalar.extui v1101
  let c0_i32_790 : BitVec 32 := 0#32
  let v1103 : BitVec 1 := Scalar.cmpi .ne v1102 c0_i32_790
  v1103

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev63 : Nat :=
  let c0_i32_1769 : BitVec 32 := 0#32
  let c30_i32_1767 : BitVec 32 := 30#32
  let c1_i32_1768 : BitVec 32 := 1#32
  let v1740 : BitVec 32 := Scalar.muli c30_i32_1767 c1_i32_1768
  let v1741 : BitVec 32 := Scalar.addi c0_i32_1769 v1740
  v1741.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_793 : BitVec 32 := 31#32
  let v1107 : BitVec 1 := Scalar.cmpi .ne v2 c31_i32_793
  let v1108 : BitVec 32 := Scalar.extui v1107
  let c0_i32_796 : BitVec 32 := 0#32
  let v1109 : BitVec 1 := Scalar.cmpi .ne v1108 c0_i32_796
  v1109

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev64 : Nat :=
  let c0_i32_1769 : BitVec 32 := 0#32
  let c31_i32_1767 : BitVec 32 := 31#32
  let c1_i32_1768 : BitVec 32 := 1#32
  let v1740 : BitVec 32 := Scalar.muli c31_i32_1767 c1_i32_1768
  let v1741 : BitVec 32 := Scalar.addi c0_i32_1769 v1740
  v1741.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_999 : BitVec 32 := 0#32
  let v1228 : BitVec 1 := Scalar.cmpi .ne v2 c0_i32_999
  let v1229 : BitVec 32 := Scalar.extui v1228
  let c0_i32_1001 : BitVec 32 := 0#32
  let v1230 : BitVec 1 := Scalar.cmpi .ne v1229 c0_i32_1001
  v1230

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev65 : Nat :=
  let c0_i32_1769 : BitVec 32 := 0#32
  let c0_i32_1767 : BitVec 32 := 0#32
  let c1_i32_1768 : BitVec 32 := 1#32
  let v1740 : BitVec 32 := Scalar.muli c0_i32_1767 c1_i32_1768
  let v1741 : BitVec 32 := Scalar.addi c0_i32_1769 v1740
  v1741.toNat
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1002 : BitVec 32 := 0#32
  let v1231 : BitVec 1 := Scalar.cmpi .eq v2 c0_i32_1002
  let v1232 : BitVec 32 := Scalar.extui v1231
  let c0_i32_1003 : BitVec 32 := 0#32
  let v1233 : BitVec 1 := Scalar.cmpi .ne v1232 c0_i32_1003
  v1233

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1004 : BitVec 32 := 1#32
  let v1234 : BitVec 1 := Scalar.cmpi .ne v2 c1_i32_1004
  let v1235 : BitVec 32 := Scalar.extui v1234
  let c0_i32_1006 : BitVec 32 := 0#32
  let v1236 : BitVec 1 := Scalar.cmpi .ne v1235 c0_i32_1006
  v1236

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev66 : Nat :=
  let c0_i32_1769 : BitVec 32 := 0#32
  let c1_i32_1767 : BitVec 32 := 1#32
  let c1_i32_1768 : BitVec 32 := 1#32
  let v1740 : BitVec 32 := Scalar.muli c1_i32_1767 c1_i32_1768
  let v1741 : BitVec 32 := Scalar.addi c0_i32_1769 v1740
  v1741.toNat
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1007 : BitVec 32 := 1#32
  let v1237 : BitVec 1 := Scalar.cmpi .eq v2 c1_i32_1007
  let v1238 : BitVec 32 := Scalar.extui v1237
  let c0_i32_1008 : BitVec 32 := 0#32
  let v1239 : BitVec 1 := Scalar.cmpi .ne v1238 c0_i32_1008
  v1239

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1009 : BitVec 32 := 2#32
  let v1240 : BitVec 1 := Scalar.cmpi .ne v2 c2_i32_1009
  let v1241 : BitVec 32 := Scalar.extui v1240
  let c0_i32_1011 : BitVec 32 := 0#32
  let v1242 : BitVec 1 := Scalar.cmpi .ne v1241 c0_i32_1011
  v1242

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev67 : Nat :=
  let c0_i32_1769 : BitVec 32 := 0#32
  let c2_i32_1767 : BitVec 32 := 2#32
  let c1_i32_1768 : BitVec 32 := 1#32
  let v1740 : BitVec 32 := Scalar.muli c2_i32_1767 c1_i32_1768
  let v1741 : BitVec 32 := Scalar.addi c0_i32_1769 v1740
  v1741.toNat
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1012 : BitVec 32 := 2#32
  let v1243 : BitVec 1 := Scalar.cmpi .eq v2 c2_i32_1012
  let v1244 : BitVec 32 := Scalar.extui v1243
  let c0_i32_1013 : BitVec 32 := 0#32
  let v1245 : BitVec 1 := Scalar.cmpi .ne v1244 c0_i32_1013
  v1245

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1014 : BitVec 32 := 3#32
  let v1246 : BitVec 1 := Scalar.cmpi .ne v2 c3_i32_1014
  let v1247 : BitVec 32 := Scalar.extui v1246
  let c0_i32_1016 : BitVec 32 := 0#32
  let v1248 : BitVec 1 := Scalar.cmpi .ne v1247 c0_i32_1016
  v1248

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev68 : Nat :=
  let c0_i32_1769 : BitVec 32 := 0#32
  let c3_i32_1767 : BitVec 32 := 3#32
  let c1_i32_1768 : BitVec 32 := 1#32
  let v1740 : BitVec 32 := Scalar.muli c3_i32_1767 c1_i32_1768
  let v1741 : BitVec 32 := Scalar.addi c0_i32_1769 v1740
  v1741.toNat
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1017 : BitVec 32 := 3#32
  let v1249 : BitVec 1 := Scalar.cmpi .eq v2 c3_i32_1017
  let v1250 : BitVec 32 := Scalar.extui v1249
  let c0_i32_1018 : BitVec 32 := 0#32
  let v1251 : BitVec 1 := Scalar.cmpi .ne v1250 c0_i32_1018
  v1251

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1019 : BitVec 32 := 4#32
  let v1252 : BitVec 1 := Scalar.cmpi .ne v2 c4_i32_1019
  let v1253 : BitVec 32 := Scalar.extui v1252
  let c0_i32_1021 : BitVec 32 := 0#32
  let v1254 : BitVec 1 := Scalar.cmpi .ne v1253 c0_i32_1021
  v1254

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev69 : Nat :=
  let c0_i32_1769 : BitVec 32 := 0#32
  let c4_i32_1767 : BitVec 32 := 4#32
  let c1_i32_1768 : BitVec 32 := 1#32
  let v1740 : BitVec 32 := Scalar.muli c4_i32_1767 c1_i32_1768
  let v1741 : BitVec 32 := Scalar.addi c0_i32_1769 v1740
  v1741.toNat
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1022 : BitVec 32 := 4#32
  let v1255 : BitVec 1 := Scalar.cmpi .eq v2 c4_i32_1022
  let v1256 : BitVec 32 := Scalar.extui v1255
  let c0_i32_1023 : BitVec 32 := 0#32
  let v1257 : BitVec 1 := Scalar.cmpi .ne v1256 c0_i32_1023
  v1257

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1024 : BitVec 32 := 5#32
  let v1258 : BitVec 1 := Scalar.cmpi .ne v2 c5_i32_1024
  let v1259 : BitVec 32 := Scalar.extui v1258
  let c0_i32_1026 : BitVec 32 := 0#32
  let v1260 : BitVec 1 := Scalar.cmpi .ne v1259 c0_i32_1026
  v1260

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev70 : Nat :=
  let c0_i32_1769 : BitVec 32 := 0#32
  let c5_i32_1767 : BitVec 32 := 5#32
  let c1_i32_1768 : BitVec 32 := 1#32
  let v1740 : BitVec 32 := Scalar.muli c5_i32_1767 c1_i32_1768
  let v1741 : BitVec 32 := Scalar.addi c0_i32_1769 v1740
  v1741.toNat
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1027 : BitVec 32 := 5#32
  let v1261 : BitVec 1 := Scalar.cmpi .eq v2 c5_i32_1027
  let v1262 : BitVec 32 := Scalar.extui v1261
  let c0_i32_1028 : BitVec 32 := 0#32
  let v1263 : BitVec 1 := Scalar.cmpi .ne v1262 c0_i32_1028
  v1263

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1029 : BitVec 32 := 6#32
  let v1264 : BitVec 1 := Scalar.cmpi .ne v2 c6_i32_1029
  let v1265 : BitVec 32 := Scalar.extui v1264
  let c0_i32_1031 : BitVec 32 := 0#32
  let v1266 : BitVec 1 := Scalar.cmpi .ne v1265 c0_i32_1031
  v1266

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev71 : Nat :=
  let c0_i32_1769 : BitVec 32 := 0#32
  let c6_i32_1767 : BitVec 32 := 6#32
  let c1_i32_1768 : BitVec 32 := 1#32
  let v1740 : BitVec 32 := Scalar.muli c6_i32_1767 c1_i32_1768
  let v1741 : BitVec 32 := Scalar.addi c0_i32_1769 v1740
  v1741.toNat
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1032 : BitVec 32 := 6#32
  let v1267 : BitVec 1 := Scalar.cmpi .eq v2 c6_i32_1032
  let v1268 : BitVec 32 := Scalar.extui v1267
  let c0_i32_1033 : BitVec 32 := 0#32
  let v1269 : BitVec 1 := Scalar.cmpi .ne v1268 c0_i32_1033
  v1269

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1034 : BitVec 32 := 7#32
  let v1270 : BitVec 1 := Scalar.cmpi .ne v2 c7_i32_1034
  let v1271 : BitVec 32 := Scalar.extui v1270
  let c0_i32_1036 : BitVec 32 := 0#32
  let v1272 : BitVec 1 := Scalar.cmpi .ne v1271 c0_i32_1036
  v1272

def k0_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev72 : Nat :=
  let c0_i32_1769 : BitVec 32 := 0#32
  let c7_i32_1767 : BitVec 32 := 7#32
  let c1_i32_1768 : BitVec 32 := 1#32
  let v1740 : BitVec 32 := Scalar.muli c7_i32_1767 c1_i32_1768
  let v1741 : BitVec 32 := Scalar.addi c0_i32_1769 v1740
  v1741.toNat
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1037 : BitVec 32 := 7#32
  let v1273 : BitVec 1 := Scalar.cmpi .eq v2 c7_i32_1037
  let v1274 : BitVec 32 := Scalar.extui v1273
  let c0_i32_1038 : BitVec 32 := 0#32
  let v1275 : BitVec 1 := Scalar.cmpi .ne v1274 c0_i32_1038
  v1275

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1039 : BitVec 32 := 8#32
  let v1276 : BitVec 1 := Scalar.cmpi .ne v2 c8_i32_1039
  let v1277 : BitVec 32 := Scalar.extui v1276
  let c0_i32_1041 : BitVec 32 := 0#32
  let v1278 : BitVec 1 := Scalar.cmpi .ne v1277 c0_i32_1041
  v1278

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev73 : Nat :=
  let c0_i32_1769 : BitVec 32 := 0#32
  let c8_i32_1767 : BitVec 32 := 8#32
  let c1_i32_1768 : BitVec 32 := 1#32
  let v1740 : BitVec 32 := Scalar.muli c8_i32_1767 c1_i32_1768
  let v1741 : BitVec 32 := Scalar.addi c0_i32_1769 v1740
  v1741.toNat
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1042 : BitVec 32 := 8#32
  let v1279 : BitVec 1 := Scalar.cmpi .eq v2 c8_i32_1042
  let v1280 : BitVec 32 := Scalar.extui v1279
  let c0_i32_1043 : BitVec 32 := 0#32
  let v1281 : BitVec 1 := Scalar.cmpi .ne v1280 c0_i32_1043
  v1281

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1044 : BitVec 32 := 9#32
  let v1282 : BitVec 1 := Scalar.cmpi .ne v2 c9_i32_1044
  let v1283 : BitVec 32 := Scalar.extui v1282
  let c0_i32_1046 : BitVec 32 := 0#32
  let v1284 : BitVec 1 := Scalar.cmpi .ne v1283 c0_i32_1046
  v1284

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev74 : Nat :=
  let c0_i32_1769 : BitVec 32 := 0#32
  let c9_i32_1767 : BitVec 32 := 9#32
  let c1_i32_1768 : BitVec 32 := 1#32
  let v1740 : BitVec 32 := Scalar.muli c9_i32_1767 c1_i32_1768
  let v1741 : BitVec 32 := Scalar.addi c0_i32_1769 v1740
  v1741.toNat
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1047 : BitVec 32 := 9#32
  let v1285 : BitVec 1 := Scalar.cmpi .eq v2 c9_i32_1047
  let v1286 : BitVec 32 := Scalar.extui v1285
  let c0_i32_1048 : BitVec 32 := 0#32
  let v1287 : BitVec 1 := Scalar.cmpi .ne v1286 c0_i32_1048
  v1287

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1049 : BitVec 32 := 10#32
  let v1288 : BitVec 1 := Scalar.cmpi .ne v2 c10_i32_1049
  let v1289 : BitVec 32 := Scalar.extui v1288
  let c0_i32_1051 : BitVec 32 := 0#32
  let v1290 : BitVec 1 := Scalar.cmpi .ne v1289 c0_i32_1051
  v1290

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev75 : Nat :=
  let c0_i32_1769 : BitVec 32 := 0#32
  let c10_i32_1767 : BitVec 32 := 10#32
  let c1_i32_1768 : BitVec 32 := 1#32
  let v1740 : BitVec 32 := Scalar.muli c10_i32_1767 c1_i32_1768
  let v1741 : BitVec 32 := Scalar.addi c0_i32_1769 v1740
  v1741.toNat
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1052 : BitVec 32 := 10#32
  let v1291 : BitVec 1 := Scalar.cmpi .eq v2 c10_i32_1052
  let v1292 : BitVec 32 := Scalar.extui v1291
  let c0_i32_1053 : BitVec 32 := 0#32
  let v1293 : BitVec 1 := Scalar.cmpi .ne v1292 c0_i32_1053
  v1293

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1054 : BitVec 32 := 11#32
  let v1294 : BitVec 1 := Scalar.cmpi .ne v2 c11_i32_1054
  let v1295 : BitVec 32 := Scalar.extui v1294
  let c0_i32_1056 : BitVec 32 := 0#32
  let v1296 : BitVec 1 := Scalar.cmpi .ne v1295 c0_i32_1056
  v1296

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev76 : Nat :=
  let c0_i32_1769 : BitVec 32 := 0#32
  let c11_i32_1767 : BitVec 32 := 11#32
  let c1_i32_1768 : BitVec 32 := 1#32
  let v1740 : BitVec 32 := Scalar.muli c11_i32_1767 c1_i32_1768
  let v1741 : BitVec 32 := Scalar.addi c0_i32_1769 v1740
  v1741.toNat
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1057 : BitVec 32 := 11#32
  let v1297 : BitVec 1 := Scalar.cmpi .eq v2 c11_i32_1057
  let v1298 : BitVec 32 := Scalar.extui v1297
  let c0_i32_1058 : BitVec 32 := 0#32
  let v1299 : BitVec 1 := Scalar.cmpi .ne v1298 c0_i32_1058
  v1299

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1059 : BitVec 32 := 12#32
  let v1300 : BitVec 1 := Scalar.cmpi .ne v2 c12_i32_1059
  let v1301 : BitVec 32 := Scalar.extui v1300
  let c0_i32_1061 : BitVec 32 := 0#32
  let v1302 : BitVec 1 := Scalar.cmpi .ne v1301 c0_i32_1061
  v1302

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev77 : Nat :=
  let c0_i32_1769 : BitVec 32 := 0#32
  let c12_i32_1767 : BitVec 32 := 12#32
  let c1_i32_1768 : BitVec 32 := 1#32
  let v1740 : BitVec 32 := Scalar.muli c12_i32_1767 c1_i32_1768
  let v1741 : BitVec 32 := Scalar.addi c0_i32_1769 v1740
  v1741.toNat
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1062 : BitVec 32 := 12#32
  let v1303 : BitVec 1 := Scalar.cmpi .eq v2 c12_i32_1062
  let v1304 : BitVec 32 := Scalar.extui v1303
  let c0_i32_1063 : BitVec 32 := 0#32
  let v1305 : BitVec 1 := Scalar.cmpi .ne v1304 c0_i32_1063
  v1305

def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1064 : BitVec 32 := 13#32
  let v1306 : BitVec 1 := Scalar.cmpi .ne v2 c13_i32_1064
  let v1307 : BitVec 32 := Scalar.extui v1306
  let c0_i32_1066 : BitVec 32 := 0#32
  let v1308 : BitVec 1 := Scalar.cmpi .ne v1307 c0_i32_1066
  v1308

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev78 : Nat :=
  let c0_i32_1769 : BitVec 32 := 0#32
  let c13_i32_1767 : BitVec 32 := 13#32
  let c1_i32_1768 : BitVec 32 := 1#32
  let v1740 : BitVec 32 := Scalar.muli c13_i32_1767 c1_i32_1768
  let v1741 : BitVec 32 := Scalar.addi c0_i32_1769 v1740
  v1741.toNat
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1067 : BitVec 32 := 13#32
  let v1309 : BitVec 1 := Scalar.cmpi .eq v2 c13_i32_1067
  let v1310 : BitVec 32 := Scalar.extui v1309
  let c0_i32_1068 : BitVec 32 := 0#32
  let v1311 : BitVec 1 := Scalar.cmpi .ne v1310 c0_i32_1068
  v1311

def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1069 : BitVec 32 := 14#32
  let v1312 : BitVec 1 := Scalar.cmpi .ne v2 c14_i32_1069
  let v1313 : BitVec 32 := Scalar.extui v1312
  let c0_i32_1071 : BitVec 32 := 0#32
  let v1314 : BitVec 1 := Scalar.cmpi .ne v1313 c0_i32_1071
  v1314

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev79 : Nat :=
  let c0_i32_1769 : BitVec 32 := 0#32
  let c14_i32_1767 : BitVec 32 := 14#32
  let c1_i32_1768 : BitVec 32 := 1#32
  let v1740 : BitVec 32 := Scalar.muli c14_i32_1767 c1_i32_1768
  let v1741 : BitVec 32 := Scalar.addi c0_i32_1769 v1740
  v1741.toNat
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1072 : BitVec 32 := 14#32
  let v1315 : BitVec 1 := Scalar.cmpi .eq v2 c14_i32_1072
  let v1316 : BitVec 32 := Scalar.extui v1315
  let c0_i32_1073 : BitVec 32 := 0#32
  let v1317 : BitVec 1 := Scalar.cmpi .ne v1316 c0_i32_1073
  v1317

def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1074 : BitVec 32 := 15#32
  let v1318 : BitVec 1 := Scalar.cmpi .ne v2 c15_i32_1074
  let v1319 : BitVec 32 := Scalar.extui v1318
  let c0_i32_1076 : BitVec 32 := 0#32
  let v1320 : BitVec 1 := Scalar.cmpi .ne v1319 c0_i32_1076
  v1320

def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev80 : Nat :=
  let c0_i32_1769 : BitVec 32 := 0#32
  let c15_i32_1767 : BitVec 32 := 15#32
  let c1_i32_1768 : BitVec 32 := 1#32
  let v1740 : BitVec 32 := Scalar.muli c15_i32_1767 c1_i32_1768
  let v1741 : BitVec 32 := Scalar.addi c0_i32_1769 v1740
  v1741.toNat
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1077 : BitVec 32 := 15#32
  let v1321 : BitVec 1 := Scalar.cmpi .eq v2 c15_i32_1077
  let v1322 : BitVec 32 := Scalar.extui v1321
  let c0_i32_1078 : BitVec 32 := 0#32
  let v1323 : BitVec 1 := Scalar.cmpi .ne v1322 c0_i32_1078
  v1323

def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1079 : BitVec 32 := 16#32
  let v1324 : BitVec 1 := Scalar.cmpi .ne v2 c16_i32_1079
  let v1325 : BitVec 32 := Scalar.extui v1324
  let c0_i32_1081 : BitVec 32 := 0#32
  let v1326 : BitVec 1 := Scalar.cmpi .ne v1325 c0_i32_1081
  v1326

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev81 : Nat :=
  let c0_i32_1769 : BitVec 32 := 0#32
  let c16_i32_1767 : BitVec 32 := 16#32
  let c1_i32_1768 : BitVec 32 := 1#32
  let v1740 : BitVec 32 := Scalar.muli c16_i32_1767 c1_i32_1768
  let v1741 : BitVec 32 := Scalar.addi c0_i32_1769 v1740
  v1741.toNat
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1082 : BitVec 32 := 16#32
  let v1327 : BitVec 1 := Scalar.cmpi .eq v2 c16_i32_1082
  let v1328 : BitVec 32 := Scalar.extui v1327
  let c0_i32_1083 : BitVec 32 := 0#32
  let v1329 : BitVec 1 := Scalar.cmpi .ne v1328 c0_i32_1083
  v1329

def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1084 : BitVec 32 := 17#32
  let v1330 : BitVec 1 := Scalar.cmpi .ne v2 c17_i32_1084
  let v1331 : BitVec 32 := Scalar.extui v1330
  let c0_i32_1086 : BitVec 32 := 0#32
  let v1332 : BitVec 1 := Scalar.cmpi .ne v1331 c0_i32_1086
  v1332

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev82 : Nat :=
  let c0_i32_1769 : BitVec 32 := 0#32
  let c17_i32_1767 : BitVec 32 := 17#32
  let c1_i32_1768 : BitVec 32 := 1#32
  let v1740 : BitVec 32 := Scalar.muli c17_i32_1767 c1_i32_1768
  let v1741 : BitVec 32 := Scalar.addi c0_i32_1769 v1740
  v1741.toNat
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1087 : BitVec 32 := 17#32
  let v1333 : BitVec 1 := Scalar.cmpi .eq v2 c17_i32_1087
  let v1334 : BitVec 32 := Scalar.extui v1333
  let c0_i32_1088 : BitVec 32 := 0#32
  let v1335 : BitVec 1 := Scalar.cmpi .ne v1334 c0_i32_1088
  v1335

def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1089 : BitVec 32 := 18#32
  let v1336 : BitVec 1 := Scalar.cmpi .ne v2 c18_i32_1089
  let v1337 : BitVec 32 := Scalar.extui v1336
  let c0_i32_1091 : BitVec 32 := 0#32
  let v1338 : BitVec 1 := Scalar.cmpi .ne v1337 c0_i32_1091
  v1338

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev83 : Nat :=
  let c0_i32_1769 : BitVec 32 := 0#32
  let c18_i32_1767 : BitVec 32 := 18#32
  let c1_i32_1768 : BitVec 32 := 1#32
  let v1740 : BitVec 32 := Scalar.muli c18_i32_1767 c1_i32_1768
  let v1741 : BitVec 32 := Scalar.addi c0_i32_1769 v1740
  v1741.toNat
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1092 : BitVec 32 := 18#32
  let v1339 : BitVec 1 := Scalar.cmpi .eq v2 c18_i32_1092
  let v1340 : BitVec 32 := Scalar.extui v1339
  let c0_i32_1093 : BitVec 32 := 0#32
  let v1341 : BitVec 1 := Scalar.cmpi .ne v1340 c0_i32_1093
  v1341

def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1094 : BitVec 32 := 19#32
  let v1342 : BitVec 1 := Scalar.cmpi .ne v2 c19_i32_1094
  let v1343 : BitVec 32 := Scalar.extui v1342
  let c0_i32_1096 : BitVec 32 := 0#32
  let v1344 : BitVec 1 := Scalar.cmpi .ne v1343 c0_i32_1096
  v1344

def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev84 : Nat :=
  let c0_i32_1769 : BitVec 32 := 0#32
  let c19_i32_1767 : BitVec 32 := 19#32
  let c1_i32_1768 : BitVec 32 := 1#32
  let v1740 : BitVec 32 := Scalar.muli c19_i32_1767 c1_i32_1768
  let v1741 : BitVec 32 := Scalar.addi c0_i32_1769 v1740
  v1741.toNat
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1097 : BitVec 32 := 19#32
  let v1345 : BitVec 1 := Scalar.cmpi .eq v2 c19_i32_1097
  let v1346 : BitVec 32 := Scalar.extui v1345
  let c0_i32_1098 : BitVec 32 := 0#32
  let v1347 : BitVec 1 := Scalar.cmpi .ne v1346 c0_i32_1098
  v1347

def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1099 : BitVec 32 := 20#32
  let v1348 : BitVec 1 := Scalar.cmpi .ne v2 c20_i32_1099
  let v1349 : BitVec 32 := Scalar.extui v1348
  let c0_i32_1101 : BitVec 32 := 0#32
  let v1350 : BitVec 1 := Scalar.cmpi .ne v1349 c0_i32_1101
  v1350

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev85 : Nat :=
  let c0_i32_1769 : BitVec 32 := 0#32
  let c20_i32_1767 : BitVec 32 := 20#32
  let c1_i32_1768 : BitVec 32 := 1#32
  let v1740 : BitVec 32 := Scalar.muli c20_i32_1767 c1_i32_1768
  let v1741 : BitVec 32 := Scalar.addi c0_i32_1769 v1740
  v1741.toNat
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1102 : BitVec 32 := 20#32
  let v1351 : BitVec 1 := Scalar.cmpi .eq v2 c20_i32_1102
  let v1352 : BitVec 32 := Scalar.extui v1351
  let c0_i32_1103 : BitVec 32 := 0#32
  let v1353 : BitVec 1 := Scalar.cmpi .ne v1352 c0_i32_1103
  v1353

def k0_off127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1104 : BitVec 32 := 21#32
  let v1354 : BitVec 1 := Scalar.cmpi .ne v2 c21_i32_1104
  let v1355 : BitVec 32 := Scalar.extui v1354
  let c0_i32_1106 : BitVec 32 := 0#32
  let v1356 : BitVec 1 := Scalar.cmpi .ne v1355 c0_i32_1106
  v1356

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev86 : Nat :=
  let c0_i32_1769 : BitVec 32 := 0#32
  let c21_i32_1767 : BitVec 32 := 21#32
  let c1_i32_1768 : BitVec 32 := 1#32
  let v1740 : BitVec 32 := Scalar.muli c21_i32_1767 c1_i32_1768
  let v1741 : BitVec 32 := Scalar.addi c0_i32_1769 v1740
  v1741.toNat
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1107 : BitVec 32 := 21#32
  let v1357 : BitVec 1 := Scalar.cmpi .eq v2 c21_i32_1107
  let v1358 : BitVec 32 := Scalar.extui v1357
  let c0_i32_1108 : BitVec 32 := 0#32
  let v1359 : BitVec 1 := Scalar.cmpi .ne v1358 c0_i32_1108
  v1359

def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1109 : BitVec 32 := 22#32
  let v1360 : BitVec 1 := Scalar.cmpi .ne v2 c22_i32_1109
  let v1361 : BitVec 32 := Scalar.extui v1360
  let c0_i32_1111 : BitVec 32 := 0#32
  let v1362 : BitVec 1 := Scalar.cmpi .ne v1361 c0_i32_1111
  v1362

def k0_off131 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev87 : Nat :=
  let c0_i32_1769 : BitVec 32 := 0#32
  let c22_i32_1767 : BitVec 32 := 22#32
  let c1_i32_1768 : BitVec 32 := 1#32
  let v1740 : BitVec 32 := Scalar.muli c22_i32_1767 c1_i32_1768
  let v1741 : BitVec 32 := Scalar.addi c0_i32_1769 v1740
  v1741.toNat
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1112 : BitVec 32 := 22#32
  let v1363 : BitVec 1 := Scalar.cmpi .eq v2 c22_i32_1112
  let v1364 : BitVec 32 := Scalar.extui v1363
  let c0_i32_1113 : BitVec 32 := 0#32
  let v1365 : BitVec 1 := Scalar.cmpi .ne v1364 c0_i32_1113
  v1365

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1114 : BitVec 32 := 23#32
  let v1366 : BitVec 1 := Scalar.cmpi .ne v2 c23_i32_1114
  let v1367 : BitVec 32 := Scalar.extui v1366
  let c0_i32_1116 : BitVec 32 := 0#32
  let v1368 : BitVec 1 := Scalar.cmpi .ne v1367 c0_i32_1116
  v1368

def k0_off134 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev88 : Nat :=
  let c0_i32_1769 : BitVec 32 := 0#32
  let c23_i32_1767 : BitVec 32 := 23#32
  let c1_i32_1768 : BitVec 32 := 1#32
  let v1740 : BitVec 32 := Scalar.muli c23_i32_1767 c1_i32_1768
  let v1741 : BitVec 32 := Scalar.addi c0_i32_1769 v1740
  v1741.toNat
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1117 : BitVec 32 := 23#32
  let v1369 : BitVec 1 := Scalar.cmpi .eq v2 c23_i32_1117
  let v1370 : BitVec 32 := Scalar.extui v1369
  let c0_i32_1118 : BitVec 32 := 0#32
  let v1371 : BitVec 1 := Scalar.cmpi .ne v1370 c0_i32_1118
  v1371

def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1119 : BitVec 32 := 24#32
  let v1372 : BitVec 1 := Scalar.cmpi .ne v2 c24_i32_1119
  let v1373 : BitVec 32 := Scalar.extui v1372
  let c0_i32_1121 : BitVec 32 := 0#32
  let v1374 : BitVec 1 := Scalar.cmpi .ne v1373 c0_i32_1121
  v1374

def k0_off137 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev89 : Nat :=
  let c0_i32_1769 : BitVec 32 := 0#32
  let c24_i32_1767 : BitVec 32 := 24#32
  let c1_i32_1768 : BitVec 32 := 1#32
  let v1740 : BitVec 32 := Scalar.muli c24_i32_1767 c1_i32_1768
  let v1741 : BitVec 32 := Scalar.addi c0_i32_1769 v1740
  v1741.toNat
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1122 : BitVec 32 := 24#32
  let v1375 : BitVec 1 := Scalar.cmpi .eq v2 c24_i32_1122
  let v1376 : BitVec 32 := Scalar.extui v1375
  let c0_i32_1123 : BitVec 32 := 0#32
  let v1377 : BitVec 1 := Scalar.cmpi .ne v1376 c0_i32_1123
  v1377

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1124 : BitVec 32 := 25#32
  let v1378 : BitVec 1 := Scalar.cmpi .ne v2 c25_i32_1124
  let v1379 : BitVec 32 := Scalar.extui v1378
  let c0_i32_1126 : BitVec 32 := 0#32
  let v1380 : BitVec 1 := Scalar.cmpi .ne v1379 c0_i32_1126
  v1380

def k0_off140 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev90 : Nat :=
  let c0_i32_1769 : BitVec 32 := 0#32
  let c25_i32_1767 : BitVec 32 := 25#32
  let c1_i32_1768 : BitVec 32 := 1#32
  let v1740 : BitVec 32 := Scalar.muli c25_i32_1767 c1_i32_1768
  let v1741 : BitVec 32 := Scalar.addi c0_i32_1769 v1740
  v1741.toNat
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1127 : BitVec 32 := 25#32
  let v1381 : BitVec 1 := Scalar.cmpi .eq v2 c25_i32_1127
  let v1382 : BitVec 32 := Scalar.extui v1381
  let c0_i32_1128 : BitVec 32 := 0#32
  let v1383 : BitVec 1 := Scalar.cmpi .ne v1382 c0_i32_1128
  v1383

def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1129 : BitVec 32 := 26#32
  let v1384 : BitVec 1 := Scalar.cmpi .ne v2 c26_i32_1129
  let v1385 : BitVec 32 := Scalar.extui v1384
  let c0_i32_1131 : BitVec 32 := 0#32
  let v1386 : BitVec 1 := Scalar.cmpi .ne v1385 c0_i32_1131
  v1386

def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev91 : Nat :=
  let c0_i32_1769 : BitVec 32 := 0#32
  let c26_i32_1767 : BitVec 32 := 26#32
  let c1_i32_1768 : BitVec 32 := 1#32
  let v1740 : BitVec 32 := Scalar.muli c26_i32_1767 c1_i32_1768
  let v1741 : BitVec 32 := Scalar.addi c0_i32_1769 v1740
  v1741.toNat
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1132 : BitVec 32 := 26#32
  let v1387 : BitVec 1 := Scalar.cmpi .eq v2 c26_i32_1132
  let v1388 : BitVec 32 := Scalar.extui v1387
  let c0_i32_1133 : BitVec 32 := 0#32
  let v1389 : BitVec 1 := Scalar.cmpi .ne v1388 c0_i32_1133
  v1389

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1134 : BitVec 32 := 27#32
  let v1390 : BitVec 1 := Scalar.cmpi .ne v2 c27_i32_1134
  let v1391 : BitVec 32 := Scalar.extui v1390
  let c0_i32_1136 : BitVec 32 := 0#32
  let v1392 : BitVec 1 := Scalar.cmpi .ne v1391 c0_i32_1136
  v1392

def k0_off146 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev92 : Nat :=
  let c0_i32_1769 : BitVec 32 := 0#32
  let c27_i32_1767 : BitVec 32 := 27#32
  let c1_i32_1768 : BitVec 32 := 1#32
  let v1740 : BitVec 32 := Scalar.muli c27_i32_1767 c1_i32_1768
  let v1741 : BitVec 32 := Scalar.addi c0_i32_1769 v1740
  v1741.toNat
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1137 : BitVec 32 := 27#32
  let v1393 : BitVec 1 := Scalar.cmpi .eq v2 c27_i32_1137
  let v1394 : BitVec 32 := Scalar.extui v1393
  let c0_i32_1138 : BitVec 32 := 0#32
  let v1395 : BitVec 1 := Scalar.cmpi .ne v1394 c0_i32_1138
  v1395

def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1139 : BitVec 32 := 28#32
  let v1396 : BitVec 1 := Scalar.cmpi .ne v2 c28_i32_1139
  let v1397 : BitVec 32 := Scalar.extui v1396
  let c0_i32_1141 : BitVec 32 := 0#32
  let v1398 : BitVec 1 := Scalar.cmpi .ne v1397 c0_i32_1141
  v1398

def k0_off149 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev93 : Nat :=
  let c0_i32_1769 : BitVec 32 := 0#32
  let c28_i32_1767 : BitVec 32 := 28#32
  let c1_i32_1768 : BitVec 32 := 1#32
  let v1740 : BitVec 32 := Scalar.muli c28_i32_1767 c1_i32_1768
  let v1741 : BitVec 32 := Scalar.addi c0_i32_1769 v1740
  v1741.toNat
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1142 : BitVec 32 := 28#32
  let v1399 : BitVec 1 := Scalar.cmpi .eq v2 c28_i32_1142
  let v1400 : BitVec 32 := Scalar.extui v1399
  let c0_i32_1143 : BitVec 32 := 0#32
  let v1401 : BitVec 1 := Scalar.cmpi .ne v1400 c0_i32_1143
  v1401

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1144 : BitVec 32 := 29#32
  let v1402 : BitVec 1 := Scalar.cmpi .ne v2 c29_i32_1144
  let v1403 : BitVec 32 := Scalar.extui v1402
  let c0_i32_1146 : BitVec 32 := 0#32
  let v1404 : BitVec 1 := Scalar.cmpi .ne v1403 c0_i32_1146
  v1404

def k0_off152 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev94 : Nat :=
  let c0_i32_1769 : BitVec 32 := 0#32
  let c29_i32_1767 : BitVec 32 := 29#32
  let c1_i32_1768 : BitVec 32 := 1#32
  let v1740 : BitVec 32 := Scalar.muli c29_i32_1767 c1_i32_1768
  let v1741 : BitVec 32 := Scalar.addi c0_i32_1769 v1740
  v1741.toNat
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1147 : BitVec 32 := 29#32
  let v1405 : BitVec 1 := Scalar.cmpi .eq v2 c29_i32_1147
  let v1406 : BitVec 32 := Scalar.extui v1405
  let c0_i32_1148 : BitVec 32 := 0#32
  let v1407 : BitVec 1 := Scalar.cmpi .ne v1406 c0_i32_1148
  v1407

def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1149 : BitVec 32 := 30#32
  let v1408 : BitVec 1 := Scalar.cmpi .ne v2 c30_i32_1149
  let v1409 : BitVec 32 := Scalar.extui v1408
  let c0_i32_1151 : BitVec 32 := 0#32
  let v1410 : BitVec 1 := Scalar.cmpi .ne v1409 c0_i32_1151
  v1410

def k0_off155 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev95 : Nat :=
  let c0_i32_1769 : BitVec 32 := 0#32
  let c30_i32_1767 : BitVec 32 := 30#32
  let c1_i32_1768 : BitVec 32 := 1#32
  let v1740 : BitVec 32 := Scalar.muli c30_i32_1767 c1_i32_1768
  let v1741 : BitVec 32 := Scalar.addi c0_i32_1769 v1740
  v1741.toNat
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1152 : BitVec 32 := 30#32
  let v1411 : BitVec 1 := Scalar.cmpi .eq v2 c30_i32_1152
  let v1412 : BitVec 32 := Scalar.extui v1411
  let c0_i32_1153 : BitVec 32 := 0#32
  let v1413 : BitVec 1 := Scalar.cmpi .ne v1412 c0_i32_1153
  v1413

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1154 : BitVec 32 := 31#32
  let v1414 : BitVec 1 := Scalar.cmpi .ne v2 c31_i32_1154
  let v1415 : BitVec 32 := Scalar.extui v1414
  let c0_i32_1156 : BitVec 32 := 0#32
  let v1416 : BitVec 1 := Scalar.cmpi .ne v1415 c0_i32_1156
  v1416

def k0_off158 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1770 : BitVec 32 := 0#32
  let c0_i32_1771 : BitVec 32 := 0#32
  ![v2.toNat, 0, 0]
def k0_dev96 : Nat :=
  let c0_i32_1769 : BitVec 32 := 0#32
  let c31_i32_1767 : BitVec 32 := 31#32
  let c1_i32_1768 : BitVec 32 := 1#32
  let v1740 : BitVec 32 := Scalar.muli c31_i32_1767 c1_i32_1768
  let v1741 : BitVec 32 := Scalar.addi c0_i32_1769 v1740
  v1741.toNat
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1157 : BitVec 32 := 31#32
  let v1417 : BitVec 1 := Scalar.cmpi .eq v2 c31_i32_1157
  let v1418 : BitVec 32 := Scalar.extui v1417
  let c0_i32_1158 : BitVec 32 := 0#32
  let v1419 : BitVec 1 := Scalar.cmpi .ne v1418 c0_i32_1158
  v1419

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1742 : Index := Scalar.indexCast v2
  let c0_1769 : Index := 0#32
  let c0_1770 : Index := 0#32
  ![v1742.toNat, 0, 0]
def k0_cond257 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1767_r0 : BitVec 32 := 0#32
  let v1741_r0 : BitVec 1 := Scalar.cmpi .ne v2 c0_i32_1767_r0
  let v1742_r0 : BitVec 32 := Scalar.extui v1741_r0
  let c0_i32_1768_r0 : BitVec 32 := 0#32
  let v1743_r0 : BitVec 1 := Scalar.cmpi .ne v1742_r0 c0_i32_1768_r0
  v1743_r0

def k0_dev97 : Nat :=
  let c0_i32_1836_r0 : BitVec 32 := 0#32
  let c0_i32_1834_r0 : BitVec 32 := 0#32
  let c1_i32_1835_r0 : BitVec 32 := 1#32
  let v1837_r0 : BitVec 32 := Scalar.muli c0_i32_1834_r0 c1_i32_1835_r0
  let v1838_r0 : BitVec 32 := Scalar.addi c0_i32_1836_r0 v1837_r0
  v1838_r0.toNat
def k0_cond258 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1769_r0 : BitVec 32 := 1#32
  let v1744_r0 : BitVec 1 := Scalar.cmpi .ne v2 c1_i32_1769_r0
  let v1745_r0 : BitVec 32 := Scalar.extui v1744_r0
  let c0_i32_1770_r0 : BitVec 32 := 0#32
  let v1746_r0 : BitVec 1 := Scalar.cmpi .ne v1745_r0 c0_i32_1770_r0
  v1746_r0

def k0_dev98 : Nat :=
  let c0_i32_1836_r0 : BitVec 32 := 0#32
  let c1_i32_1834_r0 : BitVec 32 := 1#32
  let c1_i32_1835_r0 : BitVec 32 := 1#32
  let v1837_r0 : BitVec 32 := Scalar.muli c1_i32_1834_r0 c1_i32_1835_r0
  let v1838_r0 : BitVec 32 := Scalar.addi c0_i32_1836_r0 v1837_r0
  v1838_r0.toNat
def k0_cond259 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1771_r0 : BitVec 32 := 2#32
  let v1747_r0 : BitVec 1 := Scalar.cmpi .ne v2 c2_i32_1771_r0
  let v1748_r0 : BitVec 32 := Scalar.extui v1747_r0
  let c0_i32_1772_r0 : BitVec 32 := 0#32
  let v1749_r0 : BitVec 1 := Scalar.cmpi .ne v1748_r0 c0_i32_1772_r0
  v1749_r0

def k0_dev99 : Nat :=
  let c0_i32_1836_r0 : BitVec 32 := 0#32
  let c2_i32_1834_r0 : BitVec 32 := 2#32
  let c1_i32_1835_r0 : BitVec 32 := 1#32
  let v1837_r0 : BitVec 32 := Scalar.muli c2_i32_1834_r0 c1_i32_1835_r0
  let v1838_r0 : BitVec 32 := Scalar.addi c0_i32_1836_r0 v1837_r0
  v1838_r0.toNat
def k0_cond260 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1773_r0 : BitVec 32 := 3#32
  let v1750_r0 : BitVec 1 := Scalar.cmpi .ne v2 c3_i32_1773_r0
  let v1751_r0 : BitVec 32 := Scalar.extui v1750_r0
  let c0_i32_1774_r0 : BitVec 32 := 0#32
  let v1752_r0 : BitVec 1 := Scalar.cmpi .ne v1751_r0 c0_i32_1774_r0
  v1752_r0

def k0_dev100 : Nat :=
  let c0_i32_1836_r0 : BitVec 32 := 0#32
  let c3_i32_1834_r0 : BitVec 32 := 3#32
  let c1_i32_1835_r0 : BitVec 32 := 1#32
  let v1837_r0 : BitVec 32 := Scalar.muli c3_i32_1834_r0 c1_i32_1835_r0
  let v1838_r0 : BitVec 32 := Scalar.addi c0_i32_1836_r0 v1837_r0
  v1838_r0.toNat
def k0_cond261 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1775_r0 : BitVec 32 := 4#32
  let v1753_r0 : BitVec 1 := Scalar.cmpi .ne v2 c4_i32_1775_r0
  let v1754_r0 : BitVec 32 := Scalar.extui v1753_r0
  let c0_i32_1776_r0 : BitVec 32 := 0#32
  let v1755_r0 : BitVec 1 := Scalar.cmpi .ne v1754_r0 c0_i32_1776_r0
  v1755_r0

def k0_dev101 : Nat :=
  let c0_i32_1836_r0 : BitVec 32 := 0#32
  let c4_i32_1834_r0 : BitVec 32 := 4#32
  let c1_i32_1835_r0 : BitVec 32 := 1#32
  let v1837_r0 : BitVec 32 := Scalar.muli c4_i32_1834_r0 c1_i32_1835_r0
  let v1838_r0 : BitVec 32 := Scalar.addi c0_i32_1836_r0 v1837_r0
  v1838_r0.toNat
def k0_cond262 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1777_r0 : BitVec 32 := 5#32
  let v1756_r0 : BitVec 1 := Scalar.cmpi .ne v2 c5_i32_1777_r0
  let v1757_r0 : BitVec 32 := Scalar.extui v1756_r0
  let c0_i32_1778_r0 : BitVec 32 := 0#32
  let v1758_r0 : BitVec 1 := Scalar.cmpi .ne v1757_r0 c0_i32_1778_r0
  v1758_r0

def k0_dev102 : Nat :=
  let c0_i32_1836_r0 : BitVec 32 := 0#32
  let c5_i32_1834_r0 : BitVec 32 := 5#32
  let c1_i32_1835_r0 : BitVec 32 := 1#32
  let v1837_r0 : BitVec 32 := Scalar.muli c5_i32_1834_r0 c1_i32_1835_r0
  let v1838_r0 : BitVec 32 := Scalar.addi c0_i32_1836_r0 v1837_r0
  v1838_r0.toNat
def k0_cond263 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1779_r0 : BitVec 32 := 6#32
  let v1759_r0 : BitVec 1 := Scalar.cmpi .ne v2 c6_i32_1779_r0
  let v1760_r0 : BitVec 32 := Scalar.extui v1759_r0
  let c0_i32_1780_r0 : BitVec 32 := 0#32
  let v1761_r0 : BitVec 1 := Scalar.cmpi .ne v1760_r0 c0_i32_1780_r0
  v1761_r0

def k0_dev103 : Nat :=
  let c0_i32_1836_r0 : BitVec 32 := 0#32
  let c6_i32_1834_r0 : BitVec 32 := 6#32
  let c1_i32_1835_r0 : BitVec 32 := 1#32
  let v1837_r0 : BitVec 32 := Scalar.muli c6_i32_1834_r0 c1_i32_1835_r0
  let v1838_r0 : BitVec 32 := Scalar.addi c0_i32_1836_r0 v1837_r0
  v1838_r0.toNat
def k0_cond264 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1781_r0 : BitVec 32 := 7#32
  let v1762_r0 : BitVec 1 := Scalar.cmpi .ne v2 c7_i32_1781_r0
  let v1763_r0 : BitVec 32 := Scalar.extui v1762_r0
  let c0_i32_1782_r0 : BitVec 32 := 0#32
  let v1764_r0 : BitVec 1 := Scalar.cmpi .ne v1763_r0 c0_i32_1782_r0
  v1764_r0

def k0_dev104 : Nat :=
  let c0_i32_1836_r0 : BitVec 32 := 0#32
  let c7_i32_1834_r0 : BitVec 32 := 7#32
  let c1_i32_1835_r0 : BitVec 32 := 1#32
  let v1837_r0 : BitVec 32 := Scalar.muli c7_i32_1834_r0 c1_i32_1835_r0
  let v1838_r0 : BitVec 32 := Scalar.addi c0_i32_1836_r0 v1837_r0
  v1838_r0.toNat
def k0_cond265 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1783_r0 : BitVec 32 := 8#32
  let v1765_r0 : BitVec 1 := Scalar.cmpi .ne v2 c8_i32_1783_r0
  let v1766_r0 : BitVec 32 := Scalar.extui v1765_r0
  let c0_i32_1784_r0 : BitVec 32 := 0#32
  let v1767_r0 : BitVec 1 := Scalar.cmpi .ne v1766_r0 c0_i32_1784_r0
  v1767_r0

def k0_dev105 : Nat :=
  let c0_i32_1836_r0 : BitVec 32 := 0#32
  let c8_i32_1834_r0 : BitVec 32 := 8#32
  let c1_i32_1835_r0 : BitVec 32 := 1#32
  let v1837_r0 : BitVec 32 := Scalar.muli c8_i32_1834_r0 c1_i32_1835_r0
  let v1838_r0 : BitVec 32 := Scalar.addi c0_i32_1836_r0 v1837_r0
  v1838_r0.toNat
def k0_cond266 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1785_r0 : BitVec 32 := 9#32
  let v1768_r0 : BitVec 1 := Scalar.cmpi .ne v2 c9_i32_1785_r0
  let v1769_r0 : BitVec 32 := Scalar.extui v1768_r0
  let c0_i32_1786_r0 : BitVec 32 := 0#32
  let v1770_r0 : BitVec 1 := Scalar.cmpi .ne v1769_r0 c0_i32_1786_r0
  v1770_r0

def k0_dev106 : Nat :=
  let c0_i32_1836_r0 : BitVec 32 := 0#32
  let c9_i32_1834_r0 : BitVec 32 := 9#32
  let c1_i32_1835_r0 : BitVec 32 := 1#32
  let v1837_r0 : BitVec 32 := Scalar.muli c9_i32_1834_r0 c1_i32_1835_r0
  let v1838_r0 : BitVec 32 := Scalar.addi c0_i32_1836_r0 v1837_r0
  v1838_r0.toNat
def k0_cond267 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1787_r0 : BitVec 32 := 10#32
  let v1771_r0 : BitVec 1 := Scalar.cmpi .ne v2 c10_i32_1787_r0
  let v1772_r0 : BitVec 32 := Scalar.extui v1771_r0
  let c0_i32_1788_r0 : BitVec 32 := 0#32
  let v1773_r0 : BitVec 1 := Scalar.cmpi .ne v1772_r0 c0_i32_1788_r0
  v1773_r0

def k0_dev107 : Nat :=
  let c0_i32_1836_r0 : BitVec 32 := 0#32
  let c10_i32_1834_r0 : BitVec 32 := 10#32
  let c1_i32_1835_r0 : BitVec 32 := 1#32
  let v1837_r0 : BitVec 32 := Scalar.muli c10_i32_1834_r0 c1_i32_1835_r0
  let v1838_r0 : BitVec 32 := Scalar.addi c0_i32_1836_r0 v1837_r0
  v1838_r0.toNat
def k0_cond268 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1789_r0 : BitVec 32 := 11#32
  let v1774_r0 : BitVec 1 := Scalar.cmpi .ne v2 c11_i32_1789_r0
  let v1775_r0 : BitVec 32 := Scalar.extui v1774_r0
  let c0_i32_1790_r0 : BitVec 32 := 0#32
  let v1776_r0 : BitVec 1 := Scalar.cmpi .ne v1775_r0 c0_i32_1790_r0
  v1776_r0

def k0_dev108 : Nat :=
  let c0_i32_1836_r0 : BitVec 32 := 0#32
  let c11_i32_1834_r0 : BitVec 32 := 11#32
  let c1_i32_1835_r0 : BitVec 32 := 1#32
  let v1837_r0 : BitVec 32 := Scalar.muli c11_i32_1834_r0 c1_i32_1835_r0
  let v1838_r0 : BitVec 32 := Scalar.addi c0_i32_1836_r0 v1837_r0
  v1838_r0.toNat
def k0_cond269 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1791_r0 : BitVec 32 := 12#32
  let v1777_r0 : BitVec 1 := Scalar.cmpi .ne v2 c12_i32_1791_r0
  let v1778_r0 : BitVec 32 := Scalar.extui v1777_r0
  let c0_i32_1792_r0 : BitVec 32 := 0#32
  let v1779_r0 : BitVec 1 := Scalar.cmpi .ne v1778_r0 c0_i32_1792_r0
  v1779_r0

def k0_dev109 : Nat :=
  let c0_i32_1836_r0 : BitVec 32 := 0#32
  let c12_i32_1834_r0 : BitVec 32 := 12#32
  let c1_i32_1835_r0 : BitVec 32 := 1#32
  let v1837_r0 : BitVec 32 := Scalar.muli c12_i32_1834_r0 c1_i32_1835_r0
  let v1838_r0 : BitVec 32 := Scalar.addi c0_i32_1836_r0 v1837_r0
  v1838_r0.toNat
def k0_cond270 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1793_r0 : BitVec 32 := 13#32
  let v1780_r0 : BitVec 1 := Scalar.cmpi .ne v2 c13_i32_1793_r0
  let v1781_r0 : BitVec 32 := Scalar.extui v1780_r0
  let c0_i32_1794_r0 : BitVec 32 := 0#32
  let v1782_r0 : BitVec 1 := Scalar.cmpi .ne v1781_r0 c0_i32_1794_r0
  v1782_r0

def k0_dev110 : Nat :=
  let c0_i32_1836_r0 : BitVec 32 := 0#32
  let c13_i32_1834_r0 : BitVec 32 := 13#32
  let c1_i32_1835_r0 : BitVec 32 := 1#32
  let v1837_r0 : BitVec 32 := Scalar.muli c13_i32_1834_r0 c1_i32_1835_r0
  let v1838_r0 : BitVec 32 := Scalar.addi c0_i32_1836_r0 v1837_r0
  v1838_r0.toNat
def k0_cond271 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1795_r0 : BitVec 32 := 14#32
  let v1783_r0 : BitVec 1 := Scalar.cmpi .ne v2 c14_i32_1795_r0
  let v1784_r0 : BitVec 32 := Scalar.extui v1783_r0
  let c0_i32_1796_r0 : BitVec 32 := 0#32
  let v1785_r0 : BitVec 1 := Scalar.cmpi .ne v1784_r0 c0_i32_1796_r0
  v1785_r0

def k0_dev111 : Nat :=
  let c0_i32_1836_r0 : BitVec 32 := 0#32
  let c14_i32_1834_r0 : BitVec 32 := 14#32
  let c1_i32_1835_r0 : BitVec 32 := 1#32
  let v1837_r0 : BitVec 32 := Scalar.muli c14_i32_1834_r0 c1_i32_1835_r0
  let v1838_r0 : BitVec 32 := Scalar.addi c0_i32_1836_r0 v1837_r0
  v1838_r0.toNat
def k0_cond272 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1797_r0 : BitVec 32 := 15#32
  let v1786_r0 : BitVec 1 := Scalar.cmpi .ne v2 c15_i32_1797_r0
  let v1787_r0 : BitVec 32 := Scalar.extui v1786_r0
  let c0_i32_1798_r0 : BitVec 32 := 0#32
  let v1788_r0 : BitVec 1 := Scalar.cmpi .ne v1787_r0 c0_i32_1798_r0
  v1788_r0

def k0_dev112 : Nat :=
  let c0_i32_1836_r0 : BitVec 32 := 0#32
  let c15_i32_1834_r0 : BitVec 32 := 15#32
  let c1_i32_1835_r0 : BitVec 32 := 1#32
  let v1837_r0 : BitVec 32 := Scalar.muli c15_i32_1834_r0 c1_i32_1835_r0
  let v1838_r0 : BitVec 32 := Scalar.addi c0_i32_1836_r0 v1837_r0
  v1838_r0.toNat
def k0_cond273 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1799_r0 : BitVec 32 := 16#32
  let v1789_r0 : BitVec 1 := Scalar.cmpi .ne v2 c16_i32_1799_r0
  let v1790_r0 : BitVec 32 := Scalar.extui v1789_r0
  let c0_i32_1800_r0 : BitVec 32 := 0#32
  let v1791_r0 : BitVec 1 := Scalar.cmpi .ne v1790_r0 c0_i32_1800_r0
  v1791_r0

def k0_dev113 : Nat :=
  let c0_i32_1836_r0 : BitVec 32 := 0#32
  let c16_i32_1834_r0 : BitVec 32 := 16#32
  let c1_i32_1835_r0 : BitVec 32 := 1#32
  let v1837_r0 : BitVec 32 := Scalar.muli c16_i32_1834_r0 c1_i32_1835_r0
  let v1838_r0 : BitVec 32 := Scalar.addi c0_i32_1836_r0 v1837_r0
  v1838_r0.toNat
def k0_cond274 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1801_r0 : BitVec 32 := 17#32
  let v1792_r0 : BitVec 1 := Scalar.cmpi .ne v2 c17_i32_1801_r0
  let v1793_r0 : BitVec 32 := Scalar.extui v1792_r0
  let c0_i32_1802_r0 : BitVec 32 := 0#32
  let v1794_r0 : BitVec 1 := Scalar.cmpi .ne v1793_r0 c0_i32_1802_r0
  v1794_r0

def k0_dev114 : Nat :=
  let c0_i32_1836_r0 : BitVec 32 := 0#32
  let c17_i32_1834_r0 : BitVec 32 := 17#32
  let c1_i32_1835_r0 : BitVec 32 := 1#32
  let v1837_r0 : BitVec 32 := Scalar.muli c17_i32_1834_r0 c1_i32_1835_r0
  let v1838_r0 : BitVec 32 := Scalar.addi c0_i32_1836_r0 v1837_r0
  v1838_r0.toNat
def k0_cond275 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1803_r0 : BitVec 32 := 18#32
  let v1795_r0 : BitVec 1 := Scalar.cmpi .ne v2 c18_i32_1803_r0
  let v1796_r0 : BitVec 32 := Scalar.extui v1795_r0
  let c0_i32_1804_r0 : BitVec 32 := 0#32
  let v1797_r0 : BitVec 1 := Scalar.cmpi .ne v1796_r0 c0_i32_1804_r0
  v1797_r0

def k0_dev115 : Nat :=
  let c0_i32_1836_r0 : BitVec 32 := 0#32
  let c18_i32_1834_r0 : BitVec 32 := 18#32
  let c1_i32_1835_r0 : BitVec 32 := 1#32
  let v1837_r0 : BitVec 32 := Scalar.muli c18_i32_1834_r0 c1_i32_1835_r0
  let v1838_r0 : BitVec 32 := Scalar.addi c0_i32_1836_r0 v1837_r0
  v1838_r0.toNat
def k0_cond276 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1805_r0 : BitVec 32 := 19#32
  let v1798_r0 : BitVec 1 := Scalar.cmpi .ne v2 c19_i32_1805_r0
  let v1799_r0 : BitVec 32 := Scalar.extui v1798_r0
  let c0_i32_1806_r0 : BitVec 32 := 0#32
  let v1800_r0 : BitVec 1 := Scalar.cmpi .ne v1799_r0 c0_i32_1806_r0
  v1800_r0

def k0_dev116 : Nat :=
  let c0_i32_1836_r0 : BitVec 32 := 0#32
  let c19_i32_1834_r0 : BitVec 32 := 19#32
  let c1_i32_1835_r0 : BitVec 32 := 1#32
  let v1837_r0 : BitVec 32 := Scalar.muli c19_i32_1834_r0 c1_i32_1835_r0
  let v1838_r0 : BitVec 32 := Scalar.addi c0_i32_1836_r0 v1837_r0
  v1838_r0.toNat
def k0_cond277 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1807_r0 : BitVec 32 := 20#32
  let v1801_r0 : BitVec 1 := Scalar.cmpi .ne v2 c20_i32_1807_r0
  let v1802_r0 : BitVec 32 := Scalar.extui v1801_r0
  let c0_i32_1808_r0 : BitVec 32 := 0#32
  let v1803_r0 : BitVec 1 := Scalar.cmpi .ne v1802_r0 c0_i32_1808_r0
  v1803_r0

def k0_dev117 : Nat :=
  let c0_i32_1836_r0 : BitVec 32 := 0#32
  let c20_i32_1834_r0 : BitVec 32 := 20#32
  let c1_i32_1835_r0 : BitVec 32 := 1#32
  let v1837_r0 : BitVec 32 := Scalar.muli c20_i32_1834_r0 c1_i32_1835_r0
  let v1838_r0 : BitVec 32 := Scalar.addi c0_i32_1836_r0 v1837_r0
  v1838_r0.toNat
def k0_cond278 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1809_r0 : BitVec 32 := 21#32
  let v1804_r0 : BitVec 1 := Scalar.cmpi .ne v2 c21_i32_1809_r0
  let v1805_r0 : BitVec 32 := Scalar.extui v1804_r0
  let c0_i32_1810_r0 : BitVec 32 := 0#32
  let v1806_r0 : BitVec 1 := Scalar.cmpi .ne v1805_r0 c0_i32_1810_r0
  v1806_r0

def k0_dev118 : Nat :=
  let c0_i32_1836_r0 : BitVec 32 := 0#32
  let c21_i32_1834_r0 : BitVec 32 := 21#32
  let c1_i32_1835_r0 : BitVec 32 := 1#32
  let v1837_r0 : BitVec 32 := Scalar.muli c21_i32_1834_r0 c1_i32_1835_r0
  let v1838_r0 : BitVec 32 := Scalar.addi c0_i32_1836_r0 v1837_r0
  v1838_r0.toNat
def k0_cond279 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1811_r0 : BitVec 32 := 22#32
  let v1807_r0 : BitVec 1 := Scalar.cmpi .ne v2 c22_i32_1811_r0
  let v1808_r0 : BitVec 32 := Scalar.extui v1807_r0
  let c0_i32_1812_r0 : BitVec 32 := 0#32
  let v1809_r0 : BitVec 1 := Scalar.cmpi .ne v1808_r0 c0_i32_1812_r0
  v1809_r0

def k0_dev119 : Nat :=
  let c0_i32_1836_r0 : BitVec 32 := 0#32
  let c22_i32_1834_r0 : BitVec 32 := 22#32
  let c1_i32_1835_r0 : BitVec 32 := 1#32
  let v1837_r0 : BitVec 32 := Scalar.muli c22_i32_1834_r0 c1_i32_1835_r0
  let v1838_r0 : BitVec 32 := Scalar.addi c0_i32_1836_r0 v1837_r0
  v1838_r0.toNat
def k0_cond280 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1813_r0 : BitVec 32 := 23#32
  let v1810_r0 : BitVec 1 := Scalar.cmpi .ne v2 c23_i32_1813_r0
  let v1811_r0 : BitVec 32 := Scalar.extui v1810_r0
  let c0_i32_1814_r0 : BitVec 32 := 0#32
  let v1812_r0 : BitVec 1 := Scalar.cmpi .ne v1811_r0 c0_i32_1814_r0
  v1812_r0

def k0_dev120 : Nat :=
  let c0_i32_1836_r0 : BitVec 32 := 0#32
  let c23_i32_1834_r0 : BitVec 32 := 23#32
  let c1_i32_1835_r0 : BitVec 32 := 1#32
  let v1837_r0 : BitVec 32 := Scalar.muli c23_i32_1834_r0 c1_i32_1835_r0
  let v1838_r0 : BitVec 32 := Scalar.addi c0_i32_1836_r0 v1837_r0
  v1838_r0.toNat
def k0_cond281 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1815_r0 : BitVec 32 := 24#32
  let v1813_r0 : BitVec 1 := Scalar.cmpi .ne v2 c24_i32_1815_r0
  let v1814_r0 : BitVec 32 := Scalar.extui v1813_r0
  let c0_i32_1816_r0 : BitVec 32 := 0#32
  let v1815_r0 : BitVec 1 := Scalar.cmpi .ne v1814_r0 c0_i32_1816_r0
  v1815_r0

def k0_dev121 : Nat :=
  let c0_i32_1836_r0 : BitVec 32 := 0#32
  let c24_i32_1834_r0 : BitVec 32 := 24#32
  let c1_i32_1835_r0 : BitVec 32 := 1#32
  let v1837_r0 : BitVec 32 := Scalar.muli c24_i32_1834_r0 c1_i32_1835_r0
  let v1838_r0 : BitVec 32 := Scalar.addi c0_i32_1836_r0 v1837_r0
  v1838_r0.toNat
def k0_cond282 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1817_r0 : BitVec 32 := 25#32
  let v1816_r0 : BitVec 1 := Scalar.cmpi .ne v2 c25_i32_1817_r0
  let v1817_r0 : BitVec 32 := Scalar.extui v1816_r0
  let c0_i32_1818_r0 : BitVec 32 := 0#32
  let v1818_r0 : BitVec 1 := Scalar.cmpi .ne v1817_r0 c0_i32_1818_r0
  v1818_r0

def k0_dev122 : Nat :=
  let c0_i32_1836_r0 : BitVec 32 := 0#32
  let c25_i32_1834_r0 : BitVec 32 := 25#32
  let c1_i32_1835_r0 : BitVec 32 := 1#32
  let v1837_r0 : BitVec 32 := Scalar.muli c25_i32_1834_r0 c1_i32_1835_r0
  let v1838_r0 : BitVec 32 := Scalar.addi c0_i32_1836_r0 v1837_r0
  v1838_r0.toNat
def k0_cond283 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1819_r0 : BitVec 32 := 26#32
  let v1819_r0 : BitVec 1 := Scalar.cmpi .ne v2 c26_i32_1819_r0
  let v1820_r0 : BitVec 32 := Scalar.extui v1819_r0
  let c0_i32_1820_r0 : BitVec 32 := 0#32
  let v1821_r0 : BitVec 1 := Scalar.cmpi .ne v1820_r0 c0_i32_1820_r0
  v1821_r0

def k0_dev123 : Nat :=
  let c0_i32_1836_r0 : BitVec 32 := 0#32
  let c26_i32_1834_r0 : BitVec 32 := 26#32
  let c1_i32_1835_r0 : BitVec 32 := 1#32
  let v1837_r0 : BitVec 32 := Scalar.muli c26_i32_1834_r0 c1_i32_1835_r0
  let v1838_r0 : BitVec 32 := Scalar.addi c0_i32_1836_r0 v1837_r0
  v1838_r0.toNat
def k0_cond284 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1821_r0 : BitVec 32 := 27#32
  let v1822_r0 : BitVec 1 := Scalar.cmpi .ne v2 c27_i32_1821_r0
  let v1823_r0 : BitVec 32 := Scalar.extui v1822_r0
  let c0_i32_1822_r0 : BitVec 32 := 0#32
  let v1824_r0 : BitVec 1 := Scalar.cmpi .ne v1823_r0 c0_i32_1822_r0
  v1824_r0

def k0_dev124 : Nat :=
  let c0_i32_1836_r0 : BitVec 32 := 0#32
  let c27_i32_1834_r0 : BitVec 32 := 27#32
  let c1_i32_1835_r0 : BitVec 32 := 1#32
  let v1837_r0 : BitVec 32 := Scalar.muli c27_i32_1834_r0 c1_i32_1835_r0
  let v1838_r0 : BitVec 32 := Scalar.addi c0_i32_1836_r0 v1837_r0
  v1838_r0.toNat
def k0_cond285 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1823_r0 : BitVec 32 := 28#32
  let v1825_r0 : BitVec 1 := Scalar.cmpi .ne v2 c28_i32_1823_r0
  let v1826_r0 : BitVec 32 := Scalar.extui v1825_r0
  let c0_i32_1824_r0 : BitVec 32 := 0#32
  let v1827_r0 : BitVec 1 := Scalar.cmpi .ne v1826_r0 c0_i32_1824_r0
  v1827_r0

def k0_dev125 : Nat :=
  let c0_i32_1836_r0 : BitVec 32 := 0#32
  let c28_i32_1834_r0 : BitVec 32 := 28#32
  let c1_i32_1835_r0 : BitVec 32 := 1#32
  let v1837_r0 : BitVec 32 := Scalar.muli c28_i32_1834_r0 c1_i32_1835_r0
  let v1838_r0 : BitVec 32 := Scalar.addi c0_i32_1836_r0 v1837_r0
  v1838_r0.toNat
def k0_cond286 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1825_r0 : BitVec 32 := 29#32
  let v1828_r0 : BitVec 1 := Scalar.cmpi .ne v2 c29_i32_1825_r0
  let v1829_r0 : BitVec 32 := Scalar.extui v1828_r0
  let c0_i32_1826_r0 : BitVec 32 := 0#32
  let v1830_r0 : BitVec 1 := Scalar.cmpi .ne v1829_r0 c0_i32_1826_r0
  v1830_r0

def k0_dev126 : Nat :=
  let c0_i32_1836_r0 : BitVec 32 := 0#32
  let c29_i32_1834_r0 : BitVec 32 := 29#32
  let c1_i32_1835_r0 : BitVec 32 := 1#32
  let v1837_r0 : BitVec 32 := Scalar.muli c29_i32_1834_r0 c1_i32_1835_r0
  let v1838_r0 : BitVec 32 := Scalar.addi c0_i32_1836_r0 v1837_r0
  v1838_r0.toNat
def k0_cond287 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1827_r0 : BitVec 32 := 30#32
  let v1831_r0 : BitVec 1 := Scalar.cmpi .ne v2 c30_i32_1827_r0
  let v1832_r0 : BitVec 32 := Scalar.extui v1831_r0
  let c0_i32_1828_r0 : BitVec 32 := 0#32
  let v1833_r0 : BitVec 1 := Scalar.cmpi .ne v1832_r0 c0_i32_1828_r0
  v1833_r0

def k0_dev127 : Nat :=
  let c0_i32_1836_r0 : BitVec 32 := 0#32
  let c30_i32_1834_r0 : BitVec 32 := 30#32
  let c1_i32_1835_r0 : BitVec 32 := 1#32
  let v1837_r0 : BitVec 32 := Scalar.muli c30_i32_1834_r0 c1_i32_1835_r0
  let v1838_r0 : BitVec 32 := Scalar.addi c0_i32_1836_r0 v1837_r0
  v1838_r0.toNat
def k0_cond288 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1829_r0 : BitVec 32 := 31#32
  let v1834_r0 : BitVec 1 := Scalar.cmpi .ne v2 c31_i32_1829_r0
  let v1835_r0 : BitVec 32 := Scalar.extui v1834_r0
  let c0_i32_1830_r0 : BitVec 32 := 0#32
  let v1836_r0 : BitVec 1 := Scalar.cmpi .ne v1835_r0 c0_i32_1830_r0
  v1836_r0

def k0_dev128 : Nat :=
  let c0_i32_1836_r0 : BitVec 32 := 0#32
  let c31_i32_1834_r0 : BitVec 32 := 31#32
  let c1_i32_1835_r0 : BitVec 32 := 1#32
  let v1837_r0 : BitVec 32 := Scalar.muli c31_i32_1834_r0 c1_i32_1835_r0
  let v1838_r0 : BitVec 32 := Scalar.addi c0_i32_1836_r0 v1837_r0
  v1838_r0.toNat
abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x16x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x1x16x64 : Shape := ⟨4, ![16, 1, 16, 64]⟩
abbrev S4096x16x16x64 : Shape := ⟨4, ![4096, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x64 : Shape := ⟨3, ![16, 16, 64]⟩
abbrev S16x16x2048 : Shape := ⟨3, ![16, 16, 2048]⟩
abbrev S16x128x16 : Shape := ⟨3, ![16, 128, 16]⟩
abbrev S16x2048 : Shape := ⟨2, ![16, 2048]⟩
abbrev S16x1x2048 : Shape := ⟨3, ![16, 1, 2048]⟩
abbrev S16x16 : Shape := ⟨2, ![16, 16]⟩
abbrev S16x16x1 : Shape := ⟨3, ![16, 16, 1]⟩

abbrev nBuf : Space → Nat
  | .hbm => 55
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S4096x16x16x64, .f32⟩
  | .hbm, ⟨2, _⟩ => ⟨S4096x16x16x64, .f32⟩
  | .hbm, ⟨3, _⟩ => ⟨S16x128, .i32⟩
  | .hbm, ⟨4, _⟩ => ⟨S16, .i32⟩
  | .hbm, ⟨5, _⟩ => ⟨S16x128, .i32⟩
  | .hbm, ⟨6, _⟩ => ⟨S16x1, .i32⟩
  | .hbm, ⟨7, _⟩ => ⟨S16x128, .i32⟩
  | .hbm, ⟨8, _⟩ => ⟨S16x128, .i1⟩
  | .hbm, ⟨9, _⟩ => ⟨S_, .i32⟩
  | .hbm, ⟨10, _⟩ => ⟨S16x128, .i32⟩
  | .hbm, ⟨11, _⟩ => ⟨S16x128, .i1⟩
  | .hbm, ⟨12, _⟩ => ⟨S_, .i32⟩
  | .hbm, ⟨13, _⟩ => ⟨S16x128, .i32⟩
  | .hbm, ⟨14, _⟩ => ⟨S16x128, .i32⟩
  | .hbm, ⟨15, _⟩ => ⟨S16x128, .i32⟩
  | .hbm, ⟨16, _⟩ => ⟨S16x128x1, .i32⟩
  | .hbm, ⟨17, _⟩ => ⟨S16x128x16x16x64, .f32⟩
  | .hbm, ⟨18, _⟩ => ⟨S16x2048x16x64, .f32⟩
  | .hbm, ⟨19, _⟩ => ⟨S_, .i32⟩
  | .hbm, ⟨20, _⟩ => ⟨S16x128, .i32⟩
  | .hbm, ⟨21, _⟩ => ⟨S16x128, .i1⟩
  | .hbm, ⟨22, _⟩ => ⟨S_, .i32⟩
  | .hbm, ⟨23, _⟩ => ⟨S16x128, .i32⟩
  | .hbm, ⟨24, _⟩ => ⟨S16x128, .i32⟩
  | .hbm, ⟨25, _⟩ => ⟨S16x128, .i32⟩
  | .hbm, ⟨26, _⟩ => ⟨S16x128x1, .i32⟩
  | .hbm, ⟨27, _⟩ => ⟨S16x128x16x16x64, .f32⟩
  | .hbm, ⟨28, _⟩ => ⟨S16x2048x16x64, .f32⟩
  | .hbm, ⟨29, _⟩ => ⟨S16x16x64, .f32⟩
  | .hbm, ⟨30, _⟩ => ⟨S16x16x2048, .f32⟩
  | .hbm, ⟨31, _⟩ => ⟨S_, .f32⟩
  | .hbm, ⟨32, _⟩ => ⟨S16x16x2048, .f32⟩
  | .hbm, ⟨33, _⟩ => ⟨S16x16x2048, .f32⟩
  | .hbm, ⟨34, _⟩ => ⟨S16x128x16, .i1⟩
  | .hbm, ⟨35, _⟩ => ⟨S16x2048, .i1⟩
  | .hbm, ⟨36, _⟩ => ⟨S16x1x2048, .i1⟩
  | .hbm, ⟨37, _⟩ => ⟨S_, .f32⟩
  | .hbm, ⟨38, _⟩ => ⟨S_, .f32⟩
  | .hbm, ⟨39, _⟩ => ⟨S16x16x2048, .i1⟩
  | .hbm, ⟨40, _⟩ => ⟨S16x16x2048, .f32⟩
  | .hbm, ⟨41, _⟩ => ⟨S16x16x2048, .f32⟩
  | .hbm, ⟨42, _⟩ => ⟨S_, .f32⟩
  | .hbm, ⟨43, _⟩ => ⟨S16x16, .f32⟩
  | .hbm, ⟨44, _⟩ => ⟨S16x16x1, .f32⟩
  | .hbm, ⟨45, _⟩ => ⟨S16x16x2048, .f32⟩
  | .hbm, ⟨46, _⟩ => ⟨S16x16x2048, .f32⟩
  | .hbm, ⟨47, _⟩ => ⟨S16x16x2048, .f32⟩
  | .hbm, ⟨48, _⟩ => ⟨S_, .f32⟩
  | .hbm, ⟨49, _⟩ => ⟨S16x16, .f32⟩
  | .hbm, ⟨50, _⟩ => ⟨S16x16x1, .f32⟩
  | .hbm, ⟨51, _⟩ => ⟨S16x16x2048, .f32⟩
  | .hbm, ⟨52, _⟩ => ⟨S16x16x2048, .f32⟩
  | .hbm, ⟨53, _⟩ => ⟨S16x16x64, .f32⟩
  | .hbm, ⟨54, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Rows.lean ====
/-
The rows of the kernel's scratch buffers, and what each holds.

`cur`, `inbox1` (32 × 8 × 128) and `inbox2` (32 × 8 × 64) are exchanged one row at a time: row `j` of `cur` goes to
device `j`, whose `inbox1` takes it at the sender's row. This module names the rows as sets of elements, reads and
writes them through the kernel's slices, and defines the values the kernel computes from the arguments:
`rowVal c j b l` (device `c`'s partial result for row `j`), `resVal c` (the combined 8 × 64 result of device `c`) and
`outVal` (the output block, the same on every device).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.ValueLayout
public import Idealize.ShloMosaic.Lib.Pipeline.ValueKit.Geometry
public import Idealize.ShloMosaic.Lib.Tactic

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## The buffers -/

abbrev qM : Memref sig .tc .vmem S16x1x16x64 .f32 := Memref.whole cc0_stg0_0
abbrev kM : Memref sig .tc .vmem S128x16x16x64 .f32 := Memref.whole cc0_stg1_0
abbrev vM : Memref sig .tc .vmem S128x16x16x64 .f32 := Memref.whole cc0_stg2_0
abbrev bM : Memref sig .tc .vmem S16x128 .i32 := Memref.whole cc0_stg3_0
abbrev lM : Memref sig .tc .smem S16 .i32 := Memref.whole cc0_stg4_0
abbrev oM : Memref sig .tc .vmem S16x1x16x64 .f32 := Memref.whole cc0_stg5_0
/-- The rows this device sends in the first exchange. -/
abbrev cM : Memref sig .tc .vmem S32x8x128 .f32 := Memref.whole cc0_scratch0
/-- The rows it receives in the first exchange, by sender. -/
abbrev iM : Memref sig .tc .vmem S32x8x128 .f32 := Memref.whole cc0_scratch1
/-- Its combined result. -/
abbrev rM : Memref sig .tc .vmem S8x64 .f32 := Memref.whole cc0_scratch2
/-- The results it receives in the second exchange, by sender. -/
abbrev gM : Memref sig .tc .vmem S32x8x64 .f32 := Memref.whole cc0_scratch3

/-! ## Rows as sets of elements -/

/-- The elements of row `j` of a 32 × 8 × 128 buffer. -/
def rset1 (j : ℕ) : Finset S32x8x128.Idx := Finset.univ.filter fun i => (i 0).val = j
/-- The elements of row `j` of a 32 × 8 × 64 buffer. -/
def rset2 (j : ℕ) : Finset S32x8x64.Idx := Finset.univ.filter fun i => (i 0).val = j

/-- Which elements row `j` of a 32 × 8 × 128 buffer has. -/
theorem mem_rset1 {j : ℕ} {i : S32x8x128.Idx} : i ∈ rset1 j ↔ (i 0).val = j := by
  unfold rset1; rw [Finset.mem_filter]; exact ⟨fun h => h.2, fun h => ⟨Finset.mem_univ _, h⟩⟩
/-- Which elements row `j` of a 32 × 8 × 64 buffer has. -/
theorem mem_rset2 {j : ℕ} {i : S32x8x64.Idx} : i ∈ rset2 j ↔ (i 0).val = j := by
  unfold rset2; rw [Finset.mem_filter]; exact ⟨fun h => h.2, fun h => ⟨Finset.mem_univ _, h⟩⟩

/-- A unit-stride rectangle of one row at axis 0 lies in that row. -/
theorem rect_sub_rset1 {off size : Fin 3 → ℕ} (inb : ∀ a, off a + size a ≤ S32x8x128.size a) {j : ℕ} (h0 : off 0 = j) (h1 : size 0 = 1) :
    (Rect.unit (s := S32x8x128) off size inb).set ⊆ rset1 j := fun i hi => by
  rw [mem_rset1]; have := Rect.mem_set_unit.1 hi 0; rw [h0, h1] at this; omega
/-- The same for a 32 × 8 × 64 buffer. -/
theorem rect_sub_rset2 {off size : Fin 3 → ℕ} (inb : ∀ a, off a + size a ≤ S32x8x64.size a) {j : ℕ} (h0 : off 0 = j) (h1 : size 0 = 1) :
    (Rect.unit (s := S32x8x64) off size inb).set ⊆ rset2 j := fun i hi => by
  rw [mem_rset2]; have := Rect.mem_set_unit.1 hi 0; rw [h0, h1] at this; omega

/-- The whole-row rectangle is the row. -/
theorem rect_eq_rset1 {off : Fin 3 → ℕ} (inb : ∀ a, off a + S1x8x128.size a ≤ S32x8x128.size a) {j : ℕ} (h : off = ![j, 0, 0]) :
    (Rect.unit (s := S32x8x128) off S1x8x128.size inb).set = rset1 j := by
  subst h
  refine Finset.Subset.antisymm (rect_sub_rset1 inb rfl rfl) fun i hi => ?_
  rw [mem_rset1] at hi
  refine Rect.mem_set_unit.2 fun a => ?_
  fin_cases a
  · exact ⟨hi.ge, by show (i 0).val < j + 1; omega⟩
  · exact ⟨Nat.zero_le _, by have := (i 1).isLt; show (i 1).val < 0 + 8; have h8 : S32x8x128.size 1 = 8 := rfl; omega⟩
  · exact ⟨Nat.zero_le _, by have := (i 2).isLt; show (i 2).val < 0 + 128; have h8 : S32x8x128.size 2 = 128 := rfl; omega⟩
/-- The same for a 32 × 8 × 64 buffer. -/
theorem rect_eq_rset2 {off : Fin 3 → ℕ} (inb : ∀ a, off a + S1x8x64.size a ≤ S32x8x64.size a) {j : ℕ} (h : off = ![j, 0, 0]) :
    (Rect.unit (s := S32x8x64) off S1x8x64.size inb).set = rset2 j := by
  subst h
  refine Finset.Subset.antisymm (rect_sub_rset2 inb rfl rfl) fun i hi => ?_
  rw [mem_rset2] at hi
  refine Rect.mem_set_unit.2 fun a => ?_
  fin_cases a
  · exact ⟨hi.ge, by show (i 0).val < j + 1; omega⟩
  · exact ⟨Nat.zero_le _, by have := (i 1).isLt; show (i 1).val < 0 + 8; have h8 : S32x8x64.size 1 = 8 := rfl; omega⟩
  · exact ⟨Nat.zero_le _, by have := (i 2).isLt; show (i 2).val < 0 + 64; have h8 : S32x8x64.size 2 = 64 := rfl; omega⟩

/-- Every row lies in a 32 × 8 × 128 buffer. -/
theorem inb1 (j : Fin 32) : ∀ a, (![j.val, 0, 0] : Fin 3 → ℕ) a + S1x8x128.size a ≤ S32x8x128.size a := fun a => by
  have := j.isLt
  fin_cases a
  · show j.val + 1 ≤ 32; omega
  · exact Nat.le_refl 8
  · exact Nat.le_refl 128
/-- Every row lies in a 32 × 8 × 64 buffer. -/
theorem inb2 (j : Fin 32) : ∀ a, (![j.val, 0, 0] : Fin 3 → ℕ) a + S1x8x64.size a ≤ S32x8x64.size a := fun a => by
  have := j.isLt
  fin_cases a
  · show j.val + 1 ≤ 32; omega
  · exact Nat.le_refl 8
  · exact Nat.le_refl 64

/-- Row `j` of a 32 × 8 × 128 buffer as the kernel slices it: one row, squeezed to 8 × 128. -/
abbrev row1 (M : Memref sig .tc .vmem S32x8x128 .f32) (j : Fin 32) : Memref sig .tc .vmem S8x128 .f32 :=
  (M.slice (Rect.unit (s := S32x8x128) ![j.val, 0, 0] S1x8x128.size (inb1 j)) (fun _ => rfl)).squeeze S8x128 squeezes_S1x8x128_S8x128
abbrev row2 (M : Memref sig .tc .vmem S32x8x64 .f32) (j : Fin 32) : Memref sig .tc .vmem S8x64 .f32 :=
  (M.slice (Rect.unit (s := S32x8x64) ![j.val, 0, 0] S1x8x64.size (inb2 j)) (fun _ => rfl)).squeeze S8x64 squeezes_S1x8x64_S8x64

/-- The kernel's slice of the send buffer has the row's elements. -/
theorem row1_set_c (j : Fin 32) : (row1 cM j).view.set = rset1 j.val :=
  (Memref.set_view_squeeze _ _).trans ((View.set_slice_whole _ _).trans (rect_eq_rset1 (inb1 j) rfl))
/-- The kernel's slice of the first inbox has the row's elements. -/
theorem row1_set_i (j : Fin 32) : (row1 iM j).view.set = rset1 j.val :=
  (Memref.set_view_squeeze _ _).trans ((View.set_slice_whole _ _).trans (rect_eq_rset1 (inb1 j) rfl))
/-- The kernel's slice of the second inbox has the row's elements. -/
theorem row2_set_g (j : Fin 32) : (row2 gM j).view.set = rset2 j.val :=
  (Memref.set_view_squeeze _ _).trans ((View.set_slice_whole _ _).trans (rect_eq_rset2 (inb2 j) rfl))

/-- An index of an 8 × 128 block by its coordinates. -/
theorem ix2_eta {a b : ℕ} (x : (⟨2, ![a, b]⟩ : Shape).Idx) : ix2 (x 0) (x 1) = x := by
  funext d; fin_cases d <;> rfl
/-- An index of three axes is given by its coordinates. -/
theorem ix3_eta {a b c : ℕ} (x : (⟨3, ![a, b, c]⟩ : Shape).Idx) : ix3 (x 0) (x 1) (x 2) = x := by
  funext d; fin_cases d <;> rfl

/-- An element of the kernel's slice of the send buffer, in the buffer. -/
theorem row1_emb_c (j : Fin 32) (b : Fin 8) (l : Fin 128) : (row1 cM j).view.emb (ix2 b l) = ix3 j b l := by
  show (Rect.unit (s := S32x8x128) ![j.val, 0, 0] S1x8x128.size (inb1 j)).emb (Shape.reshapeEquiv _ (ix2 b l)) = _
  rw [reshapeEquiv_ix2_1ab]
  funext a; apply Fin.ext; rw [ValueKit.rect_emb_unit_val]
  fin_cases a
  · exact Nat.add_zero _
  · exact Nat.zero_add _
  · exact Nat.zero_add _
/-- An element of the kernel's slice of the first inbox, in the buffer. -/
theorem row1_emb_i (j : Fin 32) (b : Fin 8) (l : Fin 128) : (row1 iM j).view.emb (ix2 b l) = ix3 j b l := row1_emb_c j b l
/-- An element of the kernel's slice of the second inbox, in the buffer. -/
theorem row2_emb_g (j : Fin 32) (b : Fin 8) (l : Fin 64) : (row2 gM j).view.emb (ix2 b l) = ix3 j b l := by
  show (Rect.unit (s := S32x8x64) ![j.val, 0, 0] S1x8x64.size (inb2 j)).emb (Shape.reshapeEquiv _ (ix2 b l)) = _
  rw [reshapeEquiv_ix2_1ab]
  funext a; apply Fin.ext; rw [ValueKit.rect_emb_unit_val]
  fin_cases a
  · exact Nat.add_zero _
  · exact Nat.zero_add _
  · exact Nat.zero_add _

/-- What lands in row `i` of `inbox1` when row `j` of `cur` is copied into it. -/
theorem landed1 (i j : Fin 32) (fd fs : S32x8x128.Idx → Elt F .f32) (b : Fin 8) (l : Fin 128) :
    (row1 iM i).view.write (Elt F) fd ((row1 cM j).view.read (Elt F) fs) Finset.univ (ix3 i b l) = fs (ix3 j b l) := by
  have h := View.write_emb_of_mem (Val := Elt F) (v := (row1 iM i).view) fd ((row1 cM j).view.read (Elt F) fs) (Finset.mem_univ (ix2 b l))
  rw [row1_emb_i] at h
  refine h.trans ?_
  have h2 := View.read_apply (Val := Elt F) (v := (row1 cM j).view) fs (ix2 b l)
  rw [row1_emb_c] at h2
  exact h2
/-- What lands in row `i` of `inbox2` when `res` is copied into it. -/
theorem landed2 (i : Fin 32) (fd : S32x8x64.Idx → Elt F .f32) (fs : S8x64.Idx → Elt F .f32) (b : Fin 8) (l : Fin 64) :
    (row2 gM i).view.write (Elt F) fd ((rM : Memref sig .tc .vmem S8x64 .f32).view.read (Elt F) fs) Finset.univ (ix3 i b l) = fs (ix2 b l) := by
  have h := View.write_emb_of_mem (Val := Elt F) (v := (row2 gM i).view) fd ((rM : Memref sig .tc .vmem S8x64 .f32).view.read (Elt F) fs) (Finset.mem_univ (ix2 b l))
  rw [row2_emb_g] at h
  refine h.trans ?_
  rw [View.read_whole]; rfl

/-! ## What the kernel computes -/

section Vals
variable (m : (ℓ : Loc nD τ sig) → Buf (Elt F) ℓ) (c : Dev nD)

/-- The kernel's own number of its device: `device_id / 1 % 32`. -/
abbrev vw (c : Dev nD) : BitVec 32 := Scalar.remsi (Scalar.divsi (Dev.word c) 1#32) 32#32

def stQ : S16x1x16x64.Idx → Elt F .f32 := iblk m c 0 t0_0
def stK : S128x16x16x64.Idx → Elt F .f32 := iblk m c 1 t0_0
def stV : S128x16x16x64.Idx → Elt F .f32 := iblk m c 2 t0_0
def stB : S16x128.Idx → Elt F .i32 := iblk m c 3 t0_0
def stL : S16.Idx → Elt F .i32 := iblk m c 4 t0_0

/-- Every length that the kernel reads lies in the array of lengths. -/
theorem inbLen (i : Fin 16) : ∀ a, (![i.val] : Fin 1 → ℕ) a + S1.size a ≤ S16.size a := fun a => by
  have := i.isLt
  fin_cases a
  show i.val + 1 ≤ 16; omega
/-- Every head that the kernel reads lies in the queries. -/
theorem inbQ (h : Fin 16) : ∀ a, (![0, 0, h.val, 0] : Fin 4 → ℕ) a + S16x1x1x64.size a ≤ S16x1x16x64.size a := fun a => by
  have := h.isLt
  fin_cases a
  · exact Nat.le_refl 16
  · exact Nat.le_refl 1
  · show h.val + 1 ≤ 16; omega
  · exact Nat.le_refl 64
/-- Every head that the kernel reads lies in the keys, and in the values. -/
theorem inbK (h : Fin 16) : ∀ a, (![0, 0, h.val, 0] : Fin 4 → ℕ) a + S128x16x1x64.size a ≤ S128x16x16x64.size a := fun a => by
  have := h.isLt
  fin_cases a
  · exact Nat.le_refl 128
  · exact Nat.le_refl 16
  · show h.val + 1 ≤ 16; omega
  · exact Nat.le_refl 64

/-- The length of batch row `i`, as the kernel reads it. -/
def ldLen (i : Fin 16) : Elt F .i32 :=
  (lM.access (Rect.unit (s := S16) ![i.val] S1.size (inbLen i))).read (Elt F) (stL m c) (Shape.Idx.first (numel1_S1.symm ▸ Nat.one_pos))
/-- The block table, as the kernel reads it. -/
def ldB : Vec F S16x128 .i32 :=
  bM.view.readAt (Elt F) (Rect.unit (s := S16x128) ![0, 0] S16x128.size inb_S16x128_S16x128_0_0).toLoadRect (stB m c)
/-- Head `h` of the queries, the keys and the values, as the kernel reads them. -/
def ldQ (h : Fin 16) : Vec F S16x1x1x64 .f32 :=
  qM.view.readAt (Elt F) (Rect.unit (s := S16x1x16x64) ![0, 0, h.val, 0] S16x1x1x64.size (inbQ h)).toLoadRect (stQ m c)
def ldK (h : Fin 16) : Vec F S128x16x1x64 .f32 :=
  kM.view.readAt (Elt F) (Rect.unit (s := S128x16x16x64) ![0, 0, h.val, 0] S128x16x1x64.size (inbK h)).toLoadRect (stK m c)
def ldV (h : Fin 16) : Vec F S128x16x1x64 .f32 :=
  vM.view.readAt (Elt F) (Rect.unit (s := S128x16x16x64) ![0, 0, h.val, 0] S128x16x1x64.size (inbK h)).toLoadRect (stV m c)

/-- How often each of this device's pages occurs among the valid block-table entries of each batch row. -/
def cntOf : FVec F S16x128 .f32 :=
  k0_pay12 (k0_pay1 (vw c) (ldB m c)) (k0_pay2 (ldLen m c 0)) (k0_pay3 (ldLen m c 1)) (k0_pay4 (ldLen m c 2)) (k0_pay5 (ldLen m c 3))
    (k0_pay6 (ldLen m c 4)) (k0_pay7 (ldLen m c 5)) (k0_pay8 (ldLen m c 6)) (k0_pay9 (ldLen m c 7)) (k0_pay10 (ldLen m c 8))
    (k0_pay11 (ldLen m c 9)) (ldLen m c 10) (ldLen m c 11) (ldLen m c 12) (ldLen m c 13) (ldLen m c 14) (ldLen m c 15)
/-- The same count per key (16 keys to a page). -/
def cntkOf : FVec F S16x2048 .f32 :=
  k0_pay16 (cntOf m c) (iota .tc S128x2048 32 [0] iota_S128x2048_d0_w32) (iota .tc S128x2048 32 [1] iota_S128x2048_d1_w32) k0_pay13 k0_pay14 k0_pay15
/-- Whether a key is attended to. -/
def attOf : IVec S16x2048 1 :=
  k0_pay17 (cntOf m c) (iota .tc S128x2048 32 [0] iota_S128x2048_d0_w32) (iota .tc S128x2048 32 [1] iota_S128x2048_d1_w32) k0_pay13 k0_pay14 k0_pay15

/-- Head `h`'s maximum score, sum of weights and weighted sum of values over this device's keys. -/
def mOf (h : Fin 16) : FVec F S16x1 .f32 := k0_pay32 (attOf m c) (ldQ m c h) (ldK m c h)
def lOf (h : Fin 16) : FVec F S16x1 .f32 := k0_pay34 (cntkOf m c) (attOf m c) (ldQ m c h) (ldK m c h)
def accOf (h : Fin 16) : FVec F S16x64 .f32 := k0_pay35 (cntkOf m c) (attOf m c) (ldQ m c h) (ldK m c h) (ldV m c h)

def hd (j : Fin 32) : Fin 16 := ⟨j.val / 2, by have := j.isLt; omega⟩

/-- What the kernel stores into row `j`: the head `j / 2`, batch rows 0 to 7 for even `j` and 8 to 15 for odd `j`. -/
def rowAcc (j : Fin 32) : FVec F S1x8x64 .f32 := if j.val % 2 = 0 then k0_pay23 (accOf m c (hd j)) else k0_pay26 (accOf m c (hd j))
def rowM (j : Fin 32) : FVec F S1x8x1 .f32 := if j.val % 2 = 0 then k0_pay24 (mOf m c (hd j)) else k0_pay27 (mOf m c (hd j))
def rowL (j : Fin 32) : FVec F S1x8x1 .f32 := if j.val % 2 = 0 then k0_pay25 (lOf m c (hd j)) else k0_pay28 (lOf m c (hd j))

/-- Row `j` of device `c`: lanes 0 to 63 the weighted sum, lane 64 the maximum, lane 65 the sum of weights. -/
def rowVal (j : Fin 32) (b : Fin 8) (l : Fin 128) : Elt F .f32 :=
  if h : l.val < 64 then rowAcc m c j (ix3 (0 : Fin 1) b (⟨l.val, h⟩ : Fin 64))
  else if l.val = 64 then rowM m c j (ix3 (0 : Fin 1) b (0 : Fin 1)) else rowL m c j (ix3 (0 : Fin 1) b (0 : Fin 1))

/-- The received buffer of device `c`, at its first 66 lanes: row `p` is device `p`'s row `c`. -/
def canon : S32x8x128.Idx → Elt F .f32 := fun i => rowVal m (i 0) c (i 1) (i 2)
/-- Device `c`'s combined result. -/
def resVal : S8x64.Idx → Elt F .f32 := k0_pay248 (k0_pay247 (canon m c))
/-- Device `c`'s result as a row of `inbox2`. -/
def resRow : Vec F S1x8x64 .f32 := fun i => resVal m c (ix2 (i 1) (i 2))
/-- What the kernel stores for head `h`, and the whole output block. -/
def outHead (h : Fin 16) : FVec F S16x1x1x64 .f32 :=
  k0_pay281 (resRow m (⟨2 * h.val, by have := h.isLt; show 2 * h.val < 32; omega⟩ : Dev nD)) (resRow m (⟨2 * h.val + 1, by have := h.isLt; show 2 * h.val + 1 < 32; omega⟩ : Dev nD))
def outVal : S16x1x16x64.Idx → Elt F .f32 := fun i => outHead m (i 2) (ix4 (i 0) (0 : Fin 1) (0 : Fin 1) (i 3))

/-- Row `j` of `cur` on device `c` holds its values at lanes below `n`. -/
def CurOK (j : Fin 32) (n : ℕ) (f : S32x8x128.Idx → Elt F .f32) : Prop := ∀ (b : Fin 8) (l : Fin 128), l.val < n → f (ix3 j b l) = rowVal m c j b l
/-- Row `p` of `inbox1` on device `c` holds device `p`'s row `c` at its 66 lanes. -/
def InOK (p : Dev nD) (f : S32x8x128.Idx → Elt F .f32) : Prop := ∀ (b : Fin 8) (l : Fin 128), l.val < 66 → f (ix3 p b l) = rowVal m p c b l
/-- Row `p` of `inbox2` holds device `p`'s result. -/
def GOK (p : Dev nD) (f : S32x8x64.Idx → Elt F .f32) : Prop := ∀ (b : Fin 8) (l : Fin 64), f (ix3 p b l) = resVal m p (ix2 b l)

/-- The combination reads the first 66 lanes only. -/
theorem pay247_congr {f g : Vec F S32x8x128 .f32} (h : ∀ (j : Fin 32) (b : Fin 8) (l : Fin 128), l.val < 66 → f (ix3 j b l) = g (ix3 j b l)) :
    k0_pay247 f = k0_pay247 g := by
  have h' : ∀ i : S32x8x128.Idx, (i 2).val < 66 → f i = g i := fun i hi => by
    have e : (ix3 (i 0) (i 1) (i 2) : S32x8x128.Idx) = i := ix3_eta i
    exact e ▸ h (i 0) (i 1) (i 2) hi
  have e1 : extractStridedSlice S32x8x1 ![0, 0, 64] f slices_S32x8x128_o0_0_64_S32x8x1 = extractStridedSlice S32x8x1 ![0, 0, 64] g slices_S32x8x128_o0_0_64_S32x8x1 :=
    funext fun i => h' _ (Nat.lt_of_lt_of_le (Nat.add_lt_add_left (show (i 2).val < 1 from (i 2).isLt) 64) (by decide))
  have e2 : extractStridedSlice S32x8x64 ![0, 0, 0] f slices_S32x8x128_o0_0_0_S32x8x64 = extractStridedSlice S32x8x64 ![0, 0, 0] g slices_S32x8x128_o0_0_0_S32x8x64 :=
    funext fun i => h' _ (Nat.lt_of_lt_of_le (Nat.add_lt_add_left (show (i 2).val < 64 from (i 2).isLt) 0) (by decide))
  have e3 : extractStridedSlice S32x8x1 ![0, 0, 65] f slices_S32x8x128_o0_0_65_S32x8x1 = extractStridedSlice S32x8x1 ![0, 0, 65] g slices_S32x8x128_o0_0_65_S32x8x1 :=
    funext fun i => h' _ (Nat.lt_of_lt_of_le (Nat.add_lt_add_left (show (i 2).val < 1 from (i 2).isLt) 65) (by decide))
  unfold k0_pay247
  rw [e1, e2, e3]

end Vals

end Cert.KernelIdeal.Attn

end
-- ==== Proof.Protocol.lean ====
/-
The protocol of the two exchanges, as one round (round 0) of every semaphore cell.

Device `c`, its peers `d ≠ c`:

* barrier cell of `c`: every peer `d` pays one unit and hands over the rows `c` will write on `d`: row `c` of `d`'s
  `inbox1` and of `d`'s `inbox2`. `c` waits for 31.
* `send1[j]` of `c`: paid by `c`'s own copy of row `j`; gives row `j` of `cur` back.
* `recv1[p]` of `c`: paid by peer `p`'s copy; gives row `p` of `inbox1`, holding `p`'s row `c` at its 66 lanes.
* `send2[j]` of `c`: paid by `c`'s own copy of `res`; gives back the share of `res` lent to that copy.
* `recv2[p]` of `c`: paid by peer `p`'s copy; gives row `p` of `inbox2`, holding `p`'s result.
* second barrier cell of `c`: every peer pays one unit; nothing is handed over. `c` waits for 31.

The cells numbered by the device itself carry nothing. Waiting order: staging, barrier, first exchange's receives,
second exchange's receives, sends, second barrier.
-/
module

public import proofs.«01_k».proof.Proof.Rows
public import Idealize.ShloMosaic.Lib.ShareLeaves
import Mathlib.Tactic.Abel

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A kind of cell: the two barriers, or (exchange and direction, index): 0 = send1, 1 = recv1, 2 = send2, 3 = recv2. -/
abbrev CK : Type := Fin 2 ⊕ (Fin 4 × Fin 32)

/-- The runtime's barrier semaphore. -/
abbrev barS : Sem sig := (SemArray.scalar (sig.barrier 0 rfl) : Sems sig S_).sem

def csem : CK → SemLoc sig
  | .inl s => .reg ⟨s.val, s.isLt⟩
  | .inr (k, j) => .dma ⟨6 + 32 * k.val + j.val, by have := k.isLt; have := j.isLt; show _ < 134; omega⟩

def kind : SemLoc sig → Option CK
  | .reg s => some (.inl ⟨s.val, s.isLt⟩)
  | .dma q => if h : 6 ≤ q.val then
      some (.inr (⟨(q.val - 6) / 32, by have : q.val < 134 := q.isLt; omega⟩, ⟨(q.val - 6) % 32, Nat.mod_lt _ (by decide)⟩)) else none

/-- A cell's kind is read back from its semaphore. -/
theorem kind_csem (k : CK) : kind (csem k) = some k := by
  rcases k with s | ⟨k, j⟩
  · rfl
  · have hk := k.isLt; have hj := j.isLt
    show (if h : 6 ≤ 6 + 32 * k.val + j.val then _ else none) = _
    rw [dif_pos (by omega)]
    congr 2
    refine Prod.ext (Fin.ext ?_) (Fin.ext ?_)
    · show (6 + 32 * k.val + j.val - 6) / 32 = k.val; omega
    · show (6 + 32 * k.val + j.val - 6) % 32 = j.val; omega

/-- Different cells of a device have different semaphores. -/
theorem csem_injective : Function.Injective csem := fun a b h => by
  have := kind_csem a; rw [h, kind_csem b] at this; exact (Option.some.inj this).symm

abbrev kcell (ck : Dev nD × CK) : GSem nD τ sig := ((ck.1 : Thread nD τ), csem ck.2)

/-- Different cells are different semaphores. -/
theorem kcell_injective : Function.Injective (kcell : Dev nD × CK → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

/-- What one row's copy credits, in each exchange. -/
abbrev N1 : ℕ := (row1 iM 0).view.dmaCredit
abbrev N2 : ℕ := (row2 gM 0).view.dmaCredit
/-- A copy of the first exchange credits something. -/
theorem N1_pos : 0 < N1 := View.dmaCredit_pos _ (by decide)
/-- A copy of the second exchange credits something. -/
theorem N2_pos : 0 < N2 := View.dmaCredit_pos _ (by decide)

/-! ## What the payments hand over -/

section Pay
variable (m : (ℓ : Loc nD τ sig) → Buf (Elt F) ℓ)

/-- Row `j` of `cur`, of `inbox1`, of `inbox2` on device `c`. -/
def curR (c : Dev nD) (j : Fin 32) (f : S32x8x128.Idx → Elt F .f32) : sProp 𝕄 :=
  ((c : Thread nD τ).loc cc0_scratch0) ↦[rset1 j.val]{fullShare} f
def inR (c : Dev nD) (p : Fin 32) (f : S32x8x128.Idx → Elt F .f32) : sProp 𝕄 :=
  ((c : Thread nD τ).loc cc0_scratch1) ↦[rset1 p.val]{fullShare} f
def gR (c : Dev nD) (p : Fin 32) (f : S32x8x64.Idx → Elt F .f32) : sProp 𝕄 :=
  ((c : Thread nD τ).loc cc0_scratch3) ↦[rset2 p.val]{fullShare} f
/-- The share of `res` on device `c` lent to its copy to `j` (its own, `j = c`, stays). -/
def resR (c : Dev nD) (j : Fin 32) : sProp 𝕄 :=
  ((c : Thread nD τ).loc cc0_scratch2) ↦[Finset.univ]{ShareLeaves.leaf 5 fullShare j} resVal m c

def payOf (c : Dev nD) : Option CK → Dev nD → sProp 𝕄
  | some (.inl 0), d => iprop((∃ f, inR d c f) ∗ (∃ f, gR d c f))
  | some (.inr (0, j)), _ => iprop(∃ f, curR c j f)
  | some (.inr (1, p)), _ => iprop(∃ f, ⌜InOK m c p f⌝ ∗ inR c p f)
  | some (.inr (2, j)), _ => resR m c j
  | some (.inr (3, p)), _ => iprop(∃ f, ⌜GOK m p f⌝ ∗ gR c p f)
  | _, _ => iprop(emp)

instance curR_storable (c : Dev nD) (j : Fin 32) (f) : BI.Storable (upEmb : UEmb _ 𝕄) (curR (F := F) c j f) := by unfold curR; infer_instance
instance inR_storable (c : Dev nD) (j : Fin 32) (f) : BI.Storable (upEmb : UEmb _ 𝕄) (inR (F := F) c j f) := by unfold inR; infer_instance
instance gR_storable (c : Dev nD) (j : Fin 32) (f) : BI.Storable (upEmb : UEmb _ 𝕄) (gR (F := F) c j f) := by unfold gR; infer_instance
instance resR_storable (c : Dev nD) (j : Fin 32) : BI.Storable (upEmb : UEmb _ 𝕄) (resR (F := F) m c j) := by unfold resR; infer_instance
instance payOf_storable (c : Dev nD) (k : Option CK) (d : Dev nD) : BI.Storable (upEmb : UEmb _ 𝕄) (payOf (F := F) m c k d) := by
  unfold payOf; split <;> infer_instance

def dutiesOf (c : Dev nD) : Option CK → Finset (Dev nD)
  | some (.inl _) => Finset.univ.erase c
  | some (.inr (_, j)) => if j = c then ∅ else {j}
  | none => ∅

def amtOf : Option CK → ℕ
  | some (.inr (k, _)) => if k.val < 2 then N1 else N2
  | _ => 1

/-- Every payment is positive. -/
theorem amtOf_pos (k : Option CK) : 0 < amtOf k := by
  unfold amtOf; split
  · split
    · exact N1_pos
    · exact N2_pos
  · exact Nat.one_pos

def Rd : Rounds.Schedule (GSem nD τ sig) (Dev nD) 𝕄 where
  duties g r := if r = 0 ∧ g.1.2 = .tc then dutiesOf g.1.1 (kind g.2) else ∅
  unitless _ := False
  amount g _ _ := amtOf (kind g.2)
  payload g _ d := payOf m g.1.1 (kind g.2) d
  amount_pos g _ _ _ := amtOf_pos _

instance Rd_storable (g : GSem nD τ sig) (r : ℕ) (d : Dev nD) : BI.Storable (upEmb : UEmb _ 𝕄) ((Rd (F := F) m).payload g r d) := by
  show BI.Storable upEmb (payOf m g.1.1 (kind g.2) d); infer_instance

/-- Who pays a cell in its only round. -/
theorem duties_at (c : Dev nD) (k : CK) : (Rd (F := F) m).duties (kcell (c, k)) 0 = dutiesOf c (some k) := by
  dsimp only [Rd]; rw [if_pos ⟨rfl, rfl⟩, kind_csem]
/-- How much each of them pays. -/
theorem amount_at (c : Dev nD) (k : CK) (d : Dev nD) : (Rd (F := F) m).amount (kcell (c, k)) 0 d = amtOf (some k) := by
  dsimp only [Rd]; rw [kind_csem]
/-- What each payment hands over. -/
theorem payload_at (c : Dev nD) (k : CK) (d : Dev nD) : (Rd (F := F) m).payload (kcell (c, k)) 0 d = payOf m c (some k) d := by
  dsimp only [Rd]; rw [kind_csem]
/-- After the first round nobody pays. -/
theorem duties_later (g : GSem nD τ sig) : ∀ r, 1 ≤ r → (Rd (F := F) m).duties g r = ∅ :=
  fun r hr => by dsimp only [Rd]; rw [if_neg fun h => by omega]
/-- The cells a device numbers by itself have no duty at all. -/
theorem duties_self (c : Dev nD) (k : Fin 4) : ∀ r, 0 ≤ r → (Rd (F := F) m).duties (kcell (c, .inr (k, c))) r = ∅ := fun r _ => by
  dsimp only [Rd]; split
  · rw [kind_csem]; exact if_pos rfl
  · rfl
/-- What a cell takes in altogether: a payment of its amount from each that pays. -/
theorem expect_at (c : Dev nD) (k : CK) : (Rd (F := F) m).expect (kcell (c, k)) 0 = (dutiesOf c (some k)).card * amtOf (some k) := by
  unfold Schedule.expect Schedule.amountOf
  rw [duties_at, Finset.sum_congr rfl fun d _ => amount_at m c k d, Finset.sum_const, smul_eq_mul]
/-- A copy's cell takes in one copy. -/
theorem expect_dma (c : Dev nD) (k : Fin 4) (j : Fin 32) (h : j ≠ c) :
    (Rd (F := F) m).expect (kcell (c, .inr (k, j))) 0 = amtOf (some (.inr (k, j))) := by
  rw [expect_at]; dsimp only [dutiesOf]; rw [if_neg h, Finset.card_singleton, Nat.one_mul]
/-- A barrier's cell takes in 31 units. -/
theorem expect_reg (c : Dev nD) (s : Fin 2) : (Rd (F := F) m).expect (kcell (c, .inl s)) 0 = 31 := by
  rw [expect_at]; dsimp only [dutiesOf, amtOf]; rw [Finset.card_erase_of_mem (Finset.mem_univ _), Finset.card_univ]; rfl
/-- Every peer pays a barrier's cell. -/
theorem mem_duties_reg (c d : Dev nD) (s : Fin 2) (h : d ≠ c) : d ∈ (Rd (F := F) m).duties (kcell (c, .inl s)) 0 := by
  rw [duties_at]; exact Finset.mem_erase.2 ⟨h, Finset.mem_univ _⟩
/-- Device `j` pays the copies' cells numbered `j`. -/
theorem mem_duties_dma (c : Dev nD) (k : Fin 4) (j : Fin 32) (h : j ≠ c) : j ∈ (Rd (F := F) m).duties (kcell (c, .inr (k, j))) 0 := by
  rw [duties_at]; dsimp only [dutiesOf]; rw [if_neg h]; exact Finset.mem_singleton_self _

/-- All that one of these cells' round brings. -/
theorem rest_dma (c : Dev nD) (k : Fin 4) (j : Fin 32) (h : j ≠ c) :
    bigSep ((Rd (F := F) m).duties (kcell (c, .inr (k, j))) 0 \ ∅) (fun d => (Rd m).payload (kcell (c, .inr (k, j))) 0 d) = payOf m c (some (.inr (k, j))) j := by
  rw [Finset.sdiff_empty, duties_at]; dsimp only [dutiesOf]; rw [if_neg h, bigSep_singleton, payload_at]
/-- What a barrier's payments hand over altogether. -/
theorem rest_reg (c : Dev nD) (s : Fin 2) :
    bigSep ((Rd (F := F) m).duties (kcell (c, .inl s)) 0 \ ∅) (fun d => (Rd m).payload (kcell (c, .inl s)) 0 d)
      = bigSep (Finset.univ.erase c) fun d => payOf m c (some (.inl s)) d := by
  rw [Finset.sdiff_empty, duties_at]; exact bigSep_congr fun d _ => payload_at m c _ d

end Pay

/-! ## Peers by number -/

/-- The peers of `c` numbered at least `k`; those numbered below `k`. -/
def pf (c : Dev nD) (k : ℕ) : Finset (Dev nD) := Finset.univ.filter fun j => k ≤ j.val ∧ j ≠ c
def pl (c : Dev nD) (k : ℕ) : Finset (Dev nD) := Finset.univ.filter fun j => j.val < k ∧ j ≠ c
/-- The devices numbered at least `k`, and `c`. -/
def ow (c : Dev nD) (k : ℕ) : Finset (Dev nD) := Finset.univ.filter fun j => k ≤ j.val ∨ j = c

/-- Which devices are the peers of `c` numbered at least `k`. -/
theorem mem_pf {c : Dev nD} {k : ℕ} {j : Dev nD} : j ∈ pf c k ↔ k ≤ j.val ∧ j ≠ c := by unfold pf; simp
/-- Which devices are the peers of `c` numbered below `k`. -/
theorem mem_pl {c : Dev nD} {k : ℕ} {j : Dev nD} : j ∈ pl c k ↔ j.val < k ∧ j ≠ c := by unfold pl; simp
/-- Which devices are numbered at least `k` or are `c`. -/
theorem mem_ow {c : Dev nD} {k : ℕ} {j : Dev nD} : j ∈ ow c k ↔ k ≤ j.val ∨ j = c := by unfold ow; simp

/-- From 0 on these are all the peers. -/
theorem pf_zero (c : Dev nD) : pf c 0 = Finset.univ.erase c := by ext j; simp [mem_pf]
/-- Below 0 there is no peer. -/
theorem pl_zero (c : Dev nD) : pl c 0 = ∅ := by ext j; simp [mem_pl]
/-- From 32 on there is no peer. -/
theorem pf_end (c : Dev nD) : pf c 32 = ∅ := by
  ext j; have : j.val < 32 := j.isLt; rw [mem_pf]; constructor
  · intro h; omega
  · intro h; simp at h
/-- Below 32 these are all the peers. -/
theorem pl_end (c : Dev nD) : pl c 32 = Finset.univ.erase c := by
  ext j; have : j.val < 32 := j.isLt; rw [mem_pl]; simp [this]
/-- From 0 on these are all the devices. -/
theorem ow_zero (c : Dev nD) : ow c 0 = Finset.univ := by ext j; simp [mem_ow]
/-- From 32 on only `c` is left. -/
theorem ow_end (c : Dev nD) : ow c 32 = {c} := by
  ext j; have : j.val < 32 := j.isLt; rw [mem_ow, Finset.mem_singleton]; constructor
  · rintro (h | h)
    · omega
    · exact h
  · exact Or.inr
/-- The device's own number is passed over: the peers from it on are those after it. -/
theorem pf_self {c : Dev nD} {k : ℕ} (h : c.val = k) : pf c k = pf c (k + 1) := by
  ext j; simp only [mem_pf]; constructor
  · rintro ⟨h1, h2⟩; exact ⟨by have : j.val ≠ c.val := fun e => h2 (Fin.ext e); omega, h2⟩
  · rintro ⟨h1, h2⟩; exact ⟨by omega, h2⟩
/-- The device's own number is passed over: the peers up to it are those below it. -/
theorem pl_self {c : Dev nD} {k : ℕ} (h : c.val = k) : pl c (k + 1) = pl c k := by
  ext j; simp only [mem_pl]; constructor
  · rintro ⟨h1, h2⟩; exact ⟨by have : j.val ≠ c.val := fun e => h2 (Fin.ext e); omega, h2⟩
  · rintro ⟨h1, h2⟩; exact ⟨by omega, h2⟩
/-- The device's own number stays in. -/
theorem ow_self {c : Dev nD} {k : ℕ} (h : c.val = k) : ow c k = ow c (k + 1) := by
  ext j; simp only [mem_ow]; constructor
  · rintro (h1 | h1)
    · by_cases e : j = c
      · exact Or.inr e
      · exact Or.inl (by have : j.val ≠ c.val := fun e' => e (Fin.ext e'); omega)
    · exact Or.inr h1
  · rintro (h1 | h1)
    · exact Or.inl (by omega)
    · exact Or.inr h1
/-- The peers from `j` on are `j` and those after it. -/
theorem pf_insert {c j : Dev nD} (h : j ≠ c) : pf c j.val = insert j (pf c (j.val + 1)) := by
  ext i; simp only [mem_pf, Finset.mem_insert]; constructor
  · rintro ⟨h1, h2⟩
    by_cases e : i = j
    · exact Or.inl e
    · exact Or.inr ⟨by have : i.val ≠ j.val := fun e' => e (Fin.ext e'); omega, h2⟩
  · rintro (rfl | ⟨h1, h2⟩)
    · exact ⟨le_refl _, h⟩
    · exact ⟨by omega, h2⟩
/-- Device `j` is not among the peers after it. -/
theorem not_mem_pf {c j : Dev nD} : j ∉ pf c (j.val + 1) := fun h => by have := (mem_pf.1 h).1; omega
/-- The peers up to `j` are `j` and those below it. -/
theorem pl_insert {c j : Dev nD} (h : j ≠ c) : pl c (j.val + 1) = insert j (pl c j.val) := by
  ext i; simp only [mem_pl, Finset.mem_insert]; constructor
  · rintro ⟨h1, h2⟩
    by_cases e : i = j
    · exact Or.inl e
    · exact Or.inr ⟨by have : i.val ≠ j.val := fun e' => e (Fin.ext e'); omega, h2⟩
  · rintro (rfl | ⟨h1, h2⟩)
    · exact ⟨Nat.lt_succ_self _, h⟩
    · exact ⟨by omega, h2⟩
/-- Device `j` is not among the peers below it. -/
theorem not_mem_pl {c j : Dev nD} : j ∉ pl c j.val := fun h => by have := (mem_pl.1 h).1; omega
/-- The devices from `j` on, and `c`, are `j` and those after it, and `c`. -/
theorem ow_insert {c j : Dev nD} (h : j ≠ c) : ow c j.val = insert j (ow c (j.val + 1)) := by
  ext i; simp only [mem_ow, Finset.mem_insert]; constructor
  · rintro (h1 | h1)
    · by_cases e : i = j
      · exact Or.inl e
      · exact Or.inr (Or.inl (by have : i.val ≠ j.val := fun e' => e (Fin.ext e'); omega))
    · exact Or.inr (Or.inr h1)
  · rintro (rfl | h1 | h1)
    · exact Or.inl (le_refl _)
    · exact Or.inl (by omega)
    · exact Or.inr h1
/-- Device `j` is not among the devices after it, nor `c`. -/
theorem not_mem_ow {c j : Dev nD} (h : j ≠ c) : j ∉ ow c (j.val + 1) := fun h' => by
  rcases mem_ow.1 h' with h1 | h1
  · omega
  · exact h h1

section Big
variable (Φ Ψ : Dev nD → sProp (MT nD τ sig Unit (Elt F) ℕ UU ℕ))

/-- Peer `j` is taken out of the peers from `j` on. -/
theorem pf_peel {c j : Dev nD} (h : j ≠ c) : bigSep (pf c j.val) Φ = iprop(Φ j ∗ bigSep (pf c (j.val + 1)) Φ) := by
  rw [pf_insert h, bigSep_insert not_mem_pf]; rfl
/-- Peer `j` is put to the peers below `j`. -/
theorem pl_push {c j : Dev nD} (h : j ≠ c) : bigSep (pl c (j.val + 1)) Φ = iprop(Φ j ∗ bigSep (pl c j.val) Φ) := by
  rw [pl_insert h, bigSep_insert not_mem_pl]; rfl
/-- Device `j` is taken out of the devices from `j` on, and `c`. -/
theorem ow_peel {c j : Dev nD} (h : j ≠ c) : bigSep (ow c j.val) Φ = iprop(Φ j ∗ bigSep (ow c (j.val + 1)) Φ) := by
  rw [ow_insert h, bigSep_insert (not_mem_ow h)]; rfl

/-- One member taken out, and put back changed. -/
theorem bigSep_upd {S : Finset (Dev nD)} {j : Dev nD} (hj : j ∈ S) (h : ∀ i ∈ S, i ≠ j → Φ i = Ψ i) :
    bigSep S Φ ⊢ iprop(Φ j ∗ (Ψ j -∗ bigSep S Ψ)) := by
  rw [bigSep_erase hj (Φ := Φ), bigSep_erase hj (Φ := Ψ), bigSep_congr (Φ := Φ) (Ψ := Ψ) fun i hi => h i (Finset.mem_of_mem_erase hi) (Finset.ne_of_mem_erase hi)]
  show iprop(Φ j ∗ bigSep (S.erase j) Ψ) ⊢ iprop(Φ j ∗ (Ψ j -∗ Ψ j ∗ bigSep (S.erase j) Ψ))
  iintro ⟨H1, H2⟩
  isplitl [H1]; · iexact H1
  iintro H; isplitl [H] <;> iassumption

end Big

/-! ## What a device still owes; the order of waiting -/

/-- Device `c` owes: a barrier unit to its peers from `a` on, its first exchange's row to those from `b` on, its result
    to those from `d` on, a second barrier unit to those from `e` on. -/
def obl (c : Dev nD) (a b d e : ℕ) : CellTallies nD τ sig Unit :=
  (∑ j ∈ pf c a, tallyAt (kcell (j, .inl 0)) () 1) + (∑ j ∈ pf c b, tallyAt (kcell (j, .inr (1, c))) () N1)
    + (∑ j ∈ pf c d, tallyAt (kcell (j, .inr (3, c))) () N2) + (∑ j ∈ pf c e, tallyAt (kcell (j, .inl 1)) () 1)

/-- In the end nothing is owed. -/
theorem obl_end (c : Dev nD) : obl c 32 32 32 32 = 0 := by
  unfold obl; rw [pf_end]; simp only [Finset.sum_empty, add_zero]

section Obl
variable {c j : Dev nD} (h : j ≠ c) (a b d e : ℕ)
include h
/-- The first barrier's unit to `j` is owed until it is paid. -/
theorem obl_a : obl c j.val b d e = obl c (j.val + 1) b d e + tallyAt (kcell (j, .inl 0)) () 1 := by
  unfold obl; rw [pf_insert h, Finset.sum_insert not_mem_pf]; abel
/-- The first exchange's copy to `j` is owed until it is started. -/
theorem obl_b : obl c a j.val d e = obl c a (j.val + 1) d e + tallyAt (kcell (j, .inr (1, c))) () N1 := by
  unfold obl; rw [pf_insert h, Finset.sum_insert not_mem_pf]; abel
/-- The second exchange's copy to `j` is owed until it is started. -/
theorem obl_d : obl c a b j.val e = obl c a b (j.val + 1) e + tallyAt (kcell (j, .inr (3, c))) () N2 := by
  unfold obl; rw [pf_insert h, Finset.sum_insert not_mem_pf]; abel
/-- The second barrier's unit to `j` is owed until it is paid. -/
theorem obl_e : obl c a b d j.val = obl c a b d (j.val + 1) + tallyAt (kcell (j, .inl 1)) () 1 := by
  unfold obl; rw [pf_insert h, Finset.sum_insert not_mem_pf]; abel
end Obl

def L (g : GSem nD τ sig) : Finset Unit := if g.1.2 = .tc then {()} else ∅
def lvOf : Option CK → ℕ
  | some (.inl 0) => 1
  | some (.inr (1, _)) => 2
  | some (.inr (3, _)) => 3
  | some (.inr (_, _)) => 4
  | some (.inl _) => 5
  | none => 0
def lv (g : GSem nD τ sig) (_ : Unit) : ℕ := lvOf (kind g.2)

/-- Only the cells of a tensor core have an entry in the waiting order. -/
theorem L_of_ne (g : GSem nD τ sig) (h : g.1.2 ≠ .tc) : L g = ∅ := if_neg h
/-- Every cell of a tensor core has one. -/
theorem L_tc (c : Dev nD) (sm : SemLoc sig) : L ((c : Thread nD τ), sm) = {()} := if_pos rfl
/-- A cell's place in the waiting order is that of its kind. -/
theorem lv_at (c : Dev nD) (k : CK) (u : Unit) : lv (kcell (c, k)) u = lvOf (some k) := by unfold lv; rw [kind_csem]

/-- A sum of tallies is positive at a cell only if one of them is. -/
theorem sum_tally_pos {S : Finset (Dev nD)} {f : Dev nD → GSem nD τ sig} {n : ℕ} {g : GSem nD τ sig} {u : Unit}
    (h : 0 < (∑ j ∈ S, tallyAt (f j) () n : CellTallies nD τ sig Unit) g u) : ∃ j ∈ S, g = f j := by
  by_contra hn
  rw [not_exists] at hn
  have h0 : (∑ j ∈ S, tallyAt (f j) () n : CellTallies nD τ sig Unit) g u = 0 := by
    rw [Finset.sum_apply, Finsupp.finset_sum_apply]
    refine Finset.sum_eq_zero fun j hj => ?_
    rw [tallyAt_apply]
    exact if_neg fun e => hn j ⟨hj, e.1⟩
  omega

/-- Where something is owed: at one of the peers' barrier cells or receive cells whose turn is still to come. -/
theorem obl_pos {c : Dev nD} {a b d e : ℕ} {g : GSem nD τ sig} {u : Unit} (h : 0 < obl c a b d e g u) :
    ∃ j : Dev nD, (a ≤ j.val ∧ g = kcell (j, .inl 0)) ∨ (b ≤ j.val ∧ g = kcell (j, .inr (1, c)))
      ∨ (d ≤ j.val ∧ g = kcell (j, .inr (3, c))) ∨ (e ≤ j.val ∧ g = kcell (j, .inl 1)) := by
  unfold obl at h
  rw [Pi.add_apply, Finsupp.add_apply, Pi.add_apply, Finsupp.add_apply, Pi.add_apply, Finsupp.add_apply] at h
  by_cases h1 : 0 < (∑ j ∈ pf c a, tallyAt (kcell (j, .inl 0)) () 1 : CellTallies nD τ sig Unit) g u
  · obtain ⟨j, hj, e⟩ := sum_tally_pos h1; exact ⟨j, .inl ⟨(mem_pf.1 hj).1, e⟩⟩
  by_cases h2 : 0 < (∑ j ∈ pf c b, tallyAt (kcell (j, .inr (1, c))) () N1 : CellTallies nD τ sig Unit) g u
  · obtain ⟨j, hj, e⟩ := sum_tally_pos h2; exact ⟨j, .inr (.inl ⟨(mem_pf.1 hj).1, e⟩)⟩
  by_cases h3 : 0 < (∑ j ∈ pf c d, tallyAt (kcell (j, .inr (3, c))) () N2 : CellTallies nD τ sig Unit) g u
  · obtain ⟨j, hj, e⟩ := sum_tally_pos h3; exact ⟨j, .inr (.inr (.inl ⟨(mem_pf.1 hj).1, e⟩))⟩
  have h4 : 0 < (∑ j ∈ pf c e, tallyAt (kcell (j, .inl 1)) () 1 : CellTallies nD τ sig Unit) g u := by omega
  obtain ⟨j, hj, e⟩ := sum_tally_pos h4; exact ⟨j, .inr (.inr (.inr ⟨(mem_pf.1 hj).1, e⟩))⟩

/-- A device may wait on a cell of level `n` when all it still owes lies above. -/
theorem mayWait_lv (c : Dev nD) (sm : SemLoc sig) (n a b d e : ℕ) (hn : lvOf (kind sm) = n)
    (ha : n < 1 ∨ 32 ≤ a) (hb : n < 2 ∨ 32 ≤ b) (hd : n < 3 ∨ 32 ≤ d) (he : n < 5 ∨ 32 ≤ e) :
    (levAts L lv : sProp 𝕄) ⊢ MayWait (c : Thread nD τ) sm () (obl c a b d e) :=
  MayOwe.of_cut (L := L) (lev := lv) n (fun p hp => by rw [Finset.mem_singleton.mp hp, L_tc]; exact Finset.mem_singleton_self _)
    (fun g u hg => by
      obtain ⟨j, ⟨_, e⟩ | ⟨_, e⟩ | ⟨_, e⟩ | ⟨_, e⟩⟩ := obl_pos hg <;> subst e <;> exact Finset.mem_singleton_self _)
    (fun p hp => by rw [Finset.mem_singleton.mp hp]; exact hn.le)
    (fun g u hg => by
      obtain ⟨j, ⟨h, e⟩ | ⟨h, e⟩ | ⟨h, e⟩ | ⟨h, e⟩⟩ := obl_pos hg <;> have hj : j.val < 32 := j.isLt <;> subst e <;> rw [lv_at]
      · show n < 1; omega
      · show n < 2; omega
      · show n < 3; omega
      · show n < 5; omega)

end Cert.KernelIdeal.Attn

end
-- ==== Proof.Steps.lean ====
/-
What a step of the kernel's body does to the state of the run: the parts all steps share, the first barrier, and the loads
of the staged inputs.
-/
module

public import proofs.«01_k».proof.Proof.Protocol

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a piece of the kernel's body on device `c`. -/
abbrev wpc (c : Dev nD) {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-- A piece applied to the buffers and semaphores the launch gives the body. -/
abbrev onBufs {α : Type 1} (f : (arg0 : Memref sig .tc .vmem S16x1x16x64 .f32) → (harg0 : arg0.IsWhole) → (arg1 : Memref sig .tc .vmem S128x16x16x64 .f32) → (harg1 : arg1.IsWhole)
    → (arg2 : Memref sig .tc .vmem S128x16x16x64 .f32) → (harg2 : arg2.IsWhole) → (arg3 : Memref sig .tc .vmem S16x128 .i32) → (harg3 : arg3.IsWhole)
    → (arg4 : Memref sig .tc .smem S16 .i32) → (harg4 : arg4.IsWhole) → (arg5 : Memref sig .tc .vmem S16x1x16x64 .f32) → (harg5 : arg5.IsWhole)
    → (arg6 : Memref sig .tc .vmem S32x8x128 .f32) → (harg6 : arg6.IsWhole) → (arg7 : Memref sig .tc .vmem S32x8x128 .f32) → (harg7 : arg7.IsWhole)
    → (arg8 : Memref sig .tc .vmem S8x64 .f32) → (harg8 : arg8.IsWhole) → (arg9 : Memref sig .tc .vmem S32x8x64 .f32) → (harg9 : arg9.IsWhole)
    → (arg10 : DmaSems sig S32) → (arg11 : DmaSems sig S32) → (arg12 : DmaSems sig S32) → (arg13 : DmaSems sig S32) → (v1740_r0 : Sems sig S_) → α) : α :=
  f qM (Memref.isWhole_whole _) kM (Memref.isWhole_whole _) vM (Memref.isWhole_whole _) bM (Memref.isWhole_whole _) lM (Memref.isWhole_whole _) oM (Memref.isWhole_whole _)
    cM (Memref.isWhole_whole _) iM (Memref.isWhole_whole _) rM (Memref.isWhole_whole _) gM (Memref.isWhole_whole _) cc0_scratch4 cc0_scratch5 cc0_scratch6 cc0_scratch7 cc0_scoped0

variable (m : (ℓ : Loc nD τ sig) → Buf (Elt F) ℓ) (K : Dev nD × CK → ℕ) (c : Dev nD)

/-! ## What every step may use -/

/-- Every cell's invariant, that every cell is at round 0, and the waiting order. -/
def ctx : sProp 𝕄 :=
  iprop((bigSep Finset.univ fun ck : Dev nD × CK => cellInv ER (Rd m) (K ck) (kcell ck))
    ∗ (bigSep Finset.univ fun ck : Dev nD × CK => reached ER (kcell ck) 0) ∗ levAts L lv)
instance ctx_persistent : BI.Persistent (ctx (F := F) m K) := by unfold ctx; infer_instance

/-- The staged inputs of device `c`. -/
def stgs : sProp 𝕄 :=
  iprop((((c : Thread nD τ).loc cc0_stg0_0) ↦{fullShare} stQ m c) ∗ (((c : Thread nD τ).loc cc0_stg1_0) ↦{fullShare} stK m c)
    ∗ (((c : Thread nD τ).loc cc0_stg2_0) ↦{fullShare} stV m c) ∗ (((c : Thread nD τ).loc cc0_stg3_0) ↦{fullShare} stB m c)
    ∗ (((c : Thread nD τ).loc cc0_stg4_0) ↦{fullShare} stL m c))

def Bs : sProp 𝕄 := iprop(ctx m K ∗ stgs m c)

def owesS (a b d e : ℕ) : sProp 𝕄 := iprop(∃ W, owes (c : Thread nD τ) (obl c a b d e) W)

/-- One cell's invariant out of all. -/
theorem inv_at (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
/-- One cell's round out of all. -/
theorem reached_at (ck : Dev nD × CK) :
    (bigSep Finset.univ fun ck : Dev nD × CK => (reached ER (kcell ck) 0 : sProp 𝕄)) ⊢ reached ER (kcell ck) 0 :=
  bigSep_elim (Finset.mem_univ ck)

/-! ## The kernel's conditions on its device number -/

/-- The kernel's number of its device is the device's number. -/
theorem vw_toNat (c : Dev nD) : (vw c).toNat = c.val := by
  have h : ∀ c : Dev nD, (vw c).toNat = c.val := by decide
  exact h c

/-- The kernel's test for a device number other than its own. -/
theorem condNe_iff (c : Dev nD) (n : ℕ) (hn : n < 32) :
    (Scalar.cmpi .ne (Scalar.extui (Scalar.cmpi .ne (vw c) (BitVec.ofNat 32 n)) : BitVec 32) 0#32) = 1#1 ↔ c.val ≠ n := by
  have h : ∀ c n : Fin 32, (Scalar.cmpi .ne (Scalar.extui (Scalar.cmpi .ne (vw c) (BitVec.ofNat 32 n.val)) : BitVec 32) 0#32) = 1#1 ↔ c.val ≠ n.val := by decide
  exact h c ⟨n, hn⟩
/-- The kernel's test for its own device number. -/
theorem condEq_iff (c : Dev nD) (n : ℕ) (hn : n < 32) :
    (Scalar.cmpi .ne (Scalar.extui (Scalar.cmpi .eq (vw c) (BitVec.ofNat 32 n)) : BitVec 32) 0#32) = 1#1 ↔ c.val = n := by
  have h : ∀ c n : Fin 32, (Scalar.cmpi .ne (Scalar.extui (Scalar.cmpi .eq (vw c) (BitVec.ofNat 32 n.val)) : BitVec 32) 0#32) = 1#1 ↔ c.val = n.val := by decide
  exact h c ⟨n, hn⟩

/-- From `P` the program `p` on device `c` runs to `Q`. -/
structure Run {α : Type} (P : sProp (MT nD τ sig Unit (Elt F) ℕ UU ℕ)) (p : Prog (TpuEff nD τ sig (Elt F) Λ₀ .tc) α)
    (Q : α → sProp (MT nD τ sig Unit (Elt F) ℕ UU ℕ)) : Prop where
  go : P ⊢ wpc c p Q

/-! ## Steps that touch no state -/

section Generic
variable {m K c}
variable {α β γ : Type} {P : sProp (MT nD τ sig Unit (Elt F) ℕ UU ℕ)} {Q : α → sProp (MT nD τ sig Unit (Elt F) ℕ UU ℕ)}

/-- The first statement of a piece followed by the rest of it and what comes after. -/
theorem st_assoc {p : Prog (TpuEff nD τ sig (Elt F) Λ₀ .tc) β} {f : β → Prog (TpuEff nD τ sig (Elt F) Λ₀ .tc) γ} {k : γ → Prog (TpuEff nD τ sig (Elt F) Λ₀ .tc) α}
    (H : Run c P (p >>= fun x => f x >>= k) Q) : Run c P ((p >>= f) >>= k) Q := by
  refine ⟨?_⟩; replace H := H.go
  rw [show ((p >>= f) >>= k) = (p >>= fun x => f x >>= k) from Prog.bind_assoc _ _ _]; exact H
/-- Reading the device's number. -/
theorem st_dev {f : Dev nD → Prog (TpuEff nD τ sig (Elt F) Λ₀ .tc) γ} {k : γ → Prog (TpuEff nD τ sig (Elt F) Λ₀ .tc) α} (H : Run c P (f c >>= k) Q) :
    Run c P ((Prog.lift .deviceId >>= f) >>= k) Q := by
  refine ⟨?_⟩; replace H := H.go
  simp only [Prog.lift, Prog.bind_op, Prog.bind_ret, wp_deviceId]; exact H

end Generic

/-! ## The first barrier -/

/-- A unit to the first barrier of `j` hands over the payer's rows numbered `j` of both inboxes. -/
theorem payload_bar (j d : Dev nD) : (Rd (F := F) m).payload ((j : Thread nD τ), .reg barS) 0 d = iprop((∃ f, inR d j f) ∗ (∃ f, gR d j f)) := payload_at m j (.inl 0) d
/-- All the units to the first barrier of `c` hand over every peer's rows numbered `c` of both inboxes. -/
theorem rest_bar : bigSep ((Rd (F := F) m).duties ((c : Thread nD τ), .reg barS) 0 \ ∅) (fun d => (Rd m).payload ((c : Thread nD τ), .reg barS) 0 d)
    = bigSep (Finset.univ.erase c) fun d => iprop((∃ f, inR d c f) ∗ (∃ f, gR d c f)) := rest_reg m c 0

section Bar
variable {α γ : Type} {Q : α → sProp (MT nD τ sig Unit (Elt F) ℕ UU ℕ)} {R : sProp (MT nD τ sig Unit (Elt F) ℕ UU ℕ)}

/-- Before the signal to device `n`: a unit owed to every peer from `n` on, with its token and the rows it will write. -/
def P1 (n : ℕ) : sProp 𝕄 :=
  iprop(owesS c n 0 0 0 ∗ bigSep (pf c n) fun j => iprop(dutyTok ER (kcell (j, .inl 0)) 0 c ∗ (∃ f, inR c j f) ∗ (∃ f, gR c j f)))

variable {m K c}

/-- The signal to device `n` (none to itself). -/
theorem st_sig {n : ℕ} {cnd : BitVec 1} {s : Sem sig} (hs : s = barS) (hc : cnd = 1#1 ↔ c.val ≠ n) {dv : cnd = 1#1 → Dev nD} (hd : ∀ h, (dv h).val = n)
    {t : Prog (TpuEff nD τ sig (Elt F) Λ₀ .tc) γ} {k : γ → Prog (TpuEff nD τ sig (Elt F) Λ₀ .tc) α}
    (H : Run c (iprop(Bs m K c ∗ P1 c (n + 1) ∗ R)) (t >>= k) Q) :
    Run c (iprop(Bs m K c ∗ P1 c n ∗ R)) ((if h : cnd = 1#1 then (semSignalWord (dv h) s 1#32 >>= fun _ => t) else t) >>= k) Q := by
  refine ⟨?_⟩; replace H := H.go
  subst hs
  by_cases h : cnd = 1#1
  · rw [dif_pos h]
    obtain ⟨j, hj⟩ : ∃ j, j = dv h := ⟨_, rfl⟩
    have hn : j.val = n := hj ▸ hd h
    have hjc : j ≠ c := fun e => hc.1 h (by rw [← e]; exact hn)
    rw [← hj]; subst hn
    have ek : ((semSignalWord j barS 1#32 >>= fun _ => t) >>= k : Prog (TpuEff nD τ sig (Elt F) Λ₀ .tc) α)
      = .op (.semSignal (j : Thread nD τ) barS ((1 : ℕ) : ℤ)) fun _ => t >>= k := rfl
    rw [ek]
    unfold P1 owesS
    rw [pf_peel _ hjc]
    iintro ⟨HB, ⟨⟨%W, HO⟩, ⟨Ht, Hi, Hg⟩, Hr⟩, HR⟩
    unfold Bs ctx
    icases HB with ⟨⟨#HI, #Hrch, #Hlev⟩, Hs⟩
    iapply (Rounds.wp_signal 𝒱₀ ER (Rd m) (c : Thread nD τ) none (dst := (j : Thread nD τ)) (sem := barS) (κ := K (j, .inl 0))
        (d := c) (mem_duties_reg m j c 0 hjc.symm) (amount_at m j (.inl 0) c) () (obl c (j.val + 1) 0 0 0) (obl_a hjc 0 0 0))
      $$ [HO Ht Hi Hg]
    · isplitr; · iapply (inv_at m K (j, .inl 0)); iexact HI
      isplitl [HO]; · iexact HO
      isplitl [Ht]; · iexact Ht
      isplitl [Hi Hg]
      · iapply (Entails.of_eq (payload_bar m j c).symm)
        isplitl [Hi] <;> iassumption
      · iapply (reached_at (F := F) (j, .inl 0)); iexact Hrch
    iintro HO
    iapply H
    unfold Bs ctx P1 owesS
    isplitl [Hs]
    · isplitr
      · isplitr; · iexact HI
        isplitr; · iexact Hrch
        iexact Hlev
      iexact Hs
    isplitr [HR]
    · isplitl [HO]; · iexists W; iexact HO
      iexact Hr
    iexact HR
  · rw [dif_neg h]
    have hn : c.val = n := by by_contra e; exact h (hc.2 e)
    subst hn
    have e1 : (P1 c c.val : sProp 𝕄) = P1 c (c.val + 1) := by unfold P1 owesS obl; rw [pf_self rfl]
    rw [e1]; exact H

/-- The wait for all 31 units: every peer's landing rows come with them. -/
theorem st_barWait {s : Sem sig} (hs : s = barS) {f : PUnit → Prog (TpuEff nD τ sig (Elt F) Λ₀ .tc) γ} {k : γ → Prog (TpuEff nD τ sig (Elt F) Λ₀ .tc) α}
    (H : Run c (iprop(Bs m K c ∗ (owesS c 32 0 0 0 ∗ atPos ER (kcell (c, .inl 0)) (0 + 1) ∅ 0
      ∗ bigSep (Finset.univ.erase c) fun j => iprop((∃ f, inR j c f) ∗ (∃ f, gR j c f))) ∗ R)) (f ⟨⟩ >>= k) Q) :
    Run c (iprop(Bs m K c ∗ P1 c 32 ∗ (cred (tallyAt (kcell (c, .inl 0)) () 31) ∗ atPos ER (kcell (c, .inl 0)) 0 ∅ 0) ∗ R)) ((semWaitWord s 31#32 >>= f) >>= k) Q := by
  subst hs
  refine ⟨?_⟩; replace H := H.go
  rw [show ((semWaitWord barS 31#32 >>= f) >>= k : Prog (TpuEff nD τ sig (Elt F) Λ₀ .tc) α) = .op (.semWait barS ((31 : ℕ) : ℤ)) fun x => f x >>= k from rfl]
  unfold P1 owesS Bs ctx
  iintro ⟨⟨⟨#HI, #Hrch, #Hlev⟩, Hs⟩, ⟨⟨%W, HO⟩, -⟩, ⟨Hc, Hat⟩, HR⟩
  iapply (Rounds.wp_wait_rest_token 𝒱₀ ER (Rd m) (c : Thread nD τ) none (κ := K (c, .inl 0))
      (wpE_semWait_eq 𝒱₀ (c : Thread nD τ) none Set.univ) (Set.mem_univ _) () (O := obl c 32 0 0 0) (W := W) (R := 0) (m := 0) (T := ∅)
      (by rw [Nat.zero_add]; exact (expect_reg m c 0).symm)) $$ [Hc HO Hat]
  · isplitr; · iapply (inv_at m K (c, .inl 0)); iexact HI
    isplitl [Hc]; · iexact Hc
    isplitl [HO]; · iexact HO
    isplitr
    · iapply (mayWait_lv (F := F) c (csem (.inl 0)) 1 32 0 0 0 (by rw [kind_csem]; rfl) (Or.inr le_rfl) (Or.inl (by decide)) (Or.inl (by decide)) (Or.inl (by decide)))
      iexact Hlev
    iexact Hat
  iintro ⟨HO, Hat, -, Hpay⟩
  ihave Hp := (Entails.of_eq (rest_bar m c)) $$ Hpay
  iapply H
  unfold Bs ctx owesS
  isplitl [Hs]
  · isplitr
    · isplitr; · iexact HI
      isplitr; · iexact Hrch
      iexact Hlev
    iexact Hs
  isplitr [HR]
  · isplitl [HO]; · iexists _; iexact HO
    isplitl [Hat]; · iexact Hat
    iexact Hp
  iexact HR

end Bar

/-! ## The wait on a copy's semaphore -/

section Pays
/-- The end of a send of the first exchange gives the sent row back. -/
theorem pay_send1 (j d : Dev nD) : payOf (F := F) m c (some (.inr (0, j))) d = iprop(∃ f, curR c j f) := rfl
/-- The arrival of a row of the first exchange gives the inbox's row, holding the sender's values. -/
theorem pay_recv1 (j d : Dev nD) : payOf (F := F) m c (some (.inr (1, j))) d = iprop(∃ f, ⌜InOK m c j f⌝ ∗ inR c j f) := rfl
/-- The end of a send of the second exchange gives the lent share of the result back. -/
theorem pay_send2 (j d : Dev nD) : payOf (F := F) m c (some (.inr (2, j))) d = resR m c j := rfl
/-- The arrival of a row of the second exchange gives the inbox's row, holding the sender's result. -/
theorem pay_recv2 (j d : Dev nD) : payOf (F := F) m c (some (.inr (3, j))) d = iprop(∃ f, ⌜GOK m j f⌝ ∗ gR c j f) := rfl
end Pays

section Wait
variable {m K c}
variable {α γ : Type} {Q : α → sProp (MT nD τ sig Unit (Elt F) ℕ UU ℕ)}

/-- A wait on cell `(i, j)`: what its one payment hands over. -/
theorem wp_wait_dma (i : Fin 4) {j : Dev nD} (hjc : j ≠ c) (a b d e : ℕ) {sem : DmaSem sig} (hs : SemLoc.dma sem = csem (.inr (i, j)))
    {sp sp' : Space} {s s' : Shape} {e₁ e₂ : EltTy} {src : Memref sig .tc sp' s' e₂} {dst : Memref sig .tc sp s e₁}
    {hsrc : src.view.WordExact} {hdst : dst.view.WordExact} (hN : dst.view.dmaCredit = amtOf (some (.inr (i, j))))
    (ha : lvOf (some (.inr (i, j))) < 1 ∨ 32 ≤ a) (hb : lvOf (some (.inr (i, j))) < 2 ∨ 32 ≤ b) (hd : lvOf (some (.inr (i, j))) < 3 ∨ 32 ≤ d)
    (he : lvOf (some (.inr (i, j))) < 5 ∨ 32 ≤ e)
    {k : PUnit → Prog (TpuEff nD τ sig (Elt F) Λ₀ .tc) α} :
    iprop(ctx m K ∗ cred (tallyAt (kcell (c, .inr (i, j))) () (amtOf (some (.inr (i, j))))) ∗ owesS c a b d e ∗ atPos ER (kcell (c, .inr (i, j))) 0 ∅ 0)
      ⊢ iprop(((owesS c a b d e ∗ atPos ER (kcell (c, .inr (i, j))) (0 + 1) ∅ 0 ∗ payOf m c (some (.inr (i, j))) j) -∗ wpc c (k ⟨⟩) Q)
          -∗ wpc c (.op (.waitDma2 sem src dst hsrc hdst) k) Q) := by
  unfold owesS ctx
  iintro ⟨⟨#HI, #Hrch, #Hlev⟩, Hc, ⟨%W, HO⟩, Hat⟩
  iintro Hk
  iapply (Rounds.wp_wait_rest_token 𝒱₀ ER (Rd m) (c : Thread nD τ) none (sm := csem (.inr (i, j))) (k' := amtOf (some (.inr (i, j)))) (κ := K (c, .inr (i, j)))
      (fun K' => (wpE_waitDma2_eq 𝒱₀ (c : Thread nD τ) none Set.univ K').trans (by rw [hs, hN]))
      (Set.mem_univ _) () (O := obl c a b d e) (W := W) (R := 0) (m := 0) (T := ∅)
      (by rw [Nat.zero_add, expect_dma m c i j hjc])) $$ [Hc HO Hat]
  · isplitr; · iapply (inv_at m K (c, .inr (i, j))); iexact HI
    isplitl [Hc]; · iexact Hc
    isplitl [HO]; · iexact HO
    isplitr
    · iapply (mayWait_lv (F := F) c (csem (.inr (i, j))) _ a b d e (by rw [kind_csem]) ha hb hd he)
      iexact Hlev
    iexact Hat
  iintro ⟨HO, Hat, -, Hpay⟩
  ihave Hp := (Entails.of_eq (rest_dma m c i j hjc)) $$ Hpay
  iapply Hk
  isplitl [HO]; · iexists _; iexact HO
  isplitl [Hat]; · iexact Hat
  iexact Hp

end Wait

/-! ## Loads of the staged inputs -/

section Loads
variable {m K c}
variable {α γ : Type} {Q : α → sProp (MT nD τ sig Unit (Elt F) ℕ UU ℕ)} {X : sProp (MT nD τ sig Unit (Elt F) ℕ UU ℕ)}

/-- A load from the queries. -/
theorem st_ldQ {r : LoadRect S16x1x16x64} {hl} {f : Vec F r.shape .f32 → Prog (TpuEff nD τ sig (Elt F) Λ₀ .tc) γ} {k : γ → Prog (TpuEff nD τ sig (Elt F) Λ₀ .tc) α}
    (H : Run c (iprop(Bs m K c ∗ X)) (f (qM.view.readAt (Elt F) r (stQ m c)) >>= k) Q) : Run c (iprop(Bs m K c ∗ X)) ((Prog.lift (.load qM r hl) >>= f) >>= k) Q := by
  refine ⟨?_⟩; replace H := H.go
  rw [show ((Prog.lift (.load qM r hl) >>= f) >>= k : Prog (TpuEff nD τ sig (Elt F) Λ₀ .tc) α) = .op (.load qM r hl) fun x => f x >>= k from rfl]
  unfold Bs stgs
  iintro ⟨⟨#HC, H0, H1, H2, H3, H4⟩, HX⟩
  iapply (wp_load 𝒱₀ (c : Thread nD τ) none Set.univ (m := qM) (Finset.subset_univ _)) $$ H0; iintro H0
  iapply H
  unfold Bs stgs
  isplitr [HX]
  · isplitr; · iexact HC
    isplitl [H0]; · iexact H0
    isplitl [H1]; · iexact H1
    isplitl [H2]; · iexact H2
    isplitl [H3]; · iexact H3
    iexact H4
  iexact HX
/-- A load from the keys. -/
theorem st_ldK {r : LoadRect S128x16x16x64} {hl} {f : Vec F r.shape .f32 → Prog (TpuEff nD τ sig (Elt F) Λ₀ .tc) γ} {k : γ → Prog (TpuEff nD τ sig (Elt F) Λ₀ .tc) α}
    (H : Run c (iprop(Bs m K c ∗ X)) (f (kM.view.readAt (Elt F) r (stK m c)) >>= k) Q) : Run c (iprop(Bs m K c ∗ X)) ((Prog.lift (.load kM r hl) >>= f) >>= k) Q := by
  refine ⟨?_⟩; replace H := H.go
  rw [show ((Prog.lift (.load kM r hl) >>= f) >>= k : Prog (TpuEff nD τ sig (Elt F) Λ₀ .tc) α) = .op (.load kM r hl) fun x => f x >>= k from rfl]
  unfold Bs stgs
  iintro ⟨⟨#HC, H0, H1, H2, H3, H4⟩, HX⟩
  iapply (wp_load 𝒱₀ (c : Thread nD τ) none Set.univ (m := kM) (Finset.subset_univ _)) $$ H1; iintro H1
  iapply H
  unfold Bs stgs
  isplitr [HX]
  · isplitr; · iexact HC
    isplitl [H0]; · iexact H0
    isplitl [H1]; · iexact H1
    isplitl [H2]; · iexact H2
    isplitl [H3]; · iexact H3
    iexact H4
  iexact HX
/-- A load from the values. -/
theorem st_ldV {r : LoadRect S128x16x16x64} {hl} {f : Vec F r.shape .f32 → Prog (TpuEff nD τ sig (Elt F) Λ₀ .tc) γ} {k : γ → Prog (TpuEff nD τ sig (Elt F) Λ₀ .tc) α}
    (H : Run c (iprop(Bs m K c ∗ X)) (f (vM.view.readAt (Elt F) r (stV m c)) >>= k) Q) : Run c (iprop(Bs m K c ∗ X)) ((Prog.lift (.load vM r hl) >>= f) >>= k) Q := by
  refine ⟨?_⟩; replace H := H.go
  rw [show ((Prog.lift (.load vM r hl) >>= f) >>= k : Prog (TpuEff nD τ sig (Elt F) Λ₀ .tc) α) = .op (.load vM r hl) fun x => f x >>= k from rfl]
  unfold Bs stgs
  iintro ⟨⟨#HC, H0, H1, H2, H3, H4⟩, HX⟩
  iapply (wp_load 𝒱₀ (c : Thread nD τ) none Set.univ (m := vM) (Finset.subset_univ _)) $$ H2; iintro H2
  iapply H
  unfold Bs stgs
  isplitr [HX]
  · isplitr; · iexact HC
    isplitl [H0]; · iexact H0
    isplitl [H1]; · iexact H1
    isplitl [H2]; · iexact H2
    isplitl [H3]; · iexact H3
    iexact H4
  iexact HX
/-- A load from the block table. -/
theorem st_ldB {r : LoadRect S16x128} {hl} {f : Vec F r.shape .i32 → Prog (TpuEff nD τ sig (Elt F) Λ₀ .tc) γ} {k : γ → Prog (TpuEff nD τ sig (Elt F) Λ₀ .tc) α}
    (H : Run c (iprop(Bs m K c ∗ X)) (f (bM.view.readAt (Elt F) r (stB m c)) >>= k) Q) : Run c (iprop(Bs m K c ∗ X)) ((Prog.lift (.load bM r hl) >>= f) >>= k) Q := by
  refine ⟨?_⟩; replace H := H.go
  rw [show ((Prog.lift (.load bM r hl) >>= f) >>= k : Prog (TpuEff nD τ sig (Elt F) Λ₀ .tc) α) = .op (.load bM r hl) fun x => f x >>= k from rfl]
  unfold Bs stgs
  iintro ⟨⟨#HC, H0, H1, H2, H3, H4⟩, HX⟩
  iapply (wp_load 𝒱₀ (c : Thread nD τ) none Set.univ (m := bM) (Finset.subset_univ _)) $$ H3; iintro H3
  iapply H
  unfold Bs stgs
  isplitr [HX]
  · isplitr; · iexact HC
    isplitl [H0]; · iexact H0
    isplitl [H1]; · iexact H1
    isplitl [H2]; · iexact H2
    isplitl [H3]; · iexact H3
    iexact H4
  iexact HX
/-- A load of a length. -/
theorem st_ldL {r : Rect S16} {h1 : r.shape.numel = 1} {hp} {f : Elt F .i32 → Prog (TpuEff nD τ sig (Elt F) Λ₀ .tc) γ} {k : γ → Prog (TpuEff nD τ sig (Elt F) Λ₀ .tc) α}
    (H : Run c (iprop(Bs m K c ∗ X)) (f ((lM.access r).read (Elt F) (stL m c) (Shape.Idx.first (h1.symm ▸ Nat.one_pos))) >>= k) Q) :
    Run c (iprop(Bs m K c ∗ X)) ((smemLoad lM r h1 hp >>= f) >>= k) Q := by
  refine ⟨?_⟩; replace H := H.go
  rw [show ((smemLoad lM r h1 hp >>= f) >>= k : Prog (TpuEff nD τ sig (Elt F) Λ₀ .tc) α) = smemLoadElt lM r _ (Shape.Idx.first (h1.symm ▸ Nat.one_pos)) fun x => f x >>= k from rfl]
  unfold Bs stgs
  iintro ⟨⟨#HC, H0, H1, H2, H3, H4⟩, HX⟩
  ihave H4 := (Entails.of_eq (show ((((c : Thread nD τ).loc cc0_stg4_0) ↦{fullShare} stL m c) : sProp 𝕄)
    = (((lM.access r).loc (c : Thread nD τ)) ↦[Finset.univ]{fullShare} stL m c) from rfl)) $$ H4
  iapply (wp_smemLoadElt 𝒱₀ (c : Thread nD τ) none Set.univ (m := lM) (r := r) (hw := View.loads_smem_one hp h1) (Finset.subset_univ _)) $$ H4; iintro H4
  iapply H
  unfold Bs stgs
  isplitr [HX]
  · isplitr; · iexact HC
    isplitl [H0]; · iexact H0
    isplitl [H1]; · iexact H1
    isplitl [H2]; · iexact H2
    isplitl [H3]; · iexact H3
    iexact H4
  iexact HX

end Loads

end Cert.KernelIdeal.Attn

end
-- ==== Proof.Steps2.lean ====
/-
The steps of the first exchange: storing a row of partial results, sending it, and keeping the device's own row.
-/
module

public import proofs.«01_k».proof.Proof.Steps

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-! ## Stores and reads of one row's lanes -/

section Lanes
/-- The lanes `o` to `o + wd - 1` of row `j`. -/
abbrev laneR (j o wd : ℕ) (inb : ∀ a, (![j, 0, o] : Fin 3 → ℕ) a + (⟨3, ![1, 8, wd]⟩ : Shape).size a ≤ S32x8x128.size a) : Rect S32x8x128 :=
  Rect.unit (s := S32x8x128) ![j, 0, o] (⟨3, ![1, 8, wd]⟩ : Shape).size inb

/-- An element of the lanes of row `j`, in the buffer. -/
theorem laneR_emb {j o wd : ℕ} (inb) (hj : j < 32) (b : Fin 8) (x : Fin wd) (hx : o + x.val < 128) :
    (laneR j o wd inb).emb (ix3 (0 : Fin 1) b x) = ix3 (⟨j, hj⟩ : Fin 32) b (⟨o + x.val, hx⟩ : Fin 128) := by
  funext a; apply Fin.ext; rw [ValueKit.rect_emb_unit_val]
  fin_cases a
  · exact Nat.add_zero _
  · exact Nat.zero_add _
  · rfl

/-- A store to some lanes of row `j`, read at one of them. -/
theorem store_in {j o wd : ℕ} (inb) (hj : j < 32) (f : S32x8x128.Idx → Elt F .f32)
    (w : (⟨3, ![1, 8, wd]⟩ : Shape).Idx → Elt F .f32) (b : Fin 8) (l : Fin 128) (h : o ≤ l.val) (h' : l.val < o + wd) :
    (cM.access (laneR j o wd inb)).write (Elt F) f w Finset.univ (ix3 (⟨j, hj⟩ : Fin 32) b l) = w (ix3 (0 : Fin 1) b (⟨l.val - o, by omega⟩ : Fin wd)) := by
  have h1 := View.write_emb_of_mem (Val := Elt F) (v := cM.access (laneR j o wd inb)) f w (Finset.mem_univ (ix3 (0 : Fin 1) b (⟨l.val - o, by omega⟩ : Fin wd)))
  have e : (cM.access (laneR j o wd inb)).emb (ix3 (0 : Fin 1) b (⟨l.val - o, by omega⟩ : Fin wd)) = ix3 (⟨j, hj⟩ : Fin 32) b l := by
    refine (laneR_emb inb hj b (⟨l.val - o, by omega⟩ : Fin wd) (by have := l.isLt; show o + (l.val - o) < 128; omega)).trans ?_
    congr 1; apply Fin.ext; show o + (l.val - o) = l.val; omega
  rw [e] at h1; exact h1

/-- A store to some lanes of row `j`, read at a lane before them. -/
theorem store_out {j o wd : ℕ} (inb) (hj : j < 32) (f : S32x8x128.Idx → Elt F .f32)
    (w : (⟨3, ![1, 8, wd]⟩ : Shape).Idx → Elt F .f32) (b : Fin 8) (l : Fin 128) (h : l.val < o) :
    (cM.access (laneR j o wd inb)).write (Elt F) f w Finset.univ (ix3 (⟨j, hj⟩ : Fin 32) b l) = f (ix3 (⟨j, hj⟩ : Fin 32) b l) := by
  refine View.write_of_not_mem (v := cM.access (laneR j o wd inb)) f w _ fun hm => ?_
  have hm2 : (ix3 (⟨j, hj⟩ : Fin 32) b l : S32x8x128.Idx) ∈ (laneR j o wd inb).set := (View.set_slice_whole cc0_scratch0 (laneR j o wd inb)).subset hm
  have := (Rect.mem_set_unit.1 hm2 2).1
  have h2 : o ≤ l.val := this
  omega

/-- A store of lanes `o` to `o + wd - 1` extends what row `j` holds from `o` lanes to `o + wd`. -/
theorem cur_store {j o wd : ℕ} (inb) (hj : j < 32) {f : S32x8x128.Idx → Elt F .f32}
    {w : (⟨3, ![1, 8, wd]⟩ : Shape).Idx → Elt F .f32} (hf : CurOK m c ⟨j, hj⟩ o f)
    (hw : ∀ (b : Fin 8) (l : Fin 128) (h : o ≤ l.val) (h' : l.val < o + wd), w (ix3 (0 : Fin 1) b (⟨l.val - o, by omega⟩ : Fin wd)) = rowVal m c ⟨j, hj⟩ b l) :
    CurOK m c ⟨j, hj⟩ (o + wd) ((cM.access (laneR j o wd inb)).write (Elt F) f w Finset.univ) := fun b l hl => by
  by_cases h : l.val < o
  · exact (store_out inb hj f w b l h).trans (hf b l h)
  · exact (store_in inb hj f w b l (by omega) hl).trans (hw b l (by omega) hl)

/-- The stored weighted sum is what lanes 0 to 63 are to hold. -/
theorem acc_lanes (j : Fin 32) (b : Fin 8) (l : Fin 128) (h : 0 ≤ l.val) (h' : l.val < 0 + 64) :
    rowAcc m c j (ix3 (0 : Fin 1) b (⟨l.val - 0, by omega⟩ : Fin 64)) = rowVal m c j b l := by
  unfold rowVal; rw [dif_pos (by omega)]; rfl
/-- The stored maximum is what lane 64 is to hold. -/
theorem m_lanes (j : Fin 32) (b : Fin 8) (l : Fin 128) (h : 64 ≤ l.val) (h' : l.val < 64 + 1) :
    rowM m c j (ix3 (0 : Fin 1) b (⟨l.val - 64, by omega⟩ : Fin 1)) = rowVal m c j b l := by
  unfold rowVal; rw [dif_neg (by omega), if_pos (by omega), show (⟨l.val - 64, by omega⟩ : Fin 1) = 0 from Subsingleton.elim _ _]
/-- The stored sum of weights is what lane 65 is to hold. -/
theorem l_lanes (j : Fin 32) (b : Fin 8) (l : Fin 128) (h : 65 ≤ l.val) (h' : l.val < 65 + 1) :
    rowL m c j (ix3 (0 : Fin 1) b (⟨l.val - 65, by omega⟩ : Fin 1)) = rowVal m c j b l := by
  unfold rowVal; rw [dif_neg (by omega), if_neg (by omega), show (⟨l.val - 65, by omega⟩ : Fin 1) = 0 from Subsingleton.elim _ _]
end Lanes

/-! ## The state while rows are stored and sent -/

/-- After `n` stores (three to a row, in order), how many lanes of row `j` hold their values. -/
def lim (n : ℕ) (j : ℕ) : ℕ := if 3 * j + 3 ≤ n then 66 else if 3 * j + 2 ≤ n then 65 else if 3 * j + 1 ≤ n then 64 else 0

/-- A store into row `j` leaves the other rows as they were. -/
theorem lim_step {n i j : ℕ} (h : i ≠ j) (h1 : 3 * j ≤ n) (h2 : n < 3 * j + 3) : lim (n + 1) i = lim n i := by
  unfold lim; split_ifs <;> first | rfl | omega

variable (m c) in
/-- `n` stores into rows made, the rows before `p` sent, the device's own row kept if it lies before `q`. -/
def P2 (n p q : ℕ) : sProp (MT nD τ sig Unit (Elt F) ℕ UU ℕ) :=
  iprop(owesS c 32 p 0 0
    ∗ (bigSep (ow c p) fun j => iprop(∃ f, ⌜CurOK m c j (lim n j.val) f⌝ ∗ curR c j f))
    ∗ (bigSep (pf c p) fun j => iprop(dutyTok ER (kcell (c, .inr (0, j))) 0 j ∗ dutyTok ER (kcell (j, .inr (1, c))) 0 c ∗ ∃ f, inR (F := F) j c f))
    ∗ (bigSep (pl c p) fun j => cred (tallyAt (kcell (c, .inr (0, j))) () N1))
    ∗ ∃ f, ⌜c.val < q → InOK m c c f⌝ ∗ inR c c f)

/-- A load from the rows whose value is not used. -/
theorem st_ldCur {n p q j o wd : ℕ} (hj : j < 32) (hpj : p ≤ j) {inb} {hl} {f : Vec F (⟨3, ![1, 8, wd]⟩ : Shape) .f32 → Prog (TpuEff nD τ sig (Elt F) Λ₀ .tc) γ}
    {k : γ → Prog (TpuEff nD τ sig (Elt F) Λ₀ .tc) α}
    (H : ∀ v, Run c iprop(Bs m K c ∗ P2 m c n p q ∗ R) (f v >>= k) Q) :
    Run c iprop(Bs m K c ∗ P2 m c n p q ∗ R) ((Prog.lift (.load cM (laneR j o wd inb).toLoadRect hl) >>= f) >>= k) Q := by
  refine ⟨?_⟩
  rw [show ((Prog.lift (.load cM (laneR j o wd inb).toLoadRect hl) >>= f) >>= k : Prog (TpuEff nD τ sig (Elt F) Λ₀ .tc) α) = .op (.load cM (laneR j o wd inb).toLoadRect hl) fun x => f x >>= k from rfl]
  iintro ⟨HB, HP, HR⟩
  unfold P2
  icases HP with ⟨HO, Hrows, Htok, Hcr, Hown⟩
  ihave Hr := (bigSep_upd (fun j : Dev nD => iprop(∃ f, ⌜CurOK m c j (lim n j.val) f⌝ ∗ curR c j f)) (fun j : Dev nD => iprop(∃ f, ⌜CurOK m c j (lim n j.val) f⌝ ∗ curR c j f))
    (S := ow c p) (j := (⟨j, hj⟩ : Fin 32)) (mem_ow.2 (Or.inl hpj)) fun i _ _ => rfl) $$ Hrows
  icases Hr with ⟨⟨%g, %hg, Hc⟩, Hback⟩
  unfold curR
  iapply (wp_load_rect 𝒱₀ (c : Thread nD τ) none Set.univ (m := cM) (r := laneR j o wd inb) (S := rset1 j)
    ((View.set_slice_whole _ _).trans_subset (rect_sub_rset1 (j := j) inb rfl rfl))) $$ Hc
  iintro Hc
  iapply (H _).go
  isplitl [HB]; · iexact HB
  isplitr [HR]
  · unfold P2
    isplitl [HO]; · iexact HO
    isplitl [Hback Hc]
    · iapply Hback
      iexists g
      isplitr; · ipureintro; exact hg
      iexact Hc
    isplitl [Htok]; · iexact Htok
    isplitl [Hcr]; · iexact Hcr
    iexact Hown
  iexact HR

/-- Store `n` of the rows: the lanes from `o = lim n j` on of row `j`. -/
theorem st_store {n p q j o wd : ℕ} (hj : j < 32) (hpj : p ≤ j) (h1 : 3 * j ≤ n) (h2 : n < 3 * j + 3) (ho : lim n j = o) (ho' : lim (n + 1) j = o + wd) {inb}
    {w : Vec F (⟨3, ![1, 8, wd]⟩ : Shape) .f32}
    (hw : ∀ (b : Fin 8) (l : Fin 128) (h : o ≤ l.val) (h' : l.val < o + wd), w (ix3 (0 : Fin 1) b (⟨l.val - o, by omega⟩ : Fin wd)) = rowVal m c ⟨j, hj⟩ b l)
    {hx hm} {f : PUnit → Prog (TpuEff nD τ sig (Elt F) Λ₀ .tc) γ} {k : γ → Prog (TpuEff nD τ sig (Elt F) Λ₀ .tc) α}
    (H : Run c iprop(Bs m K c ∗ P2 m c (n + 1) p q ∗ R) (f ⟨⟩ >>= k) Q) :
    Run c iprop(Bs m K c ∗ P2 m c n p q ∗ R) ((Prog.lift (.store cM (laneR j o wd inb) w Finset.univ hx hm) >>= f) >>= k) Q := by
  refine ⟨?_⟩
  rw [show ((Prog.lift (.store cM (laneR j o wd inb) w Finset.univ hx hm) >>= f) >>= k : Prog (TpuEff nD τ sig (Elt F) Λ₀ .tc) α) = .op (.store cM (laneR j o wd inb) w Finset.univ hx hm) fun x => f x >>= k from rfl]
  iintro ⟨HB, HP, HR⟩
  unfold P2
  icases HP with ⟨HO, Hrows, Htok, Hcr, Hown⟩
  ihave Hr := (bigSep_upd (fun j : Dev nD => iprop(∃ f, ⌜CurOK m c j (lim n j.val) f⌝ ∗ curR c j f)) (fun j : Dev nD => iprop(∃ f, ⌜CurOK m c j (lim (n + 1) j.val) f⌝ ∗ curR c j f))
    (S := ow c p) (j := (⟨j, hj⟩ : Fin 32)) (mem_ow.2 (Or.inl hpj)) fun i _ hi => by rw [lim_step (fun e => hi (Fin.ext e)) h1 h2]) $$ Hrows
  icases Hr with ⟨⟨%g, %hg, Hc⟩, Hback⟩
  unfold curR
  iapply (wp_store 𝒱₀ (c : Thread nD τ) none Set.univ (m := cM) (r := laneR j o wd inb) (Mk := Finset.univ) (S := rset1 j)
    ((View.set_slice_whole _ _).trans_subset (rect_sub_rset1 (j := j) inb rfl rfl))) $$ Hc
  iintro Hc
  iapply H.go
  isplitl [HB]; · iexact HB
  isplitr [HR]
  · unfold P2
    isplitl [HO]; · iexact HO
    isplitl [Hback Hc]
    · iapply Hback
      iexists ((cM.access (laneR j o wd inb)).write (Elt F) g w Finset.univ)
      isplitr
      · ipureintro
        rw [ho']
        exact cur_store inb hj (ho ▸ hg) hw
      iexact Hc
    isplitl [Htok]; · iexact Htok
    isplitl [Hcr]; · iexact Hcr
    iexact Hown
  iexact HR

/-- The three stores of a row: of an even row's batch rows 0 to 7, and of an odd row's batch rows 8 to 15. -/
theorem st_stAcc0 {n p q j : ℕ} {inb} {w : Vec F S1x8x64 .f32} {hx hm} {f : PUnit → Prog (TpuEff nD τ sig (Elt F) Λ₀ .tc) γ} {k : γ → Prog (TpuEff nD τ sig (Elt F) Λ₀ .tc) α}
    (h2 : j % 2 = 0) (hj : j < 32) (hpj : p ≤ j) (hn : n = 3 * j) (hw : w = k0_pay23 (accOf m c (hd ⟨j, hj⟩)))
    (H : Run c iprop(Bs m K c ∗ P2 m c (n + 1) p q ∗ R) (f ⟨⟩ >>= k) Q) :
    Run c iprop(Bs m K c ∗ P2 m c n p q ∗ R) ((Prog.lift (.store cM (Rect.unit (s := S32x8x128) ![j, 0, 0] S1x8x64.size inb) w Finset.univ hx hm) >>= f) >>= k) Q := by
  subst hn; subst hw
  refine st_store (o := 0) (wd := 64) hj hpj le_rfl (by omega) (by unfold lim; split_ifs <;> first | rfl | omega) (by unfold lim; split_ifs <;> first | rfl | omega)
    (fun b l h h' => ?_) H
  have := acc_lanes (m := m) (c := c) ⟨j, hj⟩ b l h h'
  unfold rowAcc at this
  rwa [if_pos h2] at this

/-- The store of the weighted sum of an odd row. -/
theorem st_stAcc1 {n p q j : ℕ} {inb} {w : Vec F S1x8x64 .f32} {hx hm} {f : PUnit → Prog (TpuEff nD τ sig (Elt F) Λ₀ .tc) γ} {k : γ → Prog (TpuEff nD τ sig (Elt F) Λ₀ .tc) α}
    (h2 : j % 2 = 1) (hj : j < 32) (hpj : p ≤ j) (hn : n = 3 * j) (hw : w = k0_pay26 (accOf m c (hd ⟨j, hj⟩)))
    (H : Run c iprop(Bs m K c ∗ P2 m c (n + 1) p q ∗ R) (f ⟨⟩ >>= k) Q) :
    Run c iprop(Bs m K c ∗ P2 m c n p q ∗ R) ((Prog.lift (.store cM (Rect.unit (s := S32x8x128) ![j, 0, 0] S1x8x64.size inb) w Finset.univ hx hm) >>= f) >>= k) Q := by
  subst hn; subst hw
  refine st_store (o := 0) (wd := 64) hj hpj le_rfl (by omega) (by unfold lim; split_ifs <;> first | rfl | omega) (by unfold lim; split_ifs <;> first | rfl | omega)
    (fun b l h h' => ?_) H
  have := acc_lanes (m := m) (c := c) ⟨j, hj⟩ b l h h'
  unfold rowAcc at this
  rwa [if_neg (by rw [h2]; decide)] at this

/-- The store of the maximum of an even row. -/
theorem st_stM0 {n p q j : ℕ} {inb} {w : Vec F S1x8x1 .f32} {hx hm} {f : PUnit → Prog (TpuEff nD τ sig (Elt F) Λ₀ .tc) γ} {k : γ → Prog (TpuEff nD τ sig (Elt F) Λ₀ .tc) α}
    (h2 : j % 2 = 0) (hj : j < 32) (hpj : p ≤ j) (hn : n = 3 * j + 1) (hw : w = k0_pay24 (mOf m c (hd ⟨j, hj⟩)))
    (H : Run c iprop(Bs m K c ∗ P2 m c (n + 1) p q ∗ R) (f ⟨⟩ >>= k) Q) :
    Run c iprop(Bs m K c ∗ P2 m c n p q ∗ R) ((Prog.lift (.store cM (Rect.unit (s := S32x8x128) ![j, 0, 64] S1x8x1.size inb) w Finset.univ hx hm) >>= f) >>= k) Q := by
  subst hn; subst hw
  refine st_store (o := 64) (wd := 1) hj hpj (by omega) (by omega) (by unfold lim; split_ifs <;> first | rfl | omega) (by unfold lim; split_ifs <;> first | rfl | omega)
    (fun b l h h' => ?_) H
  have := m_lanes (m := m) (c := c) ⟨j, hj⟩ b l h h'
  unfold rowM at this
  rwa [if_pos h2] at this

/-- The store of the maximum of an odd row. -/
theorem st_stM1 {n p q j : ℕ} {inb} {w : Vec F S1x8x1 .f32} {hx hm} {f : PUnit → Prog (TpuEff nD τ sig (Elt F) Λ₀ .tc) γ} {k : γ → Prog (TpuEff nD τ sig (Elt F) Λ₀ .tc) α}
    (h2 : j % 2 = 1) (hj : j < 32) (hpj : p ≤ j) (hn : n = 3 * j + 1) (hw : w = k0_pay27 (mOf m c (hd ⟨j, hj⟩)))
    (H : Run c iprop(Bs m K c ∗ P2 m c (n + 1) p q ∗ R) (f ⟨⟩ >>= k) Q) :
    Run c iprop(Bs m K c ∗ P2 m c n p q ∗ R) ((Prog.lift (.store cM (Rect.unit (s := S32x8x128) ![j, 0, 64] S1x8x1.size inb) w Finset.univ hx hm) >>= f) >>= k) Q := by
  subst hn; subst hw
  refine st_store (o := 64) (wd := 1) hj hpj (by omega) (by omega) (by unfold lim; split_ifs <;> first | rfl | omega) (by unfold lim; split_ifs <;> first | rfl | omega)
    (fun b l h h' => ?_) H
  have := m_lanes (m := m) (c := c) ⟨j, hj⟩ b l h h'
  unfold rowM at this
  rwa [if_neg (by rw [h2]; decide)] at this

/-- The store of the sum of weights of an even row. -/
theorem st_stL0 {n p q j : ℕ} {inb} {w : Vec F S1x8x1 .f32} {hx hm} {f : PUnit → Prog (TpuEff nD τ sig (Elt F) Λ₀ .tc) γ} {k : γ → Prog (TpuEff nD τ sig (Elt F) Λ₀ .tc) α}
    (h2 : j % 2 = 0) (hj : j < 32) (hpj : p ≤ j) (hn : n = 3 * j + 2) (hw : w = k0_pay25 (lOf m c (hd ⟨j, hj⟩)))
    (H : Run c iprop(Bs m K c ∗ P2 m c (n + 1) p q ∗ R) (f ⟨⟩ >>= k) Q) :
    Run c iprop(Bs m K c ∗ P2 m c n p q ∗ R) ((Prog.lift (.store cM (Rect.unit (s := S32x8x128) ![j, 0, 65] S1x8x1.size inb) w Finset.univ hx hm) >>= f) >>= k) Q := by
  subst hn; subst hw
  refine st_store (o := 65) (wd := 1) hj hpj (by omega) (by omega) (by unfold lim; split_ifs <;> first | rfl | omega) (by unfold lim; split_ifs <;> first | rfl | omega)
    (fun b l h h' => ?_) H
  have := l_lanes (m := m) (c := c) ⟨j, hj⟩ b l h h'
  unfold rowL at this
  rwa [if_pos h2] at this

/-- The store of the sum of weights of an odd row. -/
theorem st_stL1 {n p q j : ℕ} {inb} {w : Vec F S1x8x1 .f32} {hx hm} {f : PUnit → Prog (TpuEff nD τ sig (Elt F) Λ₀ .tc) γ} {k : γ → Prog (TpuEff nD τ sig (Elt F) Λ₀ .tc) α}
    (h2 : j % 2 = 1) (hj : j < 32) (hpj : p ≤ j) (hn : n = 3 * j + 2) (hw : w = k0_pay28 (lOf m c (hd ⟨j, hj⟩)))
    (H : Run c iprop(Bs m K c ∗ P2 m c (n + 1) p q ∗ R) (f ⟨⟩ >>= k) Q) :
    Run c iprop(Bs m K c ∗ P2 m c n p q ∗ R) ((Prog.lift (.store cM (Rect.unit (s := S32x8x128) ![j, 0, 65] S1x8x1.size inb) w Finset.univ hx hm) >>= f) >>= k) Q := by
  subst hn; subst hw
  refine st_store (o := 65) (wd := 1) hj hpj (by omega) (by omega) (by unfold lim; split_ifs <;> first | rfl | omega) (by unfold lim; split_ifs <;> first | rfl | omega)
    (fun b l h h' => ?_) H
  have := l_lanes (m := m) (c := c) ⟨j, hj⟩ b l h h'
  unfold rowL at this
  rwa [if_neg (by rw [h2]; decide)] at this

/-! ## Sending a row -/

/-- The semaphore that the kernel slices out of an array of 32. -/
theorem sem_slice (base : ℕ) (hb : base + S32.numel ≤ 134) (p : ℕ) (hp : p < 32) (inb) :
    (((SemArray.consecutive base S32 hb : DmaSems sig S32).slice (Rect.unit (s := S32) ![p] S1.size inb)).squeeze S_ squeezes_S1_S_).sem.val = base + p := by
  show base + (S32.rowMajor ((Rect.unit (s := S32) ![p] S1.size inb).emb (Shape.reshapeEquiv _ _))).val = base + p
  rw [Shape.rowMajor_val_one, ValueKit.rect_emb_unit_val]
  have h : ∀ x : Fin 1, base + (p + x.val) = base + p := fun x => by rw [Fin.val_eq_zero x, Nat.add_zero]
  exact h _

/-- The send semaphore of the first exchange's copy numbered `p`. -/
theorem sem_send1 (p : ℕ) (hp : p < 32) (inb) : SemLoc.dma (((cc0_scratch4 : DmaSems sig S32).slice (Rect.unit (s := S32) ![p] S1.size inb)).squeeze S_ squeezes_S1_S_).sem = csem (.inr (0, ⟨p, hp⟩)) :=
  congrArg SemLoc.dma (Fin.ext (sem_slice 6 (by decide) p hp inb))
/-- The receive semaphore of the first exchange's copy numbered `p`. -/
theorem sem_recv1 (p : ℕ) (hp : p < 32) (inb) : SemLoc.dma (((cc0_scratch5 : DmaSems sig S32).slice (Rect.unit (s := S32) ![p] S1.size inb)).squeeze S_ squeezes_S1_S_).sem = csem (.inr (1, ⟨p, hp⟩)) :=
  congrArg SemLoc.dma (Fin.ext (sem_slice 38 (by decide) p hp inb))
/-- The send semaphore of the second exchange's copy numbered `p`. -/
theorem sem_send2 (p : ℕ) (hp : p < 32) (inb) : SemLoc.dma (((cc0_scratch6 : DmaSems sig S32).slice (Rect.unit (s := S32) ![p] S1.size inb)).squeeze S_ squeezes_S1_S_).sem = csem (.inr (2, ⟨p, hp⟩)) :=
  congrArg SemLoc.dma (Fin.ext (sem_slice 70 (by decide) p hp inb))
/-- The receive semaphore of the second exchange's copy numbered `p`. -/
theorem sem_recv2 (p : ℕ) (hp : p < 32) (inb) : SemLoc.dma (((cc0_scratch7 : DmaSems sig S32).slice (Rect.unit (s := S32) ![p] S1.size inb)).squeeze S_ squeezes_S1_S_).sem = csem (.inr (3, ⟨p, hp⟩)) :=
  congrArg SemLoc.dma (Fin.ext (sem_slice 102 (by decide) p hp inb))

/-- Row `j` of `cur` lands as row `c` of device `j`'s `inbox1`. -/
theorem wp_send1 {j : Dev nD} (hjc : j ≠ c) {sS sem : SemLoc sig} (h1 : sS = csem (.inr (0, j))) (h2 : sem = csem (.inr (1, c)))
    {hsc : (row1 iM c : Memref sig (Dev.tc j : Thread nD τ).2.kind .vmem S8x128 .f32).view.ref.isScScratch = false}
    {hsrc : (row1 cM j).view.WordExact} {hdst : (row1 iM c).view.WordExact}
    {hsem : DmaTarget.Typed .vmem sem (.remote (Dev.tc j : Thread nD τ) (row1 iM c : Memref sig (Dev.tc j : Thread nD τ).2.kind .vmem S8x128 .f32) sS hsc)}
    {fs fd : S32x8x128.Idx → Elt F .f32} (hfs : CurOK m c j 66 fs) (W : Waits sig Unit)
    {k : PUnit → Prog (TpuEff nD τ sig (Elt F) Λ₀ .tc) α} :
    iprop(cellInv ER (Rd m) (K (c, .inr (0, j))) (kcell (c, .inr (0, j))) ∗ cellInv ER (Rd m) (K (j, .inr (1, c))) (kcell (j, .inr (1, c)))
        ∗ curR c j fs ∗ inR j c fd ∗ owes (c : Thread nD τ) (obl c 32 j.val 0 0) W
        ∗ dutyTok ER (kcell (c, .inr (0, j))) 0 j ∗ reached ER (kcell (c, .inr (0, j))) 0
        ∗ dutyTok ER (kcell (j, .inr (1, c))) 0 c ∗ reached ER (kcell (j, .inr (1, c))) 0)
      ⊢ iprop(((cred (tallyAt (kcell (c, .inr (0, j))) () N1) ∗ owes (c : Thread nD τ) (obl c 32 (j.val + 1) 0 0) W) -∗ wpc c (k ⟨⟩) Q)
          -∗ wpc c (.op (.enqueueDma (row1 cM j) (.remote (Dev.tc j : Thread nD τ) (row1 iM c) sS hsc) sem hsrc hdst hsem) k) Q) := by
  subst h1; subst h2
  have e1 : curR c j fs = ((row1 cM j).view.loc (c : Thread nD τ) ↦[(row1 cM j).view.set]{fullShare} fs : sProp (MT nD τ sig Unit (Elt F) ℕ UU ℕ)) := by
    rw [row1_set_c]; rfl
  have e2 : inR j c fd = ((row1 iM c).view.loc (j : Thread nD τ) ↦[(row1 iM c).view.set]{fullShare} fd : sProp (MT nD τ sig Unit (Elt F) ℕ UU ℕ)) := by
    rw [row1_set_i]; rfl
  have e3 : (row1 iM c).view.amount (csem (.inr (1, c))) = N1 := rfl
  have a1 := mem_duties_dma m c 0 j hjc
  have a2 := mem_duties_dma m j 1 c hjc.symm
  have a3 : (Rd m).amount ((c : Thread nD τ), csem (.inr (0, j))) 0 j = N1 := amount_at m c (.inr (0, j)) j
  have a4 : (Rd m).amount ((j : Thread nD τ), csem (.inr (1, c))) 0 c = N1 := amount_at m j (.inr (1, c)) c
  have a5 : obl c 32 j.val 0 0 = obl c 32 (j.val + 1) 0 0 + tallyAt ((j : Thread nD τ), csem (.inr (1, c))) () N1 := obl_b hjc 32 0 0
  rw [e1, e2]
  have hp1 : ((row1 cM j).view.loc (c : Thread nD τ) ↦[(row1 cM j).view.set]{fullShare} fs) ⊢ (Rd m).payload ((c : Thread nD τ), csem (.inr (0, j))) 0 j := by
    rw [payload_at, pay_send1, ← e1]
    iintro H; iexists fs; iexact H
  have hp2 : ((row1 iM c).view.loc (j : Thread nD τ) ↦[(row1 iM c).view.set]{fullShare} (row1 iM c).view.write (Elt F) fd ((row1 cM j).view.read (Elt F) fs) Finset.univ)
      ⊢ (Rd m).payload ((j : Thread nD τ), csem (.inr (1, c))) 0 c := by
    rw [payload_at, pay_recv1, row1_set_i]; unfold inR
    iintro H; iexists _
    isplitr; · ipureintro; exact fun b l hl => (landed1 c j fd fs b l).trans (hfs b l hl)
    iexact H
  exact Rounds.wp_send_pointsTo 𝒱₀ ER (Rd m) (c : Thread nD τ) none (c' := (j : Thread nD τ)) (src := row1 cM j) (dst := row1 iM c) (κ₁ := K (c, .inr (0, j))) (κ₂ := K (j, .inr (1, c)))
    (sS := csem (.inr (0, j))) (sem := csem (.inr (1, c))) (hsc := hsc) (hsrc := hsrc) (hdst := hdst) (hsem := hsem) (k := k) (Q := Q) (fs := fs) (Es := Set.univ) (q := fullShare)
    (r₁ := 0) (r₂ := 0) (d₁ := j) (d₂ := c) (fd := fd) a1 a2 () () N1 e3 a3 a4 (obl c 32 (j.val + 1) 0 0) a5 (W := W) hp1 hp2

/-- The send of row `p` to device `p` (none to itself). -/
theorem st_send1 {n p q : ℕ} {cnd : BitVec 1} {dv : cnd = 1#1 → Dev nD} {oA : Fin 1 → ℕ} {oB : Fin 3 → ℕ}
    {i1 i2} {iA : cnd = 1#1 → ∀ a, oA a + S1.size a ≤ S32.size a} {iB : cnd = 1#1 → ∀ a, oB a + S1x8x128.size a ≤ S32x8x128.size a}
    {w0 : ∀ h : cnd = 1#1, (((iM.slice (Rect.unit (s := S32x8x128) oB S1x8x128.size (iB h)) (fun _ => rfl)).squeeze S8x128 squeezes_S1x8x128_S8x128 : Memref sig .tc .vmem S8x128 .f32)).view.ref.isScScratch = false}
    {w1 : cnd = 1#1 → ((cM.slice (Rect.unit (s := S32x8x128) ![p, 0, 0] S1x8x128.size i1) (fun _ => rfl)).squeeze S8x128 squeezes_S1x8x128_S8x128).view.WordExact}
    {w2 : ∀ h : cnd = 1#1, ((iM.slice (Rect.unit (s := S32x8x128) oB S1x8x128.size (iB h)) (fun _ => rfl)).squeeze S8x128 squeezes_S1x8x128_S8x128).view.WordExact}
    {w3 : ∀ h : cnd = 1#1, DmaTarget.Typed .vmem (.dma (((cc0_scratch5 : DmaSems sig S32).slice (Rect.unit (s := S32) oA S1.size (iA h))).squeeze S_ squeezes_S1_S_).sem)
      (.remote (Dev.tc (dv h)) ((iM.slice (Rect.unit (s := S32x8x128) oB S1x8x128.size (iB h)) (fun _ => rfl)).squeeze S8x128 squeezes_S1x8x128_S8x128 : Memref sig (Dev.tc (dv h) : Thread nD τ).2.kind .vmem S8x128 .f32)
        (.dma (((cc0_scratch4 : DmaSems sig S32).slice (Rect.unit (s := S32) ![p] S1.size i2)).squeeze S_ squeezes_S1_S_).sem) (w0 h))}
    {t : Prog (TpuEff nD τ sig (Elt F) Λ₀ .tc) γ} {k : γ → Prog (TpuEff nD τ sig (Elt F) Λ₀ .tc) α}
    (hp : p < 32) (hn : 3 * p + 3 ≤ n) (hc : cnd = 1#1 ↔ c.val ≠ p) (hd : ∀ h, (dv h).val = p) (hA : oA = ![c.val]) (hB : oB = ![c.val, 0, 0])
    (H : Run c iprop(Bs m K c ∗ P2 m c n (p + 1) q ∗ R) (t >>= k) Q) :
    Run c iprop(Bs m K c ∗ P2 m c n p q ∗ R) ((if h : cnd = 1#1 then (Prog.lift (.enqueueDma
      ((cM.slice (Rect.unit (s := S32x8x128) ![p, 0, 0] S1x8x128.size i1) (fun _ => rfl)).squeeze S8x128 squeezes_S1x8x128_S8x128)
      (.remote (Dev.tc (dv h)) ((iM.slice (Rect.unit (s := S32x8x128) oB S1x8x128.size (iB h)) (fun _ => rfl)).squeeze S8x128 squeezes_S1x8x128_S8x128)
        (.dma (((cc0_scratch4 : DmaSems sig S32).slice (Rect.unit (s := S32) ![p] S1.size i2)).squeeze S_ squeezes_S1_S_).sem) (w0 h))
      (.dma (((cc0_scratch5 : DmaSems sig S32).slice (Rect.unit (s := S32) oA S1.size (iA h))).squeeze S_ squeezes_S1_S_).sem) (w1 h) (w2 h) (w3 h)) >>= fun _ => t) else t) >>= k) Q := by
  subst hA; subst hB
  refine ⟨?_⟩
  by_cases h : cnd = 1#1
  · rw [dif_pos h]
    have hn' : (dv h).val = p := hd h
    have hcp := hc.1 h
    generalize iA h = iA'; generalize iB h = iB'; generalize w3 h = w3'; generalize w2 h = w2'; generalize w1 h = w1'; generalize w0 h = w0'
    revert w0' w1' w2' w3'
    generalize dv h = j at hn'
    intro w0' w1' w2' w3'
    subst hn'
    have hjc : j ≠ c := fun e => hcp (by rw [e])
    rw [show ∀ A : TpuEff nD τ sig (Elt F) Λ₀ .tc PUnit, ((Prog.lift A >>= fun _ => t) >>= k : Prog (TpuEff nD τ sig (Elt F) Λ₀ .tc) α) = .op A fun _ => t >>= k from fun _ => rfl]
    iintro ⟨HB, HP, HR⟩
    unfold P2 owesS
    rw [pf_peel _ hjc, ow_peel _ hjc]
    icases HP with ⟨⟨%W, HO⟩, ⟨⟨%fs, %hfs, Hc⟩, Hrows⟩, ⟨⟨Ht1, Ht2, ⟨%fd, Hi⟩⟩, Htok⟩, Hcr, Hown⟩
    unfold Bs ctx
    icases HB with ⟨⟨#HI, #Hrch, #Hlev⟩, Hs⟩
    iapply (wp_send1 (m := m) (K := K) hjc (sem_send1 j.val j.isLt i2) (sem_recv1 c.val c.isLt iA') (fs := fs) (fd := fd)
      (by have e : lim n j.val = 66 := if_pos hn
          exact e ▸ hfs) W) $$ [Hc Hi HO Ht1 Ht2]
    · isplitr; · iapply (inv_at m K (c, .inr (0, j))); iexact HI
      isplitr; · iapply (inv_at m K (j, .inr (1, c))); iexact HI
      isplitl [Hc]; · iexact Hc
      isplitl [Hi]; · iexact Hi
      isplitl [HO]; · iexact HO
      isplitl [Ht1]; · iexact Ht1
      isplitr; · iapply (reached_at (F := F) (c, .inr (0, j))); iexact Hrch
      isplitl [Ht2]; · iexact Ht2
      iapply (reached_at (F := F) (j, .inr (1, c))); iexact Hrch
    iintro ⟨Hcr1, HO⟩
    iapply H.go
    unfold Bs ctx P2 owesS
    rw [pl_push _ hjc]
    isplitl [Hs]
    · isplitr
      · isplitr; · iexact HI
        isplitr; · iexact Hrch
        iexact Hlev
      iexact Hs
    isplitr [HR]
    · isplitl [HO]; · iexists W; iexact HO
      isplitl [Hrows]; · iexact Hrows
      isplitl [Htok]; · iexact Htok
      isplitl [Hcr Hcr1]
      · isplitl [Hcr1]; · iexact Hcr1
        iexact Hcr
      iexact Hown
    iexact HR
  · rw [dif_neg h]
    have hcn : c.val = p := by by_contra e; exact h (hc.2 e)
    subst hcn
    have e1 : P2 m c n c.val q = P2 m c n (c.val + 1) q := by unfold P2 owesS obl; rw [pf_self rfl, ow_self rfl, pl_self rfl]
    rw [e1]; exact H.go

/-! ## Keeping the device's own row -/

/-- The device's own row, copied from the send buffer into its first inbox, holds its values. -/
theorem own_kept (i1 i3) (fi : S32x8x128.Idx → Elt F .f32) {g : S32x8x128.Idx → Elt F .f32} (hg : CurOK m c c 66 g) :
    InOK m c c ((iM.access (Rect.unit (s := S32x8x128) ![c.val, 0, 0] S1x8x128.size i3)).write (Elt F) fi
      ((cM.access (Rect.unit (s := S32x8x128) ![c.val, 0, 0] S1x8x128.size i1)).read (Elt F) g) Finset.univ) := fun b l hl => by
  refine (store_in (o := 0) (wd := 128) i3 c.isLt fi ((cM.access (Rect.unit (s := S32x8x128) ![c.val, 0, 0] S1x8x128.size i1)).read (Elt F) g) b l (Nat.zero_le _) (by have := l.isLt; omega)).trans ?_
  refine Eq.trans ?_ (hg b l hl)
  have he := laneR_emb (j := c.val) (o := 0) (wd := 128) i1 c.isLt b (⟨l.val - 0, by have := l.isLt; omega⟩ : Fin 128) (by have := l.isLt; show 0 + (l.val - 0) < 128; omega)
  refine (congrArg g he).trans ?_
  congr 2; apply Fin.ext; show 0 + (l.val - 0) = l.val; omega

/-- The copy of row `q` into the device's own `inbox1`, on device `q` alone. -/
theorem st_loc1 {n p q : ℕ} {cnd : BitVec 1} {i1 i2 i3 h1 h2} {w : Vec F S1x8x128 .f32 → Vec F S1x8x128 .f32} {hx hm}
    {t : Prog (TpuEff nD τ sig (Elt F) Λ₀ .tc) γ} {k : γ → Prog (TpuEff nD τ sig (Elt F) Λ₀ .tc) α}
    (hq : q < 32) (hn : 3 * q + 3 ≤ n) (hc : cnd = 1#1 ↔ c.val = q) (hw : ∀ v, w v = v)
    (H : Run c iprop(Bs m K c ∗ P2 m c n p (q + 1) ∗ R) (t >>= k) Q) :
    Run c iprop(Bs m K c ∗ P2 m c n p q ∗ R) ((if h : cnd = 1#1 then
      (Prog.lift (.load cM (Rect.unit (s := S32x8x128) ![q, 0, 0] S1x8x128.size i1).toLoadRect h1) >>= fun v =>
        Prog.lift (.load iM (Rect.unit (s := S32x8x128) ![q, 0, 0] S1x8x128.size i2).toLoadRect h2) >>= fun _ =>
        Prog.lift (.store iM (Rect.unit (s := S32x8x128) ![q, 0, 0] S1x8x128.size i3) (w v) Finset.univ hx hm) >>= fun _ => t) else t) >>= k) Q := by
  refine ⟨?_⟩
  by_cases h : cnd = 1#1
  · rw [dif_pos h]
    have hcq := hc.1 h
    subst hcq
    rw [show ((Prog.lift (.load cM (Rect.unit (s := S32x8x128) ![c.val, 0, 0] S1x8x128.size i1).toLoadRect h1) >>= fun v =>
        Prog.lift (.load iM (Rect.unit (s := S32x8x128) ![c.val, 0, 0] S1x8x128.size i2).toLoadRect h2) >>= fun _ =>
        Prog.lift (.store iM (Rect.unit (s := S32x8x128) ![c.val, 0, 0] S1x8x128.size i3) (w v) Finset.univ hx hm) >>= fun _ => t) >>= k : Prog (TpuEff nD τ sig (Elt F) Λ₀ .tc) α)
      = .op (.load cM (Rect.unit (s := S32x8x128) ![c.val, 0, 0] S1x8x128.size i1).toLoadRect h1) fun v =>
        .op (.load iM (Rect.unit (s := S32x8x128) ![c.val, 0, 0] S1x8x128.size i2).toLoadRect h2) fun _ =>
        .op (.store iM (Rect.unit (s := S32x8x128) ![c.val, 0, 0] S1x8x128.size i3) (w v) Finset.univ hx hm) fun _ => t >>= k from rfl]
    obtain rfl : w = fun v => v := funext hw
    iintro ⟨HB, HP, HR⟩
    unfold P2
    icases HP with ⟨HO, Hrows, Htok, Hcr, ⟨%fi, -, Hi⟩⟩
    ihave Hr := (bigSep_upd (fun j : Dev nD => iprop(∃ f, ⌜CurOK m c j (lim n j.val) f⌝ ∗ curR c j f)) (fun j : Dev nD => iprop(∃ f, ⌜CurOK m c j (lim n j.val) f⌝ ∗ curR c j f))
      (S := ow c p) (j := c) (mem_ow.2 (Or.inr rfl)) fun i _ _ => rfl) $$ Hrows
    icases Hr with ⟨⟨%g, %hg, Hc⟩, Hback⟩
    unfold curR inR
    iapply (wp_load_rect 𝒱₀ (c : Thread nD τ) none Set.univ (m := cM) (r := Rect.unit (s := S32x8x128) ![c.val, 0, 0] S1x8x128.size i1)
      ((View.set_slice_whole _ _).trans_subset (rect_sub_rset1 (j := c.val) i1 rfl rfl))) $$ Hc
    iintro Hc
    iapply (wp_load_rect 𝒱₀ (c : Thread nD τ) none Set.univ (m := iM) (r := Rect.unit (s := S32x8x128) ![c.val, 0, 0] S1x8x128.size i2)
      ((View.set_slice_whole _ _).trans_subset (rect_sub_rset1 (j := c.val) i2 rfl rfl))) $$ Hi
    iintro Hi
    iapply (wp_store 𝒱₀ (c : Thread nD τ) none Set.univ (m := iM) (r := Rect.unit (s := S32x8x128) ![c.val, 0, 0] S1x8x128.size i3) (Mk := Finset.univ) (S := rset1 c.val)
      ((View.set_slice_whole _ _).trans_subset (rect_sub_rset1 (j := c.val) i3 rfl rfl))) $$ Hi
    iintro Hi
    beta_reduce
    iapply H.go
    isplitl [HB]; · iexact HB
    isplitr [HR]
    · unfold P2
      isplitl [HO]; · iexact HO
      isplitl [Hback Hc]
      · iapply Hback
        iexists g
        isplitr; · ipureintro; exact hg
        iexact Hc
      isplitl [Htok]; · iexact Htok
      isplitl [Hcr]; · iexact Hcr
      iexists ((iM.access (Rect.unit (s := S32x8x128) ![c.val, 0, 0] S1x8x128.size i3)).write (Elt F) fi
        ((cM.access (Rect.unit (s := S32x8x128) ![c.val, 0, 0] S1x8x128.size i1)).read (Elt F) g) Finset.univ)
      isplitr
      · ipureintro
        have e : lim n c.val = 66 := if_pos hn
        exact fun _ => own_kept i1 i3 fi (e ▸ hg)
      unfold inR; iexact Hi
    iexact HR
  · rw [dif_neg h]
    have hcn : c.val ≠ q := fun e => h (hc.2 e)
    have e1 : P2 m c n p q = P2 m c n p (q + 1) := by
      unfold P2; rw [show (c.val < q ↔ c.val < q + 1) from ⟨fun h => by omega, fun h => by omega⟩]
    rw [e1]; exact H.go

end Cert.KernelIdeal.Attn

end
-- ==== Proof.Steps3.lean ====
/-
Waiting for the copies, and combining what the first exchange brought.
-/
module

public import proofs.«01_k».proof.Proof.Steps2

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-! ## Waiting for a copy -/

/-- The wait for the copy numbered `r` by cells of kind `i` comes next: credit and position of those still to come,
    position and payload of those past. -/
def WT (m : (ℓ : Loc nD τ sig) → Buf (Elt F) ℓ) (c : Dev nD) (i : Fin 4) (r : ℕ) : sProp (MT nD τ sig Unit (Elt F) ℕ UU ℕ) :=
  iprop(bigSep (pf c r) (fun j => iprop(cred (tallyAt (kcell (c, .inr (i, j))) () (amtOf (some (.inr (i, j))))) ∗ atPos ER (kcell (c, .inr (i, j))) 0 ∅ 0))
    ∗ bigSep (pl c r) (fun j => iprop(atPos ER (kcell (c, .inr (i, j))) (0 + 1) ∅ 0 ∗ payOf m c (some (.inr (i, j))) j)))

/-- No wait is made for the device's own number. -/
theorem WT_self {i : Fin 4} {r : ℕ} (h : c.val = r) : WT m c i r = WT m c i (r + 1) := by unfold WT; rw [pf_self h, pl_self h]

/-- A run may start from more than it needs. -/
theorem Run.mono {P P' : sProp (MT nD τ sig Unit (Elt F) ℕ UU ℕ)} {p : Prog (TpuEff nD τ sig (Elt F) Λ₀ .tc) α} (h : P ⊢ P') (H : Run c P' p Q) : Run c P p Q :=
  ⟨BI.Entails.trans h H.go⟩

/-- The place of the copies' cells in the waiting order. -/
theorem lv_dma {i : Fin 4} {j : Fin 32} : lvOf (some (.inr (i, j))) = if i.val = 1 then 2 else if i.val = 3 then 3 else 4 := by
  fin_cases i <;> rfl

/-- The wait for the copy between `c` and `j` at the cell of kind `i`. -/
theorem wp_WT (i : Fin 4) {j : Dev nD} (hjc : j ≠ c) {a b d e : ℕ} {sem : DmaSem sig} (hs : SemLoc.dma sem = csem (.inr (i, j)))
    {sp sp' : Space} {s s' : Shape} {e₁ e₂ : EltTy} {src : Memref sig .tc sp' s' e₂} {dst : Memref sig .tc sp s e₁}
    {hsrc : src.view.WordExact} {hdst : dst.view.WordExact} (hN : dst.view.dmaCredit = amtOf (some (.inr (i, j))))
    (hl : 32 ≤ a ∧ 32 ≤ b ∧ (i.val = 1 ∨ 32 ≤ d))
    {k : PUnit → Prog (TpuEff nD τ sig (Elt F) Λ₀ .tc) α} :
    iprop(ctx m K ∗ owesS c a b d e ∗ WT m c i j.val)
      ⊢ iprop(((owesS c a b d e ∗ WT m c i (j.val + 1)) -∗ wpc c (k ⟨⟩) Q) -∗ wpc c (.op (.waitDma2 sem src dst hsrc hdst) k) Q) := by
  unfold WT
  rw [pf_peel _ hjc, pl_push _ hjc]
  iintro ⟨#HC, HO, ⟨⟨Hc, Hat⟩, Hf⟩, Hp⟩
  iintro Hk
  iapply (wp_wait_dma (m := m) (K := K) i hjc a b d e hs hN (by rw [lv_dma]; right; exact hl.1) (by rw [lv_dma]; right; exact hl.2.1)
    (by rw [lv_dma]; rcases hl.2.2 with h | h
        · left; rw [if_pos h]; decide
        · right; exact h)
    (by rw [lv_dma]; left; split
        · decide
        · split <;> decide)) $$ [Hc HO Hat]
  · isplitr; · iexact HC
    isplitl [Hc]; · iexact Hc
    isplitl [HO]; · iexact HO
    iexact Hat
  iintro ⟨HO, Hat, Hpay⟩
  iapply Hk
  isplitl [HO]; · iexact HO
  isplitl [Hf]; · iexact Hf
  isplitr [Hp]
  · isplitl [Hat]; · iexact Hat
    iexact Hpay
  iexact Hp

/-- One conditional wait (none for the device's own number). -/
theorem st_wait (i : Fin 4) {n : ℕ} {a b d e : ℕ} {cnd : BitVec 1} {sem : DmaSem sig}
    {sp sp' : Space} {s s' : Shape} {e₁ e₂ : EltTy} {src : Memref sig .tc sp' s' e₂} {dst : Memref sig .tc sp s e₁}
    {hsrc : src.view.WordExact} {hdst : dst.view.WordExact}
    {t : Prog (TpuEff nD τ sig (Elt F) Λ₀ .tc) γ} {k : γ → Prog (TpuEff nD τ sig (Elt F) Λ₀ .tc) α}
    (hn : n < 32) (hc : cnd = 1#1 ↔ c.val ≠ n) (hs : SemLoc.dma sem = csem (.inr (i, ⟨n, hn⟩))) (hN : dst.view.dmaCredit = amtOf (some (.inr (i, ⟨n, hn⟩))))
    (hl : 32 ≤ a ∧ 32 ≤ b ∧ (i.val = 1 ∨ 32 ≤ d))
    (H : Run c iprop(Bs m K c ∗ (owesS c a b d e ∗ X) ∗ WT m c i (n + 1) ∗ R) (t >>= k) Q) :
    Run c iprop(Bs m K c ∗ (owesS c a b d e ∗ X) ∗ WT m c i n ∗ R) ((if h : cnd = 1#1 then (Prog.lift (.waitDma2 sem src dst hsrc hdst) >>= fun _ => t) else t) >>= k) Q := by
  obtain ⟨j, hj⟩ : ∃ j : Dev nD, j = ⟨n, hn⟩ := ⟨_, rfl⟩
  have hjn : j.val = n := by rw [hj]
  rw [← hj] at hs hN
  subst hjn
  refine ⟨?_⟩
  by_cases h : cnd = 1#1
  · rw [dif_pos h]
    have hjc : j ≠ c := fun e => hc.1 h (by rw [e])
    rw [show ∀ A : TpuEff nD τ sig (Elt F) Λ₀ .tc PUnit, ((Prog.lift A >>= fun _ => t) >>= k : Prog (TpuEff nD τ sig (Elt F) Λ₀ .tc) α) = .op A fun _ => t >>= k from fun _ => rfl]
    unfold Bs
    iintro ⟨⟨#HC, Hs⟩, ⟨HO, HX⟩, HW, HR⟩
    iapply (wp_WT (m := m) (K := K) i hjc hs hN hl) $$ [HO HW]
    · isplitr; · iexact HC
      isplitl [HO] <;> iassumption
    iintro ⟨HO, HW⟩
    iapply H.go
    unfold Bs
    isplitl [Hs]
    · isplitr; · iexact HC
      iexact Hs
    isplitl [HO HX]
    · isplitl [HO] <;> iassumption
    isplitl [HW] <;> iassumption
  · rw [dif_neg h]
    have hcn : c.val = j.val := by by_contra e; exact h (hc.2 e)
    rw [WT_self hcn]; exact H.go

/-- The two waits for the device's own copies to one peer. -/
theorem st_wait2 {n : ℕ} {e : ℕ} {cnd : BitVec 1} {sem sem' : DmaSem sig}
    {sp sp' : Space} {s s' : Shape} {e₁ e₂ : EltTy} {src : Memref sig .tc sp' s' e₂} {dst : Memref sig .tc sp s e₁}
    {hsrc : src.view.WordExact} {hdst : dst.view.WordExact}
    {sq sq' : Space} {z z' : Shape} {e₃ e₄ : EltTy} {src' : Memref sig .tc sq' z' e₄} {dst' : Memref sig .tc sq z e₃}
    {hsrc' : src'.view.WordExact} {hdst' : dst'.view.WordExact}
    {t : Prog (TpuEff nD τ sig (Elt F) Λ₀ .tc) γ} {k : γ → Prog (TpuEff nD τ sig (Elt F) Λ₀ .tc) α}
    (hn : n < 32) (hc : cnd = 1#1 ↔ c.val ≠ n) (hs : SemLoc.dma sem = csem (.inr (0, ⟨n, hn⟩))) (hN : dst.view.dmaCredit = amtOf (some (.inr (0, ⟨n, hn⟩))))
    (hs' : SemLoc.dma sem' = csem (.inr (2, ⟨n, hn⟩))) (hN' : dst'.view.dmaCredit = amtOf (some (.inr (2, ⟨n, hn⟩))))
    (H : Run c iprop(Bs m K c ∗ (owesS c 32 32 32 e ∗ X) ∗ WT m c 0 (n + 1) ∗ WT m c 2 (n + 1) ∗ R) (t >>= k) Q) :
    Run c iprop(Bs m K c ∗ (owesS c 32 32 32 e ∗ X) ∗ WT m c 0 n ∗ WT m c 2 n ∗ R)
      ((if h : cnd = 1#1 then (Prog.lift (.waitDma2 sem src dst hsrc hdst) >>= fun _ => Prog.lift (.waitDma2 sem' src' dst' hsrc' hdst') >>= fun _ => t) else t) >>= k) Q := by
  obtain ⟨j, hj⟩ : ∃ j : Dev nD, j = ⟨n, hn⟩ := ⟨_, rfl⟩
  have hjn : j.val = n := by rw [hj]
  rw [← hj] at hs hN hs' hN'
  subst hjn
  refine ⟨?_⟩
  by_cases h : cnd = 1#1
  · rw [dif_pos h]
    have hjc : j ≠ c := fun e => hc.1 h (by rw [e])
    rw [show ∀ A B : TpuEff nD τ sig (Elt F) Λ₀ .tc PUnit, ((Prog.lift A >>= fun _ => Prog.lift B >>= fun _ => t) >>= k : Prog (TpuEff nD τ sig (Elt F) Λ₀ .tc) α)
      = .op A fun _ => .op B fun _ => t >>= k from fun _ _ => rfl]
    unfold Bs
    iintro ⟨⟨#HC, Hs⟩, ⟨HO, HX⟩, HW, HV, HR⟩
    iapply (wp_WT (m := m) (K := K) 0 hjc hs hN ⟨le_rfl, le_rfl, Or.inr le_rfl⟩) $$ [HO HW]
    · isplitr; · iexact HC
      isplitl [HO] <;> iassumption
    iintro ⟨HO, HW⟩
    iapply (wp_WT (m := m) (K := K) 2 hjc hs' hN' ⟨le_rfl, le_rfl, Or.inr le_rfl⟩) $$ [HO HV]
    · isplitr; · iexact HC
      isplitl [HO] <;> iassumption
    iintro ⟨HO, HV⟩
    iapply H.go
    unfold Bs
    isplitl [Hs]
    · isplitr; · iexact HC
      iexact Hs
    isplitl [HO HX]
    · isplitl [HO] <;> iassumption
    isplitl [HW]; · iassumption
    isplitl [HV] <;> iassumption
  · rw [dif_neg h]
    have hcn : c.val = j.val := by by_contra e; exact h (hc.2 e)
    rw [WT_self (i := 0) hcn, WT_self (i := 2) hcn]; exact H.go

/-! ## Combining what was received -/

/-- Different rows of a 32 × 8 × 128 buffer have no element in common. -/
theorem rset1_disjoint : ∀ t ∈ (Finset.univ : Finset (Dev nD)), ∀ t' ∈ (Finset.univ : Finset (Dev nD)), t ≠ t' → Disjoint (rset1 t.val) (rset1 t'.val) :=
  fun t _ t' _ h => Finset.disjoint_left.2 fun i hi hi' => h (Fin.ext ((mem_rset1.1 hi).symm.trans (mem_rset1.1 hi')))
/-- Different rows of a 32 × 8 × 64 buffer have no element in common. -/
theorem rset2_disjoint : ∀ t ∈ (Finset.univ : Finset (Dev nD)), ∀ t' ∈ (Finset.univ : Finset (Dev nD)), t ≠ t' → Disjoint (rset2 t.val) (rset2 t'.val) :=
  fun t _ t' _ h => Finset.disjoint_left.2 fun i hi hi' => h (Fin.ext ((mem_rset2.1 hi).symm.trans (mem_rset2.1 hi')))
/-- The rows of a 32 × 8 × 128 buffer are all of it. -/
theorem rset1_all : (Finset.univ : Finset (Dev nD)).biUnion (fun t => rset1 t.val) = Finset.univ :=
  Finset.eq_univ_iff_forall.2 fun i => Finset.mem_biUnion.2 ⟨⟨(i 0).val, (i 0).isLt⟩, Finset.mem_univ _, mem_rset1.2 rfl⟩
/-- The rows of a 32 × 8 × 64 buffer are all of it. -/
theorem rset2_all : (Finset.univ : Finset (Dev nD)).biUnion (fun t => rset2 t.val) = Finset.univ :=
  Finset.eq_univ_iff_forall.2 fun i => Finset.mem_biUnion.2 ⟨⟨(i 0).val, (i 0).isLt⟩, Finset.mem_univ _, mem_rset2.2 rfl⟩

/-- All 32 rows of `inbox1`, each holding its sender's row, are the buffer holding `canon` at its 66 lanes. -/
theorem join1 : bigSep Finset.univ (fun p : Dev nD => iprop(∃ f, ⌜InOK m c p f⌝ ∗ inR c p f))
    ⊢ (iprop(∃ f : S32x8x128.Idx → Elt F .f32, ⌜k0_pay247 f = k0_pay247 (canon m c)⌝ ∗ (((c : Thread nD τ).loc cc0_scratch1) ↦{fullShare} f)) : sProp (MT nD τ sig Unit (Elt F) ℕ UU ℕ)) := by
  haveI : Nonempty (S32x8x128.Idx → Elt F .f32) := ⟨canon m c⟩
  iintro H
  ihave H := (bigSep_exists_pi (Y := fun _ : Dev nD => S32x8x128.Idx → Elt F .f32) Finset.univ (fun (p : Dev nD) (f : S32x8x128.Idx → Elt F .f32) => iprop(⌜InOK m c p f⌝ ∗ inR c p f))) $$ H
  icases H with ⟨%fs, H⟩
  ihave H := (bigSep_pure_sep Finset.univ (fun p : Dev nD => InOK m c p (fs p)) (fun p : Dev nD => inR c p (fs p))) $$ H
  icases H with ⟨%hp, H⟩
  unfold inR
  ihave H := (pointsTo_biUnion_join (ℓ := (c : Thread nD τ).loc cc0_scratch1) (q := fullShare) Finset.univ (fun t : Dev nD => rset1 t.val) fs (canon m c) rset1_disjoint) $$ H
  icases H with ⟨%g, %hg, H⟩
  iexists g
  isplitr
  · ipureintro
    refine pay247_congr fun j b l hl => ?_
    rw [hg j (Finset.mem_univ _) (ix3 j b l) (mem_rset1.2 rfl)]
    exact hp j (Finset.mem_univ _) b l hl
  rw [rset1_all]; iexact H

/-! ## The first exchange's end and the second exchange -/

/-- Left of the first exchange: the device's own row of `cur`, the credits of its sends, `inbox1`, the receive cells' positions. -/
def T1 (c : Dev nD) : sProp (MT nD τ sig Unit (Elt F) ℕ UU ℕ) :=
  iprop((∃ f, curR c c f) ∗ bigSep (pl c 32) (fun j => cred (tallyAt (kcell (c, .inr (0, j))) () N1))
    ∗ (∃ f, ((c : Thread nD τ).loc cc0_scratch1) ↦{fullShare} f)
    ∗ bigSep (pl c 32) (fun j => atPos ER (kcell (c, .inr (1, j))) (0 + 1) ∅ 0))

/-- What holds at `c` and at its peers holds at all devices. -/
theorem bigSep_whole (Φ : Dev nD → sProp (MT nD τ sig Unit (Elt F) ℕ UU ℕ)) : iprop(Φ c ∗ bigSep (Finset.univ.erase c) Φ) ⊢ bigSep Finset.univ Φ :=
  Entails.of_eq (bigSep_erase (Finset.mem_univ c) (Φ := Φ)).symm

/-- After the first exchange's waits the device has its whole first inbox, holding the senders' rows. -/
theorem gather1 : iprop(P2 m c 96 32 32 ∗ WT m c 1 32)
    ⊢ iprop(owesS c 32 32 0 0 ∗ (∃ f : S32x8x128.Idx → Elt F .f32, ⌜k0_pay247 f = k0_pay247 (canon m c)⌝ ∗ (((c : Thread nD τ).loc cc0_scratch1) ↦{fullShare} f))
      ∗ (∃ f, curR c c f) ∗ bigSep (pl c 32) (fun j => cred (tallyAt (kcell (c, .inr (0, j))) () N1))
      ∗ bigSep (pl c 32) (fun j => atPos ER (kcell (c, .inr (1, j))) (0 + 1) ∅ 0)) := by
  unfold P2 WT
  rw [pf_end, ow_end, bigSep_singleton, pl_end]
  iintro ⟨⟨HO, ⟨%fc, -, Hc⟩, -, Hcr, ⟨%fi, %hfi, Hi⟩⟩, -, HW⟩
  ihave HW := (Entails.of_eq (bigSep_sep' _ _ _)) $$ HW
  icases HW with ⟨Hat, Hp⟩
  ihave Hall := (join1 (m := m) (c := c)) $$ [Hi Hp]
  · iapply (bigSep_whole (F := F) (c := c) (fun p : Dev nD => iprop(∃ f, ⌜InOK m c p f⌝ ∗ inR c p f)))
    isplitl [Hi]
    · iexists fi
      isplitr; · ipureintro; exact hfi c.isLt
      iexact Hi
    iapply (Entails.of_eq (bigSep_congr (s := Finset.univ.erase c) fun j _ => pay_recv1 m c j j))
    iexact Hp
  isplitl [HO]; · iexact HO
  isplitl [Hall]; · iexact Hall
  isplitl [Hc]; · iexists fc; iexact Hc
  isplitl [Hcr]; · iexact Hcr
  iexact Hat

/-- The load of all of `inbox1`: what the combination reads of it is `canon`. -/
theorem st_ldIn {inb hl} {f : Vec F S32x8x128 .f32 → Prog (TpuEff nD τ sig (Elt F) Λ₀ .tc) γ} {k : γ → Prog (TpuEff nD τ sig (Elt F) Λ₀ .tc) α}
    (H : ∀ v, k0_pay247 v = k0_pay247 (canon m c) → Run c iprop(Bs m K c ∗ owesS c 32 32 0 0 ∗ T1 c ∗ R) (f v >>= k) Q) :
    Run c iprop(Bs m K c ∗ P2 m c 96 32 32 ∗ WT m c 1 32 ∗ R)
      ((Prog.lift (.load iM (Rect.unit (s := S32x8x128) ![0, 0, 0] S32x8x128.size inb).toLoadRect hl) >>= f) >>= k) Q := by
  refine ⟨?_⟩
  rw [show ((Prog.lift (.load iM (Rect.unit (s := S32x8x128) ![0, 0, 0] S32x8x128.size inb).toLoadRect hl) >>= f) >>= k : Prog (TpuEff nD τ sig (Elt F) Λ₀ .tc) α)
    = .op (.load iM (Rect.unit (s := S32x8x128) ![0, 0, 0] S32x8x128.size inb).toLoadRect hl) fun x => f x >>= k from rfl]
  iintro ⟨HB, HP, HW, HR⟩
  ihave HG := (gather1 (m := m) (c := c)) $$ [HP HW]
  · isplitl [HP] <;> iassumption
  icases HG with ⟨HO, ⟨%g, %hg, Hi⟩, Hc, Hcr, Hat⟩
  iapply (wp_load 𝒱₀ (c : Thread nD τ) none Set.univ (m := iM) (r := (Rect.unit (s := S32x8x128) ![0, 0, 0] S32x8x128.size inb).toLoadRect) (Finset.subset_univ _)) $$ Hi
  iintro Hi
  have hv : k0_pay247 (iM.view.readAt (Elt F) (Rect.unit (s := S32x8x128) ![0, 0, 0] S32x8x128.size inb).toLoadRect g) = k0_pay247 (canon m c) := by
    rw [← hg]; congr 1
    exact Memref.readAt_unit_zero (Elt F) cc0_scratch1 (by funext a; fin_cases a <;> rfl) inb g
  iapply (H _ hv).go
  isplitl [HB]; · iexact HB
  isplitl [HO]; · iexact HO
  isplitr [HR]
  · unfold T1
    isplitl [Hc]; · iexact Hc
    isplitl [Hcr]; · iexact Hcr
    isplitl [Hi]; · iexists g; iexact Hi
    iexact Hat
  iexact HR

/-- The second exchange: the copies to the devices below `p` are started; below `q` the device has kept its own row. -/
def P4 (m : (ℓ : Loc nD τ sig) → Buf (Elt F) ℓ) (c : Dev nD) (p q : ℕ) : sProp (MT nD τ sig Unit (Elt F) ℕ UU ℕ) :=
  iprop(owesS c 32 32 p 0 ∗ bigSep (ow c p) (fun j => resR m c j)
    ∗ bigSep (pf c p) (fun j => iprop(dutyTok ER (kcell (c, .inr (2, j))) 0 j ∗ dutyTok ER (kcell (j, .inr (3, c))) 0 c ∗ ∃ f, gR j c f))
    ∗ bigSep (pl c p) (fun j => cred (tallyAt (kcell (c, .inr (2, j))) () N2))
    ∗ ∃ f, ⌜c.val < q → GOK m c f⌝ ∗ gR c c f)

/-- What the second exchange starts from, besides `res`. -/
def G0 (c : Dev nD) : sProp (MT nD τ sig Unit (Elt F) ℕ UU ℕ) :=
  iprop(bigSep (pf c 0) (fun j => iprop(dutyTok ER (kcell (c, .inr (2, j))) 0 j ∗ dutyTok ER (kcell (j, .inr (3, c))) 0 c ∗ ∃ f, gR j c f))
    ∗ ∃ f, gR c c f)

/-- The result's buffer is cut into 32 shares, one for each copy. -/
theorem res_leaves : ((((c : Thread nD τ).loc cc0_scratch2) ↦{fullShare} resVal m c) : sProp (MT nD τ sig Unit (Elt F) ℕ UU ℕ))
    = bigSep Finset.univ (fun j : Dev nD => resR m c j) :=
  ShareLeaves.pointsTo_leaves (ℓ := (c : Thread nD τ).loc cc0_scratch2) Finset.univ (resVal m c) 5 fullShare

/-- The store of the combined result, after a load whose value is not used. -/
theorem st_res {i1 i2 h1 hx hm} {w : Vec F S8x64 .f32} {f : PUnit → Prog (TpuEff nD τ sig (Elt F) Λ₀ .tc) γ} {k : γ → Prog (TpuEff nD τ sig (Elt F) Λ₀ .tc) α}
    (hw : w = resVal m c) (H : Run c iprop(Bs m K c ∗ P4 m c 0 0 ∗ R) (f ⟨⟩ >>= k) Q) :
    Run c iprop(Bs m K c ∗ owesS c 32 32 0 0 ∗ ((∃ f, ((c : Thread nD τ).loc cc0_scratch2) ↦{fullShare} f) ∗ G0 c) ∗ R)
      ((Prog.lift (.load rM (Rect.unit (s := S8x64) ![0, 0] S8x64.size i1).toLoadRect h1) >>= fun _ =>
        Prog.lift (.store rM (Rect.unit (s := S8x64) ![0, 0] S8x64.size i2) w Finset.univ hx hm) >>= f) >>= k) Q := by
  subst hw
  refine ⟨?_⟩
  rw [show ((Prog.lift (.load rM (Rect.unit (s := S8x64) ![0, 0] S8x64.size i1).toLoadRect h1) >>= fun _ =>
        Prog.lift (.store rM (Rect.unit (s := S8x64) ![0, 0] S8x64.size i2) (resVal m c) Finset.univ hx hm) >>= f) >>= k : Prog (TpuEff nD τ sig (Elt F) Λ₀ .tc) α)
    = .op (.load rM (Rect.unit (s := S8x64) ![0, 0] S8x64.size i1).toLoadRect h1) fun _ =>
      .op (.store rM (Rect.unit (s := S8x64) ![0, 0] S8x64.size i2) (resVal m c) Finset.univ hx hm) fun x => f x >>= k from rfl]
  iintro ⟨HB, HO, ⟨⟨%g, Hr⟩, HG⟩, HR⟩
  iapply (wp_load 𝒱₀ (c : Thread nD τ) none Set.univ (m := rM) (r := (Rect.unit (s := S8x64) ![0, 0] S8x64.size i1).toLoadRect) (Finset.subset_univ _)) $$ Hr
  iintro Hr
  iapply (wp_store 𝒱₀ (c : Thread nD τ) none Set.univ (m := rM) (r := Rect.unit (s := S8x64) ![0, 0] S8x64.size i2) (Mk := Finset.univ) (S := Finset.univ) (Finset.subset_univ _)) $$ Hr
  iintro Hr
  beta_reduce
  rw [show (rM.access (Rect.unit (s := S8x64) ![0, 0] S8x64.size i2)).write (Elt F) g (resVal m c) Finset.univ = resVal m c from
        Memref.write_access_unit_zero_univ (Elt F) cc0_scratch2 (by funext a; fin_cases a <;> rfl) i2 g (resVal m c)]
  ihave Hr := (Entails.of_eq (res_leaves (F := F) (m := m) (c := c))) $$ Hr
  iapply H.go
  isplitl [HB]; · iexact HB
  isplitr [HR]
  · unfold P4 G0
    rw [ow_zero, pl_zero]
    icases HG with ⟨Htok, ⟨%fg, Hg⟩⟩
    isplitl [HO]; · iexact HO
    isplitl [Hr]; · iexact Hr
    isplitl [Htok]; · iexact Htok
    isplitr
    · rw [bigSep_empty]; iempintro
    iexists fg
    isplitr; · ipureintro; exact fun h => absurd h (Nat.not_lt_zero _)
    iexact Hg
  iexact HR

/-- `res` lands as row `c` of device `j`'s `inbox2`. -/
theorem wp_send2 {j : Dev nD} (hjc : j ≠ c) {sS sem : SemLoc sig} (h1 : sS = csem (.inr (2, j))) (h2 : sem = csem (.inr (3, c)))
    {hsc : (row2 gM c : Memref sig (Dev.tc j : Thread nD τ).2.kind .vmem S8x64 .f32).view.ref.isScScratch = false}
    {hsrc : (rM : Memref sig .tc .vmem S8x64 .f32).view.WordExact} {hdst : (row2 gM c).view.WordExact}
    {hsem : DmaTarget.Typed .vmem sem (.remote (Dev.tc j : Thread nD τ) (row2 gM c : Memref sig (Dev.tc j : Thread nD τ).2.kind .vmem S8x64 .f32) sS hsc)}
    {fd : S32x8x64.Idx → Elt F .f32} (W : Waits sig Unit)
    {k : PUnit → Prog (TpuEff nD τ sig (Elt F) Λ₀ .tc) α} :
    iprop(cellInv ER (Rd m) (K (c, .inr (2, j))) (kcell (c, .inr (2, j))) ∗ cellInv ER (Rd m) (K (j, .inr (3, c))) (kcell (j, .inr (3, c)))
        ∗ resR m c j ∗ gR j c fd ∗ owes (c : Thread nD τ) (obl c 32 32 j.val 0) W
        ∗ dutyTok ER (kcell (c, .inr (2, j))) 0 j ∗ reached ER (kcell (c, .inr (2, j))) 0
        ∗ dutyTok ER (kcell (j, .inr (3, c))) 0 c ∗ reached ER (kcell (j, .inr (3, c))) 0)
      ⊢ iprop(((cred (tallyAt (kcell (c, .inr (2, j))) () N2) ∗ owes (c : Thread nD τ) (obl c 32 32 (j.val + 1) 0) W) -∗ wpc c (k ⟨⟩) Q)
          -∗ wpc c (.op (.enqueueDma rM (.remote (Dev.tc j : Thread nD τ) (row2 gM c) sS hsc) sem hsrc hdst hsem) k) Q) := by
  subst h1; subst h2
  have e1 : resR m c j = ((rM : Memref sig .tc .vmem S8x64 .f32).view.loc (c : Thread nD τ) ↦[(rM : Memref sig .tc .vmem S8x64 .f32).view.set]{ShareLeaves.leaf 5 fullShare j} resVal m c : sProp (MT nD τ sig Unit (Elt F) ℕ UU ℕ)) := by
    rw [show (rM : Memref sig .tc .vmem S8x64 .f32).view.set = Finset.univ from View.set_whole _]; rfl
  have e2 : gR j c fd = ((row2 gM c).view.loc (j : Thread nD τ) ↦[(row2 gM c).view.set]{fullShare} fd : sProp (MT nD τ sig Unit (Elt F) ℕ UU ℕ)) := by
    rw [row2_set_g]; rfl
  have e3 : (row2 gM c).view.amount (csem (.inr (3, c))) = N2 := rfl
  have a1 := mem_duties_dma m c 2 j hjc
  have a2 := mem_duties_dma m j 3 c hjc.symm
  have a3 : (Rd m).amount ((c : Thread nD τ), csem (.inr (2, j))) 0 j = N2 := amount_at m c (.inr (2, j)) j
  have a4 : (Rd m).amount ((j : Thread nD τ), csem (.inr (3, c))) 0 c = N2 := amount_at m j (.inr (3, c)) c
  have a5 : obl c 32 32 j.val 0 = obl c 32 32 (j.val + 1) 0 + tallyAt ((j : Thread nD τ), csem (.inr (3, c))) () N2 := obl_d hjc 32 32 0
  rw [e1, e2]
  have hp1 : ((rM : Memref sig .tc .vmem S8x64 .f32).view.loc (c : Thread nD τ) ↦[(rM : Memref sig .tc .vmem S8x64 .f32).view.set]{ShareLeaves.leaf 5 fullShare j} resVal m c)
      ⊢ (Rd m).payload ((c : Thread nD τ), csem (.inr (2, j))) 0 j := by
    rw [payload_at, pay_send2, ← e1]
  have hp2 : ((row2 gM c).view.loc (j : Thread nD τ) ↦[(row2 gM c).view.set]{fullShare} (row2 gM c).view.write (Elt F) fd ((rM : Memref sig .tc .vmem S8x64 .f32).view.read (Elt F) (resVal m c)) Finset.univ)
      ⊢ (Rd m).payload ((j : Thread nD τ), csem (.inr (3, c))) 0 c := by
    rw [payload_at, pay_recv2, row2_set_g]; unfold gR
    iintro H; iexists _
    isplitr; · ipureintro; exact fun b l => landed2 c fd (resVal m c) b l
    iexact H
  exact Rounds.wp_send_pointsTo 𝒱₀ ER (Rd m) (c : Thread nD τ) none (c' := (j : Thread nD τ)) (src := rM) (dst := row2 gM c) (κ₁ := K (c, .inr (2, j))) (κ₂ := K (j, .inr (3, c)))
    (sS := csem (.inr (2, j))) (sem := csem (.inr (3, c))) (hsc := hsc) (hsrc := hsrc) (hdst := hdst) (hsem := hsem) (k := k) (Q := Q) (fs := resVal m c) (Es := Set.univ) (q := ShareLeaves.leaf 5 fullShare j)
    (r₁ := 0) (r₂ := 0) (d₁ := j) (d₂ := c) (fd := fd) a1 a2 () () N2 e3 a3 a4 (obl c 32 32 (j.val + 1) 0) a5 (W := W) hp1 hp2

/-- The send of the result to device `p` (none to itself). -/
theorem st_send2 {p q : ℕ} {cnd : BitVec 1} {dv : cnd = 1#1 → Dev nD} {oA : Fin 1 → ℕ} {oB : Fin 3 → ℕ}
    {i2} {iA : cnd = 1#1 → ∀ a, oA a + S1.size a ≤ S32.size a} {iB : cnd = 1#1 → ∀ a, oB a + S1x8x64.size a ≤ S32x8x64.size a}
    {w0 : ∀ h : cnd = 1#1, (((gM.slice (Rect.unit (s := S32x8x64) oB S1x8x64.size (iB h)) (fun _ => rfl)).squeeze S8x64 squeezes_S1x8x64_S8x64 : Memref sig .tc .vmem S8x64 .f32)).view.ref.isScScratch = false}
    {w1 : cnd = 1#1 → (rM : Memref sig .tc .vmem S8x64 .f32).view.WordExact}
    {w2 : ∀ h : cnd = 1#1, ((gM.slice (Rect.unit (s := S32x8x64) oB S1x8x64.size (iB h)) (fun _ => rfl)).squeeze S8x64 squeezes_S1x8x64_S8x64).view.WordExact}
    {w3 : ∀ h : cnd = 1#1, DmaTarget.Typed .vmem (.dma (((cc0_scratch7 : DmaSems sig S32).slice (Rect.unit (s := S32) oA S1.size (iA h))).squeeze S_ squeezes_S1_S_).sem)
      (.remote (Dev.tc (dv h)) ((gM.slice (Rect.unit (s := S32x8x64) oB S1x8x64.size (iB h)) (fun _ => rfl)).squeeze S8x64 squeezes_S1x8x64_S8x64 : Memref sig (Dev.tc (dv h) : Thread nD τ).2.kind .vmem S8x64 .f32)
        (.dma (((cc0_scratch6 : DmaSems sig S32).slice (Rect.unit (s := S32) ![p] S1.size i2)).squeeze S_ squeezes_S1_S_).sem) (w0 h))}
    {t : Prog (TpuEff nD τ sig (Elt F) Λ₀ .tc) γ} {k : γ → Prog (TpuEff nD τ sig (Elt F) Λ₀ .tc) α}
    (hp : p < 32) (hc : cnd = 1#1 ↔ c.val ≠ p) (hd : ∀ h, (dv h).val = p) (hA : oA = ![c.val]) (hB : oB = ![c.val, 0, 0])
    (H : Run c iprop(Bs m K c ∗ P4 m c (p + 1) q ∗ R) (t >>= k) Q) :
    Run c iprop(Bs m K c ∗ P4 m c p q ∗ R) ((if h : cnd = 1#1 then (Prog.lift (.enqueueDma rM
      (.remote (Dev.tc (dv h)) ((gM.slice (Rect.unit (s := S32x8x64) oB S1x8x64.size (iB h)) (fun _ => rfl)).squeeze S8x64 squeezes_S1x8x64_S8x64)
        (.dma (((cc0_scratch6 : DmaSems sig S32).slice (Rect.unit (s := S32) ![p] S1.size i2)).squeeze S_ squeezes_S1_S_).sem) (w0 h))
      (.dma (((cc0_scratch7 : DmaSems sig S32).slice (Rect.unit (s := S32) oA S1.size (iA h))).squeeze S_ squeezes_S1_S_).sem) (w1 h) (w2 h) (w3 h)) >>= fun _ => t) else t) >>= k) Q := by
  subst hA; subst hB
  refine ⟨?_⟩
  by_cases h : cnd = 1#1
  · rw [dif_pos h]
    have hn' : (dv h).val = p := hd h
    have hcp := hc.1 h
    generalize iA h = iA'; generalize iB h = iB'; generalize w3 h = w3'; generalize w2 h = w2'; generalize w1 h = w1'; generalize w0 h = w0'
    revert w0' w1' w2' w3'
    generalize dv h = j at hn'
    intro w0' w1' w2' w3'
    subst hn'
    have hjc : j ≠ c := fun e => hcp (by rw [e])
    rw [show ∀ A : TpuEff nD τ sig (Elt F) Λ₀ .tc PUnit, ((Prog.lift A >>= fun _ => t) >>= k : Prog (TpuEff nD τ sig (Elt F) Λ₀ .tc) α) = .op A fun _ => t >>= k from fun _ => rfl]
    iintro ⟨HB, HP, HR⟩
    unfold P4 owesS
    rw [pf_peel _ hjc, ow_peel _ hjc]
    icases HP with ⟨⟨%W, HO⟩, ⟨Hc, Hrows⟩, ⟨⟨Ht1, Ht2, ⟨%fd, Hi⟩⟩, Htok⟩, Hcr, Hown⟩
    unfold Bs ctx
    icases HB with ⟨⟨#HI, #Hrch, #Hlev⟩, Hs⟩
    iapply (wp_send2 (m := m) (K := K) hjc (sem_send2 j.val j.isLt i2) (sem_recv2 c.val c.isLt iA') (fd := fd) W) $$ [Hc Hi HO Ht1 Ht2]
    · isplitr; · iapply (inv_at m K (c, .inr (2, j))); iexact HI
      isplitr; · iapply (inv_at m K (j, .inr (3, c))); iexact HI
      isplitl [Hc]; · iexact Hc
      isplitl [Hi]; · iexact Hi
      isplitl [HO]; · iexact HO
      isplitl [Ht1]; · iexact Ht1
      isplitr; · iapply (reached_at (F := F) (c, .inr (2, j))); iexact Hrch
      isplitl [Ht2]; · iexact Ht2
      iapply (reached_at (F := F) (j, .inr (3, c))); iexact Hrch
    iintro ⟨Hcr1, HO⟩
    iapply H.go
    unfold Bs ctx P4 owesS
    rw [pl_push _ hjc]
    isplitl [Hs]
    · isplitr
      · isplitr; · iexact HI
        isplitr; · iexact Hrch
        iexact Hlev
      iexact Hs
    isplitr [HR]
    · isplitl [HO]; · iexists W; iexact HO
      isplitl [Hrows]; · iexact Hrows
      isplitl [Htok]; · iexact Htok
      isplitl [Hcr Hcr1]
      · isplitl [Hcr1]; · iexact Hcr1
        iexact Hcr
      iexact Hown
    iexact HR
  · rw [dif_neg h]
    have hcn : c.val = p := by by_contra e; exact h (hc.2 e)
    subst hcn
    have e1 : P4 m c c.val q = P4 m c (c.val + 1) q := by unfold P4 owesS obl; rw [pf_self rfl, ow_self rfl, pl_self rfl]
    rw [e1]; exact H.go

/-! ## Keeping the device's own result -/

/-- An element of a stored row, in the second inbox. -/
theorem rowG_emb {j : ℕ} (inb) (hj : j < 32) (b : Fin 8) (x : Fin 64) :
    (Rect.unit (s := S32x8x64) ![j, 0, 0] S1x8x64.size inb).emb (ix3 (0 : Fin 1) b x) = ix3 (⟨j, hj⟩ : Fin 32) b x := by
  funext a; apply Fin.ext; rw [ValueKit.rect_emb_unit_val]
  fin_cases a
  · exact Nat.add_zero _
  · exact Nat.zero_add _
  · exact Nat.zero_add _

/-- The device's own row of the second inbox holds its result. -/
theorem own_res (i3) (fg : S32x8x64.Idx → Elt F .f32) {w : Vec F S1x8x64 .f32} (hw : w = resRow m c) :
    GOK m c ((gM.access (Rect.unit (s := S32x8x64) ![c.val, 0, 0] S1x8x64.size i3)).write (Elt F) fg w Finset.univ) := fun b l => by
  subst hw
  have h1 := View.write_emb_of_mem (Val := Elt F) (v := gM.access (Rect.unit (s := S32x8x64) ![c.val, 0, 0] S1x8x64.size i3)) fg (resRow m c) (Finset.mem_univ (ix3 (0 : Fin 1) b l))
  have e : (gM.access (Rect.unit (s := S32x8x64) ![c.val, 0, 0] S1x8x64.size i3)).emb (ix3 (0 : Fin 1) b l) = ix3 c b l := rowG_emb i3 c.isLt b l
  rw [e] at h1; exact h1

/-- The copy of the result into the device's own `inbox2`, on device `q` alone. -/
theorem st_loc2 {p q : ℕ} {cnd : BitVec 1} {oB : Fin 3 → ℕ} {i1} {i2 i3 : cnd = 1#1 → ∀ a, oB a + S1x8x64.size a ≤ S32x8x64.size a} {h1}
    {h2 : ∀ h : cnd = 1#1, (gM : Memref sig .tc .vmem S32x8x64 .f32).view.LoadsAt (Rect.unit (s := S32x8x64) oB S1x8x64.size (i2 h)).toLoadRect}
    {w : Vec F S8x64 .f32 → Vec F S1x8x64 .f32}
    {hx : ∀ h : cnd = 1#1, (gM.access (Rect.unit (s := S32x8x64) oB S1x8x64.size (i3 h)) : View sig .tc .vmem _ _).Stores Finset.univ}
    {hm : ∀ h : cnd = 1#1, (Finset.univ : Finset (Rect.unit (s := S32x8x64) oB S1x8x64.size (i3 h)).shape.Idx) = Finset.univ ∨ ∀ a, (Rect.unit (s := S32x8x64) oB S1x8x64.size (i3 h)).stride a = 1}
    {t : Prog (TpuEff nD τ sig (Elt F) Λ₀ .tc) γ} {k : γ → Prog (TpuEff nD τ sig (Elt F) Λ₀ .tc) α}
    (hc : cnd = 1#1 ↔ c.val = q) (hB : oB = ![c.val, 0, 0]) (hw : w (resVal m c) = resRow m c)
    (H : Run c iprop(Bs m K c ∗ P4 m c p (q + 1) ∗ R) (t >>= k) Q) :
    Run c iprop(Bs m K c ∗ P4 m c p q ∗ R) ((if h : cnd = 1#1 then
      (Prog.lift (.load rM (Rect.unit (s := S8x64) ![0, 0] S8x64.size i1).toLoadRect h1) >>= fun v =>
        Prog.lift (.load gM (Rect.unit (s := S32x8x64) oB S1x8x64.size (i2 h)).toLoadRect (h2 h)) >>= fun _ =>
        Prog.lift (.store gM (Rect.unit (s := S32x8x64) oB S1x8x64.size (i3 h)) (w v) Finset.univ (hx h) (hm h)) >>= fun _ => t) else t) >>= k) Q := by
  subst hB
  refine ⟨?_⟩
  by_cases h : cnd = 1#1
  · rw [dif_pos h]
    have hcq := hc.1 h
    subst hcq
    generalize hx h = hx'; generalize hm h = hm'; generalize h2 h = h2'
    revert h2' hx' hm'
    generalize i2 h = i2'; generalize i3 h = i3'
    intro hx' hm' h2'
    rw [show ((Prog.lift (.load rM (Rect.unit (s := S8x64) ![0, 0] S8x64.size i1).toLoadRect h1) >>= fun v =>
        Prog.lift (.load gM (Rect.unit (s := S32x8x64) ![c.val, 0, 0] S1x8x64.size i2').toLoadRect h2') >>= fun _ =>
        Prog.lift (.store gM (Rect.unit (s := S32x8x64) ![c.val, 0, 0] S1x8x64.size i3') (w v) Finset.univ hx' hm') >>= fun _ => t) >>= k : Prog (TpuEff nD τ sig (Elt F) Λ₀ .tc) α)
      = .op (.load rM (Rect.unit (s := S8x64) ![0, 0] S8x64.size i1).toLoadRect h1) fun v =>
        .op (.load gM (Rect.unit (s := S32x8x64) ![c.val, 0, 0] S1x8x64.size i2').toLoadRect h2') fun _ =>
        .op (.store gM (Rect.unit (s := S32x8x64) ![c.val, 0, 0] S1x8x64.size i3') (w v) Finset.univ hx' hm') fun _ => t >>= k from rfl]
    iintro ⟨HB, HP, HR⟩
    unfold P4
    icases HP with ⟨HO, Hrows, Htok, Hcr, ⟨%fg, -, Hg⟩⟩
    ihave Hr := (bigSep_upd (fun j : Dev nD => resR m c j) (fun j : Dev nD => resR m c j)
      (S := ow c p) (j := c) (mem_ow.2 (Or.inr rfl)) fun i _ _ => rfl) $$ Hrows
    icases Hr with ⟨Hc, Hback⟩
    unfold gR
    ihave Hc := (Entails.of_eq (show resR m c c = ((((c : Thread nD τ).loc cc0_scratch2) ↦[Finset.univ]{ShareLeaves.leaf 5 fullShare c} resVal m c) : sProp (MT nD τ sig Unit (Elt F) ℕ UU ℕ)) from rfl)) $$ Hc
    iapply (wp_load 𝒱₀ (c : Thread nD τ) none Set.univ (m := rM) (r := (Rect.unit (s := S8x64) ![0, 0] S8x64.size i1).toLoadRect) (Finset.subset_univ _)) $$ Hc
    iintro Hc
    iapply (wp_load_rect 𝒱₀ (c : Thread nD τ) none Set.univ (m := gM) (r := Rect.unit (s := S32x8x64) ![c.val, 0, 0] S1x8x64.size i2')
      ((View.set_slice_whole _ _).trans_subset (rect_sub_rset2 (j := c.val) i2' rfl rfl))) $$ Hg
    iintro Hg
    iapply (wp_store 𝒱₀ (c : Thread nD τ) none Set.univ (m := gM) (r := Rect.unit (s := S32x8x64) ![c.val, 0, 0] S1x8x64.size i3') (Mk := Finset.univ) (S := rset2 c.val)
      ((View.set_slice_whole _ _).trans_subset (rect_sub_rset2 (j := c.val) i3' rfl rfl))) $$ Hg
    iintro Hg
    beta_reduce
    have hwv : w (rM.view.readAt (Elt F) (Rect.unit (s := S8x64) ![0, 0] S8x64.size i1).toLoadRect (resVal m c)) = resRow m c := by
      rw [← hw]; congr 1
      exact Memref.readAt_unit_zero (Elt F) cc0_scratch2 (by funext a; fin_cases a <;> rfl) i1 (resVal m c)
    iapply H.go
    isplitl [HB]; · iexact HB
    isplitr [HR]
    · unfold P4
      isplitl [HO]; · iexact HO
      isplitl [Hback Hc]
      · iapply Hback; unfold resR; iexact Hc
      isplitl [Htok]; · iexact Htok
      isplitl [Hcr]; · iexact Hcr
      iexists _
      isplitr
      · ipureintro
        exact fun _ => own_res i3' fg hwv
      unfold gR; iexact Hg
    iexact HR
  · rw [dif_neg h]
    have hcn : c.val ≠ q := fun e => h (hc.2 e)
    have e1 : P4 m c p q = P4 m c p (q + 1) := by
      unfold P4; rw [show (c.val < q ↔ c.val < q + 1) from ⟨fun h => by omega, fun h => by omega⟩]
    rw [e1]; exact H.go

end Cert.KernelIdeal.Attn

end
-- ==== Proof.Steps4.lean ====
/-
Reading the received results, writing the output, and leaving: the waits for the device's own copies, and the second barrier.
-/
module

public import proofs.«01_k».proof.Proof.Steps3

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-! ## Reading the received results, writing the output -/

/-- A received row, as it is loaded, is the sender's result. -/
theorem row_read {j : Dev nD} (inb) {f : S32x8x64.Idx → Elt F .f32} (hf : GOK m j f) :
    gM.view.readAt (Elt F) (Rect.unit (s := S32x8x64) ![j.val, 0, 0] S1x8x64.size inb).toLoadRect f = resRow m j := by
  funext x
  obtain ⟨b, l, rfl⟩ : ∃ (b : Fin 8) (l : Fin 64), x = ix3 (0 : Fin 1) b l :=
    ⟨x 1, x 2, by rw [← ix3_eta x]; congr 1; exact Subsingleton.elim (α := Fin 1) _ _⟩
  show f ((Rect.unit (s := S32x8x64) ![j.val, 0, 0] S1x8x64.size inb).emb (ix3 (0 : Fin 1) b l)) = _
  rw [rowG_emb inb j.isLt b l]
  exact hf b l

/-- The load of a received result. -/
theorem st_ldG {j r : ℕ} {inb hl} {f : Vec F S1x8x64 .f32 → Prog (TpuEff nD τ sig (Elt F) Λ₀ .tc) γ} {k : γ → Prog (TpuEff nD τ sig (Elt F) Λ₀ .tc) α}
    (hj : j < 32) (hjr : j < r)
    (H : Run c iprop(Bs m K c ∗ P4 m c 32 32 ∗ WT m c 3 r ∗ R) (f (resRow m ⟨j, hj⟩) >>= k) Q) :
    Run c iprop(Bs m K c ∗ P4 m c 32 32 ∗ WT m c 3 r ∗ R)
      ((Prog.lift (.load gM (Rect.unit (s := S32x8x64) ![j, 0, 0] S1x8x64.size inb).toLoadRect hl) >>= f) >>= k) Q := by
  obtain ⟨d, hd⟩ : ∃ d : Dev nD, d = ⟨j, hj⟩ := ⟨_, rfl⟩
  rw [← hd] at H
  have hdj : d.val = j := by rw [hd]
  subst hdj
  refine ⟨?_⟩
  rw [show ((Prog.lift (.load gM (Rect.unit (s := S32x8x64) ![d.val, 0, 0] S1x8x64.size inb).toLoadRect hl) >>= f) >>= k : Prog (TpuEff nD τ sig (Elt F) Λ₀ .tc) α)
    = .op (.load gM (Rect.unit (s := S32x8x64) ![d.val, 0, 0] S1x8x64.size inb).toLoadRect hl) fun x => f x >>= k from rfl]
  iintro ⟨HB, HP, HW, HR⟩
  by_cases hdc : d = c
  · subst hdc
    unfold P4
    icases HP with ⟨HO, Hrows, Htok, Hcr, ⟨%fg, %hfg, Hg⟩⟩
    unfold gR
    iapply (wp_load_rect 𝒱₀ (d : Thread nD τ) none Set.univ (m := gM) (r := Rect.unit (s := S32x8x64) ![d.val, 0, 0] S1x8x64.size inb)
      ((View.set_slice_whole _ _).trans_subset (rect_sub_rset2 (j := d.val) inb rfl rfl))) $$ Hg
    iintro Hg
    have hv : gM.view.readAt (Elt F) (Rect.unit (s := S32x8x64) ![d.val, 0, 0] S1x8x64.size inb).toLoadRect fg = resRow m d := row_read inb (hfg d.isLt)
    have H' := H.go
    rw [← hv] at H'
    iapply H'
    unfold P4 gR
    isplitl [HB]; · iexact HB
    isplitr [HW HR]
    · isplitl [HO]; · iexact HO
      isplitl [Hrows]; · iexact Hrows
      isplitl [Htok]; · iexact Htok
      isplitl [Hcr]; · iexact Hcr
      iexists fg
      isplitr; · ipureintro; exact hfg
      iexact Hg
    isplitl [HW] <;> iassumption
  · unfold WT
    icases HW with ⟨Hf, Hl⟩
    ihave Hl := (bigSep_upd (fun j : Dev nD => iprop(atPos ER (kcell (c, .inr (3, j))) (0 + 1) ∅ 0 ∗ payOf m c (some (.inr (3, j))) j))
      (fun j : Dev nD => iprop(atPos ER (kcell (c, .inr (3, j))) (0 + 1) ∅ 0 ∗ payOf m c (some (.inr (3, j))) j))
      (S := pl c r) (j := d) (mem_pl.2 ⟨hjr, hdc⟩) fun i _ _ => rfl) $$ Hl
    icases Hl with ⟨⟨Hat, Hpay⟩, Hback⟩
    ihave Hpay := (Entails.of_eq (pay_recv2 m c d d)) $$ Hpay
    icases Hpay with ⟨%fg, %hfg, Hg⟩
    unfold gR
    iapply (wp_load_rect 𝒱₀ (c : Thread nD τ) none Set.univ (m := gM) (r := Rect.unit (s := S32x8x64) ![d.val, 0, 0] S1x8x64.size inb)
      ((View.set_slice_whole _ _).trans_subset (rect_sub_rset2 (j := d.val) inb rfl rfl))) $$ Hg
    iintro Hg
    have hv : gM.view.readAt (Elt F) (Rect.unit (s := S32x8x64) ![d.val, 0, 0] S1x8x64.size inb).toLoadRect fg = resRow m d := row_read inb hfg
    have H' := H.go
    rw [← hv] at H'
    iapply H'
    unfold WT
    isplitl [HB]; · iexact HB
    isplitl [HP]; · iexact HP
    isplitr [HR]
    · isplitl [Hf]; · iexact Hf
      iapply Hback
      isplitl [Hat]; · iexact Hat
      iapply (Entails.of_eq (pay_recv2 m c d d).symm)
      iexists fg
      isplitr; · ipureintro; exact hfg
      unfold gR; iexact Hg
    iexact HR

/-- The output block holds the heads below `o`. -/
def Out (m : (ℓ : Loc nD τ sig) → Buf (Elt F) ℓ) (c : Dev nD) (o : ℕ) : sProp (MT nD τ sig Unit (Elt F) ℕ UU ℕ) :=
  iprop(∃ f : S16x1x16x64.Idx → Elt F .f32, ⌜∀ i, (i 2).val < o → f i = outVal m i⌝ ∗ (((c : Thread nD τ).loc cc0_stg5_0) ↦{fullShare} f))

variable {A A' : sProp (MT nD τ sig Unit (Elt F) ℕ UU ℕ)}

/-- A load from the output block, whose value is not used. -/
theorem st_ldO {o : ℕ} {r : LoadRect S16x1x16x64} {hl} {f : Vec F r.shape .f32 → Prog (TpuEff nD τ sig (Elt F) Λ₀ .tc) γ} {k : γ → Prog (TpuEff nD τ sig (Elt F) Λ₀ .tc) α}
    (H : ∀ v, Run c iprop(Bs m K c ∗ A ∗ A' ∗ Out m c o ∗ R) (f v >>= k) Q) :
    Run c iprop(Bs m K c ∗ A ∗ A' ∗ Out m c o ∗ R) ((Prog.lift (.load oM r hl) >>= f) >>= k) Q := by
  refine ⟨?_⟩
  rw [show ((Prog.lift (.load oM r hl) >>= f) >>= k : Prog (TpuEff nD τ sig (Elt F) Λ₀ .tc) α) = .op (.load oM r hl) fun x => f x >>= k from rfl]
  unfold Out
  iintro ⟨HB, HA, HA', ⟨%g, %hg, Ho⟩, HR⟩
  iapply (wp_load 𝒱₀ (c : Thread nD τ) none Set.univ (m := oM) (Finset.subset_univ _)) $$ Ho; iintro Ho
  iapply (H _).go
  unfold Out
  isplitl [HB]; · iexact HB
  isplitl [HA]; · iexact HA
  isplitl [HA']; · iexact HA'
  isplitl [Ho]
  · iexists g
    isplitr; · ipureintro; exact hg
    iexact Ho
  iexact HR

/-- An element of a head, in the output block. -/
theorem head_emb {h : ℕ} (inb) (hh : h < 16) (b : Fin 16) (x : Fin 64) :
    (Rect.unit (s := S16x1x16x64) ![0, 0, h, 0] S16x1x1x64.size inb).emb (ix4 b (0 : Fin 1) (0 : Fin 1) x) = ix4 b (0 : Fin 1) (⟨h, hh⟩ : Fin 16) x := by
  funext a; apply Fin.ext; rw [ValueKit.rect_emb_unit_val]
  fin_cases a
  · exact Nat.zero_add _
  · exact Nat.zero_add _
  · exact Nat.add_zero _
  · exact Nat.zero_add _

/-- After the store of head `o` the output block holds the heads up to `o`. -/
theorem out_store {o : ℕ} (ho : o < 16) (inb) {f : S16x1x16x64.Idx → Elt F .f32} (hf : ∀ i, (i 2).val < o → f i = outVal m i) :
    ∀ i : S16x1x16x64.Idx, (i 2).val < o + 1 → (oM.access (Rect.unit (s := S16x1x16x64) ![0, 0, o, 0] S16x1x1x64.size inb)).write (Elt F) f (outHead m ⟨o, ho⟩) Finset.univ i = outVal m i := by
  intro (i : S16x1x16x64.Idx) hi
  by_cases h : (i 2).val = o
  · have h2 : i 2 = (⟨o, ho⟩ : Fin 16) := Fin.ext h
    have e0 : i = ix4 (i 0) (0 : Fin 1) (⟨o, ho⟩ : Fin 16) (i 3) := by
      funext a; fin_cases a
      · rfl
      · exact Subsingleton.elim (α := Fin 1) _ _
      · exact h2
      · rfl
    have h1 := View.write_emb_of_mem (Val := Elt F) (v := oM.access (Rect.unit (s := S16x1x16x64) ![0, 0, o, 0] S16x1x1x64.size inb)) f (outHead m ⟨o, ho⟩)
      (Finset.mem_univ (ix4 (i 0) (0 : Fin 1) (0 : Fin 1) (i 3)))
    have e : (oM.access (Rect.unit (s := S16x1x16x64) ![0, 0, o, 0] S16x1x1x64.size inb)).emb (ix4 (i 0) (0 : Fin 1) (0 : Fin 1) (i 3)) = (i : S16x1x16x64.Idx) :=
      (head_emb inb ho (i 0) (i 3)).trans e0.symm
    have h3 := congrArg ((oM.access (Rect.unit (s := S16x1x16x64) ![0, 0, o, 0] S16x1x1x64.size inb)).write (Elt F) f (outHead m ⟨o, ho⟩) Finset.univ) e
    refine h3.symm.trans (h1.trans ?_)
    unfold outVal; rw [h2]; rfl
  · refine (View.write_of_not_mem (v := oM.access (Rect.unit (s := S16x1x16x64) ![0, 0, o, 0] S16x1x1x64.size inb)) f _ _ fun hm => ?_).trans (hf i (by omega))
    have hm2 : i ∈ (Rect.unit (s := S16x1x16x64) ![0, 0, o, 0] S16x1x1x64.size inb).set := (View.set_slice_whole cc0_stg5_0 (Rect.unit (s := S16x1x16x64) ![0, 0, o, 0] S16x1x1x64.size inb)).subset hm
    have := Rect.mem_set_unit.1 hm2 2
    have a1 : o ≤ (i 2).val := this.1
    omega

/-- The store of head `o` of the output. -/
theorem st_stO {o : ℕ} {inb hx hm} {w : Vec F S16x1x1x64 .f32} {f : PUnit → Prog (TpuEff nD τ sig (Elt F) Λ₀ .tc) γ} {k : γ → Prog (TpuEff nD τ sig (Elt F) Λ₀ .tc) α}
    (ho : o < 16) (hw : w = outHead m ⟨o, ho⟩)
    (H : Run c iprop(Bs m K c ∗ A ∗ A' ∗ Out m c (o + 1) ∗ R) (f ⟨⟩ >>= k) Q) :
    Run c iprop(Bs m K c ∗ A ∗ A' ∗ Out m c o ∗ R)
      ((Prog.lift (.store oM (Rect.unit (s := S16x1x16x64) ![0, 0, o, 0] S16x1x1x64.size inb) w Finset.univ hx hm) >>= f) >>= k) Q := by
  subst hw
  refine ⟨?_⟩
  rw [show ((Prog.lift (.store oM (Rect.unit (s := S16x1x16x64) ![0, 0, o, 0] S16x1x1x64.size inb) (outHead m ⟨o, ho⟩) Finset.univ hx hm) >>= f) >>= k : Prog (TpuEff nD τ sig (Elt F) Λ₀ .tc) α)
    = .op (.store oM (Rect.unit (s := S16x1x16x64) ![0, 0, o, 0] S16x1x1x64.size inb) (outHead m ⟨o, ho⟩) Finset.univ hx hm) fun x => f x >>= k from rfl]
  unfold Out
  iintro ⟨HB, HA, HA', ⟨%g, %hg, Ho⟩, HR⟩
  iapply (wp_store 𝒱₀ (c : Thread nD τ) none Set.univ (m := oM) (r := Rect.unit (s := S16x1x16x64) ![0, 0, o, 0] S16x1x1x64.size inb) (Mk := Finset.univ) (S := Finset.univ) (Finset.subset_univ _)) $$ Ho
  iintro Ho
  iapply H.go
  unfold Out
  isplitl [HB]; · iexact HB
  isplitl [HA]; · iexact HA
  isplitl [HA']; · iexact HA'
  isplitl [Ho]
  · iexists _
    isplitr; · ipureintro; exact out_store ho inb hg
    iexact Ho
  iexact HR

/-! ## The waits for the device's own copies, and the second barrier -/

/-- The positions of the send cells, before their waits. -/
def AS (c : Dev nD) : sProp (MT nD τ sig Unit (Elt F) ℕ UU ℕ) :=
  iprop(bigSep (pf c 0) (fun j => atPos ER (kcell (c, .inr (0, j))) 0 ∅ 0) ∗ bigSep (pf c 0) (fun j => atPos ER (kcell (c, .inr (2, j))) 0 ∅ 0))
/-- The second barrier's units still to be paid. -/
def T2 (c : Dev nD) (s : ℕ) : sProp (MT nD τ sig Unit (Elt F) ℕ UU ℕ) := bigSep (pf c s) (fun j => dutyTok ER (kcell (j, .inl 1)) 0 c)
/-- What the device keeps until its end. -/
def Keep (m : (ℓ : Loc nD τ sig) → Buf (Elt F) ℓ) (c : Dev nD) : sProp (MT nD τ sig Unit (Elt F) ℕ UU ℕ) :=
  iprop(resR m c c ∗ (∃ f, gR c c f) ∗ (∃ f, curR c c f) ∗ (∃ f, ((c : Thread nD τ).loc cc0_scratch1) ↦{fullShare} f)
    ∗ bigSep (pl c 32) (fun j => atPos ER (kcell (c, .inr (1, j))) (0 + 1) ∅ 0))

/-- After the last output store: what the waits for the sends start from. -/
theorem to6 : iprop(P4 m c 32 32 ∗ T1 c ∗ AS c) ⊢ iprop(owesS c 32 32 32 0 ∗ WT m c 0 0 ∗ WT m c 2 0 ∗ Keep m c) := by
  unfold P4 T1 AS WT Keep
  rw [pf_end, ow_end, bigSep_singleton, pl_end, pl_zero, pf_zero]
  iintro ⟨⟨HO, Hr, -, Hc2, ⟨%fg, -, Hg⟩⟩, ⟨Hcur, Hc1, Hin, Hat1⟩, Ha0, Ha2⟩
  isplitl [HO]; · iexact HO
  isplitl [Hc1 Ha0]
  · isplitl
    · iapply (Entails.of_eq (bigSep_sep' (Finset.univ.erase c) (fun j : Dev nD => cred (tallyAt (kcell (c, .inr (0, j))) () (amtOf (some (.inr (0, j)))))) (fun j : Dev nD => (atPos ER (kcell (c, .inr (0, j))) 0 ∅ 0 : sProp (MT nD τ sig Unit (Elt F) ℕ UU ℕ)))).symm)
      isplitl [Hc1]
      · iexact Hc1
      iexact Ha0
    rw [bigSep_empty]; iempintro
  isplitl [Hc2 Ha2]
  · isplitl
    · iapply (Entails.of_eq (bigSep_sep' (Finset.univ.erase c) (fun j : Dev nD => cred (tallyAt (kcell (c, .inr (2, j))) () (amtOf (some (.inr (2, j)))))) (fun j : Dev nD => (atPos ER (kcell (c, .inr (2, j))) 0 ∅ 0 : sProp (MT nD τ sig Unit (Elt F) ℕ UU ℕ)))).symm)
      isplitl [Hc2]
      · iexact Hc2
      iexact Ha2
    rw [bigSep_empty]; iempintro
  isplitl [Hr]; · iexact Hr
  isplitl [Hg]; · iexists fg; iexact Hg
  isplitl [Hcur]; · iexact Hcur
  isplitl [Hin]; · iexact Hin
  iexact Hat1

/-- Between the last output store and the first send wait. -/
theorem st_to6 {p : Prog (TpuEff nD τ sig (Elt F) Λ₀ .tc) α}
    (H : Run c iprop(Bs m K c ∗ (owesS c 32 32 32 0 ∗ T2 c 0) ∗ WT m c 0 0 ∗ WT m c 2 0 ∗ (Keep m c ∗ WT m c 3 32 ∗ Out m c 16 ∗ R)) p Q) :
    Run c iprop(Bs m K c ∗ P4 m c 32 32 ∗ WT m c 3 32 ∗ Out m c 16 ∗ (T1 c ∗ AS c ∗ T2 c 0) ∗ R) p Q := by
  refine Run.mono ?_ H
  iintro ⟨HB, HP, HW, HOut, ⟨HT1, HAS, HT2⟩, HR⟩
  ihave HH := (to6 (m := m) (c := c)) $$ [HP HT1 HAS]
  · isplitl [HP]; · iexact HP
    isplitl [HT1] <;> iassumption
  icases HH with ⟨HO, HW0, HW2, HK⟩
  isplitl [HB]; · iexact HB
  isplitl [HO HT2]
  · isplitl [HO] <;> iassumption
  isplitl [HW0]; · iexact HW0
  isplitl [HW2]; · iexact HW2
  isplitl [HK]; · iexact HK
  isplitl [HW]; · iexact HW
  isplitl [HOut] <;> iassumption

/-- The second barrier's semaphore. -/
abbrev sbS : Sem sig := (cc0_scoped0 : Sems sig S_).sem

/-- The second barrier's semaphore is its cell's. -/
theorem sbS_csem : SemLoc.reg sbS = csem (.inl 1) := rfl

/-- A unit to the second barrier hands nothing over. -/
theorem payload_sb (j d : Dev nD) : (Rd (F := F) m).payload ((j : Thread nD τ), .reg sbS) 0 d = iprop(emp) := payload_at m j (.inl 1) d

/-- One conditional unit to the second barrier. -/
theorem st_sb {n : ℕ} {cnd : BitVec 1} {s : Sem sig} (hs : s = sbS) (hc : cnd = 1#1 ↔ c.val ≠ n) {dv : cnd = 1#1 → Dev nD} (hd : ∀ h, (dv h).val = n)
    {t : Prog (TpuEff nD τ sig (Elt F) Λ₀ .tc) γ} {k : γ → Prog (TpuEff nD τ sig (Elt F) Λ₀ .tc) α}
    (H : Run c (iprop(Bs m K c ∗ (owesS c 32 32 32 (n + 1) ∗ T2 c (n + 1)) ∗ R)) (t >>= k) Q) :
    Run c (iprop(Bs m K c ∗ (owesS c 32 32 32 n ∗ T2 c n) ∗ R)) ((if h : cnd = 1#1 then (semSignalWord (dv h) s 1#32 >>= fun _ => t) else t) >>= k) Q := by
  refine ⟨?_⟩; replace H := H.go
  subst hs
  by_cases h : cnd = 1#1
  · rw [dif_pos h]
    obtain ⟨j, hj⟩ : ∃ j, j = dv h := ⟨_, rfl⟩
    have hn : j.val = n := hj ▸ hd h
    have hjc : j ≠ c := fun e => hc.1 h (by rw [← e]; exact hn)
    rw [← hj]; subst hn
    have ek : ((semSignalWord j sbS 1#32 >>= fun _ => t) >>= k : Prog (TpuEff nD τ sig (Elt F) Λ₀ .tc) α)
      = .op (.semSignal (j : Thread nD τ) sbS ((1 : ℕ) : ℤ)) fun _ => t >>= k := rfl
    rw [ek]
    unfold T2 owesS
    rw [pf_peel _ hjc]
    iintro ⟨HB, ⟨⟨%W, HO⟩, Ht, Hr⟩, HR⟩
    unfold Bs ctx
    icases HB with ⟨⟨#HI, #Hrch, #Hlev⟩, Hs⟩
    iapply (Rounds.wp_signal 𝒱₀ ER (Rd m) (c : Thread nD τ) none (dst := (j : Thread nD τ)) (sem := sbS) (κ := K (j, .inl 1))
        (d := c) (mem_duties_reg m j c 1 hjc.symm) (amount_at m j (.inl 1) c) () (obl c 32 32 32 (j.val + 1)) (obl_e hjc 32 32 32))
      $$ [HO Ht]
    · isplitr; · iapply (inv_at m K (j, .inl 1)); iexact HI
      isplitl [HO]; · iexact HO
      isplitl [Ht]; · iexact Ht
      isplitr
      · iapply (Entails.of_eq (payload_sb (m := m) j c).symm)
        iempintro
      · iapply (reached_at (F := F) (j, .inl 1)); iexact Hrch
    iintro HO
    iapply H
    unfold Bs ctx T2 owesS
    isplitl [Hs]
    · isplitr
      · isplitr; · iexact HI
        isplitr; · iexact Hrch
        iexact Hlev
      iexact Hs
    isplitr [HR]
    · isplitl [HO]; · iexists W; iexact HO
      iexact Hr
    iexact HR
  · rw [dif_neg h]
    have hn : c.val = n := by by_contra e; exact h (hc.2 e)
    subst hn
    have e1 : (iprop(owesS c 32 32 32 c.val ∗ T2 c c.val) : sProp (MT nD τ sig Unit (Elt F) ℕ UU ℕ)) = iprop(owesS c 32 32 32 (c.val + 1) ∗ T2 c (c.val + 1)) := by
      unfold T2 owesS obl; rw [pf_self rfl]
    rw [e1]; exact H

/-- The wait for the second barrier. -/
theorem st_sbWait {s : Sem sig} (hs : s = sbS) {f : PUnit → Prog (TpuEff nD τ sig (Elt F) Λ₀ .tc) α}
    (H : Run c iprop(Bs m K c ∗ owesS c 32 32 32 32 ∗ atPos ER (kcell (c, .inl 1)) (0 + 1) ∅ 0 ∗ R) (f ⟨⟩) Q) :
    Run c iprop(Bs m K c ∗ (owesS c 32 32 32 32 ∗ T2 c 32) ∗ (cred (tallyAt (kcell (c, .inl 1)) () 31) ∗ atPos ER (kcell (c, .inl 1)) 0 ∅ 0) ∗ R) (semWaitWord s 31#32 >>= f) Q := by
  subst hs
  refine ⟨?_⟩; replace H := H.go
  rw [show ((semWaitWord sbS 31#32 >>= f) : Prog (TpuEff nD τ sig (Elt F) Λ₀ .tc) α) = .op (.semWait sbS ((31 : ℕ) : ℤ)) f from rfl]
  unfold owesS Bs ctx
  iintro ⟨⟨⟨#HI, #Hrch, #Hlev⟩, Hs⟩, ⟨⟨%W, HO⟩, -⟩, ⟨Hc, Hat⟩, HR⟩
  iapply (Rounds.wp_wait_rest_token 𝒱₀ ER (Rd m) (c : Thread nD τ) none (κ := K (c, .inl 1))
      (wpE_semWait_eq 𝒱₀ (c : Thread nD τ) none Set.univ) (Set.mem_univ _) () (O := obl c 32 32 32 32) (W := W) (R := 0) (m := 0) (T := ∅)
      (by rw [Nat.zero_add]; exact (expect_reg m c 1).symm)) $$ [Hc HO Hat]
  · isplitr; · iapply (inv_at m K (c, .inl 1)); iexact HI
    isplitl [Hc]; · iexact Hc
    isplitl [HO]; · iexact HO
    isplitr
    · iapply (mayWait_lv (F := F) c (csem (.inl 1)) 5 32 32 32 32 (by rw [kind_csem]; rfl) (Or.inr le_rfl) (Or.inr le_rfl) (Or.inr le_rfl) (Or.inr le_rfl))
      iexact Hlev
    iexact Hat
  iintro ⟨HO, Hat, -, -⟩
  iapply H
  unfold Bs ctx owesS
  isplitl [Hs]
  · isplitr
    · isplitr; · iexact HI
      isplitr; · iexact Hrch
      iexact Hlev
    iexact Hs
  isplitl [HO]; · iexists _; iexact HO
  isplitl [Hat]; · iexact Hat
  iexact HR

end Cert.KernelIdeal.Attn

end
-- ==== Proof.Steps5.lean ====
/-
Small facts the run of the body uses again and again: the barrier semaphore as the kernel names it, the
offsets that name this device's own row, and the reshape of a result into a row.
-/
module

public import proofs.«01_k».proof.Proof.Steps4

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- The barrier semaphore as the kernel names it. -/
abbrev barA : Sems sig S_ := SemArray.scalar (sig.barrier 0 rfl)

/-- Its one semaphore is the barrier's. -/
theorem barA_sem : SemArray.sem barA = barS := rfl

/-- The offset naming this device's semaphore in an array of 32. -/
theorem offA (c : Dev nD) : ![(vw c).toNat] = ![c.val] := by rw [vw_toNat]

/-- The offset naming this device's row in an array of 32 rows. -/
theorem offB (c : Dev nD) : ![(vw c).toNat, 0, 0] = ![c.val, 0, 0] := by rw [vw_toNat]

/-- A device's combined result, reshaped as the local copy reshapes it, is its row of results. -/
theorem resRow_cast (m : (ℓ : Loc nD τ sig) → Buf (Elt F) ℓ) (c : Dev nD) : k0_pay249 (resVal m c) = resRow m c := by
  funext i
  unfold k0_pay249 resRow
  refine (congrFun (shapeCast_self _ _) i).trans ?_
  refine (shapeCast_addUnit_apply (n := 2) ![8, 64] (resVal m c) shapeCasts_S8x64_S1x8x64 i).trans (congrArg (resVal m c) ?_)
  funext a; fin_cases a <;> rfl

end Cert.KernelIdeal.Attn

end
-- ==== Proof.RunA.lean ====
/-
The kernel's body, by the parts the generated skeleton cuts it into: the signals of the first barrier, its wait, and the count of this device's pages. One theorem per part
says what the part does to the protocol's state, and which values it hands on.
-/
module

public import proofs.«01_k».proof.Proof.Steps5

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- Part 1 of the body: from the state before it to the state after it, with the values it returns. -/
theorem part1_run {k : (Σ' (d0 : Dev nD) (v2 : BitVec 32), Sems sig S_) → Prog (TpuEff nD τ sig (Elt F) Λ₀ .tc) α}
    (H : Run c iprop(Bs m K c ∗ P1 c 8 ∗ R) (k ⟨c, (Scalar.remsi (Scalar.divsi (Dev.word c) 1#32) 32#32), (SemArray.scalar (sig.barrier 0 rfl))⟩) Q) :
    Run c iprop(Bs m K c ∗ P1 c 0 ∗ R) (onBufs k0_part1 >>= k) Q := by
  rw [k0_part1_eq_skeleton]; unfold onBufs k0_part1_skel
  refine st_dev ?_
  extract_lets
  refine st_sig (n := 0) barA_sem (condNe_iff c 0 (by decide)) (fun _ => rfl) ?_
  refine st_sig (n := 1) barA_sem (condNe_iff c 1 (by decide)) (fun _ => rfl) ?_
  refine st_sig (n := 2) barA_sem (condNe_iff c 2 (by decide)) (fun _ => rfl) ?_
  refine st_sig (n := 3) barA_sem (condNe_iff c 3 (by decide)) (fun _ => rfl) ?_
  refine st_sig (n := 4) barA_sem (condNe_iff c 4 (by decide)) (fun _ => rfl) ?_
  refine st_sig (n := 5) barA_sem (condNe_iff c 5 (by decide)) (fun _ => rfl) ?_
  refine st_sig (n := 6) barA_sem (condNe_iff c 6 (by decide)) (fun _ => rfl) ?_
  refine st_sig (n := 7) barA_sem (condNe_iff c 7 (by decide)) (fun _ => rfl) ?_
  exact H

/-- Part 2 of the body: from the state before it to the state after it, with the values it returns. -/
theorem part2_run {k : (PUnit) → Prog (TpuEff nD τ sig (Elt F) Λ₀ .tc) α}
    (H : Run c iprop(Bs m K c ∗ P1 c 18 ∗ R) (k ⟨⟩) Q) :
    Run c iprop(Bs m K c ∗ P1 c 8 ∗ R) (onBufs k0_part2 c (vw c) barA >>= k) Q := by
  rw [k0_part2_eq_skeleton]; unfold onBufs k0_part2_skel
  refine st_sig (n := 8) barA_sem (condNe_iff c 8 (by decide)) (fun _ => rfl) ?_
  refine st_sig (n := 9) barA_sem (condNe_iff c 9 (by decide)) (fun _ => rfl) ?_
  refine st_sig (n := 10) barA_sem (condNe_iff c 10 (by decide)) (fun _ => rfl) ?_
  refine st_sig (n := 11) barA_sem (condNe_iff c 11 (by decide)) (fun _ => rfl) ?_
  refine st_sig (n := 12) barA_sem (condNe_iff c 12 (by decide)) (fun _ => rfl) ?_
  refine st_sig (n := 13) barA_sem (condNe_iff c 13 (by decide)) (fun _ => rfl) ?_
  refine st_sig (n := 14) barA_sem (condNe_iff c 14 (by decide)) (fun _ => rfl) ?_
  refine st_sig (n := 15) barA_sem (condNe_iff c 15 (by decide)) (fun _ => rfl) ?_
  refine st_sig (n := 16) barA_sem (condNe_iff c 16 (by decide)) (fun _ => rfl) ?_
  refine st_sig (n := 17) barA_sem (condNe_iff c 17 (by decide)) (fun _ => rfl) ?_
  exact H

/-- Part 3 of the body: from the state before it to the state after it, with the values it returns. -/
theorem part3_run {k : (PUnit) → Prog (TpuEff nD τ sig (Elt F) Λ₀ .tc) α}
    (H : Run c iprop(Bs m K c ∗ P1 c 28 ∗ R) (k ⟨⟩) Q) :
    Run c iprop(Bs m K c ∗ P1 c 18 ∗ R) (onBufs k0_part3 c (vw c) barA >>= k) Q := by
  rw [k0_part3_eq_skeleton]; unfold onBufs k0_part3_skel
  refine st_sig (n := 18) barA_sem (condNe_iff c 18 (by decide)) (fun _ => rfl) ?_
  refine st_sig (n := 19) barA_sem (condNe_iff c 19 (by decide)) (fun _ => rfl) ?_
  refine st_sig (n := 20) barA_sem (condNe_iff c 20 (by decide)) (fun _ => rfl) ?_
  refine st_sig (n := 21) barA_sem (condNe_iff c 21 (by decide)) (fun _ => rfl) ?_
  refine st_sig (n := 22) barA_sem (condNe_iff c 22 (by decide)) (fun _ => rfl) ?_
  refine st_sig (n := 23) barA_sem (condNe_iff c 23 (by decide)) (fun _ => rfl) ?_
  refine st_sig (n := 24) barA_sem (condNe_iff c 24 (by decide)) (fun _ => rfl) ?_
  refine st_sig (n := 25) barA_sem (condNe_iff c 25 (by decide)) (fun _ => rfl) ?_
  refine st_sig (n := 26) barA_sem (condNe_iff c 26 (by decide)) (fun _ => rfl) ?_
  refine st_sig (n := 27) barA_sem (condNe_iff c 27 (by decide)) (fun _ => rfl) ?_
  exact H

/-- Part 4 of the body: from the state before it to the state after it, with the values it returns. -/
theorem part4_run {k : (Σ' (v104 : IVec S16x128 32) (v106 : IVec S1x1 32) (v108 : IVec S1x1 32) (v110 : IVec S1x1 32) (v112 : IVec S1x1 32) (v114 : IVec S1x1 32) (v116 : IVec S1x1 32) (v118 : IVec S1x1 32) (v120 : IVec S1x1 32) (v122 : IVec S1x1 32), IVec S1x1 32) → Prog (TpuEff nD τ sig (Elt F) Λ₀ .tc) α}
    (H : Run c iprop(Bs m K c ∗ (owesS c 32 0 0 0 ∗ atPos ER (kcell (c, .inl 0)) (0 + 1) ∅ 0
      ∗ bigSep (Finset.univ.erase c) fun j => iprop((∃ f, inR j c f) ∗ (∃ f, gR j c f))) ∗ R) (k ⟨k0_pay1 (vw c) (ldB m c), k0_pay2 (ldLen m c 0), k0_pay3 (ldLen m c 1), k0_pay4 (ldLen m c 2), k0_pay5 (ldLen m c 3), k0_pay6 (ldLen m c 4), k0_pay7 (ldLen m c 5), k0_pay8 (ldLen m c 6), k0_pay9 (ldLen m c 7), k0_pay10 (ldLen m c 8), k0_pay11 (ldLen m c 9)⟩) Q) :
    Run c iprop(Bs m K c ∗ P1 c 28 ∗ (cred (tallyAt (kcell (c, .inl 0)) () 31) ∗ atPos ER (kcell (c, .inl 0)) 0 ∅ 0) ∗ R) (onBufs k0_part4 c (vw c) barA >>= k) Q := by
  rw [k0_part4_eq_skeleton]; unfold onBufs k0_part4_skel
  refine st_sig (n := 28) barA_sem (condNe_iff c 28 (by decide)) (fun _ => rfl) ?_
  refine st_sig (n := 29) barA_sem (condNe_iff c 29 (by decide)) (fun _ => rfl) ?_
  refine st_sig (n := 30) barA_sem (condNe_iff c 30 (by decide)) (fun _ => rfl) ?_
  refine st_sig (n := 31) barA_sem (condNe_iff c 31 (by decide)) (fun _ => rfl) ?_
  refine st_barWait barA_sem ?_
  refine st_ldB ?_
  refine st_ldL ?_
  refine st_ldL ?_
  refine st_ldL ?_
  refine st_ldL ?_
  refine st_ldL ?_
  refine st_ldL ?_
  refine st_ldL ?_
  refine st_ldL ?_
  refine st_ldL ?_
  refine st_ldL ?_
  exact H

/-- Part 5 of the body: from the state before it to the state after it, with the values it returns. -/
theorem part5_run {k : (Σ' (v151 : FVec F S16x128 .f32) (v152 : IVec S128x2048 32) (v153 : IVec S128x2048 32) (v155 : IVec S128x2048 32) (v169 : IVec S128x2048 1), IVec S128x2048 32) → Prog (TpuEff nD τ sig (Elt F) Λ₀ .tc) α}
    (H : Run c iprop(Bs m K c ∗ R) (k ⟨k0_pay12 (k0_pay1 (vw c) (ldB m c)) (k0_pay2 (ldLen m c 0)) (k0_pay3 (ldLen m c 1)) (k0_pay4 (ldLen m c 2)) (k0_pay5 (ldLen m c 3)) (k0_pay6 (ldLen m c 4)) (k0_pay7 (ldLen m c 5)) (k0_pay8 (ldLen m c 6)) (k0_pay9 (ldLen m c 7)) (k0_pay10 (ldLen m c 8)) (k0_pay11 (ldLen m c 9)) (ldLen m c 10) (ldLen m c 11) (ldLen m c 12) (ldLen m c 13) (ldLen m c 14) (ldLen m c 15), (iota .tc S128x2048 32 [0] iota_S128x2048_d0_w32), (iota .tc S128x2048 32 [1] iota_S128x2048_d1_w32), k0_pay13, k0_pay14, k0_pay15⟩) Q) :
    Run c iprop(Bs m K c ∗ R) (onBufs k0_part5 (k0_pay1 (vw c) (ldB m c)) (k0_pay2 (ldLen m c 0)) (k0_pay3 (ldLen m c 1)) (k0_pay4 (ldLen m c 2)) (k0_pay5 (ldLen m c 3)) (k0_pay6 (ldLen m c 4)) (k0_pay7 (ldLen m c 5)) (k0_pay8 (ldLen m c 6)) (k0_pay9 (ldLen m c 7)) (k0_pay10 (ldLen m c 8)) (k0_pay11 (ldLen m c 9)) >>= k) Q := by
  rw [k0_part5_eq_skeleton]; unfold onBufs k0_part5_skel
  refine st_ldL ?_
  refine st_ldL ?_
  refine st_ldL ?_
  refine st_ldL ?_
  refine st_ldL ?_
  refine st_ldL ?_
  exact H

/-- Part 6 of the body: from the state before it to the state after it, with the values it returns. -/
theorem part6_run {k : (Σ' (v182 : FVec F S16x2048 .f32) (v184 : IVec S16x2048 1) (v199 : FVec F S16x1 .f32) (v205 : FVec F S16x1 .f32), FVec F S16x64 .f32) → Prog (TpuEff nD τ sig (Elt F) Λ₀ .tc) α}
    (H : Run c iprop(Bs m K c ∗ R) (k ⟨k0_pay16 (k0_pay12 (k0_pay1 (vw c) (ldB m c)) (k0_pay2 (ldLen m c 0)) (k0_pay3 (ldLen m c 1)) (k0_pay4 (ldLen m c 2)) (k0_pay5 (ldLen m c 3)) (k0_pay6 (ldLen m c 4)) (k0_pay7 (ldLen m c 5)) (k0_pay8 (ldLen m c 6)) (k0_pay9 (ldLen m c 7)) (k0_pay10 (ldLen m c 8)) (k0_pay11 (ldLen m c 9)) (ldLen m c 10) (ldLen m c 11) (ldLen m c 12) (ldLen m c 13) (ldLen m c 14) (ldLen m c 15)) ((iota .tc S128x2048 32 [0] iota_S128x2048_d0_w32)) ((iota .tc S128x2048 32 [1] iota_S128x2048_d1_w32)) (k0_pay13) (k0_pay14) (k0_pay15), k0_pay17 (k0_pay12 (k0_pay1 (vw c) (ldB m c)) (k0_pay2 (ldLen m c 0)) (k0_pay3 (ldLen m c 1)) (k0_pay4 (ldLen m c 2)) (k0_pay5 (ldLen m c 3)) (k0_pay6 (ldLen m c 4)) (k0_pay7 (ldLen m c 5)) (k0_pay8 (ldLen m c 6)) (k0_pay9 (ldLen m c 7)) (k0_pay10 (ldLen m c 8)) (k0_pay11 (ldLen m c 9)) (ldLen m c 10) (ldLen m c 11) (ldLen m c 12) (ldLen m c 13) (ldLen m c 14) (ldLen m c 15)) ((iota .tc S128x2048 32 [0] iota_S128x2048_d0_w32)) ((iota .tc S128x2048 32 [1] iota_S128x2048_d1_w32)) (k0_pay13) (k0_pay14) (k0_pay15), k0_pay19 (k0_pay12 (k0_pay1 (vw c) (ldB m c)) (k0_pay2 (ldLen m c 0)) (k0_pay3 (ldLen m c 1)) (k0_pay4 (ldLen m c 2)) (k0_pay5 (ldLen m c 3)) (k0_pay6 (ldLen m c 4)) (k0_pay7 (ldLen m c 5)) (k0_pay8 (ldLen m c 6)) (k0_pay9 (ldLen m c 7)) (k0_pay10 (ldLen m c 8)) (k0_pay11 (ldLen m c 9)) (ldLen m c 10) (ldLen m c 11) (ldLen m c 12) (ldLen m c 13) (ldLen m c 14) (ldLen m c 15)) ((iota .tc S128x2048 32 [0] iota_S128x2048_d0_w32)) ((iota .tc S128x2048 32 [1] iota_S128x2048_d1_w32)) (k0_pay13) (k0_pay14) (k0_pay15) (ldQ m c 0) (ldK m c 0), k0_pay21 (k0_pay12 (k0_pay1 (vw c) (ldB m c)) (k0_pay2 (ldLen m c 0)) (k0_pay3 (ldLen m c 1)) (k0_pay4 (ldLen m c 2)) (k0_pay5 (ldLen m c 3)) (k0_pay6 (ldLen m c 4)) (k0_pay7 (ldLen m c 5)) (k0_pay8 (ldLen m c 6)) (k0_pay9 (ldLen m c 7)) (k0_pay10 (ldLen m c 8)) (k0_pay11 (ldLen m c 9)) (ldLen m c 10) (ldLen m c 11) (ldLen m c 12) (ldLen m c 13) (ldLen m c 14) (ldLen m c 15)) ((iota .tc S128x2048 32 [0] iota_S128x2048_d0_w32)) ((iota .tc S128x2048 32 [1] iota_S128x2048_d1_w32)) (k0_pay13) (k0_pay14) (k0_pay15) (ldQ m c 0) (ldK m c 0), k0_pay22 (k0_pay12 (k0_pay1 (vw c) (ldB m c)) (k0_pay2 (ldLen m c 0)) (k0_pay3 (ldLen m c 1)) (k0_pay4 (ldLen m c 2)) (k0_pay5 (ldLen m c 3)) (k0_pay6 (ldLen m c 4)) (k0_pay7 (ldLen m c 5)) (k0_pay8 (ldLen m c 6)) (k0_pay9 (ldLen m c 7)) (k0_pay10 (ldLen m c 8)) (k0_pay11 (ldLen m c 9)) (ldLen m c 10) (ldLen m c 11) (ldLen m c 12) (ldLen m c 13) (ldLen m c 14) (ldLen m c 15)) ((iota .tc S128x2048 32 [0] iota_S128x2048_d0_w32)) ((iota .tc S128x2048 32 [1] iota_S128x2048_d1_w32)) (k0_pay13) (k0_pay14) (k0_pay15) (ldQ m c 0) (ldK m c 0) (ldV m c 0)⟩) Q) :
    Run c iprop(Bs m K c ∗ R) (onBufs k0_part6 (k0_pay12 (k0_pay1 (vw c) (ldB m c)) (k0_pay2 (ldLen m c 0)) (k0_pay3 (ldLen m c 1)) (k0_pay4 (ldLen m c 2)) (k0_pay5 (ldLen m c 3)) (k0_pay6 (ldLen m c 4)) (k0_pay7 (ldLen m c 5)) (k0_pay8 (ldLen m c 6)) (k0_pay9 (ldLen m c 7)) (k0_pay10 (ldLen m c 8)) (k0_pay11 (ldLen m c 9)) (ldLen m c 10) (ldLen m c 11) (ldLen m c 12) (ldLen m c 13) (ldLen m c 14) (ldLen m c 15)) ((iota .tc S128x2048 32 [0] iota_S128x2048_d0_w32)) ((iota .tc S128x2048 32 [1] iota_S128x2048_d1_w32)) (k0_pay13) (k0_pay14) (k0_pay15) >>= k) Q := by
  rw [k0_part6_eq_skeleton]; unfold onBufs k0_part6_skel
  refine st_ldQ ?_
  refine st_ldK ?_
  refine st_ldV ?_
  exact H

end Cert.KernelIdeal.Attn

end
-- ==== Proof.RunB.lean ====
/-
The kernel's body, by the parts the generated skeleton cuts it into: the first heads: each head fills its two rows and sends them. One theorem per part
says what the part does to the protocol's state, and which values it hands on.
-/
module

public import proofs.«01_k».proof.Proof.Steps5

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- Part 7 of the body: from the state before it to the state after it, with the values it returns. -/
theorem part7_run {k : (Σ' (v235 : BitVec 32), BitVec 32) → Prog (TpuEff nD τ sig (Elt F) Λ₀ .tc) α}
    (H : Run c iprop(Bs m K c ∗ P2 m c 6 1 0 ∗ R) (k ⟨(Scalar.extui (Scalar.cmpi .eq (vw c) 0#32)), 0#32⟩) Q) :
    Run c iprop(Bs m K c ∗ P2 m c 0 0 0 ∗ R) (onBufs k0_part7 c (vw c) (mOf m c 0) (lOf m c 0) (accOf m c 0) >>= k) Q := by
  rw [k0_part7_eq_skeleton]; unfold onBufs k0_part7_skel
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 0 (by decide)) (fun _ => rfl) (offA c) (offB c) ?_
  exact H

/-- Part 8 of the body: from the state before it to the state after it, with the values it returns. -/
theorem part8_run {k : (Σ' (v257 : FVec F S16x1 .f32) (v263 : FVec F S16x1 .f32) (v264 : FVec F S16x64 .f32), FVec F S8x64 .f32) → Prog (TpuEff nD τ sig (Elt F) Λ₀ .tc) α}
    (H : Run c iprop(Bs m K c ∗ P2 m c 6 2 2 ∗ R) (k ⟨k0_pay32 (attOf m c) (ldQ m c 1) (ldK m c 1), k0_pay34 (cntkOf m c) (attOf m c) (ldQ m c 1) (ldK m c 1), k0_pay35 (cntkOf m c) (attOf m c) (ldQ m c 1) (ldK m c 1) (ldV m c 1), k0_pay36 (cntkOf m c) (attOf m c) (ldQ m c 1) (ldK m c 1) (ldV m c 1)⟩) Q) :
    Run c iprop(Bs m K c ∗ P2 m c 6 1 0 ∗ R) (onBufs k0_part8 c (vw c) (cntkOf m c) (attOf m c) ((Scalar.extui (Scalar.cmpi .eq (vw c) 0#32))) (0#32) >>= k) Q := by
  rw [k0_part8_eq_skeleton]; unfold onBufs k0_part8_skel
  refine st_loc1 (by decide) (by decide) (condEq_iff c 0 (by decide)) (fun v => shapeCast_self v _) ?_
  refine st_send1 (by decide) (by decide) (condNe_iff c 1 (by decide)) (fun _ => rfl) (offA c) (offB c) ?_
  refine st_loc1 (by decide) (by decide) (condEq_iff c 1 (by decide)) (fun v => shapeCast_self v _) ?_
  refine st_ldQ ?_
  refine st_ldK ?_
  refine st_ldV ?_
  exact H

/-- Part 9 of the body: from the state before it to the state after it, with the values it returns. -/
theorem part9_run {k : (BitVec 1) → Prog (TpuEff nD τ sig (Elt F) Λ₀ .tc) α}
    (H : Run c iprop(Bs m K c ∗ P2 m c 12 3 3 ∗ R) (k (Scalar.cmpi .ne (vw c) 3#32)) Q) :
    Run c iprop(Bs m K c ∗ P2 m c 6 2 2 ∗ R) (onBufs k0_part9 c (vw c) (k0_pay32 (attOf m c) (ldQ m c 1) (ldK m c 1)) (k0_pay34 (cntkOf m c) (attOf m c) (ldQ m c 1) (ldK m c 1)) (k0_pay35 (cntkOf m c) (attOf m c) (ldQ m c 1) (ldK m c 1) (ldV m c 1)) (k0_pay36 (cntkOf m c) (attOf m c) (ldQ m c 1) (ldK m c 1) (ldV m c 1)) >>= k) Q := by
  rw [k0_part9_eq_skeleton]; unfold onBufs k0_part9_skel
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 2 (by decide)) (fun _ => rfl) (offA c) (offB c) ?_
  refine st_loc1 (by decide) (by decide) (condEq_iff c 2 (by decide)) (fun v => shapeCast_self v _) ?_
  exact H

/-- Part 10 of the body: from the state before it to the state after it, with the values it returns. -/
theorem part10_run {k : (Σ' (v315 : FVec F S16x1 .f32) (v321 : FVec F S16x1 .f32), FVec F S16x64 .f32) → Prog (TpuEff nD τ sig (Elt F) Λ₀ .tc) α}
    (H : Run c iprop(Bs m K c ∗ P2 m c 13 4 4 ∗ R) (k ⟨k0_pay46 (attOf m c) (ldQ m c 2) (ldK m c 2), k0_pay48 (cntkOf m c) (attOf m c) (ldQ m c 2) (ldK m c 2), k0_pay49 (cntkOf m c) (attOf m c) (ldQ m c 2) (ldK m c 2) (ldV m c 2)⟩) Q) :
    Run c iprop(Bs m K c ∗ P2 m c 12 3 3 ∗ R) (onBufs k0_part10 c (vw c) (cntkOf m c) (attOf m c) ((Scalar.cmpi .ne (vw c) 3#32)) >>= k) Q := by
  rw [k0_part10_eq_skeleton]; unfold onBufs k0_part10_skel
  refine st_send1 (by decide) (by decide) (condNe_iff c 3 (by decide)) (fun _ => rfl) (offA c) (offB c) ?_
  refine st_loc1 (by decide) (by decide) (condEq_iff c 3 (by decide)) (fun v => shapeCast_self v _) ?_
  refine st_ldQ ?_
  refine st_ldK ?_
  refine st_ldV ?_
  refine st_ldCur (by decide) (by decide) fun _ => ?_
  refine st_stAcc0 (by decide) (by decide) (by decide) (by decide) (by exact rfl) ?_
  exact H

/-- Part 11 of the body: from the state before it to the state after it, with the values it returns. -/
theorem part11_run {k : (Σ' (v354 : BitVec 32), BitVec 32) → Prog (TpuEff nD τ sig (Elt F) Λ₀ .tc) α}
    (H : Run c iprop(Bs m K c ∗ P2 m c 18 5 5 ∗ R) (k ⟨(Scalar.extui (Scalar.cmpi .ne (vw c) 5#32)), 0#32⟩) Q) :
    Run c iprop(Bs m K c ∗ P2 m c 13 4 4 ∗ R) (onBufs k0_part11 c (vw c) (k0_pay46 (attOf m c) (ldQ m c 2) (ldK m c 2)) (k0_pay48 (cntkOf m c) (attOf m c) (ldQ m c 2) (ldK m c 2)) (k0_pay49 (cntkOf m c) (attOf m c) (ldQ m c 2) (ldK m c 2) (ldV m c 2)) >>= k) Q := by
  rw [k0_part11_eq_skeleton]; unfold onBufs k0_part11_skel
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 4 (by decide)) (fun _ => rfl) (offA c) (offB c) ?_
  refine st_loc1 (by decide) (by decide) (condEq_iff c 4 (by decide)) (fun v => shapeCast_self v _) ?_
  exact H

/-- Part 12 of the body: from the state before it to the state after it, with the values it returns. -/
theorem part12_run {k : (Σ' (v373 : FVec F S16x1 .f32) (v379 : FVec F S16x1 .f32) (v380 : FVec F S16x64 .f32), FVec F S8x1 .f32) → Prog (TpuEff nD τ sig (Elt F) Λ₀ .tc) α}
    (H : Run c iprop(Bs m K c ∗ P2 m c 19 6 6 ∗ R) (k ⟨k0_pay59 (attOf m c) (ldQ m c 3) (ldK m c 3), k0_pay61 (cntkOf m c) (attOf m c) (ldQ m c 3) (ldK m c 3), k0_pay62 (cntkOf m c) (attOf m c) (ldQ m c 3) (ldK m c 3) (ldV m c 3), k0_pay64 (attOf m c) (ldQ m c 3) (ldK m c 3)⟩) Q) :
    Run c iprop(Bs m K c ∗ P2 m c 18 5 5 ∗ R) (onBufs k0_part12 c (vw c) (cntkOf m c) (attOf m c) ((Scalar.extui (Scalar.cmpi .ne (vw c) 5#32))) (0#32) >>= k) Q := by
  rw [k0_part12_eq_skeleton]; unfold onBufs k0_part12_skel
  refine st_send1 (by decide) (by decide) (condNe_iff c 5 (by decide)) (fun _ => rfl) (offA c) (offB c) ?_
  refine st_loc1 (by decide) (by decide) (condEq_iff c 5 (by decide)) (fun v => shapeCast_self v _) ?_
  refine st_ldQ ?_
  refine st_ldK ?_
  refine st_ldV ?_
  refine st_ldCur (by decide) (by decide) fun _ => ?_
  refine st_stAcc0 (by decide) (by decide) (by decide) (by decide) (by exact rfl) ?_
  exact H

/-- Part 13 of the body: from the state before it to the state after it, with the values it returns. -/
theorem part13_run {k : (BitVec 1) → Prog (TpuEff nD τ sig (Elt F) Λ₀ .tc) α}
    (H : Run c iprop(Bs m K c ∗ P2 m c 24 8 7 ∗ R) (k (Scalar.cmpi .eq (vw c) 7#32)) Q) :
    Run c iprop(Bs m K c ∗ P2 m c 19 6 6 ∗ R) (onBufs k0_part13 c (vw c) (k0_pay59 (attOf m c) (ldQ m c 3) (ldK m c 3)) (k0_pay61 (cntkOf m c) (attOf m c) (ldQ m c 3) (ldK m c 3)) (k0_pay62 (cntkOf m c) (attOf m c) (ldQ m c 3) (ldK m c 3) (ldV m c 3)) (k0_pay64 (attOf m c) (ldQ m c 3) (ldK m c 3)) >>= k) Q := by
  rw [k0_part13_eq_skeleton]; unfold onBufs k0_part13_skel
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 6 (by decide)) (fun _ => rfl) (offA c) (offB c) ?_
  refine st_loc1 (by decide) (by decide) (condEq_iff c 6 (by decide)) (fun v => shapeCast_self v _) ?_
  refine st_send1 (by decide) (by decide) (condNe_iff c 7 (by decide)) (fun _ => rfl) (offA c) (offB c) ?_
  exact H

/-- Part 14 of the body: from the state before it to the state after it, with the values it returns. -/
theorem part14_run {k : (Σ' (v431 : FVec F S16x1 .f32) (v437 : FVec F S16x1 .f32), FVec F S16x64 .f32) → Prog (TpuEff nD τ sig (Elt F) Λ₀ .tc) α}
    (H : Run c iprop(Bs m K c ∗ P2 m c 26 8 8 ∗ R) (k ⟨k0_pay73 (attOf m c) (ldQ m c 4) (ldK m c 4), k0_pay75 (cntkOf m c) (attOf m c) (ldQ m c 4) (ldK m c 4), k0_pay76 (cntkOf m c) (attOf m c) (ldQ m c 4) (ldK m c 4) (ldV m c 4)⟩) Q) :
    Run c iprop(Bs m K c ∗ P2 m c 24 8 7 ∗ R) (onBufs k0_part14 (cntkOf m c) (attOf m c) ((Scalar.cmpi .eq (vw c) 7#32)) >>= k) Q := by
  rw [k0_part14_eq_skeleton]; unfold onBufs k0_part14_skel
  refine st_loc1 (by decide) (by decide) (condEq_iff c 7 (by decide)) (fun v => shapeCast_self v _) ?_
  refine st_ldQ ?_
  refine st_ldK ?_
  refine st_ldV ?_
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  exact H

/-- Part 15 of the body: from the state before it to the state after it, with the values it returns. -/
theorem part15_run {k : (PUnit) → Prog (TpuEff nD τ sig (Elt F) Λ₀ .tc) α}
    (H : Run c iprop(Bs m K c ∗ P2 m c 30 10 10 ∗ R) (k ⟨⟩) Q) :
    Run c iprop(Bs m K c ∗ P2 m c 26 8 8 ∗ R) (onBufs k0_part15 c (vw c) (k0_pay73 (attOf m c) (ldQ m c 4) (ldK m c 4)) (k0_pay75 (cntkOf m c) (attOf m c) (ldQ m c 4) (ldK m c 4)) (k0_pay76 (cntkOf m c) (attOf m c) (ldQ m c 4) (ldK m c 4) (ldV m c 4)) >>= k) Q := by
  rw [k0_part15_eq_skeleton]; unfold onBufs k0_part15_skel
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 8 (by decide)) (fun _ => rfl) (offA c) (offB c) ?_
  refine st_loc1 (by decide) (by decide) (condEq_iff c 8 (by decide)) (fun v => shapeCast_self v _) ?_
  refine st_send1 (by decide) (by decide) (condNe_iff c 9 (by decide)) (fun _ => rfl) (offA c) (offB c) ?_
  refine st_loc1 (by decide) (by decide) (condEq_iff c 9 (by decide)) (fun v => shapeCast_self v _) ?_
  exact H

end Cert.KernelIdeal.Attn

end
-- ==== Proof.RunC.lean ====
/-
The kernel's body, by the parts the generated skeleton cuts it into: the middle heads: each head fills its two rows and sends them. One theorem per part
says what the part does to the protocol's state, and which values it hands on.
-/
module

public import proofs.«01_k».proof.Proof.Steps5

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- Part 16 of the body: from the state before it to the state after it, with the values it returns. -/
theorem part16_run {k : (Σ' (v489 : FVec F S16x1 .f32) (v495 : FVec F S16x1 .f32) (v496 : FVec F S16x64 .f32), FVec F S8x1 .f32) → Prog (TpuEff nD τ sig (Elt F) Λ₀ .tc) α}
    (H : Run c iprop(Bs m K c ∗ P2 m c 32 10 10 ∗ R) (k ⟨k0_pay86 (attOf m c) (ldQ m c 5) (ldK m c 5), k0_pay88 (cntkOf m c) (attOf m c) (ldQ m c 5) (ldK m c 5), k0_pay89 (cntkOf m c) (attOf m c) (ldQ m c 5) (ldK m c 5) (ldV m c 5), k0_pay92 (cntkOf m c) (attOf m c) (ldQ m c 5) (ldK m c 5)⟩) Q) :
    Run c iprop(Bs m K c ∗ P2 m c 30 10 10 ∗ R) (onBufs k0_part16 (cntkOf m c) (attOf m c) >>= k) Q := by
  rw [k0_part16_eq_skeleton]; unfold onBufs k0_part16_skel
  refine st_ldQ ?_
  refine st_ldK ?_
  refine st_ldV ?_
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  exact H

/-- Part 17 of the body: from the state before it to the state after it, with the values it returns. -/
theorem part17_run {k : (PUnit) → Prog (TpuEff nD τ sig (Elt F) Λ₀ .tc) α}
    (H : Run c iprop(Bs m K c ∗ P2 m c 36 12 12 ∗ R) (k ⟨⟩) Q) :
    Run c iprop(Bs m K c ∗ P2 m c 32 10 10 ∗ R) (onBufs k0_part17 c (vw c) (k0_pay86 (attOf m c) (ldQ m c 5) (ldK m c 5)) (k0_pay88 (cntkOf m c) (attOf m c) (ldQ m c 5) (ldK m c 5)) (k0_pay89 (cntkOf m c) (attOf m c) (ldQ m c 5) (ldK m c 5) (ldV m c 5)) (k0_pay92 (cntkOf m c) (attOf m c) (ldQ m c 5) (ldK m c 5)) >>= k) Q := by
  rw [k0_part17_eq_skeleton]; unfold onBufs k0_part17_skel
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 10 (by decide)) (fun _ => rfl) (offA c) (offB c) ?_
  refine st_loc1 (by decide) (by decide) (condEq_iff c 10 (by decide)) (fun v => shapeCast_self v _) ?_
  refine st_send1 (by decide) (by decide) (condNe_iff c 11 (by decide)) (fun _ => rfl) (offA c) (offB c) ?_
  refine st_loc1 (by decide) (by decide) (condEq_iff c 11 (by decide)) (fun v => shapeCast_self v _) ?_
  exact H

/-- Part 18 of the body: from the state before it to the state after it, with the values it returns. -/
theorem part18_run {k : (Σ' (v547 : FVec F S16x1 .f32) (v553 : FVec F S16x1 .f32), FVec F S16x64 .f32) → Prog (TpuEff nD τ sig (Elt F) Λ₀ .tc) α}
    (H : Run c iprop(Bs m K c ∗ P2 m c 39 12 12 ∗ R) (k ⟨k0_pay100 (attOf m c) (ldQ m c 6) (ldK m c 6), k0_pay102 (cntkOf m c) (attOf m c) (ldQ m c 6) (ldK m c 6), k0_pay103 (cntkOf m c) (attOf m c) (ldQ m c 6) (ldK m c 6) (ldV m c 6)⟩) Q) :
    Run c iprop(Bs m K c ∗ P2 m c 36 12 12 ∗ R) (onBufs k0_part18 (cntkOf m c) (attOf m c) >>= k) Q := by
  rw [k0_part18_eq_skeleton]; unfold onBufs k0_part18_skel
  refine st_ldQ ?_
  refine st_ldK ?_
  refine st_ldV ?_
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  exact H

/-- Part 19 of the body: from the state before it to the state after it, with the values it returns. -/
theorem part19_run {k : (FVec F S16x64 .f32) → Prog (TpuEff nD τ sig (Elt F) Λ₀ .tc) α}
    (H : Run c iprop(Bs m K c ∗ P2 m c 42 14 14 ∗ R) (k (k0_pay112 (ldQ m c 7))) Q) :
    Run c iprop(Bs m K c ∗ P2 m c 39 12 12 ∗ R) (onBufs k0_part19 c (vw c) (k0_pay100 (attOf m c) (ldQ m c 6) (ldK m c 6)) (k0_pay102 (cntkOf m c) (attOf m c) (ldQ m c 6) (ldK m c 6)) (k0_pay103 (cntkOf m c) (attOf m c) (ldQ m c 6) (ldK m c 6) (ldV m c 6)) >>= k) Q := by
  rw [k0_part19_eq_skeleton]; unfold onBufs k0_part19_skel
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 12 (by decide)) (fun _ => rfl) (offA c) (offB c) ?_
  refine st_loc1 (by decide) (by decide) (condEq_iff c 12 (by decide)) (fun v => shapeCast_self v _) ?_
  refine st_send1 (by decide) (by decide) (condNe_iff c 13 (by decide)) (fun _ => rfl) (offA c) (offB c) ?_
  refine st_loc1 (by decide) (by decide) (condEq_iff c 13 (by decide)) (fun v => shapeCast_self v _) ?_
  refine st_ldQ ?_
  exact H

/-- Part 20 of the body: from the state before it to the state after it, with the values it returns. -/
theorem part20_run {k : (Σ' (v605 : FVec F S16x1 .f32) (v611 : FVec F S16x1 .f32), FVec F S8x64 .f32) → Prog (TpuEff nD τ sig (Elt F) Λ₀ .tc) α}
    (H : Run c iprop(Bs m K c ∗ P2 m c 45 14 14 ∗ R) (k ⟨k0_pay114 (attOf m c) ((k0_pay112 (ldQ m c 7))) (ldK m c 7), k0_pay116 (cntkOf m c) (attOf m c) ((k0_pay112 (ldQ m c 7))) (ldK m c 7), k0_pay121 (cntkOf m c) (attOf m c) ((k0_pay112 (ldQ m c 7))) (ldK m c 7) (ldV m c 7)⟩) Q) :
    Run c iprop(Bs m K c ∗ P2 m c 42 14 14 ∗ R) (onBufs k0_part20 (cntkOf m c) (attOf m c) ((k0_pay112 (ldQ m c 7))) >>= k) Q := by
  rw [k0_part20_eq_skeleton]; unfold onBufs k0_part20_skel
  refine st_ldK ?_
  refine st_ldV ?_
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  exact H

/-- Part 21 of the body: from the state before it to the state after it, with the values it returns. -/
theorem part21_run {k : (Σ' (v650 : FVec F S16x64 .f32), FVec F S128x16x64 .f32) → Prog (TpuEff nD τ sig (Elt F) Λ₀ .tc) α}
    (H : Run c iprop(Bs m K c ∗ P2 m c 48 16 16 ∗ R) (k ⟨k0_pay127 (ldQ m c 8), k0_pay128 (ldK m c 8)⟩) Q) :
    Run c iprop(Bs m K c ∗ P2 m c 45 14 14 ∗ R) (onBufs k0_part21 c (vw c) (k0_pay114 (attOf m c) ((k0_pay112 (ldQ m c 7))) (ldK m c 7)) (k0_pay116 (cntkOf m c) (attOf m c) ((k0_pay112 (ldQ m c 7))) (ldK m c 7)) (k0_pay121 (cntkOf m c) (attOf m c) ((k0_pay112 (ldQ m c 7))) (ldK m c 7) (ldV m c 7)) >>= k) Q := by
  rw [k0_part21_eq_skeleton]; unfold onBufs k0_part21_skel
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 14 (by decide)) (fun _ => rfl) (offA c) (offB c) ?_
  refine st_loc1 (by decide) (by decide) (condEq_iff c 14 (by decide)) (fun v => shapeCast_self v _) ?_
  refine st_send1 (by decide) (by decide) (condNe_iff c 15 (by decide)) (fun _ => rfl) (offA c) (offB c) ?_
  refine st_loc1 (by decide) (by decide) (condEq_iff c 15 (by decide)) (fun v => shapeCast_self v _) ?_
  refine st_ldQ ?_
  refine st_ldK ?_
  exact H

/-- Part 22 of the body: from the state before it to the state after it, with the values it returns. -/
theorem part22_run {k : (Σ' (v663 : FVec F S16x1 .f32), FVec F S16x1 .f32) → Prog (TpuEff nD τ sig (Elt F) Λ₀ .tc) α}
    (H : Run c iprop(Bs m K c ∗ P2 m c 52 16 16 ∗ R) (k ⟨k0_pay130 (attOf m c) (k0_pay127 (ldQ m c 8)) (k0_pay128 (ldK m c 8)), k0_pay132 (cntkOf m c) (attOf m c) (k0_pay127 (ldQ m c 8)) (k0_pay128 (ldK m c 8))⟩) Q) :
    Run c iprop(Bs m K c ∗ P2 m c 48 16 16 ∗ R) (onBufs k0_part22 (cntkOf m c) (attOf m c) (k0_pay127 (ldQ m c 8)) (k0_pay128 (ldK m c 8)) >>= k) Q := by
  rw [k0_part22_eq_skeleton]; unfold onBufs k0_part22_skel
  refine st_ldV ?_
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  exact H

/-- Part 23 of the body: from the state before it to the state after it, with the values it returns. -/
theorem part23_run {k : (Σ' (v708 : FVec F S16x64 .f32), FVec F S2048x64 .f32) → Prog (TpuEff nD τ sig (Elt F) Λ₀ .tc) α}
    (H : Run c iprop(Bs m K c ∗ P2 m c 54 18 18 ∗ R) (k ⟨k0_pay142 (ldQ m c 9), k0_pay143 (ldK m c 9)⟩) Q) :
    Run c iprop(Bs m K c ∗ P2 m c 52 16 16 ∗ R) (onBufs k0_part23 c (vw c) (k0_pay130 (attOf m c) (k0_pay127 (ldQ m c 8)) (k0_pay128 (ldK m c 8))) (k0_pay132 (cntkOf m c) (attOf m c) (k0_pay127 (ldQ m c 8)) (k0_pay128 (ldK m c 8))) >>= k) Q := by
  rw [k0_part23_eq_skeleton]; unfold onBufs k0_part23_skel
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 16 (by decide)) (fun _ => rfl) (offA c) (offB c) ?_
  refine st_loc1 (by decide) (by decide) (condEq_iff c 16 (by decide)) (fun v => shapeCast_self v _) ?_
  refine st_send1 (by decide) (by decide) (condNe_iff c 17 (by decide)) (fun _ => rfl) (offA c) (offB c) ?_
  refine st_loc1 (by decide) (by decide) (condEq_iff c 17 (by decide)) (fun v => shapeCast_self v _) ?_
  refine st_ldQ ?_
  refine st_ldK ?_
  exact H

end Cert.KernelIdeal.Attn

end
-- ==== Proof.RunD.lean ====
/-
The kernel's body, by the parts the generated skeleton cuts it into: more heads: each head fills its two rows and sends them. One theorem per part
says what the part does to the protocol's state, and which values it hands on.
-/
module

public import proofs.«01_k».proof.Proof.Steps5

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- Part 24 of the body: from the state before it to the state after it, with the values it returns. -/
theorem part24_run {k : (Σ' (v727 : FVec F S16x1 .f32), FVec F S8x1 .f32) → Prog (TpuEff nD τ sig (Elt F) Λ₀ .tc) α}
    (H : Run c iprop(Bs m K c ∗ P2 m c 58 18 18 ∗ R) (k ⟨k0_pay147 (cntkOf m c) (attOf m c) (k0_pay142 (ldQ m c 9)) (k0_pay143 (ldK m c 9)), k0_pay153 (attOf m c) (k0_pay142 (ldQ m c 9)) (k0_pay143 (ldK m c 9))⟩) Q) :
    Run c iprop(Bs m K c ∗ P2 m c 54 18 18 ∗ R) (onBufs k0_part24 (cntkOf m c) (attOf m c) (k0_pay142 (ldQ m c 9)) (k0_pay143 (ldK m c 9)) >>= k) Q := by
  rw [k0_part24_eq_skeleton]; unfold onBufs k0_part24_skel
  refine st_ldV ?_
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  exact H

/-- Part 25 of the body: from the state before it to the state after it, with the values it returns. -/
theorem part25_run {k : (Σ' (v766 : FVec F S16x64 .f32) (v769 : FVec F S2048x64 .f32), FVec F S2048x64 .f32) → Prog (TpuEff nD τ sig (Elt F) Λ₀ .tc) α}
    (H : Run c iprop(Bs m K c ∗ P2 m c 60 20 20 ∗ R) (k ⟨k0_pay158 (ldQ m c 10), k0_pay159 (ldK m c 10), k0_pay160 (ldV m c 10)⟩) Q) :
    Run c iprop(Bs m K c ∗ P2 m c 58 18 18 ∗ R) (onBufs k0_part25 c (vw c) (k0_pay147 (cntkOf m c) (attOf m c) (k0_pay142 (ldQ m c 9)) (k0_pay143 (ldK m c 9))) (k0_pay153 (attOf m c) (k0_pay142 (ldQ m c 9)) (k0_pay143 (ldK m c 9))) >>= k) Q := by
  rw [k0_part25_eq_skeleton]; unfold onBufs k0_part25_skel
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 18 (by decide)) (fun _ => rfl) (offA c) (offB c) ?_
  refine st_loc1 (by decide) (by decide) (condEq_iff c 18 (by decide)) (fun v => shapeCast_self v _) ?_
  refine st_send1 (by decide) (by decide) (condNe_iff c 19 (by decide)) (fun _ => rfl) (offA c) (offB c) ?_
  refine st_loc1 (by decide) (by decide) (condEq_iff c 19 (by decide)) (fun v => shapeCast_self v _) ?_
  refine st_ldQ ?_
  refine st_ldK ?_
  refine st_ldV ?_
  exact H

/-- Part 26 of the body: from the state before it to the state after it, with the values it returns. -/
theorem part26_run {k : (FVec F S16x1 .f32) → Prog (TpuEff nD τ sig (Elt F) Λ₀ .tc) α}
    (H : Run c iprop(Bs m K c ∗ P2 m c 65 20 20 ∗ R) (k (k0_pay164 (cntkOf m c) (attOf m c) (k0_pay158 (ldQ m c 10)) (k0_pay159 (ldK m c 10)))) Q) :
    Run c iprop(Bs m K c ∗ P2 m c 60 20 20 ∗ R) (onBufs k0_part26 (cntkOf m c) (attOf m c) (k0_pay158 (ldQ m c 10)) (k0_pay159 (ldK m c 10)) (k0_pay160 (ldV m c 10)) >>= k) Q := by
  rw [k0_part26_eq_skeleton]; unfold onBufs k0_part26_skel
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  exact H

/-- Part 27 of the body: from the state before it to the state after it, with the values it returns. -/
theorem part27_run {k : (Σ' (v830 : FVec F S2048x64 .f32) (v831 : FVec F S16x2048 .f32), FVec F S16x2048 .f32) → Prog (TpuEff nD τ sig (Elt F) Λ₀ .tc) α}
    (H : Run c iprop(Bs m K c ∗ P2 m c 66 22 22 ∗ R) (k ⟨k0_pay174 (ldV m c 11), k0_pay175 (ldQ m c 11) (ldK m c 11), k0_pay176 (F := F)⟩) Q) :
    Run c iprop(Bs m K c ∗ P2 m c 65 20 20 ∗ R) (onBufs k0_part27 c (vw c) ((k0_pay164 (cntkOf m c) (attOf m c) (k0_pay158 (ldQ m c 10)) (k0_pay159 (ldK m c 10)))) >>= k) Q := by
  rw [k0_part27_eq_skeleton]; unfold onBufs k0_part27_skel
  refine st_ldCur (by decide) (by decide) fun _ => ?_
  refine st_stL1 (by decide) (by decide) (by decide) (by decide) (by exact rfl) ?_
  refine st_send1 (by decide) (by decide) (condNe_iff c 20 (by decide)) (fun _ => rfl) (offA c) (offB c) ?_
  refine st_loc1 (by decide) (by decide) (condEq_iff c 20 (by decide)) (fun v => shapeCast_self v _) ?_
  refine st_send1 (by decide) (by decide) (condNe_iff c 21 (by decide)) (fun _ => rfl) (offA c) (offB c) ?_
  refine st_loc1 (by decide) (by decide) (condEq_iff c 21 (by decide)) (fun v => shapeCast_self v _) ?_
  refine st_ldQ ?_
  refine st_ldK ?_
  refine st_ldV ?_
  exact H

/-- Part 28 of the body: from the state before it to the state after it, with the values it returns. -/
theorem part28_run {k : (FVec F S8x1 .f32) → Prog (TpuEff nD τ sig (Elt F) Λ₀ .tc) α}
    (H : Run c iprop(Bs m K c ∗ P2 m c 71 22 22 ∗ R) (k (k0_pay187 (cntkOf m c) (attOf m c) (k0_pay175 (ldQ m c 11) (ldK m c 11)) (k0_pay176 (F := F)))) Q) :
    Run c iprop(Bs m K c ∗ P2 m c 66 22 22 ∗ R) (onBufs k0_part28 (cntkOf m c) (attOf m c) (k0_pay174 (ldV m c 11)) (k0_pay175 (ldQ m c 11) (ldK m c 11)) (k0_pay176 (F := F)) >>= k) Q := by
  rw [k0_part28_eq_skeleton]; unfold onBufs k0_part28_skel
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  exact H

/-- Part 29 of the body: from the state before it to the state after it, with the values it returns. -/
theorem part29_run {k : (Σ' (v888 : FVec F S2048x64 .f32), FVec F S16x2048 .f32) → Prog (TpuEff nD τ sig (Elt F) Λ₀ .tc) α}
    (H : Run c iprop(Bs m K c ∗ P2 m c 72 24 24 ∗ R) (k ⟨k0_pay191 (ldV m c 12), k0_pay192 (attOf m c) (ldQ m c 12) (ldK m c 12)⟩) Q) :
    Run c iprop(Bs m K c ∗ P2 m c 71 22 22 ∗ R) (onBufs k0_part29 c (vw c) (attOf m c) ((k0_pay187 (cntkOf m c) (attOf m c) (k0_pay175 (ldQ m c 11) (ldK m c 11)) (k0_pay176 (F := F)))) >>= k) Q := by
  rw [k0_part29_eq_skeleton]; unfold onBufs k0_part29_skel
  refine st_ldCur (by decide) (by decide) fun _ => ?_
  refine st_stL1 (by decide) (by decide) (by decide) (by decide) (by exact rfl) ?_
  refine st_send1 (by decide) (by decide) (condNe_iff c 22 (by decide)) (fun _ => rfl) (offA c) (offB c) ?_
  refine st_loc1 (by decide) (by decide) (condEq_iff c 22 (by decide)) (fun v => shapeCast_self v _) ?_
  refine st_send1 (by decide) (by decide) (condNe_iff c 23 (by decide)) (fun _ => rfl) (offA c) (offB c) ?_
  refine st_loc1 (by decide) (by decide) (condEq_iff c 23 (by decide)) (fun v => shapeCast_self v _) ?_
  refine st_ldQ ?_
  refine st_ldK ?_
  refine st_ldV ?_
  exact H

/-- Part 30 of the body: from the state before it to the state after it, with the values it returns. -/
theorem part30_run {k : (PUnit) → Prog (TpuEff nD τ sig (Elt F) Λ₀ .tc) α}
    (H : Run c iprop(Bs m K c ∗ P2 m c 78 24 24 ∗ R) (k ⟨⟩) Q) :
    Run c iprop(Bs m K c ∗ P2 m c 72 24 24 ∗ R) (onBufs k0_part30 (cntkOf m c) (k0_pay191 (ldV m c 12)) (k0_pay192 (attOf m c) (ldQ m c 12) (ldK m c 12)) >>= k) Q := by
  rw [k0_part30_eq_skeleton]; unfold onBufs k0_part30_skel
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  exact H

/-- Part 31 of the body: from the state before it to the state after it, with the values it returns. -/
theorem part31_run {k : (Σ' (v946 : FVec F S2048x64 .f32) (v951 : FVec F S16x2048 .f32) (v953 : FVec F S16x1 .f32), FVec F S16x2048 .f32) → Prog (TpuEff nD τ sig (Elt F) Λ₀ .tc) α}
    (H : Run c iprop(Bs m K c ∗ P2 m c 78 26 26 ∗ R) (k ⟨k0_pay205 (ldV m c 13), k0_pay206 (attOf m c) (ldQ m c 13) (ldK m c 13), k0_pay207 (attOf m c) (ldQ m c 13) (ldK m c 13), k0_pay208 (attOf m c) (ldQ m c 13) (ldK m c 13)⟩) Q) :
    Run c iprop(Bs m K c ∗ P2 m c 78 24 24 ∗ R) (onBufs k0_part31 c (vw c) (attOf m c) >>= k) Q := by
  rw [k0_part31_eq_skeleton]; unfold onBufs k0_part31_skel
  refine st_send1 (by decide) (by decide) (condNe_iff c 24 (by decide)) (fun _ => rfl) (offA c) (offB c) ?_
  refine st_loc1 (by decide) (by decide) (condEq_iff c 24 (by decide)) (fun v => shapeCast_self v _) ?_
  refine st_send1 (by decide) (by decide) (condNe_iff c 25 (by decide)) (fun _ => rfl) (offA c) (offB c) ?_
  refine st_loc1 (by decide) (by decide) (condEq_iff c 25 (by decide)) (fun v => shapeCast_self v _) ?_
  refine st_ldQ ?_
  refine st_ldK ?_
  refine st_ldV ?_
  exact H

end Cert.KernelIdeal.Attn

end
-- ==== Proof.RunE.lean ====
/-
The kernel's body, by the parts the generated skeleton cuts it into: the last heads, the wait for the other devices' rows, and the load of all rows. One theorem per part
says what the part does to the protocol's state, and which values it hands on.
-/
module

public import proofs.«01_k».proof.Proof.Steps5

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- Part 32 of the body: from the state before it to the state after it, with the values it returns. -/
theorem part32_run {k : (BitVec 32) → Prog (TpuEff nD τ sig (Elt F) Λ₀ .tc) α}
    (H : Run c iprop(Bs m K c ∗ P2 m c 84 26 26 ∗ R) (k (Scalar.extui (Scalar.cmpi .ne (vw c) 26#32))) Q) :
    Run c iprop(Bs m K c ∗ P2 m c 78 26 26 ∗ R) (onBufs k0_part32 (vw c) (cntkOf m c) (k0_pay205 (ldV m c 13)) (k0_pay206 (attOf m c) (ldQ m c 13) (ldK m c 13)) (k0_pay207 (attOf m c) (ldQ m c 13) (ldK m c 13)) (k0_pay208 (attOf m c) (ldQ m c 13) (ldK m c 13)) >>= k) Q := by
  rw [k0_part32_eq_skeleton]; unfold onBufs k0_part32_skel
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  exact H

/-- Part 33 of the body: from the state before it to the state after it, with the values it returns. -/
theorem part33_run {k : (Σ' (v1004 : FVec F S2048x64 .f32) (v1011 : FVec F S16x1 .f32), FVec F S16x2048 .f32) → Prog (TpuEff nD τ sig (Elt F) Λ₀ .tc) α}
    (H : Run c iprop(Bs m K c ∗ P2 m c 84 28 28 ∗ R) (k ⟨k0_pay220 (ldV m c 14), k0_pay222 (attOf m c) (ldQ m c 14) (ldK m c 14), k0_pay223 (cntkOf m c) (attOf m c) (ldQ m c 14) (ldK m c 14)⟩) Q) :
    Run c iprop(Bs m K c ∗ P2 m c 84 26 26 ∗ R) (onBufs k0_part33 c (vw c) (cntkOf m c) (attOf m c) ((Scalar.extui (Scalar.cmpi .ne (vw c) 26#32))) >>= k) Q := by
  rw [k0_part33_eq_skeleton]; unfold onBufs k0_part33_skel
  refine st_send1 (by decide) (by decide) (condNe_iff c 26 (by decide)) (fun _ => rfl) (offA c) (offB c) ?_
  refine st_loc1 (by decide) (by decide) (condEq_iff c 26 (by decide)) (fun v => shapeCast_self v _) ?_
  refine st_send1 (by decide) (by decide) (condNe_iff c 27 (by decide)) (fun _ => rfl) (offA c) (offB c) ?_
  refine st_loc1 (by decide) (by decide) (condEq_iff c 27 (by decide)) (fun v => shapeCast_self v _) ?_
  refine st_ldQ ?_
  refine st_ldK ?_
  refine st_ldV ?_
  exact H

/-- Part 34 of the body: from the state before it to the state after it, with the values it returns. -/
theorem part34_run {k : (PUnit) → Prog (TpuEff nD τ sig (Elt F) Λ₀ .tc) α}
    (H : Run c iprop(Bs m K c ∗ P2 m c 90 29 28 ∗ R) (k ⟨⟩) Q) :
    Run c iprop(Bs m K c ∗ P2 m c 84 28 28 ∗ R) (onBufs k0_part34 c (vw c) (k0_pay220 (ldV m c 14)) (k0_pay222 (attOf m c) (ldQ m c 14) (ldK m c 14)) (k0_pay223 (cntkOf m c) (attOf m c) (ldQ m c 14) (ldK m c 14)) >>= k) Q := by
  rw [k0_part34_eq_skeleton]; unfold onBufs k0_part34_skel
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 28 (by decide)) (fun _ => rfl) (offA c) (offB c) ?_
  exact H

/-- Part 35 of the body: from the state before it to the state after it, with the values it returns. -/
theorem part35_run {k : (Σ' (v1069 : FVec F S16x1 .f32) (v1075 : FVec F S16x1 .f32), FVec F S16x64 .f32) → Prog (TpuEff nD τ sig (Elt F) Λ₀ .tc) α}
    (H : Run c iprop(Bs m K c ∗ P2 m c 90 30 30 ∗ R) (k ⟨k0_pay235 (attOf m c) (ldQ m c 15) (ldK m c 15), k0_pay237 (cntkOf m c) (attOf m c) (ldQ m c 15) (ldK m c 15), k0_pay238 (cntkOf m c) (attOf m c) (ldQ m c 15) (ldK m c 15) (ldV m c 15)⟩) Q) :
    Run c iprop(Bs m K c ∗ P2 m c 90 29 28 ∗ R) (onBufs k0_part35 c (vw c) (cntkOf m c) (attOf m c) >>= k) Q := by
  rw [k0_part35_eq_skeleton]; unfold onBufs k0_part35_skel
  refine st_loc1 (by decide) (by decide) (condEq_iff c 28 (by decide)) (fun v => shapeCast_self v _) ?_
  refine st_send1 (by decide) (by decide) (condNe_iff c 29 (by decide)) (fun _ => rfl) (offA c) (offB c) ?_
  refine st_loc1 (by decide) (by decide) (condEq_iff c 29 (by decide)) (fun v => shapeCast_self v _) ?_
  refine st_ldQ ?_
  refine st_ldK ?_
  refine st_ldV ?_
  exact H

/-- Part 36 of the body: from the state before it to the state after it, with the values it returns. -/
theorem part36_run {k : (Σ' (v1105 : BitVec 32), BitVec 32) → Prog (TpuEff nD τ sig (Elt F) Λ₀ .tc) α}
    (H : Run c iprop(Bs m K c ∗ P2 m c 96 31 30 ∗ R) (k ⟨(Scalar.extui (Scalar.cmpi .eq (vw c) 30#32)), 0#32⟩) Q) :
    Run c iprop(Bs m K c ∗ P2 m c 90 30 30 ∗ R) (onBufs k0_part36 c (vw c) (k0_pay235 (attOf m c) (ldQ m c 15) (ldK m c 15)) (k0_pay237 (cntkOf m c) (attOf m c) (ldQ m c 15) (ldK m c 15)) (k0_pay238 (cntkOf m c) (attOf m c) (ldQ m c 15) (ldK m c 15) (ldV m c 15)) >>= k) Q := by
  rw [k0_part36_eq_skeleton]; unfold onBufs k0_part36_skel
  refine st_ldCur (by decide) (by decide) fun _ => ?_
  refine st_stAcc0 (by decide) (by decide) (by decide) (by decide) (by exact rfl) ?_
  refine st_ldCur (by decide) (by decide) fun _ => ?_
  refine st_stM0 (by decide) (by decide) (by decide) (by decide) (by exact rfl) ?_
  refine st_ldCur (by decide) (by decide) fun _ => ?_
  refine st_stL0 (by decide) (by decide) (by decide) (by decide) (by exact rfl) ?_
  refine st_ldCur (by decide) (by decide) fun _ => ?_
  refine st_stAcc1 (by decide) (by decide) (by decide) (by decide) (by exact rfl) ?_
  refine st_ldCur (by decide) (by decide) fun _ => ?_
  refine st_stM1 (by decide) (by decide) (by decide) (by decide) (by exact rfl) ?_
  refine st_ldCur (by decide) (by decide) fun _ => ?_
  refine st_stL1 (by decide) (by decide) (by decide) (by decide) (by exact rfl) ?_
  refine st_send1 (by decide) (by decide) (condNe_iff c 30 (by decide)) (fun _ => rfl) (offA c) (offB c) ?_
  exact H

/-- Part 37 of the body: from the state before it to the state after it, with the values it returns. -/
theorem part37_run {k : (BitVec 32) → Prog (TpuEff nD τ sig (Elt F) Λ₀ .tc) α}
    (H : Run c iprop(Bs m K c ∗ P2 m c 96 32 32 ∗ WT m c 1 4 ∗ R) (k (Scalar.extui (Scalar.cmpi .ne (vw c) 4#32))) Q) :
    Run c iprop(Bs m K c ∗ P2 m c 96 31 30 ∗ WT m c 1 0 ∗ R) (onBufs k0_part37 c (vw c) ((Scalar.extui (Scalar.cmpi .eq (vw c) 30#32))) (0#32) >>= k) Q := by
  rw [k0_part37_eq_skeleton]; unfold onBufs k0_part37_skel
  refine st_loc1 (by decide) (by decide) (condEq_iff c 30 (by decide)) (fun v => shapeCast_self v _) ?_
  refine st_send1 (by decide) (by decide) (condNe_iff c 31 (by decide)) (fun _ => rfl) (offA c) (offB c) ?_
  refine st_loc1 (by decide) (by decide) (condEq_iff c 31 (by decide)) (fun v => shapeCast_self v _) ?_
  refine st_wait 1 (by decide) (condNe_iff c 0 (by decide)) (sem_recv1 0 (by decide) _) rfl (by decide) ?_
  refine st_wait 1 (by decide) (condNe_iff c 1 (by decide)) (sem_recv1 1 (by decide) _) rfl (by decide) ?_
  refine st_wait 1 (by decide) (condNe_iff c 2 (by decide)) (sem_recv1 2 (by decide) _) rfl (by decide) ?_
  refine st_wait 1 (by decide) (condNe_iff c 3 (by decide)) (sem_recv1 3 (by decide) _) rfl (by decide) ?_
  exact H

/-- Part 38 of the body: from the state before it to the state after it, with the values it returns. -/
theorem part38_run {k : (BitVec 32) → Prog (TpuEff nD τ sig (Elt F) Λ₀ .tc) α}
    (H : Run c iprop(Bs m K c ∗ P2 m c 96 32 32 ∗ WT m c 1 10 ∗ R) (k (Scalar.extui (Scalar.cmpi .ne (vw c) 10#32))) Q) :
    Run c iprop(Bs m K c ∗ P2 m c 96 32 32 ∗ WT m c 1 4 ∗ R) (onBufs k0_part38 (vw c) ((Scalar.extui (Scalar.cmpi .ne (vw c) 4#32))) >>= k) Q := by
  rw [k0_part38_eq_skeleton]; unfold onBufs k0_part38_skel
  refine st_wait 1 (by decide) (condNe_iff c 4 (by decide)) (sem_recv1 4 (by decide) _) rfl (by decide) ?_
  refine st_wait 1 (by decide) (condNe_iff c 5 (by decide)) (sem_recv1 5 (by decide) _) rfl (by decide) ?_
  refine st_wait 1 (by decide) (condNe_iff c 6 (by decide)) (sem_recv1 6 (by decide) _) rfl (by decide) ?_
  refine st_wait 1 (by decide) (condNe_iff c 7 (by decide)) (sem_recv1 7 (by decide) _) rfl (by decide) ?_
  refine st_wait 1 (by decide) (condNe_iff c 8 (by decide)) (sem_recv1 8 (by decide) _) rfl (by decide) ?_
  refine st_wait 1 (by decide) (condNe_iff c 9 (by decide)) (sem_recv1 9 (by decide) _) rfl (by decide) ?_
  exact H

/-- Part 39 of the body: from the state before it to the state after it, with the values it returns. -/
theorem part39_run {k : (BitVec 32) → Prog (TpuEff nD τ sig (Elt F) Λ₀ .tc) α}
    (H : Run c iprop(Bs m K c ∗ P2 m c 96 32 32 ∗ WT m c 1 16 ∗ R) (k (Scalar.extui (Scalar.cmpi .ne (vw c) 16#32))) Q) :
    Run c iprop(Bs m K c ∗ P2 m c 96 32 32 ∗ WT m c 1 10 ∗ R) (onBufs k0_part39 (vw c) ((Scalar.extui (Scalar.cmpi .ne (vw c) 10#32))) >>= k) Q := by
  rw [k0_part39_eq_skeleton]; unfold onBufs k0_part39_skel
  refine st_wait 1 (by decide) (condNe_iff c 10 (by decide)) (sem_recv1 10 (by decide) _) rfl (by decide) ?_
  refine st_wait 1 (by decide) (condNe_iff c 11 (by decide)) (sem_recv1 11 (by decide) _) rfl (by decide) ?_
  refine st_wait 1 (by decide) (condNe_iff c 12 (by decide)) (sem_recv1 12 (by decide) _) rfl (by decide) ?_
  refine st_wait 1 (by decide) (condNe_iff c 13 (by decide)) (sem_recv1 13 (by decide) _) rfl (by decide) ?_
  refine st_wait 1 (by decide) (condNe_iff c 14 (by decide)) (sem_recv1 14 (by decide) _) rfl (by decide) ?_
  refine st_wait 1 (by decide) (condNe_iff c 15 (by decide)) (sem_recv1 15 (by decide) _) rfl (by decide) ?_
  exact H

/-- Part 40 of the body: from the state before it to the state after it, with the values it returns. -/
theorem part40_run {k : (BitVec 32) → Prog (TpuEff nD τ sig (Elt F) Λ₀ .tc) α}
    (H : Run c iprop(Bs m K c ∗ P2 m c 96 32 32 ∗ WT m c 1 22 ∗ R) (k (Scalar.extui (Scalar.cmpi .ne (vw c) 22#32))) Q) :
    Run c iprop(Bs m K c ∗ P2 m c 96 32 32 ∗ WT m c 1 16 ∗ R) (onBufs k0_part40 (vw c) ((Scalar.extui (Scalar.cmpi .ne (vw c) 16#32))) >>= k) Q := by
  rw [k0_part40_eq_skeleton]; unfold onBufs k0_part40_skel
  refine st_wait 1 (by decide) (condNe_iff c 16 (by decide)) (sem_recv1 16 (by decide) _) rfl (by decide) ?_
  refine st_wait 1 (by decide) (condNe_iff c 17 (by decide)) (sem_recv1 17 (by decide) _) rfl (by decide) ?_
  refine st_wait 1 (by decide) (condNe_iff c 18 (by decide)) (sem_recv1 18 (by decide) _) rfl (by decide) ?_
  refine st_wait 1 (by decide) (condNe_iff c 19 (by decide)) (sem_recv1 19 (by decide) _) rfl (by decide) ?_
  refine st_wait 1 (by decide) (condNe_iff c 20 (by decide)) (sem_recv1 20 (by decide) _) rfl (by decide) ?_
  refine st_wait 1 (by decide) (condNe_iff c 21 (by decide)) (sem_recv1 21 (by decide) _) rfl (by decide) ?_
  exact H

/-- Part 41 of the body: from the state before it to the state after it, with the values it returns. -/
theorem part41_run {k : (BitVec 32) → Prog (TpuEff nD τ sig (Elt F) Λ₀ .tc) α}
    (H : Run c iprop(Bs m K c ∗ P2 m c 96 32 32 ∗ WT m c 1 28 ∗ R) (k (Scalar.extui (Scalar.cmpi .ne (vw c) 28#32))) Q) :
    Run c iprop(Bs m K c ∗ P2 m c 96 32 32 ∗ WT m c 1 22 ∗ R) (onBufs k0_part41 (vw c) ((Scalar.extui (Scalar.cmpi .ne (vw c) 22#32))) >>= k) Q := by
  rw [k0_part41_eq_skeleton]; unfold onBufs k0_part41_skel
  refine st_wait 1 (by decide) (condNe_iff c 22 (by decide)) (sem_recv1 22 (by decide) _) rfl (by decide) ?_
  refine st_wait 1 (by decide) (condNe_iff c 23 (by decide)) (sem_recv1 23 (by decide) _) rfl (by decide) ?_
  refine st_wait 1 (by decide) (condNe_iff c 24 (by decide)) (sem_recv1 24 (by decide) _) rfl (by decide) ?_
  refine st_wait 1 (by decide) (condNe_iff c 25 (by decide)) (sem_recv1 25 (by decide) _) rfl (by decide) ?_
  refine st_wait 1 (by decide) (condNe_iff c 26 (by decide)) (sem_recv1 26 (by decide) _) rfl (by decide) ?_
  refine st_wait 1 (by decide) (condNe_iff c 27 (by decide)) (sem_recv1 27 (by decide) _) rfl (by decide) ?_
  exact H

/-- Part 42 of the body: from the state before it to the state after it, with the values it returns. -/
theorem part42_run {k : (FVec F S8x64 .f32) → Prog (TpuEff nD τ sig (Elt F) Λ₀ .tc) α}
    (H : Run c iprop(Bs m K c ∗ owesS c 32 32 0 0 ∗ T1 c ∗ R) (k (k0_pay247 (canon m c))) Q) :
    Run c iprop(Bs m K c ∗ P2 m c 96 32 32 ∗ WT m c 1 28 ∗ R) (onBufs k0_part42 (vw c) ((Scalar.extui (Scalar.cmpi .ne (vw c) 28#32))) >>= k) Q := by
  rw [k0_part42_eq_skeleton]; unfold onBufs k0_part42_skel
  refine st_wait 1 (by decide) (condNe_iff c 28 (by decide)) (sem_recv1 28 (by decide) _) rfl (by decide) ?_
  refine st_wait 1 (by decide) (condNe_iff c 29 (by decide)) (sem_recv1 29 (by decide) _) rfl (by decide) ?_
  refine st_wait 1 (by decide) (condNe_iff c 30 (by decide)) (sem_recv1 30 (by decide) _) rfl (by decide) ?_
  refine st_wait 1 (by decide) (condNe_iff c 31 (by decide)) (sem_recv1 31 (by decide) _) rfl (by decide) ?_
  refine st_ldIn fun v hv => ?_
  beta_reduce
  rw [show k0_pay247 v = _ from hv]
  exact H

end Cert.KernelIdeal.Attn

end
-- ==== Proof.RunF.lean ====
/-
The kernel's body, by the parts the generated skeleton cuts it into: the combined result and the second exchange. One theorem per part
says what the part does to the protocol's state, and which values it hands on.
-/
module

public import proofs.«01_k».proof.Proof.Steps5

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- Part 43 of the body: from the state before it to the state after it, with the values it returns. -/
theorem part43_run {k : (BitVec 32) → Prog (TpuEff nD τ sig (Elt F) Λ₀ .tc) α}
    (H : Run c iprop(Bs m K c ∗ P4 m c 4 4 ∗ R) (k (Scalar.extui (Scalar.cmpi .ne (vw c) 4#32))) Q) :
    Run c iprop(Bs m K c ∗ owesS c 32 32 0 0 ∗ ((∃ f, ((c : Thread nD τ).loc cc0_scratch2) ↦{fullShare} f) ∗ G0 c) ∗ R) (onBufs k0_part43 c (vw c) (k0_pay247 (canon m c)) >>= k) Q := by
  rw [k0_part43_eq_skeleton]; unfold onBufs k0_part43_skel
  refine st_res (by exact rfl) ?_
  refine st_send2 (by decide) (condNe_iff c 0 (by decide)) (fun _ => rfl) (offA c) (offB c) ?_
  refine st_loc2 (condEq_iff c 0 (by decide)) (offB c) (resRow_cast m c) ?_
  refine st_send2 (by decide) (condNe_iff c 1 (by decide)) (fun _ => rfl) (offA c) (offB c) ?_
  refine st_loc2 (condEq_iff c 1 (by decide)) (offB c) (resRow_cast m c) ?_
  refine st_send2 (by decide) (condNe_iff c 2 (by decide)) (fun _ => rfl) (offA c) (offB c) ?_
  refine st_loc2 (condEq_iff c 2 (by decide)) (offB c) (resRow_cast m c) ?_
  refine st_send2 (by decide) (condNe_iff c 3 (by decide)) (fun _ => rfl) (offA c) (offB c) ?_
  refine st_loc2 (condEq_iff c 3 (by decide)) (offB c) (resRow_cast m c) ?_
  exact H

/-- Part 44 of the body: from the state before it to the state after it, with the values it returns. -/
theorem part44_run {k : (PUnit) → Prog (TpuEff nD τ sig (Elt F) Λ₀ .tc) α}
    (H : Run c iprop(Bs m K c ∗ P4 m c 9 8 ∗ R) (k ⟨⟩) Q) :
    Run c iprop(Bs m K c ∗ P4 m c 4 4 ∗ R) (onBufs k0_part44 c (vw c) ((Scalar.extui (Scalar.cmpi .ne (vw c) 4#32))) >>= k) Q := by
  rw [k0_part44_eq_skeleton]; unfold onBufs k0_part44_skel
  refine st_send2 (by decide) (condNe_iff c 4 (by decide)) (fun _ => rfl) (offA c) (offB c) ?_
  refine st_loc2 (condEq_iff c 4 (by decide)) (offB c) (resRow_cast m c) ?_
  refine st_send2 (by decide) (condNe_iff c 5 (by decide)) (fun _ => rfl) (offA c) (offB c) ?_
  refine st_loc2 (condEq_iff c 5 (by decide)) (offB c) (resRow_cast m c) ?_
  refine st_send2 (by decide) (condNe_iff c 6 (by decide)) (fun _ => rfl) (offA c) (offB c) ?_
  refine st_loc2 (condEq_iff c 6 (by decide)) (offB c) (resRow_cast m c) ?_
  refine st_send2 (by decide) (condNe_iff c 7 (by decide)) (fun _ => rfl) (offA c) (offB c) ?_
  refine st_loc2 (condEq_iff c 7 (by decide)) (offB c) (resRow_cast m c) ?_
  refine st_send2 (by decide) (condNe_iff c 8 (by decide)) (fun _ => rfl) (offA c) (offB c) ?_
  exact H

/-- Part 45 of the body: from the state before it to the state after it, with the values it returns. -/
theorem part45_run {k : (PUnit) → Prog (TpuEff nD τ sig (Elt F) Λ₀ .tc) α}
    (H : Run c iprop(Bs m K c ∗ P4 m c 14 13 ∗ R) (k ⟨⟩) Q) :
    Run c iprop(Bs m K c ∗ P4 m c 9 8 ∗ R) (onBufs k0_part45 c (vw c) >>= k) Q := by
  rw [k0_part45_eq_skeleton]; unfold onBufs k0_part45_skel
  refine st_loc2 (condEq_iff c 8 (by decide)) (offB c) (resRow_cast m c) ?_
  refine st_send2 (by decide) (condNe_iff c 9 (by decide)) (fun _ => rfl) (offA c) (offB c) ?_
  refine st_loc2 (condEq_iff c 9 (by decide)) (offB c) (resRow_cast m c) ?_
  refine st_send2 (by decide) (condNe_iff c 10 (by decide)) (fun _ => rfl) (offA c) (offB c) ?_
  refine st_loc2 (condEq_iff c 10 (by decide)) (offB c) (resRow_cast m c) ?_
  refine st_send2 (by decide) (condNe_iff c 11 (by decide)) (fun _ => rfl) (offA c) (offB c) ?_
  refine st_loc2 (condEq_iff c 11 (by decide)) (offB c) (resRow_cast m c) ?_
  refine st_send2 (by decide) (condNe_iff c 12 (by decide)) (fun _ => rfl) (offA c) (offB c) ?_
  refine st_loc2 (condEq_iff c 12 (by decide)) (offB c) (resRow_cast m c) ?_
  refine st_send2 (by decide) (condNe_iff c 13 (by decide)) (fun _ => rfl) (offA c) (offB c) ?_
  exact H

/-- Part 46 of the body: from the state before it to the state after it, with the values it returns. -/
theorem part46_run {k : (BitVec 1) → Prog (TpuEff nD τ sig (Elt F) Λ₀ .tc) α}
    (H : Run c iprop(Bs m K c ∗ P4 m c 18 18 ∗ R) (k (Scalar.cmpi .ne (vw c) 18#32)) Q) :
    Run c iprop(Bs m K c ∗ P4 m c 14 13 ∗ R) (onBufs k0_part46 c (vw c) >>= k) Q := by
  rw [k0_part46_eq_skeleton]; unfold onBufs k0_part46_skel
  refine st_loc2 (condEq_iff c 13 (by decide)) (offB c) (resRow_cast m c) ?_
  refine st_send2 (by decide) (condNe_iff c 14 (by decide)) (fun _ => rfl) (offA c) (offB c) ?_
  refine st_loc2 (condEq_iff c 14 (by decide)) (offB c) (resRow_cast m c) ?_
  refine st_send2 (by decide) (condNe_iff c 15 (by decide)) (fun _ => rfl) (offA c) (offB c) ?_
  refine st_loc2 (condEq_iff c 15 (by decide)) (offB c) (resRow_cast m c) ?_
  refine st_send2 (by decide) (condNe_iff c 16 (by decide)) (fun _ => rfl) (offA c) (offB c) ?_
  refine st_loc2 (condEq_iff c 16 (by decide)) (offB c) (resRow_cast m c) ?_
  refine st_send2 (by decide) (condNe_iff c 17 (by decide)) (fun _ => rfl) (offA c) (offB c) ?_
  refine st_loc2 (condEq_iff c 17 (by decide)) (offB c) (resRow_cast m c) ?_
  exact H

/-- Part 47 of the body: from the state before it to the state after it, with the values it returns. -/
theorem part47_run {k : (BitVec 32) → Prog (TpuEff nD τ sig (Elt F) Λ₀ .tc) α}
    (H : Run c iprop(Bs m K c ∗ P4 m c 23 22 ∗ R) (k (Scalar.extui (Scalar.cmpi .eq (vw c) 22#32))) Q) :
    Run c iprop(Bs m K c ∗ P4 m c 18 18 ∗ R) (onBufs k0_part47 c (vw c) ((Scalar.cmpi .ne (vw c) 18#32)) >>= k) Q := by
  rw [k0_part47_eq_skeleton]; unfold onBufs k0_part47_skel
  refine st_send2 (by decide) (condNe_iff c 18 (by decide)) (fun _ => rfl) (offA c) (offB c) ?_
  refine st_loc2 (condEq_iff c 18 (by decide)) (offB c) (resRow_cast m c) ?_
  refine st_send2 (by decide) (condNe_iff c 19 (by decide)) (fun _ => rfl) (offA c) (offB c) ?_
  refine st_loc2 (condEq_iff c 19 (by decide)) (offB c) (resRow_cast m c) ?_
  refine st_send2 (by decide) (condNe_iff c 20 (by decide)) (fun _ => rfl) (offA c) (offB c) ?_
  refine st_loc2 (condEq_iff c 20 (by decide)) (offB c) (resRow_cast m c) ?_
  refine st_send2 (by decide) (condNe_iff c 21 (by decide)) (fun _ => rfl) (offA c) (offB c) ?_
  refine st_loc2 (condEq_iff c 21 (by decide)) (offB c) (resRow_cast m c) ?_
  refine st_send2 (by decide) (condNe_iff c 22 (by decide)) (fun _ => rfl) (offA c) (offB c) ?_
  exact H

/-- Part 48 of the body: from the state before it to the state after it, with the values it returns. -/
theorem part48_run {k : (Σ' (v1391 : BitVec 32), BitVec 32) → Prog (TpuEff nD τ sig (Elt F) Λ₀ .tc) α}
    (H : Run c iprop(Bs m K c ∗ P4 m c 27 27 ∗ R) (k ⟨(Scalar.extui (Scalar.cmpi .ne (vw c) 27#32)), 0#32⟩) Q) :
    Run c iprop(Bs m K c ∗ P4 m c 23 22 ∗ R) (onBufs k0_part48 c (vw c) ((Scalar.extui (Scalar.cmpi .eq (vw c) 22#32))) >>= k) Q := by
  rw [k0_part48_eq_skeleton]; unfold onBufs k0_part48_skel
  refine st_loc2 (condEq_iff c 22 (by decide)) (offB c) (resRow_cast m c) ?_
  refine st_send2 (by decide) (condNe_iff c 23 (by decide)) (fun _ => rfl) (offA c) (offB c) ?_
  refine st_loc2 (condEq_iff c 23 (by decide)) (offB c) (resRow_cast m c) ?_
  refine st_send2 (by decide) (condNe_iff c 24 (by decide)) (fun _ => rfl) (offA c) (offB c) ?_
  refine st_loc2 (condEq_iff c 24 (by decide)) (offB c) (resRow_cast m c) ?_
  refine st_send2 (by decide) (condNe_iff c 25 (by decide)) (fun _ => rfl) (offA c) (offB c) ?_
  refine st_loc2 (condEq_iff c 25 (by decide)) (offB c) (resRow_cast m c) ?_
  refine st_send2 (by decide) (condNe_iff c 26 (by decide)) (fun _ => rfl) (offA c) (offB c) ?_
  refine st_loc2 (condEq_iff c 26 (by decide)) (offB c) (resRow_cast m c) ?_
  exact H

/-- Part 49 of the body: from the state before it to the state after it, with the values it returns. -/
theorem part49_run {k : (PUnit) → Prog (TpuEff nD τ sig (Elt F) Λ₀ .tc) α}
    (H : Run c iprop(Bs m K c ∗ P4 m c 32 32 ∗ R) (k ⟨⟩) Q) :
    Run c iprop(Bs m K c ∗ P4 m c 27 27 ∗ R) (onBufs k0_part49 c (vw c) ((Scalar.extui (Scalar.cmpi .ne (vw c) 27#32))) (0#32) >>= k) Q := by
  rw [k0_part49_eq_skeleton]; unfold onBufs k0_part49_skel
  refine st_send2 (by decide) (condNe_iff c 27 (by decide)) (fun _ => rfl) (offA c) (offB c) ?_
  refine st_loc2 (condEq_iff c 27 (by decide)) (offB c) (resRow_cast m c) ?_
  refine st_send2 (by decide) (condNe_iff c 28 (by decide)) (fun _ => rfl) (offA c) (offB c) ?_
  refine st_loc2 (condEq_iff c 28 (by decide)) (offB c) (resRow_cast m c) ?_
  refine st_send2 (by decide) (condNe_iff c 29 (by decide)) (fun _ => rfl) (offA c) (offB c) ?_
  refine st_loc2 (condEq_iff c 29 (by decide)) (offB c) (resRow_cast m c) ?_
  refine st_send2 (by decide) (condNe_iff c 30 (by decide)) (fun _ => rfl) (offA c) (offB c) ?_
  refine st_loc2 (condEq_iff c 30 (by decide)) (offB c) (resRow_cast m c) ?_
  refine st_send2 (by decide) (condNe_iff c 31 (by decide)) (fun _ => rfl) (offA c) (offB c) ?_
  refine st_loc2 (condEq_iff c 31 (by decide)) (offB c) (resRow_cast m c) ?_
  exact H

end Cert.KernelIdeal.Attn

end
-- ==== Proof.RunG.lean ====
/-
The kernel's body, by the parts the generated skeleton cuts it into: the wait for the results, and the store of each head. One theorem per part
says what the part does to the protocol's state, and which values it hands on.
-/
module

public import proofs.«01_k».proof.Proof.Steps5

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- Part 50 of the body: from the state before it to the state after it, with the values it returns. -/
theorem part50_run {k : (FVec F S8x64 .f32) → Prog (TpuEff nD τ sig (Elt F) Λ₀ .tc) α}
    (H : Run c iprop(Bs m K c ∗ P4 m c 32 32 ∗ WT m c 3 4 ∗ Out m c 1 ∗ R) (k (k0_pay282 (resRow m ⟨2, by decide⟩))) Q) :
    Run c iprop(Bs m K c ∗ P4 m c 32 32 ∗ WT m c 3 0 ∗ Out m c 0 ∗ R) (onBufs k0_part50 (vw c) >>= k) Q := by
  rw [k0_part50_eq_skeleton]; unfold onBufs k0_part50_skel
  refine st_wait 3 (by decide) (condNe_iff c 0 (by decide)) (sem_recv2 0 (by decide) _) rfl (by decide) ?_
  refine st_wait 3 (by decide) (condNe_iff c 1 (by decide)) (sem_recv2 1 (by decide) _) rfl (by decide) ?_
  refine st_ldG (by decide) (by decide) ?_
  refine st_ldG (by decide) (by decide) ?_
  refine st_ldO fun _ => ?_
  refine st_stO (by decide) (by exact rfl) ?_
  refine st_wait 3 (by decide) (condNe_iff c 2 (by decide)) (sem_recv2 2 (by decide) _) rfl (by decide) ?_
  refine st_wait 3 (by decide) (condNe_iff c 3 (by decide)) (sem_recv2 3 (by decide) _) rfl (by decide) ?_
  refine st_ldG (by decide) (by decide) ?_
  exact H

/-- Part 51 of the body: from the state before it to the state after it, with the values it returns. -/
theorem part51_run {k : (PUnit) → Prog (TpuEff nD τ sig (Elt F) Λ₀ .tc) α}
    (H : Run c iprop(Bs m K c ∗ P4 m c 32 32 ∗ WT m c 3 7 ∗ Out m c 3 ∗ R) (k ⟨⟩) Q) :
    Run c iprop(Bs m K c ∗ P4 m c 32 32 ∗ WT m c 3 4 ∗ Out m c 1 ∗ R) (onBufs k0_part51 (vw c) ((k0_pay282 (resRow m ⟨2, by decide⟩))) >>= k) Q := by
  rw [k0_part51_eq_skeleton]; unfold onBufs k0_part51_skel
  refine st_ldG (by decide) (by decide) ?_
  refine st_ldO fun _ => ?_
  refine st_stO (by decide) (by exact rfl) ?_
  refine st_wait 3 (by decide) (condNe_iff c 4 (by decide)) (sem_recv2 4 (by decide) _) rfl (by decide) ?_
  refine st_wait 3 (by decide) (condNe_iff c 5 (by decide)) (sem_recv2 5 (by decide) _) rfl (by decide) ?_
  refine st_ldG (by decide) (by decide) ?_
  refine st_ldG (by decide) (by decide) ?_
  refine st_ldO fun _ => ?_
  refine st_stO (by decide) (by exact rfl) ?_
  refine st_wait 3 (by decide) (condNe_iff c 6 (by decide)) (sem_recv2 6 (by decide) _) rfl (by decide) ?_
  exact H

/-- Part 52 of the body: from the state before it to the state after it, with the values it returns. -/
theorem part52_run {k : (FVec F S16x64 .f32) → Prog (TpuEff nD τ sig (Elt F) Λ₀ .tc) α}
    (H : Run c iprop(Bs m K c ∗ P4 m c 32 32 ∗ WT m c 3 10 ∗ Out m c 4 ∗ R) (k (k0_pay286 (resRow m ⟨8, by decide⟩) (resRow m ⟨9, by decide⟩))) Q) :
    Run c iprop(Bs m K c ∗ P4 m c 32 32 ∗ WT m c 3 7 ∗ Out m c 3 ∗ R) (onBufs k0_part52 (vw c) >>= k) Q := by
  rw [k0_part52_eq_skeleton]; unfold onBufs k0_part52_skel
  refine st_wait 3 (by decide) (condNe_iff c 7 (by decide)) (sem_recv2 7 (by decide) _) rfl (by decide) ?_
  refine st_ldG (by decide) (by decide) ?_
  refine st_ldG (by decide) (by decide) ?_
  refine st_ldO fun _ => ?_
  refine st_stO (by decide) (by exact rfl) ?_
  refine st_wait 3 (by decide) (condNe_iff c 8 (by decide)) (sem_recv2 8 (by decide) _) rfl (by decide) ?_
  refine st_wait 3 (by decide) (condNe_iff c 9 (by decide)) (sem_recv2 9 (by decide) _) rfl (by decide) ?_
  refine st_ldG (by decide) (by decide) ?_
  refine st_ldG (by decide) (by decide) ?_
  exact H

/-- Part 53 of the body: from the state before it to the state after it, with the values it returns. -/
theorem part53_run {k : (PUnit) → Prog (TpuEff nD τ sig (Elt F) Λ₀ .tc) α}
    (H : Run c iprop(Bs m K c ∗ P4 m c 32 32 ∗ WT m c 3 14 ∗ Out m c 6 ∗ R) (k ⟨⟩) Q) :
    Run c iprop(Bs m K c ∗ P4 m c 32 32 ∗ WT m c 3 10 ∗ Out m c 4 ∗ R) (onBufs k0_part53 (vw c) ((k0_pay286 (resRow m ⟨8, by decide⟩) (resRow m ⟨9, by decide⟩))) >>= k) Q := by
  rw [k0_part53_eq_skeleton]; unfold onBufs k0_part53_skel
  refine st_ldO fun _ => ?_
  refine st_stO (by decide) (by exact rfl) ?_
  refine st_wait 3 (by decide) (condNe_iff c 10 (by decide)) (sem_recv2 10 (by decide) _) rfl (by decide) ?_
  refine st_wait 3 (by decide) (condNe_iff c 11 (by decide)) (sem_recv2 11 (by decide) _) rfl (by decide) ?_
  refine st_ldG (by decide) (by decide) ?_
  refine st_ldG (by decide) (by decide) ?_
  refine st_ldO fun _ => ?_
  refine st_stO (by decide) (by exact rfl) ?_
  refine st_wait 3 (by decide) (condNe_iff c 12 (by decide)) (sem_recv2 12 (by decide) _) rfl (by decide) ?_
  refine st_wait 3 (by decide) (condNe_iff c 13 (by decide)) (sem_recv2 13 (by decide) _) rfl (by decide) ?_
  exact H

/-- Part 54 of the body: from the state before it to the state after it, with the values it returns. -/
theorem part54_run {k : (BitVec 32) → Prog (TpuEff nD τ sig (Elt F) Λ₀ .tc) α}
    (H : Run c iprop(Bs m K c ∗ P4 m c 32 32 ∗ WT m c 3 16 ∗ Out m c 8 ∗ R) (k (Scalar.extui (Scalar.cmpi .ne (vw c) 16#32))) Q) :
    Run c iprop(Bs m K c ∗ P4 m c 32 32 ∗ WT m c 3 14 ∗ Out m c 6 ∗ R) (onBufs k0_part54 (vw c) >>= k) Q := by
  rw [k0_part54_eq_skeleton]; unfold onBufs k0_part54_skel
  refine st_ldG (by decide) (by decide) ?_
  refine st_ldG (by decide) (by decide) ?_
  refine st_ldO fun _ => ?_
  refine st_stO (by decide) (by exact rfl) ?_
  refine st_wait 3 (by decide) (condNe_iff c 14 (by decide)) (sem_recv2 14 (by decide) _) rfl (by decide) ?_
  refine st_wait 3 (by decide) (condNe_iff c 15 (by decide)) (sem_recv2 15 (by decide) _) rfl (by decide) ?_
  refine st_ldG (by decide) (by decide) ?_
  refine st_ldG (by decide) (by decide) ?_
  refine st_ldO fun _ => ?_
  refine st_stO (by decide) (by exact rfl) ?_
  exact H

/-- Part 55 of the body: from the state before it to the state after it, with the values it returns. -/
theorem part55_run {k : (Σ' (v1553 : FVec F S8x64 .f32), Vec F S1x8x64 .f32) → Prog (TpuEff nD τ sig (Elt F) Λ₀ .tc) α}
    (H : Run c iprop(Bs m K c ∗ P4 m c 32 32 ∗ WT m c 3 20 ∗ Out m c 9 ∗ R) (k ⟨k0_pay292 (resRow m ⟨18, by decide⟩), (resRow m ⟨19, by decide⟩)⟩) Q) :
    Run c iprop(Bs m K c ∗ P4 m c 32 32 ∗ WT m c 3 16 ∗ Out m c 8 ∗ R) (onBufs k0_part55 (vw c) ((Scalar.extui (Scalar.cmpi .ne (vw c) 16#32))) >>= k) Q := by
  rw [k0_part55_eq_skeleton]; unfold onBufs k0_part55_skel
  refine st_wait 3 (by decide) (condNe_iff c 16 (by decide)) (sem_recv2 16 (by decide) _) rfl (by decide) ?_
  refine st_wait 3 (by decide) (condNe_iff c 17 (by decide)) (sem_recv2 17 (by decide) _) rfl (by decide) ?_
  refine st_ldG (by decide) (by decide) ?_
  refine st_ldG (by decide) (by decide) ?_
  refine st_ldO fun _ => ?_
  refine st_stO (by decide) (by exact rfl) ?_
  refine st_wait 3 (by decide) (condNe_iff c 18 (by decide)) (sem_recv2 18 (by decide) _) rfl (by decide) ?_
  refine st_wait 3 (by decide) (condNe_iff c 19 (by decide)) (sem_recv2 19 (by decide) _) rfl (by decide) ?_
  refine st_ldG (by decide) (by decide) ?_
  refine st_ldG (by decide) (by decide) ?_
  exact H

/-- Part 56 of the body: from the state before it to the state after it, with the values it returns. -/
theorem part56_run {k : (BitVec 32) → Prog (TpuEff nD τ sig (Elt F) Λ₀ .tc) α}
    (H : Run c iprop(Bs m K c ∗ P4 m c 32 32 ∗ WT m c 3 23 ∗ Out m c 11 ∗ R) (k (Scalar.extui (Scalar.cmpi .ne (vw c) 23#32))) Q) :
    Run c iprop(Bs m K c ∗ P4 m c 32 32 ∗ WT m c 3 20 ∗ Out m c 9 ∗ R) (onBufs k0_part56 (vw c) (k0_pay292 (resRow m ⟨18, by decide⟩)) ((resRow m ⟨19, by decide⟩)) >>= k) Q := by
  rw [k0_part56_eq_skeleton]; unfold onBufs k0_part56_skel
  refine st_ldO fun _ => ?_
  refine st_stO (by decide) (by exact rfl) ?_
  refine st_wait 3 (by decide) (condNe_iff c 20 (by decide)) (sem_recv2 20 (by decide) _) rfl (by decide) ?_
  refine st_wait 3 (by decide) (condNe_iff c 21 (by decide)) (sem_recv2 21 (by decide) _) rfl (by decide) ?_
  refine st_ldG (by decide) (by decide) ?_
  refine st_ldG (by decide) (by decide) ?_
  refine st_ldO fun _ => ?_
  refine st_stO (by decide) (by exact rfl) ?_
  refine st_wait 3 (by decide) (condNe_iff c 22 (by decide)) (sem_recv2 22 (by decide) _) rfl (by decide) ?_
  exact H

/-- Part 57 of the body: from the state before it to the state after it, with the values it returns. -/
theorem part57_run {k : (FVec F S16x1x1x64 .f32) → Prog (TpuEff nD τ sig (Elt F) Λ₀ .tc) α}
    (H : Run c iprop(Bs m K c ∗ P4 m c 32 32 ∗ WT m c 3 26 ∗ Out m c 12 ∗ R) (k (k0_pay296 (resRow m ⟨24, by decide⟩) (resRow m ⟨25, by decide⟩))) Q) :
    Run c iprop(Bs m K c ∗ P4 m c 32 32 ∗ WT m c 3 23 ∗ Out m c 11 ∗ R) (onBufs k0_part57 (vw c) ((Scalar.extui (Scalar.cmpi .ne (vw c) 23#32))) >>= k) Q := by
  rw [k0_part57_eq_skeleton]; unfold onBufs k0_part57_skel
  refine st_wait 3 (by decide) (condNe_iff c 23 (by decide)) (sem_recv2 23 (by decide) _) rfl (by decide) ?_
  refine st_ldG (by decide) (by decide) ?_
  refine st_ldG (by decide) (by decide) ?_
  refine st_ldO fun _ => ?_
  refine st_stO (by decide) (by exact rfl) ?_
  refine st_wait 3 (by decide) (condNe_iff c 24 (by decide)) (sem_recv2 24 (by decide) _) rfl (by decide) ?_
  refine st_wait 3 (by decide) (condNe_iff c 25 (by decide)) (sem_recv2 25 (by decide) _) rfl (by decide) ?_
  refine st_ldG (by decide) (by decide) ?_
  refine st_ldG (by decide) (by decide) ?_
  refine st_ldO fun _ => ?_
  exact H

/-- Part 58 of the body: from the state before it to the state after it, with the values it returns. -/
theorem part58_run {k : (Vec F S1x8x64 .f32) → Prog (TpuEff nD τ sig (Elt F) Λ₀ .tc) α}
    (H : Run c iprop(Bs m K c ∗ P4 m c 32 32 ∗ WT m c 3 30 ∗ Out m c 14 ∗ R) (k (resRow m ⟨28, by decide⟩)) Q) :
    Run c iprop(Bs m K c ∗ P4 m c 32 32 ∗ WT m c 3 26 ∗ Out m c 12 ∗ R) (onBufs k0_part58 (vw c) ((k0_pay296 (resRow m ⟨24, by decide⟩) (resRow m ⟨25, by decide⟩))) >>= k) Q := by
  rw [k0_part58_eq_skeleton]; unfold onBufs k0_part58_skel
  refine st_stO (by decide) (by exact rfl) ?_
  refine st_wait 3 (by decide) (condNe_iff c 26 (by decide)) (sem_recv2 26 (by decide) _) rfl (by decide) ?_
  refine st_wait 3 (by decide) (condNe_iff c 27 (by decide)) (sem_recv2 27 (by decide) _) rfl (by decide) ?_
  refine st_ldG (by decide) (by decide) ?_
  refine st_ldG (by decide) (by decide) ?_
  refine st_ldO fun _ => ?_
  refine st_stO (by decide) (by exact rfl) ?_
  refine st_wait 3 (by decide) (condNe_iff c 28 (by decide)) (sem_recv2 28 (by decide) _) rfl (by decide) ?_
  refine st_wait 3 (by decide) (condNe_iff c 29 (by decide)) (sem_recv2 29 (by decide) _) rfl (by decide) ?_
  refine st_ldG (by decide) (by decide) ?_
  exact H

/-- Part 59 of the body: from the state before it to the state after it, with the values it returns. -/
theorem part59_run {k : (BitVec 32) → Prog (TpuEff nD τ sig (Elt F) Λ₀ .tc) α}
    (H : Run c iprop(Bs m K c ∗ P4 m c 32 32 ∗ WT m c 3 32 ∗ Out m c 16 ∗ R) (k (Scalar.extui (Scalar.cmpi .ne (vw c) 0#32))) Q) :
    Run c iprop(Bs m K c ∗ P4 m c 32 32 ∗ WT m c 3 30 ∗ Out m c 14 ∗ R) (onBufs k0_part59 (vw c) ((resRow m ⟨28, by decide⟩)) >>= k) Q := by
  rw [k0_part59_eq_skeleton]; unfold onBufs k0_part59_skel
  refine st_ldG (by decide) (by decide) ?_
  refine st_ldO fun _ => ?_
  refine st_stO (by decide) (by exact rfl) ?_
  refine st_wait 3 (by decide) (condNe_iff c 30 (by decide)) (sem_recv2 30 (by decide) _) rfl (by decide) ?_
  refine st_wait 3 (by decide) (condNe_iff c 31 (by decide)) (sem_recv2 31 (by decide) _) rfl (by decide) ?_
  refine st_ldG (by decide) (by decide) ?_
  refine st_ldG (by decide) (by decide) ?_
  refine st_ldO fun _ => ?_
  refine st_stO (by decide) (by exact rfl) ?_
  exact H

end Cert.KernelIdeal.Attn

end
-- ==== Proof.RunH.lean ====
/-
The kernel's body, by the parts the generated skeleton cuts it into: the wait for the sends, and the signals of the second barrier. One theorem per part
says what the part does to the protocol's state, and which values it hands on.
-/
module

public import proofs.«01_k».proof.Proof.Steps5

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-- Part 60 of the body: from the state before it to the state after it, with the values it returns. -/
theorem part60_run {k : (BitVec 32) → Prog (TpuEff nD τ sig (Elt F) Λ₀ .tc) α}
    (H : Run c iprop(Bs m K c ∗ (owesS c 32 32 32 0 ∗ T2 c 0) ∗ WT m c 0 5 ∗ WT m c 2 5 ∗ R) (k (Scalar.extui (Scalar.cmpi .ne (vw c) 5#32))) Q) :
    Run c iprop(Bs m K c ∗ (owesS c 32 32 32 0 ∗ T2 c 0) ∗ WT m c 0 0 ∗ WT m c 2 0 ∗ R) (onBufs k0_part60 (vw c) ((Scalar.extui (Scalar.cmpi .ne (vw c) 0#32))) >>= k) Q := by
  rw [k0_part60_eq_skeleton]; unfold onBufs k0_part60_skel
  refine st_wait2 (by decide) (condNe_iff c 0 (by decide)) (sem_send1 0 (by decide) _) rfl (sem_send2 0 (by decide) _) rfl ?_
  refine st_wait2 (by decide) (condNe_iff c 1 (by decide)) (sem_send1 1 (by decide) _) rfl (sem_send2 1 (by decide) _) rfl ?_
  refine st_wait2 (by decide) (condNe_iff c 2 (by decide)) (sem_send1 2 (by decide) _) rfl (sem_send2 2 (by decide) _) rfl ?_
  refine st_wait2 (by decide) (condNe_iff c 3 (by decide)) (sem_send1 3 (by decide) _) rfl (sem_send2 3 (by decide) _) rfl ?_
  refine st_wait2 (by decide) (condNe_iff c 4 (by decide)) (sem_send1 4 (by decide) _) rfl (sem_send2 4 (by decide) _) rfl ?_
  exact H

/-- Part 61 of the body: from the state before it to the state after it, with the values it returns. -/
theorem part61_run {k : (Σ' (v1672 : BitVec 32), BitVec 32) → Prog (TpuEff nD τ sig (Elt F) Λ₀ .tc) α}
    (H : Run c iprop(Bs m K c ∗ (owesS c 32 32 32 0 ∗ T2 c 0) ∗ WT m c 0 9 ∗ WT m c 2 9 ∗ R) (k ⟨(Scalar.extui (Scalar.cmpi .ne (vw c) 9#32)), 0#32⟩) Q) :
    Run c iprop(Bs m K c ∗ (owesS c 32 32 32 0 ∗ T2 c 0) ∗ WT m c 0 5 ∗ WT m c 2 5 ∗ R) (onBufs k0_part61 (vw c) ((Scalar.extui (Scalar.cmpi .ne (vw c) 5#32))) >>= k) Q := by
  rw [k0_part61_eq_skeleton]; unfold onBufs k0_part61_skel
  refine st_wait2 (by decide) (condNe_iff c 5 (by decide)) (sem_send1 5 (by decide) _) rfl (sem_send2 5 (by decide) _) rfl ?_
  refine st_wait2 (by decide) (condNe_iff c 6 (by decide)) (sem_send1 6 (by decide) _) rfl (sem_send2 6 (by decide) _) rfl ?_
  refine st_wait2 (by decide) (condNe_iff c 7 (by decide)) (sem_send1 7 (by decide) _) rfl (sem_send2 7 (by decide) _) rfl ?_
  refine st_wait2 (by decide) (condNe_iff c 8 (by decide)) (sem_send1 8 (by decide) _) rfl (sem_send2 8 (by decide) _) rfl ?_
  exact H

/-- Part 62 of the body: from the state before it to the state after it, with the values it returns. -/
theorem part62_run {k : (BitVec 32) → Prog (TpuEff nD τ sig (Elt F) Λ₀ .tc) α}
    (H : Run c iprop(Bs m K c ∗ (owesS c 32 32 32 0 ∗ T2 c 0) ∗ WT m c 0 14 ∗ WT m c 2 14 ∗ R) (k (Scalar.extui (Scalar.cmpi .ne (vw c) 14#32))) Q) :
    Run c iprop(Bs m K c ∗ (owesS c 32 32 32 0 ∗ T2 c 0) ∗ WT m c 0 9 ∗ WT m c 2 9 ∗ R) (onBufs k0_part62 (vw c) ((Scalar.extui (Scalar.cmpi .ne (vw c) 9#32))) (0#32) >>= k) Q := by
  rw [k0_part62_eq_skeleton]; unfold onBufs k0_part62_skel
  refine st_wait2 (by decide) (condNe_iff c 9 (by decide)) (sem_send1 9 (by decide) _) rfl (sem_send2 9 (by decide) _) rfl ?_
  refine st_wait2 (by decide) (condNe_iff c 10 (by decide)) (sem_send1 10 (by decide) _) rfl (sem_send2 10 (by decide) _) rfl ?_
  refine st_wait2 (by decide) (condNe_iff c 11 (by decide)) (sem_send1 11 (by decide) _) rfl (sem_send2 11 (by decide) _) rfl ?_
  refine st_wait2 (by decide) (condNe_iff c 12 (by decide)) (sem_send1 12 (by decide) _) rfl (sem_send2 12 (by decide) _) rfl ?_
  refine st_wait2 (by decide) (condNe_iff c 13 (by decide)) (sem_send1 13 (by decide) _) rfl (sem_send2 13 (by decide) _) rfl ?_
  exact H

/-- Part 63 of the body: from the state before it to the state after it, with the values it returns. -/
theorem part63_run {k : (BitVec 32) → Prog (TpuEff nD τ sig (Elt F) Λ₀ .tc) α}
    (H : Run c iprop(Bs m K c ∗ (owesS c 32 32 32 0 ∗ T2 c 0) ∗ WT m c 0 19 ∗ WT m c 2 19 ∗ R) (k (19#32)) Q) :
    Run c iprop(Bs m K c ∗ (owesS c 32 32 32 0 ∗ T2 c 0) ∗ WT m c 0 14 ∗ WT m c 2 14 ∗ R) (onBufs k0_part63 (vw c) ((Scalar.extui (Scalar.cmpi .ne (vw c) 14#32))) >>= k) Q := by
  rw [k0_part63_eq_skeleton]; unfold onBufs k0_part63_skel
  refine st_wait2 (by decide) (condNe_iff c 14 (by decide)) (sem_send1 14 (by decide) _) rfl (sem_send2 14 (by decide) _) rfl ?_
  refine st_wait2 (by decide) (condNe_iff c 15 (by decide)) (sem_send1 15 (by decide) _) rfl (sem_send2 15 (by decide) _) rfl ?_
  refine st_wait2 (by decide) (condNe_iff c 16 (by decide)) (sem_send1 16 (by decide) _) rfl (sem_send2 16 (by decide) _) rfl ?_
  refine st_wait2 (by decide) (condNe_iff c 17 (by decide)) (sem_send1 17 (by decide) _) rfl (sem_send2 17 (by decide) _) rfl ?_
  refine st_wait2 (by decide) (condNe_iff c 18 (by decide)) (sem_send1 18 (by decide) _) rfl (sem_send2 18 (by decide) _) rfl ?_
  exact H

/-- Part 64 of the body: from the state before it to the state after it, with the values it returns. -/
theorem part64_run {k : (BitVec 32) → Prog (TpuEff nD τ sig (Elt F) Λ₀ .tc) α}
    (H : Run c iprop(Bs m K c ∗ (owesS c 32 32 32 0 ∗ T2 c 0) ∗ WT m c 0 23 ∗ WT m c 2 23 ∗ R) (k (Scalar.extui (Scalar.cmpi .ne (vw c) 23#32))) Q) :
    Run c iprop(Bs m K c ∗ (owesS c 32 32 32 0 ∗ T2 c 0) ∗ WT m c 0 19 ∗ WT m c 2 19 ∗ R) (onBufs k0_part64 (vw c) (19#32) >>= k) Q := by
  rw [k0_part64_eq_skeleton]; unfold onBufs k0_part64_skel
  refine st_wait2 (by decide) (condNe_iff c 19 (by decide)) (sem_send1 19 (by decide) _) rfl (sem_send2 19 (by decide) _) rfl ?_
  refine st_wait2 (by decide) (condNe_iff c 20 (by decide)) (sem_send1 20 (by decide) _) rfl (sem_send2 20 (by decide) _) rfl ?_
  refine st_wait2 (by decide) (condNe_iff c 21 (by decide)) (sem_send1 21 (by decide) _) rfl (sem_send2 21 (by decide) _) rfl ?_
  refine st_wait2 (by decide) (condNe_iff c 22 (by decide)) (sem_send1 22 (by decide) _) rfl (sem_send2 22 (by decide) _) rfl ?_
  exact H

/-- Part 65 of the body: from the state before it to the state after it, with the values it returns. -/
theorem part65_run {k : (BitVec 32) → Prog (TpuEff nD τ sig (Elt F) Λ₀ .tc) α}
    (H : Run c iprop(Bs m K c ∗ (owesS c 32 32 32 0 ∗ T2 c 0) ∗ WT m c 0 28 ∗ WT m c 2 28 ∗ R) (k (Scalar.extui (Scalar.cmpi .ne (vw c) 28#32))) Q) :
    Run c iprop(Bs m K c ∗ (owesS c 32 32 32 0 ∗ T2 c 0) ∗ WT m c 0 23 ∗ WT m c 2 23 ∗ R) (onBufs k0_part65 (vw c) ((Scalar.extui (Scalar.cmpi .ne (vw c) 23#32))) >>= k) Q := by
  rw [k0_part65_eq_skeleton]; unfold onBufs k0_part65_skel
  refine st_wait2 (by decide) (condNe_iff c 23 (by decide)) (sem_send1 23 (by decide) _) rfl (sem_send2 23 (by decide) _) rfl ?_
  refine st_wait2 (by decide) (condNe_iff c 24 (by decide)) (sem_send1 24 (by decide) _) rfl (sem_send2 24 (by decide) _) rfl ?_
  refine st_wait2 (by decide) (condNe_iff c 25 (by decide)) (sem_send1 25 (by decide) _) rfl (sem_send2 25 (by decide) _) rfl ?_
  refine st_wait2 (by decide) (condNe_iff c 26 (by decide)) (sem_send1 26 (by decide) _) rfl (sem_send2 26 (by decide) _) rfl ?_
  refine st_wait2 (by decide) (condNe_iff c 27 (by decide)) (sem_send1 27 (by decide) _) rfl (sem_send2 27 (by decide) _) rfl ?_
  exact H

/-- Part 66 of the body: from the state before it to the state after it, with the values it returns. -/
theorem part66_run {k : (PUnit) → Prog (TpuEff nD τ sig (Elt F) Λ₀ .tc) α}
    (H : Run c iprop(Bs m K c ∗ (owesS c 32 32 32 2 ∗ T2 c 2) ∗ WT m c 0 32 ∗ WT m c 2 32 ∗ R) (k ⟨⟩) Q) :
    Run c iprop(Bs m K c ∗ (owesS c 32 32 32 0 ∗ T2 c 0) ∗ WT m c 0 28 ∗ WT m c 2 28 ∗ R) (onBufs k0_part66 c (vw c) ((Scalar.extui (Scalar.cmpi .ne (vw c) 28#32))) >>= k) Q := by
  rw [k0_part66_eq_skeleton]; unfold onBufs k0_part66_skel
  refine st_wait2 (by decide) (condNe_iff c 28 (by decide)) (sem_send1 28 (by decide) _) rfl (sem_send2 28 (by decide) _) rfl ?_
  refine st_wait2 (by decide) (condNe_iff c 29 (by decide)) (sem_send1 29 (by decide) _) rfl (sem_send2 29 (by decide) _) rfl ?_
  refine st_wait2 (by decide) (condNe_iff c 30 (by decide)) (sem_send1 30 (by decide) _) rfl (sem_send2 30 (by decide) _) rfl ?_
  refine st_wait2 (by decide) (condNe_iff c 31 (by decide)) (sem_send1 31 (by decide) _) rfl (sem_send2 31 (by decide) _) rfl ?_
  refine st_sb (n := 0) rfl (condNe_iff c 0 (by decide)) (fun _ => rfl) ?_
  refine st_sb (n := 1) rfl (condNe_iff c 1 (by decide)) (fun _ => rfl) ?_
  exact H

/-- Part 67 of the body: from the state before it to the state after it, with the values it returns. -/
theorem part67_run {k : (PUnit) → Prog (TpuEff nD τ sig (Elt F) Λ₀ .tc) α}
    (H : Run c iprop(Bs m K c ∗ (owesS c 32 32 32 12 ∗ T2 c 12) ∗ R) (k ⟨⟩) Q) :
    Run c iprop(Bs m K c ∗ (owesS c 32 32 32 2 ∗ T2 c 2) ∗ R) (onBufs k0_part67 c (vw c) >>= k) Q := by
  rw [k0_part67_eq_skeleton]; unfold onBufs k0_part67_skel
  refine st_sb (n := 2) rfl (condNe_iff c 2 (by decide)) (fun _ => rfl) ?_
  refine st_sb (n := 3) rfl (condNe_iff c 3 (by decide)) (fun _ => rfl) ?_
  refine st_sb (n := 4) rfl (condNe_iff c 4 (by decide)) (fun _ => rfl) ?_
  refine st_sb (n := 5) rfl (condNe_iff c 5 (by decide)) (fun _ => rfl) ?_
  refine st_sb (n := 6) rfl (condNe_iff c 6 (by decide)) (fun _ => rfl) ?_
  refine st_sb (n := 7) rfl (condNe_iff c 7 (by decide)) (fun _ => rfl) ?_
  refine st_sb (n := 8) rfl (condNe_iff c 8 (by decide)) (fun _ => rfl) ?_
  refine st_sb (n := 9) rfl (condNe_iff c 9 (by decide)) (fun _ => rfl) ?_
  refine st_sb (n := 10) rfl (condNe_iff c 10 (by decide)) (fun _ => rfl) ?_
  refine st_sb (n := 11) rfl (condNe_iff c 11 (by decide)) (fun _ => rfl) ?_
  exact H

/-- Part 68 of the body: from the state before it to the state after it, with the values it returns. -/
theorem part68_run {k : (PUnit) → Prog (TpuEff nD τ sig (Elt F) Λ₀ .tc) α}
    (H : Run c iprop(Bs m K c ∗ (owesS c 32 32 32 22 ∗ T2 c 22) ∗ R) (k ⟨⟩) Q) :
    Run c iprop(Bs m K c ∗ (owesS c 32 32 32 12 ∗ T2 c 12) ∗ R) (onBufs k0_part68 c (vw c) >>= k) Q := by
  rw [k0_part68_eq_skeleton]; unfold onBufs k0_part68_skel
  refine st_sb (n := 12) rfl (condNe_iff c 12 (by decide)) (fun _ => rfl) ?_
  refine st_sb (n := 13) rfl (condNe_iff c 13 (by decide)) (fun _ => rfl) ?_
  refine st_sb (n := 14) rfl (condNe_iff c 14 (by decide)) (fun _ => rfl) ?_
  refine st_sb (n := 15) rfl (condNe_iff c 15 (by decide)) (fun _ => rfl) ?_
  refine st_sb (n := 16) rfl (condNe_iff c 16 (by decide)) (fun _ => rfl) ?_
  refine st_sb (n := 17) rfl (condNe_iff c 17 (by decide)) (fun _ => rfl) ?_
  refine st_sb (n := 18) rfl (condNe_iff c 18 (by decide)) (fun _ => rfl) ?_
  refine st_sb (n := 19) rfl (condNe_iff c 19 (by decide)) (fun _ => rfl) ?_
  refine st_sb (n := 20) rfl (condNe_iff c 20 (by decide)) (fun _ => rfl) ?_
  refine st_sb (n := 21) rfl (condNe_iff c 21 (by decide)) (fun _ => rfl) ?_
  exact H

/-- Part 69 of the body: from the state before it to the state after it, with the values it returns. -/
theorem part69_run {k : (PUnit) → Prog (TpuEff nD τ sig (Elt F) Λ₀ .tc) α}
    (H : Run c iprop(Bs m K c ∗ (owesS c 32 32 32 32 ∗ T2 c 32) ∗ R) (k ⟨⟩) Q) :
    Run c iprop(Bs m K c ∗ (owesS c 32 32 32 22 ∗ T2 c 22) ∗ R) (onBufs k0_part69 c (vw c) >>= k) Q := by
  rw [k0_part69_eq_skeleton]; unfold onBufs k0_part69_skel
  refine st_sb (n := 22) rfl (condNe_iff c 22 (by decide)) (fun _ => rfl) ?_
  refine st_sb (n := 23) rfl (condNe_iff c 23 (by decide)) (fun _ => rfl) ?_
  refine st_sb (n := 24) rfl (condNe_iff c 24 (by decide)) (fun _ => rfl) ?_
  refine st_sb (n := 25) rfl (condNe_iff c 25 (by decide)) (fun _ => rfl) ?_
  refine st_sb (n := 26) rfl (condNe_iff c 26 (by decide)) (fun _ => rfl) ?_
  refine st_sb (n := 27) rfl (condNe_iff c 27 (by decide)) (fun _ => rfl) ?_
  refine st_sb (n := 28) rfl (condNe_iff c 28 (by decide)) (fun _ => rfl) ?_
  refine st_sb (n := 29) rfl (condNe_iff c 29 (by decide)) (fun _ => rfl) ?_
  refine st_sb (n := 30) rfl (condNe_iff c 30 (by decide)) (fun _ => rfl) ?_
  refine st_sb (n := 31) rfl (condNe_iff c 31 (by decide)) (fun _ => rfl) ?_
  exact H

end Cert.KernelIdeal.Attn

end
-- ==== Proof.Body.lean ====
/-
The whole body on one device, run once: from what the launch gives the device to its final state. The parts of
the generated skeleton are put together in program order; between the exchanges the state is only regrouped. At the
end every cell is closed: its counter is zero and belongs to the device again.
-/
module

public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.RunF
public import proofs.«01_k».proof.Proof.RunG
public import proofs.«01_k».proof.Proof.RunH

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]
variable {m : (ℓ : Loc nD τ sig) → Buf (Elt F) ℓ} {K : Dev nD × CK → ℕ} {c : Dev nD}
variable {α γ : Type} {Q : α → sProp (MT nD τ sig Unit (Elt F) ℕ UU ℕ)} {R X : sProp (MT nD τ sig Unit (Elt F) ℕ UU ℕ)}

/-! ## What the device starts with -/

section Start
variable (c : Dev nD)

/-- The tokens of the barrier units it pays. -/
def TB : sProp (MT nD τ sig Unit (Elt F) ℕ UU ℕ) := bigSep (pf c 0) fun j => dutyTok ER (kcell (j, .inl 0)) 0 c
/-- The tokens of the copies of the first exchange, each of its own send cell and of the peer's receive cell. -/
def Toks1 : sProp (MT nD τ sig Unit (Elt F) ℕ UU ℕ) :=
  bigSep (pf c 0) fun j => iprop(dutyTok ER (kcell (c, .inr (0, j))) 0 j ∗ dutyTok ER (kcell (j, .inr (1, c))) 0 c)
/-- The same for the second exchange. -/
def Toks2 : sProp (MT nD τ sig Unit (Elt F) ℕ UU ℕ) :=
  bigSep (pf c 0) fun j => iprop(dutyTok ER (kcell (c, .inr (2, j))) 0 j ∗ dutyTok ER (kcell (j, .inr (3, c))) 0 c)
/-- The credits and positions of the receive cells of one exchange. -/
def W0 (i : Fin 4) : sProp (MT nD τ sig Unit (Elt F) ℕ UU ℕ) :=
  bigSep (pf c 0) fun j => iprop(cred (tallyAt (kcell (c, .inr (i, j))) () (amtOf (some (.inr (i, j))))) ∗ atPos ER (kcell (c, .inr (i, j))) 0 ∅ 0)
/-- The cells a device numbers by itself, never used. -/
def SelfAt : sProp (MT nD τ sig Unit (Elt F) ℕ UU ℕ) := bigSep Finset.univ fun i : Fin 4 => atPos ER (kcell (c, .inr (i, c))) 0 ∅ 0
/-- A barrier cell's credit and position. -/
def Bar0 (s : Fin 2) : sProp (MT nD τ sig Unit (Elt F) ℕ UU ℕ) :=
  iprop(cred (tallyAt (kcell (c, .inl s)) () 31) ∗ atPos ER (kcell (c, .inl s)) 0 ∅ 0)
/-- The tokens, credits and positions the launch deals the device. -/
def Dealt : sProp (MT nD τ sig Unit (Elt F) ℕ UU ℕ) :=
  iprop(TB c ∗ Toks1 c ∗ Toks2 c ∗ T2 c 0 ∗ AS c ∗ W0 c 1 ∗ W0 c 3 ∗ Bar0 c 0 ∗ Bar0 c 1 ∗ SelfAt c)
/-- The four scratch buffers, at some contents. -/
def Scr : sProp (MT nD τ sig Unit (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- The output block's staging buffer at some contents. -/
def OutAny : sProp (MT nD τ sig Unit (Elt F) ℕ UU ℕ) := iprop(∃ f : S16x1x16x64.Idx → Elt F .f32, ((c : Thread nD τ).loc cc0_stg5_0) ↦{fullShare} f)
/-- All of the device's counters at zero. -/
def Zero : sProp (MT nD τ sig Unit (Elt F) ℕ UU ℕ) := bigSep Finset.univ fun k : CK => semVal (kcell (c, k)) 0

end Start

/-- An entailment for every device of a set gives the one between the separating products. -/
theorem big_mono {s : Finset (Dev nD)} {Φ Ψ : Dev nD → sProp (MT nD τ sig Unit (Elt F) ℕ UU ℕ)} (h : ∀ i ∈ s, Φ i ⊢ Ψ i) : bigSep s Φ ⊢ bigSep s Ψ := bigSep_mono h
/-- A separating product over four indices, written out. -/
theorem big_fin4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

/-! ## A buffer is its rows -/

/-- The send buffer is its 32 rows. -/
theorem rows_c (f : S32x8x128.Idx → Elt F .f32) :
    ((((c : Thread nD τ).loc cc0_scratch0) ↦{fullShare} f) : sProp (MT nD τ sig Unit (Elt F) ℕ UU ℕ)) = bigSep Finset.univ fun j : Dev nD => curR c j f := by
  have h := pointsTo_biUnion (ℓ := (c : Thread nD τ).loc cc0_scratch0) (q := fullShare) (f := f) (Ix := Unit) (Name := ℕ) (U := UU) (Lvl := ℕ) (Finset.univ : Finset (Dev nD)) (fun t : Dev nD => rset1 t.val) rset1_disjoint
  rw [rset1_all] at h; exact h
/-- The first inbox is its 32 rows. -/
theorem rows_i (f : S32x8x128.Idx → Elt F .f32) :
    ((((c : Thread nD τ).loc cc0_scratch1) ↦{fullShare} f) : sProp (MT nD τ sig Unit (Elt F) ℕ UU ℕ)) = bigSep Finset.univ fun j : Dev nD => inR c j f := by
  have h := pointsTo_biUnion (ℓ := (c : Thread nD τ).loc cc0_scratch1) (q := fullShare) (f := f) (Ix := Unit) (Name := ℕ) (U := UU) (Lvl := ℕ) (Finset.univ : Finset (Dev nD)) (fun t : Dev nD => rset1 t.val) rset1_disjoint
  rw [rset1_all] at h; exact h
/-- The second inbox is its 32 rows. -/
theorem rows_g (f : S32x8x64.Idx → Elt F .f32) :
    ((((c : Thread nD τ).loc cc0_scratch3) ↦{fullShare} f) : sProp (MT nD τ sig Unit (Elt F) ℕ UU ℕ)) = bigSep Finset.univ fun j : Dev nD => gR c j f := by
  have h := pointsTo_biUnion (ℓ := (c : Thread nD τ).loc cc0_scratch3) (q := fullShare) (f := f) (Ix := Unit) (Name := ℕ) (U := UU) (Lvl := ℕ) (Finset.univ : Finset (Dev nD)) (fun t : Dev nD => rset2 t.val) rset2_disjoint
  rw [rset2_all] at h; exact h

/-- Rows at separate contents are the buffer at some contents. -/
theorem join_c (m : (ℓ : Loc nD τ sig) → Buf (Elt F) ℓ) : bigSep Finset.univ (fun j : Dev nD => iprop(∃ f, curR (F := F) c j f))
    ⊢ (iprop(∃ f : S32x8x128.Idx → Elt F .f32, ((c : Thread nD τ).loc cc0_scratch0) ↦{fullShare} f) : sProp (MT nD τ sig Unit (Elt F) ℕ UU ℕ)) := by
  haveI : Nonempty (S32x8x128.Idx → Elt F .f32) := ⟨canon m c⟩
  iintro H
  ihave H := (bigSep_exists_pi (Y := fun _ : Dev nD => S32x8x128.Idx → Elt F .f32) Finset.univ (fun (p : Dev nD) (f : S32x8x128.Idx → Elt F .f32) => curR c p f)) $$ H
  icases H with ⟨%fs, H⟩
  unfold curR
  ihave H := (pointsTo_biUnion_join (ℓ := (c : Thread nD τ).loc cc0_scratch0) (q := fullShare) Finset.univ (fun t : Dev nD => rset1 t.val) fs (fs c) rset1_disjoint) $$ H
  icases H with ⟨%g, -, H⟩
  iexists g
  rw [rset1_all]; iexact H
/-- The rows of the second inbox, each at contents of its own, are the inbox at some contents. -/
theorem join_g (m : (ℓ : Loc nD τ sig) → Buf (Elt F) ℓ) : bigSep Finset.univ (fun j : Dev nD => iprop(∃ f, gR (F := F) c j f))
    ⊢ (iprop(∃ f : S32x8x64.Idx → Elt F .f32, ((c : Thread nD τ).loc cc0_scratch3) ↦{fullShare} f) : sProp (MT nD τ sig Unit (Elt F) ℕ UU ℕ)) := by
  haveI : Nonempty (S32x8x64.Idx → Elt F .f32) := ⟨fun i => resRow m c (ix3 (0 : Fin 1) (i 1) (i 2))⟩
  iintro H
  ihave H := (bigSep_exists_pi (Y := fun _ : Dev nD => S32x8x64.Idx → Elt F .f32) Finset.univ (fun (p : Dev nD) (f : S32x8x64.Idx → Elt F .f32) => gR c p f)) $$ H
  icases H with ⟨%fs, H⟩
  unfold gR
  ihave H := (pointsTo_biUnion_join (ℓ := (c : Thread nD τ).loc cc0_scratch3) (q := fullShare) Finset.univ (fun t : Dev nD => rset2 t.val) fs (fs c) rset2_disjoint) $$ H
  icases H with ⟨%g, -, H⟩
  iexists g
  rw [rset2_all]; iexact H

/-! ## Closing the cells -/

/-- A cell whose duties are all over closes: its counter is at zero. -/
theorem close_one (k : CK) (r : ℕ) (hr : ∀ r', r ≤ r' → (Rd (F := F) m).duties (kcell (c, k)) r' = ∅) :
    iprop(ctx m K ∗ atPos ER (kcell (c, k)) r ∅ 0) ⊢ iprop(|={Set.univ}=> semVal (kcell (c, k)) 0) := by
  unfold ctx
  iintro ⟨⟨#HI, -⟩, Ha⟩
  imod (Rounds.cell_close ER (Rd m) (Set.mem_univ (K (c, k))) (fun h => h) (R := r) hr) $$ [Ha] with Hz
  · isplitr; · iapply (inv_at m K (c, k)); iexact HI
    iexact Ha
  imodintro; iexact Hz

/-- Many cells at once. -/
theorem close_many {I : Type} [DecidableEq I] (S : Finset I) (k : I → CK) (r : ℕ) (hr : ∀ i ∈ S, ∀ r', r ≤ r' → (Rd (F := F) m).duties (kcell (c, k i)) r' = ∅) :
    iprop(ctx m K ∗ bigSep S fun i => atPos ER (kcell (c, k i)) r ∅ 0) ⊢ iprop(|={Set.univ}=> bigSep S fun i => semVal (kcell (c, k i)) 0) :=
  ((sep_mono_left (BI.bigSep_of_persistent S (ctx m K))).trans (by
    rw [← bigSep_sep']; exact bigSep_mono fun i hi => close_one (k i) r (hr i hi))).trans (bigSep_fupd _ _)

/-- The counters of one device, by the way their cells were used. -/
theorem zero_eq : Zero (F := F) c = iprop((semVal (kcell (c, .inl 0)) 0 ∗ semVal (kcell (c, .inl 1)) 0)
    ∗ (bigSep Finset.univ fun i : Fin 4 => semVal (kcell (c, .inr (i, c))) 0)
    ∗ bigSep Finset.univ fun i : Fin 4 => bigSep (Finset.univ.erase c) fun j : Dev nD => semVal (kcell (c, .inr (i, j))) 0) := by
  unfold Zero
  rw [bigSep_univ_sum, bigSep_univ_eq_bigSepL [0, 1] (by decide) (by decide), bigSep_univ_prod, ← bigSep_sep',
    bigSep_congr (s := Finset.univ) fun (i : Fin 4) _ => bigSep_univ_at (fun j : Dev nD => (semVal (kcell (c, .inr (i, j))) 0 : sProp (MT nD τ sig Unit (Elt F) ℕ UU ℕ))) c]
  rfl

/-! ## The run -/

/-- The state of the device after its body. -/
def Post (m : (ℓ : Loc nD τ sig) → Buf (Elt F) ℓ) (c : Dev nD) : sProp (MT nD τ sig Unit (Elt F) ℕ UU ℕ) :=
  iprop(stgs m c ∗ owesS c 32 32 32 32 ∗ Scr c ∗ Zero c ∗ (((c : Thread nD τ).loc cc0_stg5_0) ↦{fullShare} outVal m))

/-- The first exchange's rest: what the first barrier leaves besides the rows it brought. -/
abbrev Rest3 (c : Dev nD) : sProp (MT nD τ sig Unit (Elt F) ℕ UU ℕ) :=
  iprop((Toks2 c ∗ (bigSep (Finset.univ.erase c) fun j => iprop(∃ f, gR (F := F) j c f)) ∗ (∃ f, gR c c f)
    ∗ (∃ f, ((c : Thread nD τ).loc cc0_scratch2) ↦{fullShare} f)) ∗ W0 c 3 ∗ OutAny c ∗ (AS c ∗ T2 c 0)
    ∗ atPos ER (kcell (c, .inl 0)) (0 + 1) ∅ 0 ∗ Bar0 c 1 ∗ SelfAt c)

/-- Before the first wait of kind `i`: the credits and positions that the launch dealt for it. -/
theorem WT_zero (i : Fin 4) : W0 (F := F) c i ⊢ WT m c i 0 := by
  unfold W0 WT; rw [pl_zero, bigSep_empty]
  iintro H; isplitl; · iexact H
  iempintro

/-- Before the first signal: every other device's row of `inbox1` and of `inbox2` goes with the unit paid to it. -/
theorem into1 : iprop(Bs m K c ∗ owesS c 0 0 0 0 ∗ Dealt c ∗ Scr c ∗ OutAny c)
    ⊢ iprop(Bs m K c ∗ P1 c 0 ∗ (cred (tallyAt (kcell (c, .inl 0)) () 31) ∗ atPos ER (kcell (c, .inl 0)) 0 ∅ 0)
      ∗ (Toks1 c ∗ Toks2 c ∗ T2 c 0 ∗ AS c ∗ W0 c 1 ∗ W0 c 3 ∗ Bar0 c 1 ∗ SelfAt c
        ∗ (∃ f, ((c : Thread nD τ).loc cc0_scratch0) ↦{fullShare} f) ∗ (∃ f, ((c : Thread nD τ).loc cc0_scratch2) ↦{fullShare} f)
        ∗ (∃ f, inR c c f) ∗ (∃ f, gR c c f) ∗ OutAny c)) := by
  unfold Dealt Scr P1 TB Bar0
  iintro ⟨HB, HO, ⟨HTB, H1, H2, HT2, HAS, HW1, HW3, Hb0, Hb1, HS⟩, ⟨Hs0, ⟨%fi, Hs1⟩, Hs2, ⟨%fg, Hs3⟩⟩, Ho⟩
  ihave Hs1 := (Entails.of_eq ((rows_i (c := c) fi).trans (bigSep_univ_at _ c))) $$ Hs1
  ihave Hs3 := (Entails.of_eq ((rows_g (c := c) fg).trans (bigSep_univ_at _ c))) $$ Hs3
  icases Hs1 with ⟨Hi, Hs1⟩
  icases Hs3 with ⟨Hg, Hs3⟩
  isplitl [HB]; · iexact HB
  isplitl [HO HTB Hs1 Hs3]
  · isplitl [HO]; · iexact HO
    rw [pf_zero, bigSep_sep', bigSep_sep']
    isplitl [HTB]; · iexact HTB
    isplitl [Hs1]
    · iapply (big_mono (s := Finset.univ.erase c) (Φ := fun j : Dev nD => inR c j fi) fun j _ => show inR c j fi ⊢ iprop(∃ f, inR c j f) from by iintro H; iexists fi; iexact H)
      iexact Hs1
    · iapply (big_mono (s := Finset.univ.erase c) (Φ := fun j : Dev nD => gR c j fg) fun j _ => show gR c j fg ⊢ iprop(∃ f, gR c j f) from by iintro H; iexists fg; iexact H)
      iexact Hs3
  isplitl [Hb0]; · iexact Hb0
  isplitl [H1]; · iexact H1
  isplitl [H2]; · iexact H2
  isplitl [HT2]; · iexact HT2
  isplitl [HAS]; · iexact HAS
  isplitl [HW1]; · iexact HW1
  isplitl [HW3]; · iexact HW3
  isplitl [Hb1]; · iexact Hb1
  isplitl [HS]; · iexact HS
  isplitl [Hs0]; · iexact Hs0
  isplitl [Hs2]; · iexact Hs2
  isplitl [Hi]; · iexists fi; iexact Hi
  isplitl [Hg]; · iexists fg; iexact Hg
  iexact Ho

/-- After the first barrier: the peers' rows it brought are the destinations of the first exchange. -/
theorem into2 : iprop(Bs m K c ∗ (owesS c 32 0 0 0 ∗ atPos ER (kcell (c, .inl 0)) (0 + 1) ∅ 0
      ∗ bigSep (Finset.univ.erase c) fun j => iprop((∃ f, inR j c f) ∗ (∃ f, gR j c f)))
      ∗ (Toks1 c ∗ Toks2 c ∗ T2 c 0 ∗ AS c ∗ W0 c 1 ∗ W0 c 3 ∗ Bar0 c 1 ∗ SelfAt c
        ∗ (∃ f, ((c : Thread nD τ).loc cc0_scratch0) ↦{fullShare} f) ∗ (∃ f, ((c : Thread nD τ).loc cc0_scratch2) ↦{fullShare} f)
        ∗ (∃ f, inR c c f) ∗ (∃ f, gR c c f) ∗ OutAny c))
    ⊢ iprop(Bs m K c ∗ P2 m c 0 0 0 ∗ WT m c 1 0 ∗ Rest3 c) := by
  unfold P2 Rest3
  rw [bigSep_sep', pf_zero, pl_zero, ow_zero, bigSep_empty]
  iintro ⟨HB, ⟨HO, Hat, Hin, Hgs⟩, H1, H2, HT2, HAS, HW1, HW3, Hb1, HS, ⟨%f0, Hs0⟩, Hs2, ⟨%fi, Hi⟩, Hg, Ho⟩
  isplitl [HB]; · iexact HB
  isplitl [HO Hin H1 Hs0 Hi]
  · isplitl [HO]; · iexact HO
    isplitl [Hs0]
    · ihave Hs0 := (Entails.of_eq (rows_c (c := c) f0)) $$ Hs0
      iapply (big_mono (s := Finset.univ) (Φ := fun j : Dev nD => curR c j f0) fun j _ => show curR c j f0 ⊢ iprop(∃ f, ⌜CurOK m c j (lim 0 j.val) f⌝ ∗ curR c j f) from by
        iintro H; iexists f0
        isplitr; · ipureintro; intro b l h; exact absurd (show l.val < 0 by unfold lim at h; rwa [if_neg (by omega), if_neg (by omega), if_neg (by omega)] at h) (Nat.not_lt_zero _)
        iexact H)
      iexact Hs0
    isplitl [H1 Hin]
    · unfold Toks1
      rw [pf_zero]
      ihave H := (Entails.of_eq (bigSep_sep' (Finset.univ.erase c) (fun j : Dev nD => iprop(dutyTok ER (kcell (c, .inr (0, j))) 0 j ∗ dutyTok ER (kcell (j, .inr (1, c))) 0 c)) (fun j : Dev nD => iprop(∃ f, inR (F := F) j c f))).symm) $$ [H1 Hin]
      · isplitl [H1] <;> iassumption
      iapply (big_mono (s := Finset.univ.erase c) fun j _ => show iprop((dutyTok ER (kcell (c, .inr (0, j))) 0 j ∗ dutyTok ER (kcell (j, .inr (1, c))) 0 c) ∗ (∃ f, inR (F := F) j c f))
        ⊢ iprop(dutyTok ER (kcell (c, .inr (0, j))) 0 j ∗ dutyTok ER (kcell (j, .inr (1, c))) 0 c ∗ ∃ f, inR (F := F) j c f) from by
          iintro ⟨⟨Ha, Hb⟩, Hc⟩
          isplitl [Ha]; · iexact Ha
          isplitl [Hb] <;> iassumption)
      iexact H
    isplitr; · iempintro
    iexists fi
    isplitr; · ipureintro; intro h; exact absurd h (Nat.not_lt_zero _)
    iexact Hi
  isplitl [HW1]; · iapply (WT_zero (m := m) 1); iexact HW1
  isplitl [H2 Hgs Hg Hs2]
  · isplitl [H2]; · iexact H2
    isplitl [Hgs]; · iexact Hgs
    isplitl [Hg] <;> iassumption
  isplitl [HW3]; · iexact HW3
  isplitl [Ho]; · iexact Ho
  isplitl [HAS HT2]
  · isplitl [HAS] <;> iassumption
  isplitl [Hat]; · iexact Hat
  isplitl [Hb1] <;> iassumption

/-- Between the exchanges. -/
theorem into3 : iprop(Bs m K c ∗ owesS c 32 32 0 0 ∗ T1 c ∗ Rest3 c)
    ⊢ iprop(Bs m K c ∗ owesS c 32 32 0 0 ∗ ((∃ f, ((c : Thread nD τ).loc cc0_scratch2) ↦{fullShare} f) ∗ G0 c)
      ∗ WT m c 3 0 ∗ Out m c 0 ∗ (T1 c ∗ AS c ∗ T2 c 0) ∗ (atPos ER (kcell (c, .inl 0)) (0 + 1) ∅ 0 ∗ Bar0 c 1 ∗ SelfAt c)) := by
  unfold Rest3 G0 OutAny Out Toks2
  rw [pf_zero]
  iintro ⟨HB, HO, HT1, ⟨H2, Hgs, Hg, Hs2⟩, HW3, ⟨%fo, Ho⟩, ⟨HAS, HT2⟩, Hat, Hb1, HS⟩
  isplitl [HB]; · iexact HB
  isplitl [HO]; · iexact HO
  isplitl [Hs2 H2 Hgs Hg]
  · isplitl [Hs2]; · iexact Hs2
    isplitl [H2 Hgs]
    · ihave H := (Entails.of_eq (bigSep_sep' (Finset.univ.erase c) (fun j : Dev nD => iprop(dutyTok ER (kcell (c, .inr (2, j))) 0 j ∗ dutyTok ER (kcell (j, .inr (3, c))) 0 c)) (fun j : Dev nD => iprop(∃ f, gR (F := F) j c f))).symm) $$ [H2 Hgs]
      · isplitl [H2] <;> iassumption
      iapply (big_mono (s := Finset.univ.erase c) fun j _ => show iprop((dutyTok ER (kcell (c, .inr (2, j))) 0 j ∗ dutyTok ER (kcell (j, .inr (3, c))) 0 c) ∗ (∃ f, gR (F := F) j c f))
        ⊢ iprop(dutyTok ER (kcell (c, .inr (2, j))) 0 j ∗ dutyTok ER (kcell (j, .inr (3, c))) 0 c ∗ ∃ f, gR (F := F) j c f) from by
          iintro ⟨⟨Ha, Hb⟩, Hc⟩
          isplitl [Ha]; · iexact Ha
          isplitl [Hb] <;> iassumption)
      iexact H
    iexact Hg
  isplitl [HW3]; · iapply (WT_zero (m := m) 3); iexact HW3
  isplitl [Ho]
  · iexists fo
    isplitr; · ipureintro; intro i h; exact absurd h (Nat.not_lt_zero _)
    iexact Ho
  isplitl [HT1 HAS HT2]
  · isplitl [HT1]; · iexact HT1
    isplitl [HAS] <;> iassumption
  isplitl [Hat]; · iexact Hat
  isplitl [Hb1] <;> iassumption

/-- Before the second barrier's wait. -/
theorem into4 : iprop(Bs m K c ∗ (owesS c 32 32 32 32 ∗ T2 c 32) ∗ WT m c 0 32 ∗ WT m c 2 32 ∗ Keep m c ∗ WT m c 3 32 ∗ Out m c 16
      ∗ (atPos ER (kcell (c, .inl 0)) (0 + 1) ∅ 0 ∗ Bar0 c 1 ∗ SelfAt c))
    ⊢ iprop(Bs m K c ∗ (owesS c 32 32 32 32 ∗ T2 c 32) ∗ (cred (tallyAt (kcell (c, .inl 1)) () 31) ∗ atPos ER (kcell (c, .inl 1)) 0 ∅ 0)
      ∗ (WT m c 0 32 ∗ WT m c 2 32 ∗ Keep m c ∗ WT m c 3 32 ∗ Out m c 16 ∗ atPos ER (kcell (c, .inl 0)) (0 + 1) ∅ 0 ∗ SelfAt c)) := by
  unfold Bar0
  iintro ⟨HB, HO, H0, H2, HK, H3, Ho, Hat, Hb, HS⟩
  isplitl [HB]; · iexact HB
  isplitl [HO]; · iexact HO
  isplitl [Hb]; · iexact Hb
  isplitl [H0]; · iexact H0
  isplitl [H2]; · iexact H2
  isplitl [HK]; · iexact HK
  isplitl [H3]; · iexact H3
  isplitl [Ho]; · iexact Ho
  isplitl [Hat] <;> iassumption

/-- At the end: the rows are the buffers again, and every cell closes. -/
theorem finish : iprop(Bs m K c ∗ owesS c 32 32 32 32 ∗ atPos ER (kcell (c, .inl 1)) (0 + 1) ∅ 0
      ∗ (WT m c 0 32 ∗ WT m c 2 32 ∗ Keep m c ∗ WT m c 3 32 ∗ Out m c 16 ∗ atPos ER (kcell (c, .inl 0)) (0 + 1) ∅ 0 ∗ SelfAt c))
    ⊢ iprop(|={Set.univ}=> Post m c) := by
  unfold WT Keep Bs Out SelfAt Post
  rw [pl_end, zero_eq]
  iintro ⟨⟨#HC, Hst⟩, HO, Hs, ⟨-, H0⟩, ⟨-, H2⟩, ⟨Hr, Hg, Hcu, Hin, Ha1⟩, ⟨-, H3⟩, ⟨%fo, %hfo, Ho⟩, Hb, Hself⟩
  ihave H0 := (Entails.of_eq (bigSep_sep' _ _ _)) $$ H0
  icases H0 with ⟨Ha0, Hp0⟩
  ihave H2 := (Entails.of_eq (bigSep_sep' _ _ _)) $$ H2
  icases H2 with ⟨Ha2, Hp2⟩
  ihave H3 := (Entails.of_eq (bigSep_sep' _ _ _)) $$ H3
  icases H3 with ⟨Ha3, Hp3⟩
  imod (close_one (m := m) (K := K) (.inl 0) (0 + 1) (duties_later m _)) $$ [Hb] with Hb
  · isplitr; · iexact HC
    iexact Hb
  imod (close_one (m := m) (K := K) (.inl 1) (0 + 1) (duties_later m _)) $$ [Hs] with Hs
  · isplitr; · iexact HC
    iexact Hs
  imod (close_many (m := m) (K := K) (c := c) Finset.univ (fun i : Fin 4 => .inr (i, c)) 0 (fun i _ => duties_self m c i)) $$ [Hself] with Hself
  · isplitr; · iexact HC
    iexact Hself
  imod (close_many (m := m) (K := K) (c := c) (Finset.univ.erase c) (fun j : Dev nD => .inr (0, j)) (0 + 1) (fun i _ => duties_later m _)) $$ [Ha0] with Ha0
  · isplitr; · iexact HC
    iexact Ha0
  imod (close_many (m := m) (K := K) (c := c) (Finset.univ.erase c) (fun j : Dev nD => .inr (1, j)) (0 + 1) (fun i _ => duties_later m _)) $$ [Ha1] with Ha1
  · isplitr; · iexact HC
    iexact Ha1
  imod (close_many (m := m) (K := K) (c := c) (Finset.univ.erase c) (fun j : Dev nD => .inr (2, j)) (0 + 1) (fun i _ => duties_later m _)) $$ [Ha2] with Ha2
  · isplitr; · iexact HC
    iexact Ha2
  imod (close_many (m := m) (K := K) (c := c) (Finset.univ.erase c) (fun j : Dev nD => .inr (3, j)) (0 + 1) (fun i _ => duties_later m _)) $$ [Ha3] with Ha3
  · isplitr; · iexact HC
    iexact Ha3
  imodintro
  isplitl [Hst]; · iexact Hst
  isplitl [HO]; · iexact HO
  isplitl [Hcu Hp0 Hin Hr Hp2 Hg Hp3]
  · unfold Scr
    isplitl [Hcu Hp0]
    · iapply (join_c (c := c) m)
      iapply (bigSep_whole (F := F) (c := c) (fun j : Dev nD => iprop(∃ f, curR c j f)))
      isplitl [Hcu]; · iexact Hcu
      iapply (Entails.of_eq (bigSep_congr (s := Finset.univ.erase c) fun j _ => pay_send1 m c j j))
      iexact Hp0
    isplitl [Hin]; · iexact Hin
    isplitl [Hr Hp2]
    · iexists (resVal m c)
      iapply (Entails.of_eq (res_leaves (m := m) (c := c)).symm)
      iapply (bigSep_whole (F := F) (c := c) (fun j : Dev nD => resR m c j))
      isplitl [Hr]; · iexact Hr
      iapply (Entails.of_eq (bigSep_congr (s := Finset.univ.erase c) fun j _ => pay_send2 m c j j))
      iexact Hp2
    iapply (join_g (c := c) m)
    iapply (bigSep_whole (F := F) (c := c) (fun j : Dev nD => iprop(∃ f, gR c j f)))
    isplitl [Hg]; · iexact Hg
    iapply (big_mono (s := Finset.univ.erase c) fun j _ => show iprop(∃ f, ⌜GOK m j f⌝ ∗ gR c j f) ⊢ iprop(∃ f, gR c j f) from by
      iintro ⟨%f, -, H⟩; iexists f; iexact H)
    iapply (Entails.of_eq (bigSep_congr (s := Finset.univ.erase c) fun j _ => pay_recv2 m c j j))
    iexact Hp3
  isplitl [Hb Hs Hself Ha0 Ha1 Ha2 Ha3]
  · isplitl [Hb Hs]
    · isplitl [Hb] <;> iassumption
    isplitl [Hself]; · iexact Hself
    rw [big_fin4]
    isplitl [Ha0]; · iexact Ha0
    isplitl [Ha1]; · iexact Ha1
    isplitl [Ha2]; · iexact Ha2
    iexact Ha3
  have e : fo = outVal m := funext fun i => hfo i (i 2).isLt
  rw [← e]; iexact Ho

/-- The first sixty parts: up to the first waits for the device's own sends. -/
theorem part70_run {k : (Σ' (d0 : Dev nD) (v2 : BitVec 32), BitVec 32) → Prog (TpuEff nD τ sig (Elt F) Λ₀ .tc) α}
    (H : Run c iprop(Bs m K c ∗ (owesS c 32 32 32 0 ∗ T2 c 0) ∗ WT m c 0 5 ∗ WT m c 2 5 ∗ (Keep m c ∗ WT m c 3 32 ∗ Out m c 16
      ∗ (atPos ER (kcell (c, .inl 0)) (0 + 1) ∅ 0 ∗ Bar0 c 1 ∗ SelfAt c))) (k ⟨c, vw c, ((Scalar.extui (Scalar.cmpi .ne (vw c) 5#32)))⟩) Q) :
    Run c iprop(Bs m K c ∗ owesS c 0 0 0 0 ∗ Dealt c ∗ Scr c ∗ OutAny c) (onBufs k0_part70 >>= k) Q := by
  rw [k0_part70_eq_skeleton]; unfold onBufs k0_part70_skel
  refine Run.mono into1 ?_
  refine st_assoc (part1_run ?_)
  refine st_assoc (part2_run ?_)
  refine st_assoc (part3_run ?_)
  refine st_assoc (part4_run ?_)
  refine st_assoc (part5_run ?_)
  refine st_assoc (part6_run ?_)
  refine Run.mono into2 ?_
  refine st_assoc (part7_run ?_)
  refine st_assoc (part8_run ?_)
  refine st_assoc (part9_run ?_)
  refine st_assoc (part10_run ?_)
  refine st_assoc (part11_run ?_)
  refine st_assoc (part12_run ?_)
  refine st_assoc (part13_run ?_)
  refine st_assoc (part14_run ?_)
  refine st_assoc (part15_run ?_)
  refine st_assoc (part16_run ?_)
  refine st_assoc (part17_run ?_)
  refine st_assoc (part18_run ?_)
  refine st_assoc (part19_run ?_)
  refine st_assoc (part20_run ?_)
  refine st_assoc (part21_run ?_)
  refine st_assoc (part22_run ?_)
  refine st_assoc (part23_run ?_)
  refine st_assoc (part24_run ?_)
  refine st_assoc (part25_run ?_)
  refine st_assoc (part26_run ?_)
  refine st_assoc (part27_run ?_)
  refine st_assoc (part28_run ?_)
  refine st_assoc (part29_run ?_)
  refine st_assoc (part30_run ?_)
  refine st_assoc (part31_run ?_)
  refine st_assoc (part32_run ?_)
  refine st_assoc (part33_run ?_)
  refine st_assoc (part34_run ?_)
  refine st_assoc (part35_run ?_)
  refine st_assoc (part36_run ?_)
  refine st_assoc (part37_run ?_)
  refine st_assoc (part38_run ?_)
  refine st_assoc (part39_run ?_)
  refine st_assoc (part40_run ?_)
  refine st_assoc (part41_run ?_)
  refine st_assoc (part42_run ?_)
  refine Run.mono into3 ?_
  refine st_assoc (part43_run ?_)
  refine st_assoc (part44_run ?_)
  refine st_assoc (part45_run ?_)
  refine st_assoc (part46_run ?_)
  refine st_assoc (part47_run ?_)
  refine st_assoc (part48_run ?_)
  refine st_assoc (part49_run ?_)
  refine st_assoc (part50_run ?_)
  refine st_assoc (part51_run ?_)
  refine st_assoc (part52_run ?_)
  refine st_assoc (part53_run ?_)
  refine st_assoc (part54_run ?_)
  refine st_assoc (part55_run ?_)
  refine st_assoc (part56_run ?_)
  refine st_assoc (part57_run ?_)
  refine st_assoc (part58_run ?_)
  refine st_assoc (part59_run ?_)
  refine st_to6 ?_
  refine st_assoc (part60_run ?_)
  exact H

/-- The whole body. -/
theorem body_run : Run c iprop(Bs m K c ∗ owesS c 0 0 0 0 ∗ Dealt c ∗ Scr c ∗ OutAny c) (onBufs cc0_body) (fun _ => Post m c) := by
  rw [cc0_body_eq_skeleton]; unfold onBufs cc0_body_skel
  refine part70_run ?_
  refine part61_run ?_
  refine part62_run ?_
  refine part63_run ?_
  refine part64_run ?_
  refine part65_run ?_
  refine part66_run ?_
  refine part67_run ?_
  refine part68_run ?_
  refine part69_run ?_
  refine Run.mono into4 (st_sbWait rfl ?_)
  refine ⟨?_⟩
  show _ ⊢ wp frame (wpE (defs₀ (F := F)) 𝒱₀ (c : Thread nD τ) none) Set.univ (.ret PUnit.unit) (fun _ => Post m c)
  rw [wp_ret]
  exact finish

end Cert.KernelIdeal.Attn

end
-- ==== Proof.Deal.lean ====
/-
What the launch deals: the duty tokens of every cell, minted at the cell's owner and handed to the device that pays; the
positions; the credit for what the other devices owe. Together they are what the body starts from.
-/
module

public import proofs.«01_k».proof.Proof.Body

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]

/-! ## Tokens -/

/-- The families of cells that have duties: the two barriers, the four families of copies. -/
abbrev Fam : Type := Fin 2 ⊕ Fin 4

/-- The cell of family `x` at which the duty between its owner and device `j` lies. -/
abbrev famCell (c : Dev nD) (x : Fam) (j : Dev nD) : GSem nD τ sig :=
  match x with | .inl s => kcell (c, .inl s) | .inr i => kcell (c, .inr (i, j))

abbrev tokOf (x : Dev nD × Fam × Dev nD) : GSem nD τ sig × ℕ × Dev nD := (famCell x.1 x.2.1 x.2.2, 0, x.2.2)

/-- Different duties have different tokens. -/
theorem tokOf_injective : Function.Injective tokOf := by
  rintro ⟨c, x, j⟩ ⟨c', x', j'⟩ h
  have hj : j = j' := congrArg (fun t : GSem nD τ sig × ℕ × Dev nD => t.2.2) h
  have hg : famCell c x j = famCell c' x' j' := congrArg Prod.fst h
  subst hj
  rcases x with s | i <;> rcases x' with s' | i' <;> have h2 := kcell_injective hg
  · cases h2; rfl
  · exact absurd (Prod.ext_iff.1 h2).2 (by simp)
  · exact absurd (Prod.ext_iff.1 h2).2 (by simp)
  · cases h2; rfl

def allCells : Finset (GSem nD τ sig) := Finset.univ.map ⟨kcell, kcell_injective⟩
def allToks : Finset (GSem nD τ sig × ℕ × Dev nD) := Finset.univ.map ⟨tokOf, tokOf_injective⟩

section Toks
variable (c : Dev nD)

/-- The tokens minted for the cells of device `c`. -/
def toks : sProp (MT nD τ sig Unit (Elt F) ℕ UU ℕ) := bigSep Finset.univ fun x : Fam => bigSep Finset.univ fun j : Dev nD => dutyTok ER (famCell c x j) 0 j
/-- Those of one family, for the peers. -/
def own1 (x : Fam) : sProp (MT nD τ sig Unit (Elt F) ℕ UU ℕ) := bigSep (Finset.univ.erase c) fun j => dutyTok ER (famCell c x j) 0 j
/-- Those of one family that device `c` pays with. -/
def paid1 (x : Fam) : sProp (MT nD τ sig Unit (Elt F) ℕ UU ℕ) := bigSep (Finset.univ.erase c) fun j => dutyTok ER (famCell j x c) 0 c
/-- All that device `c` pays with. -/
def payToks : sProp (MT nD τ sig Unit (Elt F) ℕ UU ℕ) :=
  iprop(paid1 c (.inl 0) ∗ paid1 c (.inl 1) ∗ own1 c (.inr 0) ∗ paid1 c (.inr 1) ∗ own1 c (.inr 2) ∗ paid1 c (.inr 3))

/-- A separating product over the families of cells, written out. -/
theorem fam_split (Φ : Fam → sProp (MT nD τ sig Unit (Elt F) ℕ UU ℕ)) :
    bigSep Finset.univ Φ = iprop((Φ (.inl 0) ∗ Φ (.inl 1)) ∗ Φ (.inr 0) ∗ Φ (.inr 1) ∗ Φ (.inr 2) ∗ Φ (.inr 3)) := by
  rw [bigSep_univ_sum, bigSep_univ_eq_bigSepL [0, 1] (by decide) (by decide), big_fin4]; rfl

/-- The tokens minted for device `c`'s cells are, family by family, those of its peers' duties. -/
theorem toks_own : (toks c : sProp (MT nD τ sig Unit (Elt F) ℕ UU ℕ))
    ⊢ iprop(own1 c (.inl 0) ∗ own1 c (.inl 1) ∗ own1 c (.inr 0) ∗ own1 c (.inr 1) ∗ own1 c (.inr 2) ∗ own1 c (.inr 3)) := by
  unfold toks own1
  rw [fam_split]
  have h (x : Fam) : (bigSep Finset.univ fun j : Dev nD => (dutyTok ER (famCell c x j) 0 j : sProp (MT nD τ sig Unit (Elt F) ℕ UU ℕ)))
      ⊢ bigSep (Finset.univ.erase c) fun j => dutyTok ER (famCell c x j) 0 j := bigSep_subset (Finset.erase_subset _ _)
  iintro ⟨⟨H0, H1⟩, H2, H3, H4, H5⟩
  isplitl [H0]; · iapply (h (.inl 0)); iexact H0
  isplitl [H1]; · iapply (h (.inl 1)); iexact H1
  isplitl [H2]; · iapply (h (.inr 0)); iexact H2
  isplitl [H3]; · iapply (h (.inr 1)); iexact H3
  isplitl [H4]; · iapply (h (.inr 2)); iexact H4
  iapply (h (.inr 3)); iexact H5

/-- The tokens of one family change hands: from the owner of the cell to the one that pays. -/
theorem fam_swap (x : Fam) : (bigSep Finset.univ fun c : Dev nD => (own1 c x : sProp (MT nD τ sig Unit (Elt F) ℕ UU ℕ))) = bigSep Finset.univ fun c : Dev nD => paid1 c x := by
  unfold own1 paid1; exact bigSep_erase_comm fun (a b : Dev nD) => (dutyTok ER (famCell a x b) 0 b : sProp (MT nD τ sig Unit (Elt F) ℕ UU ℕ))

/-- The tokens of all the cells, dealt to the devices that pay with them. -/
theorem toks_dealt : (bigSep Finset.univ fun c : Dev nD => (toks c : sProp (MT nD τ sig Unit (Elt F) ℕ UU ℕ))) ⊢ bigSep Finset.univ fun c : Dev nD => payToks c := by
  refine (big_mono fun c _ => toks_own c).trans ?_
  unfold payToks
  rw [bigSep_sep', bigSep_sep', bigSep_sep', bigSep_sep', bigSep_sep', fam_swap, fam_swap, fam_swap (.inr 1), fam_swap (.inr 3),
    bigSep_sep', bigSep_sep', bigSep_sep', bigSep_sep', bigSep_sep']

end Toks

/-! ## Cells one by one -/

/-- The cells of device `c`: the two barriers, the copies' cells under its own number, and those under its peers' numbers. -/
theorem cells_split (c : Dev nD) (Φ : CK → sProp (MT nD τ sig Unit (Elt F) ℕ UU ℕ)) :
    bigSep Finset.univ Φ = iprop((Φ (.inl 0) ∗ Φ (.inl 1)) ∗ (bigSep Finset.univ fun i : Fin 4 => Φ (.inr (i, c)))
      ∗ bigSep Finset.univ fun i : Fin 4 => bigSep (pf c 0) fun j : Dev nD => Φ (.inr (i, j))) := by
  rw [pf_zero, bigSep_univ_sum, bigSep_univ_eq_bigSepL [0, 1] (by decide) (by decide), bigSep_univ_prod, ← bigSep_sep',
    bigSep_congr (s := Finset.univ) fun (i : Fin 4) _ => bigSep_univ_at (fun j : Dev nD => Φ (.inr (i, j))) c]
  rfl

/-- The positions of all cells of device `c`. -/
def Pos (c : Dev nD) : sProp (MT nD τ sig Unit (Elt F) ℕ UU ℕ) := bigSep Finset.univ fun k : CK => atPos ER (kcell (c, k)) 0 ∅ 0

/-- What device `c` keeps of the ghost state. -/
def Lin (c : Dev nD) : sProp (MT nD τ sig Unit (Elt F) ℕ UU ℕ) := iprop(Pos c ∗ payToks c)

/-! ## The credit -/

/-- What all devices owe a cell together. -/
def dueOf (c : Dev nD) : CK → ℕ
  | .inl _ => 31
  | .inr (i, j) => if (i = 1 ∨ i = 3) ∧ j ≠ c then amtOf (some (.inr (i, j))) else 0

/-- What device `d` owes its peers at their cells of kind `k`, read at cell `k'` of device `c`. -/
theorem sum_at (d c : Dev nD) (k k' : CK) (n : ℕ) :
    (∑ j ∈ pf d 0, tallyAt (kcell (j, k)) () n : CellTallies nD τ sig Unit) (kcell (c, k')) () = if k' = k ∧ d ≠ c then n else 0 := by
  rw [Finset.sum_apply, Finsupp.finset_sum_apply]
  have h (j : Dev nD) : (tallyAt (kcell (j, k)) () n : CellTallies nD τ sig Unit) (kcell (c, k')) () = if j = c then (if k' = k then n else 0) else 0 := by
    rw [tallyAt_apply]
    by_cases h1 : j = c
    · subst h1
      by_cases h2 : k' = k
      · subst h2; rw [if_pos ⟨rfl, rfl⟩, if_pos rfl, if_pos rfl]
      · rw [if_neg fun e => h2 (Prod.ext_iff.1 (kcell_injective e.1)).2, if_pos rfl, if_neg h2]
    · rw [if_neg fun e => h1 (Prod.ext_iff.1 (kcell_injective e.1)).1.symm, if_neg h1]
  rw [Finset.sum_congr rfl fun j _ => h j, Finset.sum_ite_eq']
  by_cases h1 : d = c
  · rw [if_neg (fun hc => (mem_pf.1 hc).2 h1.symm), if_neg fun e => e.2 h1]
  · rw [if_pos (mem_pf.2 ⟨Nat.zero_le _, fun e => h1 e.symm⟩)]
    by_cases h2 : k' = k
    · rw [if_pos h2, if_pos ⟨h2, h1⟩]
    · rw [if_neg h2, if_neg fun e => h2 e.1]

/-- What device `d` owes at the start at cell `k` of device `c`. -/
theorem obl_at (d c : Dev nD) (k : CK) : obl d 0 0 0 0 (kcell (c, k)) ()
    = (if k = .inl 0 ∧ d ≠ c then 1 else 0) + (if k = .inr (1, d) ∧ d ≠ c then N1 else 0) + (if k = .inr (3, d) ∧ d ≠ c then N2 else 0)
      + (if k = .inl 1 ∧ d ≠ c then 1 else 0) := by
  unfold obl
  rw [Pi.add_apply, Finsupp.add_apply, Pi.add_apply, Finsupp.add_apply, Pi.add_apply, Finsupp.add_apply, sum_at, sum_at, sum_at, sum_at]

/-- Every device has 31 peers. -/
theorem sum_peers (c : Dev nD) : (∑ d : Dev nD, if d ≠ c then 1 else 0) = 31 := by
  rw [Finset.sum_boole]; revert c; decide

/-- What all the devices together owe a cell at the start. -/
theorem due_eq (c : Dev nD) (k : CK) : ∑ d : Dev nD, obl d 0 0 0 0 (kcell (c, k)) () = dueOf c k := by
  rw [Finset.sum_congr rfl fun d _ => obl_at d c k]
  rcases k with s | ⟨i, j⟩
  · refine (Finset.sum_congr rfl fun d _ => ?_).trans (sum_peers c)
    fin_cases s <;> simp
  · have h (n : ℕ) (i' : Fin 4) : (∑ d : Dev nD, if (Sum.inr (i, j) : CK) = .inr (i', d) ∧ d ≠ c then n else 0) = if i = i' ∧ j ≠ c then n else 0 := by
      rw [Finset.sum_eq_single j]
      · simp
      · intro d _ hd; rw [if_neg]; rintro ⟨e, -⟩; exact hd (Prod.ext_iff.1 (Sum.inr.inj e)).2.symm
      · intro e; exact absurd (Finset.mem_univ _) e
    rw [Finset.sum_add_distrib, Finset.sum_add_distrib, Finset.sum_add_distrib, h, h]
    unfold dueOf amtOf
    fin_cases i <;> simp

/-- The credit of all cells of device `c`. -/
def Creds (c : Dev nD) : sProp (MT nD τ sig Unit (Elt F) ℕ UU ℕ) := bigSep Finset.univ fun k : CK => cred (tallyAt (kcell (c, k)) () (dueOf c k))

/-- The credit that the launch gives for a cell is what is owed to it. -/
theorem launch_at (c : Dev nD) (k : CK) :
    tallyOn (kcell (c, k)) (launchCredit (Pipeline.owing fun d => obl d 0 0 0 0) 0 (kcell (c, k))) = (tallyAt (kcell (c, k)) () (dueOf c k) : CellTallies nD τ sig Unit) := by
  unfold tallyAt; refine congrArg _ (Finsupp.ext fun u => ?_); cases u
  rw [Pipeline.launchCredit_owing, Finsupp.single_eq_same, due_eq]

/-- The launch's credit for device `c` is the credit of its barriers and of its receive cells. -/
theorem creds (c : Dev nD) : (Pipeline.launchCred (fun d => obl d 0 0 0 0) c : sProp (MT nD τ sig Unit (Elt F) ℕ UU ℕ)) ⊢ Creds c := by
  unfold Pipeline.launchCred Creds
  refine (bigSep_subset (Finset.subset_univ (Finset.univ.map ⟨csem, csem_injective⟩))).trans ?_
  rw [bigSep_map]
  exact Entails.of_eq (bigSep_congr fun k _ => by rw [← launch_at]; rfl)

/-! ## What the body starts from -/

/-- The tokens and positions together with the credits are what the body starts from. -/
theorem dealt_intro (c : Dev nD) : iprop(Lin c ∗ Creds c) ⊢ (Dealt c : sProp (MT nD τ sig Unit (Elt F) ℕ UU ℕ)) := by
  unfold Lin Pos Creds Dealt payToks
  rw [cells_split c, cells_split c, big_fin4 (fun i : Fin 4 => bigSep (pf c 0) fun j : Dev nD => (atPos ER (kcell (c, .inr (i, j))) 0 ∅ 0 : sProp (MT nD τ sig Unit (Elt F) ℕ UU ℕ))),
    big_fin4 (fun i : Fin 4 => bigSep (pf c 0) fun j : Dev nD => (cred (tallyAt (kcell (c, .inr (i, j))) () (dueOf c (.inr (i, j)))) : sProp (MT nD τ sig Unit (Elt F) ℕ UU ℕ)))]
  unfold paid1 own1 TB T2 Toks1 Toks2 W0 AS Bar0 SelfAt
  rw [← pf_zero c]
  have hc (i : Fin 4) (hi : i = 1 ∨ i = 3) : (bigSep (pf c 0) fun j : Dev nD => (cred (tallyAt (kcell (c, .inr (i, j))) () (dueOf c (.inr (i, j)))) : sProp (MT nD τ sig Unit (Elt F) ℕ UU ℕ)))
      ⊢ bigSep (pf c 0) fun j : Dev nD => cred (tallyAt (kcell (c, .inr (i, j))) () (amtOf (some (.inr (i, j))))) :=
    Entails.of_eq (bigSep_congr fun j hj => by rw [show dueOf c (.inr (i, j)) = amtOf (some (.inr (i, j))) from if_pos ⟨hi, (mem_pf.1 hj).2⟩])
  iintro ⟨⟨⟨⟨Pb, Ps⟩, Pc, P0, P1, P2, P3⟩, Tb, Ts, T0, T1, T2, T3⟩, ⟨Cb, Cs⟩, -, -, C1, -, C3⟩
  isplitl [Tb]; · iexact Tb
  isplitl [T0 T1]
  · iapply (Entails.of_eq (bigSep_sep' _ _ _).symm); isplitl [T0]; · iexact T0
    iexact T1
  isplitl [T2 T3]
  · iapply (Entails.of_eq (bigSep_sep' _ _ _).symm); isplitl [T2]; · iexact T2
    iexact T3
  isplitl [Ts]; · iexact Ts
  isplitl [P0 P2]
  · isplitl [P0]; · iexact P0
    iexact P2
  isplitl [P1 C1]
  · iapply (Entails.of_eq (bigSep_sep' _ _ _).symm); isplitl [C1]; · iapply (hc 1 (Or.inl rfl)); iexact C1
    iexact P1
  isplitl [P3 C3]
  · iapply (Entails.of_eq (bigSep_sep' _ _ _).symm); isplitl [C3]; · iapply (hc 3 (Or.inr rfl)); iexact C3
    iexact P3
  isplitl [Pb Cb]
  · isplitl [Cb]; · iexact Cb
    iexact Pb
  isplitl [Ps Cs]
  · isplitl [Cs]; · iexact Cs
    iexact Ps
  iexact Pc

end Cert.KernelIdeal.Attn

end
-- ==== Proof.Start.lean ====
/-
The launch: the program on all 32 devices, from any memory with counters at zero, ends with every window's array at its
computed contents and every counter at zero again.
-/
module

public import proofs.«01_k».proof.Proof.Deal
public import Idealize.ShloMosaic.Lib.Pipeline.CollectiveSegs

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

/-- What the body starts from, the buffers apart. -/
def start (c : Dev nD) : sProp 𝕄 := iprop(∃ K, ctx m K ∗ Dealt c)

def dats (_ : Fin 1) (c : Dev nD) : Dat τ (Elt F) Unit ℕ UU ℕ cfg0 c where
  A w := V m c (Pipeline.arrRef spec0 w)
  after w _ := match w with
    | ⟨0, _⟩ => stQ m c
    | ⟨1, _⟩ => stK m c
    | ⟨2, _⟩ => stV m c
    | ⟨3, _⟩ => stB m c
    | ⟨4, _⟩ => stL m c
    | ⟨5, _⟩ => outVal m
  Φ t := match t with
    | ⟨0, _⟩ => iprop(start m c ∗ Scr c)
    | ⟨_ + 1, _⟩ => iprop(Scr c ∗ Zero c)
  q _ := fullShare
  owed t := match t with
    | ⟨0, _⟩ => obl c 0 0 0 0
    | ⟨_ + 1, _⟩ => 0

/-- To own a whole buffer at given contents is to own its elements at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ Scr c) ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPost (c : Dev nD) : sProp 𝕄 :=
  iprop((Scr c ∗ Zero c) ∗ (dats m 0 c).owesAt () t0_0.succ ∗ stg c cc0_stg0_0 (stQ m c) ∗ stg c cc0_stg1_0 (stK m c)
    ∗ stg c cc0_stg2_0 (stV m c) ∗ stg c cc0_stg3_0 (stB m c) ∗ stg c cc0_stg4_0 (stL m c) ∗ stg c cc0_stg5_0 (outVal m))

/-- What the launch gives the body is what the body's proof starts from. -/
theorem pre_enter (c : Dev nD) : bodyPre m c ⊢ iprop(∃ K, Bs m K c ∗ owesS c 0 0 0 0 ∗ Dealt c ∗ Scr c ∗ OutAny c) := by
  unfold bodyPre start
  iintro ⟨⟨⟨%K, #HC, Hd⟩, Hs⟩, HO, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = stQ m c := by rw [h0]; unfold Dat.before; rw [if_pos (fetch0_0 t0_0)]; rfl
  have e1 : g1 = stK m c := by rw [h1]; unfold Dat.before; rw [if_pos (fetch0_1 t0_0)]; rfl
  have e2 : g2 = stV m c := by rw [h2]; unfold Dat.before; rw [if_pos (fetch0_2 t0_0)]; rfl
  have e3 : g3 = stB m c := by rw [h3]; unfold Dat.before; rw [if_pos (fetch0_3 t0_0)]; rfl
  have e4 : g4 = stL m c := by rw [h4]; unfold Dat.before; rw [if_pos (fetch0_4 t0_0)]; rfl
  subst e0; subst e1; subst e2; subst e3; subst e4
  unfold Dat.owesAt Pipeline.owesWithin
  icases HO with ⟨%W, %hW, HO⟩
  rw [show (dats m 0 c).owed t0_0.castSucc = obl c 0 0 0 0 from rfl]
  iexists K
  unfold Bs stgs owesS OutAny
  isplitl [H0 H1 H2 H3 H4]
  · isplitr; · iexact HC
    isplitl [H0]; · iexact H0
    isplitl [H1]; · iexact H1
    isplitl [H2]; · iexact H2
    isplitl [H3]; · iexact H3
    iexact H4
  isplitl [HO]; · iexists W; iexact HO
  isplitl [Hd]; · iexact Hd
  isplitl [Hs]; · iexact Hs
  iexists g5; iexact H5

/-- What the body's proof ends with is what the launch expects of it. -/
theorem post_exit (c : Dev nD) : Post m c ⊢ bodyPost m c := by
  unfold Post bodyPost stgs owesS
  iintro ⟨⟨H0, H1, H2, H3, H4⟩, ⟨%W, HO⟩, Hs, Hz, H5⟩
  rw [obl_end]
  isplitl [Hs Hz]
  · isplitl [Hs]; · iexact Hs
    iexact Hz
  isplitl [HO]
  · unfold Dat.owesAt Pipeline.owesWithin
    rw [show (dats m 0 c).owed t0_0.succ = 0 from rfl]
    iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The body runs from what the launch gives to what the launch expects. -/
theorem body_sound (c : Dev nD) : bodyPre m c ⊢ wpc c (onBufs (cc0_body (F := F))) (fun _ => bodyPost m c) := by
  refine (pre_enter m c).trans ?_
  iintro ⟨%K, H⟩
  iapply (wp_mono _ _ _ (fun _ => post_exit m c))
  iapply (body_run (m := m) (K := K) (c := c)).go
  iexact H

set_option maxRecDepth 4000 in
/-- The body's run, in the form that the launch theorem asks for. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_sound m c

/-! ## The launch -/

/-- The kernel's own semaphores: the second barrier and the copies'. -/
abbrev osem : Unit ⊕ (Fin 4 × Fin 32) → SemLoc sig
  | .inl _ => csem (.inl 1)
  | .inr x => csem (.inr x)

/-- Each of the kernel's own semaphores is one of the cells. -/
theorem osem_kind (k) : ∃ x, kind (osem k) = some x := by rcases k with _ | x <;> exact ⟨_, kind_csem _⟩

/-- The kernel's own semaphores are its scoped ones, each once, and none of the launch's. -/
theorem ownSemFacts : Pipeline.OwnSemFacts cfg0.spec osem where
  isScoped k := by
    rcases k with _ | ⟨i, j⟩
    · rfl
    · revert i j; decide
  inj a b h := by
    rcases a with _ | x <;> rcases b with _ | y <;> have := csem_injective h
    · rfl
    · cases this
    · cases this
    · rw [Sum.inr.inj this]
  disj k w s h := by
    obtain ⟨x, hx⟩ := osem_kind k
    rw [h] at hx
    have hn : ∀ (w : Fin 6) (s : Fin (spec0 w).nbuf), kind (.dma ((spec0 w).sem s) : SemLoc sig) = none := by decide
    exact absurd (hx.symm.trans (hn w s)) (by simp)

/-- Every window is held in full. -/
theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

/-- What the launch's ghost state deals device `c`. -/
def G (c : Dev nD) : sProp 𝕄 :=
  iprop((bigSep Finset.univ fun k : CK => roundState ER (Rd m) (kcell (c, k)) 0)
    ∗ (Pos c ∗ bigSep Finset.univ fun k : CK => reached ER (kcell (c, k)) 0) ∗ toks c)

/-- Every cell's invariant, and that every cell is at round 0. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)
instance records_persistent (K : Dev nD × CK → ℕ) : BI.Persistent (records m K) := by unfold records; infer_instance

/-- What the devices' common step makes of it. -/
def G' (c : Dev nD) : sProp 𝕄 := iprop(∃ K, records m K ∗ Lin c)

/-- The ghost state of the cells, dealt to the devices. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G Pos; simp only [bigSep_sep']
  isplitl [Hst]; · iexact Hst
  isplitl [Hat Hr]
  · isplitl [Hat]; · iexact Hat
    iexact Hr
  iexact Htok

/-- The one semaphore outside the kernel's scope is the first barrier's. -/
theorem unscoped_eq (c : Dev nD) : (unscopedSems0 c : sProp 𝕄) = semVal (kcell (c, .inl 0)) 0 := by
  unfold unscopedSems0; rw [bigSep_eq_bigSepL_of_eq [SemLoc.reg barS] (by decide) (by decide)]; rfl
/-- The kernel's own semaphores are the second barrier's and the copies'. -/
theorem own_eq (c : Dev nD) : (Pipeline.ownSems0 (Ix := Unit) (Name := ℕ) (U := UU) (Lvl := ℕ) (Val := Elt F) (τ := τ) osem c : sProp 𝕄)
    = iprop(semVal (kcell (c, .inl 1)) 0 ∗ bigSep Finset.univ fun x : Fin 4 × Fin 32 => semVal (kcell (c, .inr x)) 0) := by
  unfold Pipeline.ownSems0; rw [bigSep_univ_sum, Finset.univ_unique, bigSep_singleton]; rfl
/-- All the counters at zero: the two barriers' and the copies'. -/
theorem zero_split (c : Dev nD) : (Zero c : sProp 𝕄)
    = iprop((semVal (kcell (c, .inl 0)) 0 ∗ semVal (kcell (c, .inl 1)) 0) ∗ bigSep Finset.univ fun x : Fin 4 × Fin 32 => semVal (kcell (c, .inr x)) 0) := by
  unfold Zero; rw [bigSep_univ_sum, bigSep_univ_eq_bigSepL [0, 1] (by decide) (by decide)]; rfl

/-- The launch's counters at zero are all of the device's counters at zero. -/
theorem sems_zero (c : Dev nD) :
    iprop(unscopedSems0 c ∗ Pipeline.ownSems0 (Ix := Unit) (Name := ℕ) (U := UU) (Lvl := ℕ) (Val := Elt F) (τ := τ) osem c) ⊢ (Zero c : sProp 𝕄) := by
  rw [unscoped_eq, own_eq, zero_split]
  iintro ⟨H1, H2, H3⟩
  isplitl [H1 H2]
  · isplitl [H1]; · iexact H1
    iexact H2
  iexact H3
/-- All of the device's counters at zero are the launch's counters at zero. -/
theorem zero_sems (c : Dev nD) :
    (Zero c : sProp 𝕄) ⊢ iprop(unscopedSems0 c ∗ Pipeline.ownSems0 (Ix := Unit) (Name := ℕ) (U := UU) (Lvl := ℕ) (Val := Elt F) (τ := τ) osem c) := by
  rw [unscoped_eq, own_eq, zero_split]
  iintro ⟨⟨H1, H2⟩, H3⟩
  isplitl [H1]; · iexact H1
  isplitl [H2]; · iexact H2
  iexact H3

/-- A device's counters and ghost state become its cells' invariants, their positions at round 0, and the tokens. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (Pos c ∗ bigSep Finset.univ fun k : CK => reached ER (kcell (c, k)) 0) ∗ toks c) := by
  unfold G
  iintro ⟨Hos, Hus, Hst, Hat, Htok⟩
  ihave Hv := (sems_zero (F := F) c) $$ [Hos Hus]
  · isplitl [Hus]; · iexact Hus
    iexact Hos
  imod (show iprop(Zero c ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        unfold Zero
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- Records that may be shared go to every device. -/
theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The invariants of all devices are put together and shared, and the tokens are dealt to those that pay. -/
theorem regroup :
    (bigSep Finset.univ fun c : Dev nD => iprop((bigSep Finset.univ fun k : CK => iprop(∃ κ : ℕ, cellInv ER (Rd m) κ (kcell (c, k))))
          ∗ (Pos c ∗ bigSep Finset.univ fun k : CK => reached ER (kcell (c, k)) 0) ∗ toks c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_dealt (F := F)) $$ Htok
  iapply (with_records (F := F) (R := records m K) (Φ := Lin) fun c => by
    unfold G'; iintro ⟨#H1, H2⟩; iexists K; isplitr; · iexact H1
    iexact H2)
  isplitr
  · unfold records; isplitl; · iexact HI
    iexact HR
  · unfold Lin; rw [bigSep_sep']
    isplitl [Hat]; · iexact Hat
    iexact Htk

/-- The devices' common step at the launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

/-- What the launch leaves for a device is what its body starts from, the buffers apart. -/
theorem start_intro (c : Dev nD) :
    iprop(Pipeline.unscopedRestP Pipeline.Prefetch.none cfg0.spec c (fun b => m ((c : Thread nD τ).loc b)) ∗ levAts L lv
        ∗ Pipeline.launchCred (fun d => obl d 0 0 0 0) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' records ctx
  icases HG with ⟨%K, ⟨HI, HR⟩, HL⟩
  isplitl
  · iexists K
    isplitl [HI HR Hlev]
    · isplitl [HI]; · iexact HI
      isplitl [HR]; · iexact HR
      iexact Hlev
    iapply (dealt_intro c)
    isplitl [HL]; · iexact HL
    iexact Hc
  · iempintro

/-- The launch's state before the first grid point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ Scr c) from rfl, scopedRest0_eq]
  unfold Scr
  iintro ⟨Hs, -, Hr⟩
  isplitl [Hs]; · iexact Hs
  iexact Hr

/-- The launch's state after the last grid point gives the counters back at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(Scr c ∗ Zero c) from rfl, scopedRest0_eq]
  unfold Scr
  iintro ⟨Hr, Hz⟩
  ihave Hz := (zero_sems (F := F) c) $$ Hz
  icases Hz with ⟨Hu, Ho⟩
  isplitl [Hu]; · iexact Hu
  isplitl [Ho]; · iexact Ho
  iexact Hr

/-- The launch's own waits come first in the waiting order. -/
theorem waits (c : Dev nD) : (levAts L lv : sProp 𝕄) ⊢ Pipeline.cellsWaits cfgs (dats m) () 0 c :=
  Pipeline.cellsWaits_intro cfgs (dats m) () 0 c fun w s t => by
    have hn : ∀ (w : Fin 6) (s : Fin (spec0 w).nbuf), lvOf (kind (.dma ((spec0 w).sem s) : SemLoc sig)) = 0 := by decide
    rcases t with ⟨_ | _, ht⟩
    · exact mayWait_lv c _ 0 0 0 0 0 (hn w s) (Or.inl (by decide)) (Or.inl (by decide)) (Or.inl (by decide)) (Or.inl (by decide))
    · have := mayWait_lv (F := F) c _ 0 32 32 32 32 (hn w s) (Or.inr (by decide)) (Or.inr (by decide)) (Or.inr (by decide)) (Or.inr (by decide))
      rw [obl_end] at this; exact this

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with counters at zero, for any float values: the program ends on all devices, every window's array
    at its computed contents, every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => obl d 0 0 0 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- Run from any memory: the inputs end unchanged, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 0).trans ((dats m 0 c).arrAt_in 0 rfl _), (h.1 c 1).trans ((dats m 0 c).arrAt_in 1 rfl _),
    (h.1 c 2).trans ((dats m 0 c).arrAt_in 2 rfl _), (h.1 c 3).trans ((dats m 0 c).arrAt_in 3 rfl _), (h.1 c 4).trans ((dats m 0 c).arrAt_in 4 rfl _)⟩, h.2⟩) (run_main m ρ)

end Cert.KernelIdeal.Attn

end
-- ==== Proof.Same.lean ====
/- The printed kernel and its idealized form have the same text: their body tables and their mains are equal, over any
   float values. -/
module

public import proofs.«01_k».proof.Proof.Gen.Kernel.Frame
public import proofs.«01_k».proof.Proof.Gen.KernelIdeal.Frame

@[expose] public section

set_option maxHeartbeats 400000
set_option maxRecDepth 10000

noncomputable section

namespace Cert.Proof

open Idealize.ShloMosaic Idealize.SL.Sem

attribute [local instance] Cert.Kernel.Gen.facts Cert.KernelIdeal.Gen.facts

variable {F : FTy → Type} [FloatOps F]

/-- The two kernels' bodies are one program. -/
theorem body_same : Cert.Kernel.cc0_body (F := F) = Cert.KernelIdeal.cc0_body (F := F) := rfl

/-- The two tables of kernel bodies are one table. -/
theorem defs0_same : Cert.Kernel.defs₀ (F := F) = Cert.KernelIdeal.defs₀ (F := F) := by
  funext p ℓ a
  cases p with
  | tc =>
    match ℓ, a with
    | 0, (t, s) => rfl
  | scScalar _ => rfl
  | scVector _ _ => rfl

/-- The two body tables, the pipelines' entries with them, are one table. -/
theorem defs_same : Cert.Kernel.defs (F := F) = Cert.KernelIdeal.defs (F := F) :=
  congrArg (Pipeline.defs (Cert.KernelIdeal.pcfgs (F := F))) defs0_same

/-- The two mains are one program. -/
theorem main_same : Cert.Kernel.main (F := F) = Cert.KernelIdeal.main (F := F) := rfl

end Cert.Proof

end

end
-- ==== Proof.KFinal.lean ====
/-
The kernel's run with its result: every device ends with the output block `outVal` in its result, its arguments unchanged.
-/
module

public import proofs.«01_k».proof.Proof.Start

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F] (m : (ℓ : Loc nD τ sig) → Buf (Elt F) ℓ) (ρ : Dev nD → PrngReg)

/-- The output array ends holding the output block: one write-back of the whole array. -/
theorem final_out (c : Dev nD) : (dats m 0 c).arrAt 5 cfg0.N = outVal m := by
  refine (dats m 0 c).arrAt_eq_of_after_last 5 t0_0 (by decide +kernel) _ fun j => ?_
  rfl

/-- Run from any memory: every device ends with the output block and with its arguments as they were. -/
theorem run_value : θ_run defs (onTc (τ := τ) (main (F := F))) ⟨m, fun _ => 0, ρ⟩ (fun r => ∀ c : Dev nD,
      r.2.mem ((c.tc : Thread nD τ).loc main_v1) = outVal m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c 5).trans (final_out m c), (h.1 c 0).trans ((dats m 0 c).arrAt_in 0 rfl _), (h.1 c 1).trans ((dats m 0 c).arrAt_in 1 rfl _),
    (h.1 c 2).trans ((dats m 0 c).arrAt_in 2 rfl _), (h.1 c 3).trans ((dats m 0 c).arrAt_in 3 rfl _), (h.1 c 4).trans ((dats m 0 c).arrAt_in 4 rfl _)⟩) (run_main m ρ)

end Cert.KernelIdeal.Attn

end
-- ==== Proof.PreVal.lean ====
/-
What the precondition says of one device's arguments: every row has a positive length, the block-table entries below it
name existing pages, and the queries and the keys are finite.
-/
module

public import proofs.«01_k».proof.Pre_pages_in_range_KernelIdeal
public import proofs.«01_k».proof.Pre_pages_in_range_ReferenceIdeal
public import Idealize.ShloMosaic.Lib.Pointwise
public import Idealize.ShloMosaic.Lib.ReduceAll

@[expose] public section

noncomputable section

namespace Cert.Attn

open Idealize.ShloMosaic

/-- The precondition's shapes, at one device's arguments. -/
theorem preFacts : Cert.Pre_pages_in_range_KernelIdeal.Facts :=
  ⟨by decide, by decide, by decide, by decide, by decide, by decide, by decide, by decide, by decide, by decide, by decide⟩
/-- The precondition's shapes, at the reference's arguments. -/
theorem preFactsR : Cert.Pre_pages_in_range_ReferenceIdeal.Facts :=
  ⟨by decide, by decide, by decide, by decide, by decide, by decide, by decide, by decide, by decide, by decide, by decide⟩

attribute [local instance] preFacts

open Cert.Pre_pages_in_range_KernelIdeal

/-- Two bits are both one when their conjunction is. -/
theorem andi_one {x y : BitVec 1} (h : IntOp.andi x y = 1#1) : x = 1#1 ∧ y = 1#1 := by
  revert x y; decide

/-- A comparison's bit that is one: the comparison holds. -/
theorem ofBool_one {b : Bool} (h : BitVec.ofBool b = 1#1) : b = true := by
  revert h; cases b <;> decide

/-- An absolute value below infinity: neither infinity. -/
theorem finite_of_abs {x : EReal} (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  unfold Ideal.cmp at h
  constructor <;> rintro rfl <;> simp at h

instance : Subsingleton S_.Idx := ⟨fun a b => funext fun d => d.elim0⟩

/-- What the precondition says. -/
theorem pre_read (Q : FVec Ideal S16x1x16x64 .f32) (K V : FVec Ideal S128x16x16x64 .f32) (B : IVec S16x128 32) (L : IVec S16 32)
    (h : fn (F := Ideal) Q K V B L = fun _ => 1#1) :
    (∀ b : Fin 16, (0#32).slt (L (ix1 b)) = true) ∧
    (∀ (b : Fin 16) (j : Fin 128), (BitVec.ofNat 32 j.val).slt (L (ix1 b)) = true → (0#32).sle (B (ix2 b j)) = true ∧ (B (ix2 b j)).slt 4096#32 = true) ∧
    (∀ i, Q i ≠ ⊤ ∧ Q i ≠ ⊥) ∧ (∀ i, K i ≠ ⊤ ∧ K i ≠ ⊥) := by
  have h0 := congrFun h ix0
  unfold fn fn_part1 fn_where at h0
  obtain ⟨h1, hK⟩ := andi_one h0
  obtain ⟨h2, hQ⟩ := andi_one h1
  obtain ⟨hB, hL⟩ := andi_one h2
  have hB := Host.reduce_andi_all _ _ _ _ _ hB
  have hL := Host.reduce_andi_all _ _ _ _ _ hL
  have hQ := Host.reduce_andi_all _ _ _ _ _ hQ
  have hK := Host.reduce_andi_all _ _ _ _ _ hK
  refine ⟨fun b => ?_, fun b j hj => ?_, fun i => ?_, fun i => ?_⟩
  · have := hL (ix1 b)
    pointwise at this
    exact ofBool_one this
  · have := hB (ix2 b j)
    pointwise at this
    have e : IntOp.cmpi .slt (BitVec.ofNat 32 j.val) (L (ix1 b)) = 1#1 := congrArg BitVec.ofBool hj
    rw [e] at this
    obtain ⟨e1, e2⟩ := andi_one this
    exact ⟨ofBool_one e1, ofBool_one e2⟩
  · have := hQ i
    exact finite_of_abs this
  · exact finite_of_abs (hK i)

end Cert.Attn

end
-- ==== Proof.KPay.lean ====
/-
The kernel's arithmetic at an index, over the extended reals.

Each of the kernel's straight-line stretches, read at one index: the page counts, their spreading over the keys, the
masked scores, their maximum, the weights and their sums, and the merging of the devices' partial results.
-/
module

public import proofs.«01_k».proof.Proof.Rows
public import Idealize.ShloMosaic.Lib.Pointwise

@[expose] public section

set_option maxRecDepth 4000

noncomputable section

namespace Cert.KernelIdeal.Attn

open Cert.KernelIdeal Cert.KernelIdeal.Gen
open Idealize.ShloMosaic

attribute [local instance] Cert.KernelIdeal.Gen.facts

/-! ## The constants -/

/-- The pattern of minus infinity. -/
theorem ofBits_ninf : Ideal.ofBits .f32 0xFF800000#32 = ⊥ := by simp [Ideal.ofBits, Ideal.ieee]
/-- The pattern of infinity. -/
theorem ofBits_pinf : Ideal.ofBits .f32 0x7F800000#32 = ⊤ := by simp [Ideal.ofBits, Ideal.ieee]
/-- The scale of the scores is a real. -/
theorem ofBits_scale : ∃ r : ℝ, Ideal.ofBits .f32 0x3E000000#32 = (r : EReal) := by
  refine ⟨(Ideal.ofBits .f32 0x3E000000#32).toReal, (EReal.coe_toReal ?_ ?_).symm⟩
  all_goals simp [Ideal.ofBits, Ideal.ieee, -EReal.coe_mul, -EReal.coe_neg]
/-- The score of a key that is not attended to is a real. -/
theorem ofBits_masked : ∃ r : ℝ, Ideal.ofBits .f32 0xF149F2CA#32 = (r : EReal) := by
  refine ⟨(Ideal.ofBits .f32 0xF149F2CA#32).toReal, (EReal.coe_toReal ?_ ?_).symm⟩
  all_goals simp [Ideal.ofBits, Ideal.ieee, -EReal.coe_mul, -EReal.coe_neg]

attribute [local pointwise] ofBits_ninf

/-! ## The page counts -/

/-- A lane selected by a comparison of words for equality. -/
theorem select_eq {α : Type} (x y : BitVec 32) (a b : α) : Scalar.select (IntOp.cmpi .eq x y) a b = if x = y then a else b := by
  unfold Scalar.select IntOp.cmpi
  by_cases h : x = y
  · subst h; simp
  · have hb : (x == y) = false := by simpa using h
    rw [if_neg h]; simp [hb]

/-- A lane selected by an equality and a signed comparison together. -/
theorem select_eq_slt {α : Type} (x y u v : BitVec 32) (a b : α) :
    Scalar.select (IntOp.andi (IntOp.cmpi .eq x y) (IntOp.cmpi .slt u v)) a b = if x = y ∧ u.slt v = true then a else b := by
  unfold Scalar.select IntOp.cmpi IntOp.andi
  by_cases h : x = y
  · subst h
    cases hs : u.slt v <;> simp
  · have hb : (x == y) = false := by simpa using h
    simp [hb, h]

/-- The kernel's floor division of a key's number by sixteen gives its page. -/
theorem key_page : ∀ k : Fin 2048,
    Scalar.select
      (IntOp.andi
        (IntOp.cmpi .ne
          (IntOp.subi ((IntOp.cmpi .sgt (BitVec.ofNat 32 k.val) 0#32).setWidth 32) ((IntOp.cmpi .slt (BitVec.ofNat 32 k.val) 0#32).setWidth 32))
          (Scalar.subi (Scalar.extui (Scalar.cmpi .sgt 16#32 0#32)) (Scalar.extui (Scalar.cmpi .slt 16#32 0#32))))
        (IntOp.cmpi .ne (IntOp.remsi .vector (BitVec.ofNat 32 k.val) 16#32) 0#32))
      (IntOp.subi (IntOp.divsi .vector (BitVec.ofNat 32 k.val) 16#32) 1#32)
      (IntOp.divsi .vector (BitVec.ofNat 32 k.val) 16#32) = BitVec.ofNat 32 (k.val / 16) := by
  decide +kernel

/-- Words of small numbers are equal just when the numbers are. -/
theorem ofNat32_inj {a b : ℕ} (ha : a < 4096) (hb : b < 4096) : (BitVec.ofNat 32 a = BitVec.ofNat 32 b) ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The count of a key is the count of its page. -/
theorem pay16_apply (cnt : FVec Ideal S16x128 .f32) (b : Fin 16) (k : Fin 2048) :
    k0_pay16 cnt (iota .tc S128x2048 32 [0] iota_S128x2048_d0_w32) (iota .tc S128x2048 32 [1] iota_S128x2048_d1_w32)
      k0_pay13 k0_pay14 k0_pay15 (ix2 b k) = cnt (ix2 b ⟨k.val / 16, by omega⟩) := by
  pointwise [k0_pay16, k0_pay13, k0_pay14, k0_pay15]
  rw [key_page k, Finset.sum_eq_single (⟨k.val / 16, by omega⟩ : Fin 128)]
  · rw [select_eq, if_pos rfl]
  · intro x _ hx
    rw [select_eq, if_neg]
    intro h
    exact hx (Fin.ext ((ofNat32_inj (by omega) (by omega)).1 h).symm)
  · intro h; exact absurd (Finset.mem_univ _) h

/-- A key is attended to when its count is positive. -/
theorem pay17_apply (cnt : FVec Ideal S16x128 .f32) (b : Fin 16) (k : Fin 2048) :
    k0_pay17 cnt (iota .tc S128x2048 32 [0] iota_S128x2048_d0_w32) (iota .tc S128x2048 32 [1] iota_S128x2048_d1_w32)
      k0_pay13 k0_pay14 k0_pay15 (ix2 b k) = BitVec.ofBool (decide (0 < cnt (ix2 b ⟨k.val / 16, by omega⟩))) := by
  pointwise [k0_pay17]
  rw [pay16_apply]

/-- The count of a page: over the block-table entries below the row's length, one for each that names it. -/
theorem pay12_apply (lp : IVec S16x128 32) (n : Fin 16 → BitVec 32) (b : Fin 16) (p : Fin 128) :
    k0_pay12 (F := Ideal) lp (k0_pay2 (F := Ideal) (n 0)) (k0_pay3 (F := Ideal) (n 1)) (k0_pay4 (F := Ideal) (n 2)) (k0_pay5 (F := Ideal) (n 3))
      (k0_pay6 (F := Ideal) (n 4)) (k0_pay7 (F := Ideal) (n 5)) (k0_pay8 (F := Ideal) (n 6)) (k0_pay9 (F := Ideal) (n 7)) (k0_pay10 (F := Ideal) (n 8))
      (k0_pay11 (F := Ideal) (n 9)) (n 10) (n 11) (n 12) (n 13) (n 14) (n 15) (ix2 b p)
      = ∑ j : Fin 128, if lp (ix2 b j) = BitVec.ofNat 32 p.val ∧ (BitVec.ofNat 32 j.val).slt (n b) = true then (1 : EReal) else 0 := by
  unfold k0_pay2 k0_pay3 k0_pay4 k0_pay5 k0_pay6 k0_pay7 k0_pay8 k0_pay9 k0_pay10 k0_pay11
  pointwise [k0_pay12]
  refine Finset.sum_congr rfl fun j _ => ?_
  fin_cases b
  all_goals exact select_eq_slt _ _ _ _ _ _

/-! ## Scores, weights and their sums -/

/-- The masked score at a key: the scaled product of query and key where the key is attended to, and else the mask's constant. -/
theorem pay31_apply (att : IVec S16x2048 1) (q : Vec Ideal S16x1x1x64 .f32) (kk : Vec Ideal S128x16x1x64 .f32) (b : Fin 16) (k : Fin 2048) :
    k0_pay31 att q kk (ix2 b k) = Scalar.select (att (ix2 b k))
      ((∑ d : Fin 64, q (ix4 b 0 0 d) * kk (ix4 ⟨k.val / 16, by omega⟩ ⟨k.val % 16, by omega⟩ 0 d)) * Ideal.ofBits .f32 0x3E000000#32)
      (Ideal.ofBits .f32 0xF149F2CA#32) := by
  pointwise [k0_pay31]

/-- The row's maximum masked score. -/
theorem pay32_apply (att : IVec S16x2048 1) (q : Vec Ideal S16x1x1x64 .f32) (kk : Vec Ideal S128x16x1x64 .f32) (b : Fin 16) (u : Fin 1) :
    k0_pay32 att q kk (ix2 b u) = Finset.univ.fold max ⊥ (fun k : Fin 2048 => k0_pay31 att q kk (ix2 b k)) := by
  pointwise [k0_pay32]

/-- The row's weight at a key: the count times the exponential of the score less the maximum. -/
theorem pay33_apply (cnt : FVec Ideal S16x2048 .f32) (att : IVec S16x2048 1) (q : Vec Ideal S16x1x1x64 .f32) (kk : Vec Ideal S128x16x1x64 .f32) (b : Fin 16) (k : Fin 2048) :
    k0_pay33 cnt att q kk (ix2 b k) = cnt (ix2 b k) * Ideal.exp (k0_pay31 att q kk (ix2 b k) - k0_pay32 att q kk (ix2 b 0)) := by
  pointwise [k0_pay33]

/-- The row's sum of weights. -/
theorem pay34_apply (cnt : FVec Ideal S16x2048 .f32) (att : IVec S16x2048 1) (q : Vec Ideal S16x1x1x64 .f32) (kk : Vec Ideal S128x16x1x64 .f32) (b : Fin 16) (u : Fin 1) :
    k0_pay34 cnt att q kk (ix2 b u) = ∑ k : Fin 2048, k0_pay33 cnt att q kk (ix2 b k) := by
  pointwise [k0_pay34]

/-- The row's weighted sum of values. -/
theorem pay35_apply (cnt : FVec Ideal S16x2048 .f32) (att : IVec S16x2048 1) (q : Vec Ideal S16x1x1x64 .f32) (kk vv : Vec Ideal S128x16x1x64 .f32) (b : Fin 16) (l : Fin 64) :
    k0_pay35 cnt att q kk vv (ix2 b l) = ∑ k : Fin 2048, k0_pay33 cnt att q kk (ix2 b k) * vv (ix4 ⟨k.val / 16, by omega⟩ ⟨k.val % 16, by omega⟩ 0 l) := by
  pointwise [k0_pay35]

/-- The combination of the 32 received rows: the rescaled weighted sums over the rescaled sums of weights. -/
theorem pay247_apply (x : Vec Ideal S32x8x128 .f32) (b : Fin 8) (l : Fin 64) :
    k0_pay247 x (ix2 b l) = Ideal.div
      (∑ c : Fin 32, x (ix3 c b ⟨l.val, by omega⟩) * Ideal.exp (x (ix3 c b 64) - Finset.univ.fold max ⊥ (fun c' : Fin 32 => x (ix3 c' b 64))))
      (∑ c : Fin 32, x (ix3 c b 65) * Ideal.exp (x (ix3 c b 64) - Finset.univ.fold max ⊥ (fun c' : Fin 32 => x (ix3 c' b 64)))) := by
  pointwise [k0_pay247]

/-- The stored result is the combined one. -/
theorem pay248_apply (x : FVec Ideal S8x64 .f32) : k0_pay248 x = x := by
  funext j
  pointwise [k0_pay248]

end Cert.KernelIdeal.Attn
-- ==== Proof.KVal.lean ====
/-
The kernel's result at an index, over the extended reals, in terms of the devices' argument arrays.

For a device `c`, a head `h`, a batch row `b` and a key `k` of the device (`k / 16` its page, `k % 16` its place in it):
`cntE` how often the row names the page, `scE` the score, `maskE` the score or a large negative number where the row does
not name the page, `mxE` the largest of these, `wtE` the key's weight. The result is the sum over all devices of the
weighted values, each device's rescaled to the common maximum, over the like sum of the weights.
-/
module

public import proofs.«01_k».proof.Proof.KPay
public import Idealize.ShloMosaic.Lib.Pointwise

@[expose] public section

set_option maxRecDepth 4000

noncomputable section

namespace Cert.KernelIdeal.Attn

open Cert.KernelIdeal Cert.KernelIdeal.Gen
open Idealize.ShloMosaic Idealize.ShloMosaic.TcCoe
open Idealize.SL.Sem

attribute [local instance] Cert.KernelIdeal.Gen.facts

variable (m : (ℓ : Loc nD τ sig) → Buf (Elt Ideal) ℓ)

/-! ## The arguments as the kernel reads them -/

/-- The block of each input window is its whole array. -/
theorem stQ_eq (c : Dev nD) : stQ m c = m ((c : Thread nD τ).loc main_arg0) := by
  funext i
  show m ((c : Thread nD τ).loc main_arg0) (((cfg0.win 0).rect t0_0).emb i) = _
  congr 1; funext a; apply Fin.ext
  rw [Pipeline.Window.rect_emb_val_of_index_zero _ _ _ (by revert a; decide +kernel)]
/-- The staged keys are the device's argument. -/
theorem stK_eq (c : Dev nD) : stK m c = m ((c : Thread nD τ).loc main_arg1) := by
  funext i
  show m ((c : Thread nD τ).loc main_arg1) (((cfg0.win 1).rect t0_0).emb i) = _
  congr 1; funext a; apply Fin.ext
  rw [Pipeline.Window.rect_emb_val_of_index_zero _ _ _ (by revert a; decide +kernel)]
/-- The staged values are the device's argument. -/
theorem stV_eq (c : Dev nD) : stV m c = m ((c : Thread nD τ).loc main_arg2) := by
  funext i
  show m ((c : Thread nD τ).loc main_arg2) (((cfg0.win 2).rect t0_0).emb i) = _
  congr 1; funext a; apply Fin.ext
  rw [Pipeline.Window.rect_emb_val_of_index_zero _ _ _ (by revert a; decide +kernel)]
/-- The staged block table is the device's argument. -/
theorem stB_eq (c : Dev nD) : stB m c = m ((c : Thread nD τ).loc main_arg3) := by
  funext i
  show m ((c : Thread nD τ).loc main_arg3) (((cfg0.win 3).rect t0_0).emb i) = _
  congr 1; funext a; apply Fin.ext
  rw [Pipeline.Window.rect_emb_val_of_index_zero _ _ _ (by revert a; decide +kernel)]
/-- The staged lengths are the device's argument. -/
theorem stL_eq (c : Dev nD) : stL m c = m ((c : Thread nD τ).loc main_arg4) := by
  funext i
  show m ((c : Thread nD τ).loc main_arg4) (((cfg0.win 4).rect t0_0).emb i) = _
  congr 1; funext a; apply Fin.ext
  rw [Pipeline.Window.rect_emb_val_of_index_zero _ _ _ (by revert a; decide +kernel)]

/-- The arguments on device `c`. -/
abbrev argQ (c : Dev nD) : S16x1x16x64.Idx → EReal := m ((c : Thread nD τ).loc main_arg0)
abbrev argK (c : Dev nD) : S128x16x16x64.Idx → EReal := m ((c : Thread nD τ).loc main_arg1)
abbrev argV (c : Dev nD) : S128x16x16x64.Idx → EReal := m ((c : Thread nD τ).loc main_arg2)
abbrev argB (c : Dev nD) : S16x128.Idx → BitVec 32 := m ((c : Thread nD τ).loc main_arg3)
abbrev argL (c : Dev nD) : S16.Idx → BitVec 32 := m ((c : Thread nD τ).loc main_arg4)

/-- The queries of head `h`, read at an index. -/
theorem ldQ_apply (c : Dev nD) (h : Fin 16) (b : Fin 16) (d : Fin 64) : ldQ m c h (ix4 b 0 0 d) = argQ m c (ix4 b 0 h d) := by
  show stQ m c ((Rect.unit (s := S16x1x16x64) ![0, 0, h.val, 0] S16x1x1x64.size (inbQ h)).emb (ix4 b 0 0 d)) = _
  rw [stQ_eq]
  congr 1; funext a; apply Fin.ext; rw [ValueKit.rect_emb_unit_val]
  fin_cases a <;> simp
/-- The keys of head `h`, read at an index. -/
theorem ldK_apply (c : Dev nD) (h : Fin 16) (p : Fin 128) (t : Fin 16) (d : Fin 64) : ldK m c h (ix4 p t 0 d) = argK m c (ix4 p t h d) := by
  show stK m c ((Rect.unit (s := S128x16x16x64) ![0, 0, h.val, 0] S128x16x1x64.size (inbK h)).emb (ix4 p t 0 d)) = _
  rw [stK_eq]
  congr 1; funext a; apply Fin.ext; rw [ValueKit.rect_emb_unit_val]
  fin_cases a <;> simp
/-- The values of head `h`, read at an index. -/
theorem ldV_apply (c : Dev nD) (h : Fin 16) (p : Fin 128) (t : Fin 16) (d : Fin 64) : ldV m c h (ix4 p t 0 d) = argV m c (ix4 p t h d) := by
  show stV m c ((Rect.unit (s := S128x16x16x64) ![0, 0, h.val, 0] S128x16x1x64.size (inbK h)).emb (ix4 p t 0 d)) = _
  rw [stV_eq]
  congr 1; funext a; apply Fin.ext; rw [ValueKit.rect_emb_unit_val]
  fin_cases a <;> simp
/-- The block table, read at an index. -/
theorem ldB_apply (c : Dev nD) (b : Fin 16) (j : Fin 128) : ldB m c (ix2 b j) = argB m c (ix2 b j) := by
  show stB m c ((Rect.unit (s := S16x128) ![0, 0] S16x128.size inb_S16x128_S16x128_0_0).emb (ix2 b j)) = _
  rw [stB_eq]
  congr 1; funext a; apply Fin.ext; rw [ValueKit.rect_emb_unit_val]
  fin_cases a <;> simp
/-- The length of batch row `b`. -/
theorem ldLen_apply (c : Dev nD) (b : Fin 16) : ldLen m c b = argL m c (ix1 b) := by
  show stL m c ((Rect.unit (s := S16) ![b.val] S1.size (inbLen b)).emb (Shape.Idx.first (numel1_S1.symm ▸ Nat.one_pos))) = _
  rw [stL_eq]
  congr 1; funext a; apply Fin.ext; rw [ValueKit.rect_emb_unit_val]
  fin_cases a; simp [Shape.Idx.first]

/-! ## The kernel's quantities -/

/-- How often batch row `b` names page `p` of device `c`. -/
def cntE (c : Dev nD) (b : Fin 16) (p : Fin 128) : EReal :=
  ∑ j : Fin 128, if argB m c (ix2 b j) - vw c * 128#32 = BitVec.ofNat 32 p.val ∧ (BitVec.ofNat 32 j.val).slt (argL m c (ix1 b)) = true then (1 : EReal) else 0
/-- The score of key `k` of device `c`. -/
def scE (c : Dev nD) (h b : Fin 16) (k : Fin 2048) : EReal :=
  (∑ d : Fin 64, argQ m c (ix4 b 0 h d) * argK m c (ix4 ⟨k.val / 16, by omega⟩ ⟨k.val % 16, by omega⟩ h d)) * Ideal.ofBits .f32 0x3E000000#32
/-- The score where the row names the key's page, a large negative number elsewhere. -/
def maskE (c : Dev nD) (h b : Fin 16) (k : Fin 2048) : EReal :=
  if 0 < cntE m c b ⟨k.val / 16, by omega⟩ then scE m c h b k else Ideal.ofBits .f32 0xF149F2CA#32
/-- Device `c`'s largest masked score. -/
def mxE (c : Dev nD) (h b : Fin 16) : EReal := Finset.univ.fold max ⊥ fun k : Fin 2048 => maskE m c h b k
/-- The weight of key `k` of device `c`. -/
def wtE (c : Dev nD) (h b : Fin 16) (k : Fin 2048) : EReal :=
  cntE m c b ⟨k.val / 16, by omega⟩ * Ideal.exp (maskE m c h b k - mxE m c h b)
/-- Device `c`'s weighted sum of values and sum of weights. -/
def accE (c : Dev nD) (h b : Fin 16) (l : Fin 64) : EReal :=
  ∑ k : Fin 2048, wtE m c h b k * argV m c (ix4 ⟨k.val / 16, by omega⟩ ⟨k.val % 16, by omega⟩ h l)
def sumE (c : Dev nD) (h b : Fin 16) : EReal := ∑ k : Fin 2048, wtE m c h b k
/-- The largest over the devices. -/
def topE (h b : Fin 16) : EReal := Finset.univ.fold max ⊥ fun c : Dev nD => mxE m c h b

/-- The kernel's count of a page is the number of the row's entries that name it. -/
theorem cntOf_apply (c : Dev nD) (b : Fin 16) (p : Fin 128) : cntOf m c (ix2 b p) = cntE m c b p := by
  refine (pay12_apply _ (ldLen m c) b p).trans (Finset.sum_congr rfl fun j _ => ?_)
  have e : k0_pay1 (F := Ideal) (vw c) (ldB m c) (ix2 b j) = argB m c (ix2 b j) - vw c * 128#32 := by
    pointwise [k0_pay1]
    rw [ldB_apply]; rfl
  rw [e, ldLen_apply]
/-- The count at a key is its page's. -/
theorem cntkOf_apply (c : Dev nD) (b : Fin 16) (k : Fin 2048) : cntkOf m c (ix2 b k) = cntE m c b ⟨k.val / 16, by omega⟩ :=
  (pay16_apply _ b k).trans (cntOf_apply m c b _)
/-- A key is attended to just when its count is positive. -/
theorem attOf_apply (c : Dev nD) (b : Fin 16) (k : Fin 2048) :
    attOf m c (ix2 b k) = BitVec.ofBool (decide (0 < cntE m c b ⟨k.val / 16, by omega⟩)) := by
  refine (pay17_apply _ b k).trans ?_
  rw [cntOf_apply]
/-- The masked score of head `h` at a key. -/
theorem maskOf_apply (c : Dev nD) (h b : Fin 16) (k : Fin 2048) :
    k0_pay31 (attOf m c) (ldQ m c h) (ldK m c h) (ix2 b k) = maskE m c h b k := by
  rw [pay31_apply, attOf_apply]
  unfold maskE scE Scalar.select
  simp only [ldQ_apply, ldK_apply]
  by_cases hp : 0 < cntE m c b ⟨k.val / 16, by omega⟩
  · simp [hp]
  · simp [hp]
/-- The maximum of head `h` in a batch row. -/
theorem mOf_apply (c : Dev nD) (h b : Fin 16) : mOf m c h (ix2 b 0) = mxE m c h b := by
  refine (pay32_apply _ _ _ b 0).trans ?_
  simp only [maskOf_apply]; rfl
/-- The weight of head `h` at a key. -/
theorem wtOf_apply (c : Dev nD) (h b : Fin 16) (k : Fin 2048) :
    k0_pay33 (cntkOf m c) (attOf m c) (ldQ m c h) (ldK m c h) (ix2 b k) = wtE m c h b k := by
  rw [pay33_apply, cntkOf_apply, maskOf_apply]
  have e := mOf_apply m c h b
  unfold mOf at e
  rw [e]; rfl
/-- The sum of weights of head `h` in a batch row. -/
theorem lOf_apply (c : Dev nD) (h b : Fin 16) : lOf m c h (ix2 b 0) = sumE m c h b := by
  refine (pay34_apply _ _ _ _ b 0).trans ?_
  simp only [wtOf_apply]; rfl
/-- The weighted sum of values of head `h` in a batch row. -/
theorem accOf_apply (c : Dev nD) (h b : Fin 16) (l : Fin 64) : accOf m c h (ix2 b l) = accE m c h b l := by
  refine (pay35_apply _ _ _ _ _ b l).trans ?_
  simp only [wtOf_apply, ldV_apply]; rfl

/-! ## The rows and the result -/

/-- The batch row that row `j` holds at its place `b`. -/
def brow (j : Fin 32) (b : Fin 8) : Fin 16 := ⟨j.val % 2 * 8 + b.val, by omega⟩

/-- Lanes 0 to 63 of a sent row: the weighted sum of its head and batch row. -/
theorem rowVal_acc (c : Dev nD) (j : Fin 32) (b : Fin 8) (l : Fin 64) :
    rowVal m c j b ⟨l.val, by omega⟩ = accE m c (hd j) (brow j b) l := by
  unfold rowVal
  rw [dif_pos l.isLt]
  unfold rowAcc
  split
  · rename_i h0
    pointwise [k0_pay23]
    rw [← accOf_apply]
    congr 2; apply Fin.ext; simp [brow, h0]
  · rename_i h0
    have h1 : j.val % 2 = 1 := by omega
    pointwise [k0_pay26]
    rw [← accOf_apply]
    congr 2; apply Fin.ext; simp [brow, h1]
/-- Lane 64 of a sent row: the maximum of its head and batch row. -/
theorem rowVal_max (c : Dev nD) (j : Fin 32) (b : Fin 8) : rowVal m c j b 64 = mxE m c (hd j) (brow j b) := by
  unfold rowVal
  rw [dif_neg (by decide), if_pos (by decide)]
  unfold rowM
  split
  · rename_i h0
    pointwise [k0_pay24]
    rw [← mOf_apply]
    congr 2; apply Fin.ext; simp [brow, h0]
  · rename_i h0
    have h1 : j.val % 2 = 1 := by omega
    pointwise [k0_pay27]
    rw [← mOf_apply]
    congr 2; apply Fin.ext; simp [brow, h1]
/-- Lane 65 of a sent row: the sum of weights of its head and batch row. -/
theorem rowVal_sum (c : Dev nD) (j : Fin 32) (b : Fin 8) : rowVal m c j b 65 = sumE m c (hd j) (brow j b) := by
  unfold rowVal
  rw [dif_neg (by decide), if_neg (by decide)]
  unfold rowL
  split
  · rename_i h0
    pointwise [k0_pay25]
    rw [← lOf_apply]
    congr 2; apply Fin.ext; simp [brow, h0]
  · rename_i h0
    have h1 : j.val % 2 = 1 := by omega
    pointwise [k0_pay28]
    rw [← lOf_apply]
    congr 2; apply Fin.ext; simp [brow, h1]

/-- Device `c`'s combined result. -/
theorem resVal_apply (c : Dev nD) (b : Fin 8) (l : Fin 64) :
    resVal m c (ix2 b l) = Ideal.div
      (∑ c' : Dev nD, accE m c' (hd c) (brow c b) l * Ideal.exp (mxE m c' (hd c) (brow c b) - topE m (hd c) (brow c b)))
      (∑ c' : Dev nD, sumE m c' (hd c) (brow c b) * Ideal.exp (mxE m c' (hd c) (brow c b) - topE m (hd c) (brow c b))) := by
  unfold resVal
  rw [pay248_apply, pay247_apply]
  have e0 : ∀ c' : Dev nD, canon m c (ix3 c' b ⟨l.val, by omega⟩) = accE m c' (hd c) (brow c b) l := fun c' => rowVal_acc m c' c b l
  have e1 : ∀ c' : Dev nD, canon m c (ix3 c' b 64) = mxE m c' (hd c) (brow c b) := fun c' => rowVal_max m c' c b
  have e2 : ∀ c' : Dev nD, canon m c (ix3 c' b 65) = sumE m c' (hd c) (brow c b) := fun c' => rowVal_sum m c' c b
  simp only [e0, e1, e2]
  rfl

/-- The output block. -/
theorem outVal_apply (b h : Fin 16) (l : Fin 64) :
    outVal m (ix4 b 0 h l) = Ideal.div
      (∑ c : Dev nD, accE m c h b l * Ideal.exp (mxE m c h b - topE m h b))
      (∑ c : Dev nD, sumE m c h b * Ideal.exp (mxE m c h b - topE m h b)) := by
  show outHead m h (ix4 b 0 0 l) = _
  unfold outHead
  have key : ∀ (c : Dev nD) (b' : Fin 8), hd c = h → brow c b' = b → resRow m c (ix3 0 b' l) = Ideal.div
      (∑ c : Dev nD, accE m c h b l * Ideal.exp (mxE m c h b - topE m h b))
      (∑ c : Dev nD, sumE m c h b * Ideal.exp (mxE m c h b - topE m h b)) := by
    intro c b' e1 e2
    have := resVal_apply m c b' l
    rw [e1, e2] at this
    exact this
  pointwise [k0_pay281]
  split
  · rename_i hb
    exact key ⟨2 * h.val, _⟩ ⟨b.val, hb⟩ (Fin.ext (by simp [hd])) (Fin.ext (by simp [brow]))
  · rename_i hb
    exact key ⟨2 * h.val + 1, _⟩ ⟨b.val - 8, by omega⟩ (Fin.ext (by simp only [hd]; omega)) (Fin.ext (by simp only [brow]; omega))

end Cert.KernelIdeal.Attn

end
-- ==== Proof.Math.lean ====
/-
The algebra of the merged softmax, over the extended reals.

A batch row has entries `j`, some of them valid; a valid entry names one page `pc j` of one device `dc j`. Each device
counts how often each of its pages is named, weighs its keys by the count times the exponential of the score less the
device's maximum, and the devices' sums are added after rescaling to a common maximum. The theorems here say that this is
the sum over the valid entries of the exponentials of their keys' scores, whatever reals the maxima are, and that a
softmax-weighted sum does not depend on the real subtracted from the scores.
-/
module

public import Idealize.ShloMosaic.PureOps.Ideal
public import Idealize.ShloMosaic.PureOps.Ideal.Laws

@[expose] public section

noncomputable section

namespace Cert.Attn

open Idealize.ShloMosaic

/-- A finite nonnegative factor distributes over a sum. -/
theorem sum_mul_coe {ι : Type} (s : Finset ι) (x : ι → EReal) {c : ℝ} (hc : 0 ≤ c) : (∑ i ∈ s, x i) * (c : EReal) = ∑ i ∈ s, x i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A sum of nonnegative reals times one factor is the sum of the products. -/
theorem coe_sum_mul {ι : Type} (s : Finset ι) (x : ι → ℝ) (hx : ∀ i, 0 ≤ x i) (v : EReal) : ((∑ i ∈ s, x i : ℝ) : EReal) * v = ∑ i ∈ s, (x i : EReal) * v := by
  classical
  induction s using Finset.induction_on with
  | empty => simp
  | insert a s ha ih =>
    rw [Finset.sum_insert ha, Finset.sum_insert ha, ← ih, EReal.coe_add]
    exact EReal.right_distrib_of_nonneg (EReal.coe_nonneg.2 (hx a)) (EReal.coe_nonneg.2 (Finset.sum_nonneg fun i _ => hx i))

/-- A sum of reals, as extended reals. -/
theorem coe_sum {ι : Type} (s : Finset ι) (x : ι → ℝ) : ((∑ i ∈ s, x i : ℝ) : EReal) = ∑ i ∈ s, (x i : EReal) := by
  classical
  induction s using Finset.induction_on with
  | empty => simp
  | insert a s ha ih => rw [Finset.sum_insert ha, Finset.sum_insert ha, ← ih, EReal.coe_add]

/-- The largest of values of which none is plus infinity and one is not minus infinity is a real. -/
theorem fold_max_real {ι : Type} [Fintype ι] (g : ι → EReal) (h1 : ∀ i, g i ≠ ⊤) (i₀ : ι) (h0 : g i₀ ≠ ⊥) :
    ∃ r : ℝ, (Finset.univ : Finset ι).fold max ⊥ g = (r : EReal) := by
  have e : (Finset.univ : Finset ι).fold max ⊥ g = Finset.univ.sup g := rfl
  rw [e]
  have ht : Finset.univ.sup g ≠ ⊤ := ((Finset.sup_lt_iff bot_lt_top).2 fun i _ => lt_of_le_of_ne le_top (h1 i)).ne
  have hb : Finset.univ.sup g ≠ ⊥ := fun h => h0 (le_bot_iff.1 (h ▸ Finset.le_sup (Finset.mem_univ i₀)))
  exact ⟨_, (EReal.coe_toReal ht hb).symm⟩

/-- The exponential of a difference of reals. -/
theorem exp_sub_coe (x y : ℝ) : Ideal.exp ((x : EReal) - (y : EReal)) = ((Real.exp (x - y) : ℝ) : EReal) := by
  rw [← EReal.coe_sub, Ideal.exp_coe]

section Merge
variable {J C P T : Type} [Fintype J] [Fintype C] [Fintype P] [Fintype T] [DecidableEq C] [DecidableEq P]
variable (valid : J → Prop) [DecidablePred valid] (dc : J → C) (pc : J → P)

/-- How often a device's page is named by a valid entry. -/
def cnt (c : C) (p : P) : ℝ := ∑ j, if valid j ∧ dc j = c ∧ pc j = p then 1 else 0

/-- A count is not negative. -/
theorem cnt_nonneg (c : C) (p : P) : 0 ≤ cnt valid dc pc c p := Finset.sum_nonneg fun j _ => by split <;> norm_num

/-- The page that a valid entry names has a positive count. -/
theorem cnt_pos {j : J} (h : valid j) : 0 < cnt valid dc pc (dc j) (pc j) :=
  lt_of_lt_of_le (by rw [if_pos ⟨h, rfl, rfl⟩]; exact one_pos)
    (Finset.single_le_sum (f := fun i => if valid i ∧ dc i = dc j ∧ pc i = pc j then (1 : ℝ) else 0) (fun i _ => by split <;> norm_num) (Finset.mem_univ j))

variable (σ : C → P → T → ℝ) (neg : ℝ) (mx : C → ℝ) (top : ℝ) (v : C → P → T → EReal)

/-- The score where the page is named, the large negative number elsewhere. -/
def mask (c : C) (p : P) (t : T) : ℝ := if 0 < cnt valid dc pc c p then σ c p t else neg

/-- The devices' weighted sums, rescaled and added, are the sum over the valid entries and their keys. -/
theorem merge :
    ∑ c, (∑ p, ∑ t, (((cnt valid dc pc c p * Real.exp (mask valid dc pc σ neg c p t - mx c) : ℝ)) : EReal) * v c p t) * ((Real.exp (mx c - top) : ℝ) : EReal)
      = ∑ j, ∑ t, (((if valid j then Real.exp (σ (dc j) (pc j) t - top) else 0 : ℝ)) : EReal) * v (dc j) (pc j) t := by
  have step : ∀ c p t, (((cnt valid dc pc c p * Real.exp (mask valid dc pc σ neg c p t - mx c) : ℝ)) : EReal) * v c p t * ((Real.exp (mx c - top) : ℝ) : EReal)
      = ∑ j, ((if valid j ∧ dc j = c ∧ pc j = p then Real.exp (σ c p t - top) else 0 : ℝ) : EReal) * v c p t := by
    intro c p t
    rw [mul_right_comm, ← EReal.coe_mul, ← coe_sum_mul _ _ (fun j => by split <;> [exact (Real.exp_pos _).le; exact le_rfl])]
    congr 2
    have e : ∀ j, (if valid j ∧ dc j = c ∧ pc j = p then Real.exp (σ c p t - top) else 0) = (if valid j ∧ dc j = c ∧ pc j = p then (1 : ℝ) else 0) * Real.exp (σ c p t - top) := by
      intro j; split <;> simp
    rw [Finset.sum_congr rfl fun j _ => e j, ← Finset.sum_mul]
    change _ = cnt valid dc pc c p * _
    rw [mul_assoc, ← Real.exp_add]
    by_cases h : 0 < cnt valid dc pc c p
    · unfold mask; rw [if_pos h]; congr 2; ring
    · rw [le_antisymm (not_lt.1 h) (cnt_nonneg valid dc pc c p), zero_mul, zero_mul]
  calc _ = ∑ c, ∑ p, ∑ t, ∑ j, ((if valid j ∧ dc j = c ∧ pc j = p then Real.exp (σ c p t - top) else 0 : ℝ) : EReal) * v c p t := by
        refine Finset.sum_congr rfl fun c _ => ?_
        rw [sum_mul_coe _ _ (Real.exp_pos _).le]
        refine Finset.sum_congr rfl fun p _ => ?_
        rw [sum_mul_coe _ _ (Real.exp_pos _).le]
        exact Finset.sum_congr rfl fun t _ => step c p t
    _ = ∑ j, ∑ c, ∑ p, ∑ t, ((if valid j ∧ dc j = c ∧ pc j = p then Real.exp (σ c p t - top) else 0 : ℝ) : EReal) * v c p t :=
        (Finset.sum_congr rfl fun c _ => (Finset.sum_congr rfl fun p _ => Finset.sum_comm).trans Finset.sum_comm).trans Finset.sum_comm
    _ = _ := by
        refine Finset.sum_congr rfl fun j _ => ?_
        rw [Finset.sum_eq_single (dc j), Finset.sum_eq_single (pc j)]
        · refine Finset.sum_congr rfl fun t _ => ?_
          simp
        · intro p _ hp
          refine Finset.sum_eq_zero fun t _ => ?_
          rw [if_neg (fun h => hp h.2.2.symm)]; simp
        · intro h; exact absurd (Finset.mem_univ _) h
        · intro c _ hc
          refine Finset.sum_eq_zero fun p _ => Finset.sum_eq_zero fun t _ => ?_
          rw [if_neg (fun h => hc h.2.1.symm)]; simp
        · intro h; exact absurd (Finset.mem_univ _) h

end Merge

/-- Dividing a nonnegatively weighted sum by the sum of the weights. -/
theorem div_sum {ι : Type} [Fintype ι] (e : ι → ℝ) (he : ∀ i, 0 ≤ e i) (hp : 0 < ∑ i, e i) (u : ι → EReal) :
    Ideal.div (∑ i, (e i : EReal) * u i) ((∑ i, e i : ℝ) : EReal) = ∑ i, ((e i / ∑ i, e i : ℝ) : EReal) * u i := by
  rw [Ideal.div_coe hp.ne', sum_mul_coe _ _ (by positivity)]
  refine Finset.sum_congr rfl fun i _ => ?_
  rw [mul_right_comm, ← EReal.coe_mul, mul_one_div]

/-- The weights do not depend on the real subtracted from the scores. -/
theorem weight_shift {ι : Type} [Fintype ι] (ok : ι → Prop) [DecidablePred ok] (s : ι → ℝ) (a b : ℝ) (i : ι) :
    (if ok i then Real.exp (s i - a) else 0) / (∑ k, if ok k then Real.exp (s k - a) else 0)
      = (if ok i then Real.exp (s i - b) else 0) / (∑ k, if ok k then Real.exp (s k - b) else 0) := by
  have e : ∀ k, (if ok k then Real.exp (s k - a) else 0) = (if ok k then Real.exp (s k - b) else 0) * Real.exp (b - a) := by
    intro k; split
    · rw [← Real.exp_add]; congr 1; ring
    · rw [zero_mul]
  rw [Finset.sum_congr rfl fun k _ => e k, e i, ← Finset.sum_mul, mul_div_mul_right _ _ (Real.exp_pos _).ne']

/-- The sum of the exponentials is positive when some key counts. -/
theorem weights_pos {ι : Type} [Fintype ι] (ok : ι → Prop) [DecidablePred ok] (s : ι → ℝ) (a : ℝ) {i₀ : ι} (h : ok i₀) :
    0 < ∑ k, if ok k then Real.exp (s k - a) else 0 :=
  lt_of_lt_of_le (by rw [if_pos h]; exact Real.exp_pos _)
    (Finset.single_le_sum (f := fun k => if ok k then Real.exp (s k - a) else 0) (fun k _ => by split <;> [exact (Real.exp_pos _).le; exact le_rfl]) (Finset.mem_univ i₀))

/-- A sum over 2048 keys, by page and place. -/
theorem sum_keys {M : Type} [AddCommMonoid M] (f : Fin 2048 → M) :
    ∑ k, f k = ∑ p : Fin 128, ∑ t : Fin 16, f ⟨16 * p.val + t.val, by omega⟩ := by
  rw [← Fintype.sum_prod_type' (f := fun (p : Fin 128) (t : Fin 16) => f ⟨16 * p.val + t.val, by omega⟩)]
  refine (Fintype.sum_equiv (finProdFinEquiv (m := 128) (n := 16)) _ _ fun x => ?_).symm
  congr 1
  apply Fin.ext
  show 16 * x.1.val + x.2.val = x.2.val + 16 * x.1.val
  omega

end Cert.Attn

end
-- ==== Proof.KHalf.lean ====
/-
The kernel's result as a softmax-weighted sum over the block-table entries of a batch row.

If the counts are those of the entries naming the pages, and the scores are reals, the kernel's result is the sum over the
entries' keys of the values, weighted by the exponential of the score over the sum of the exponentials.
-/
module

public import proofs.«01_k».proof.Proof.KVal
public import proofs.«01_k».proof.Proof.Math

@[expose] public section

noncomputable section

namespace Cert.KernelIdeal.Attn

open Cert.KernelIdeal Cert.KernelIdeal.Gen Cert.Attn
open Idealize.ShloMosaic Idealize.ShloMosaic.TcCoe
open Idealize.SL.Sem

/-- The page of a key, and its place in the page. -/
def kp (k : Fin 2048) : Fin 128 := ⟨k.val / 16, by omega⟩
def kt (k : Fin 2048) : Fin 16 := ⟨k.val % 16, by omega⟩

/-- The page of key `t` of page `p` is `p`. -/
theorem kp_mk (p : Fin 128) (t : Fin 16) (h : 16 * p.val + t.val < 2048) : kp ⟨16 * p.val + t.val, h⟩ = p := Fin.ext (by simp only [kp]; omega)
/-- The place in its page of key `t` of page `p` is `t`. -/
theorem kt_mk (p : Fin 128) (t : Fin 16) (h : 16 * p.val + t.val < 2048) : kt ⟨16 * p.val + t.val, h⟩ = t := Fin.ext (by simp only [kt]; omega)

/-- A sum over 2048 keys of a function of the page and the place. -/
theorem sum_pages {M : Type} [AddCommMonoid M] (f : Fin 128 → Fin 16 → M) : ∑ k : Fin 2048, f (kp k) (kt k) = ∑ p, ∑ t, f p t := by
  rw [sum_keys]
  simp only [kp_mk, kt_mk]

variable (m : (ℓ : Loc nD τ sig) → Buf (Elt Ideal) ℓ) (h b : Fin 16)
variable (valid : Fin 128 → Prop) [DecidablePred valid] (dc : Fin 128 → Dev nD) (pc : Fin 128 → Fin 128)
variable (σ : Dev nD → Fin 128 → Fin 16 → ℝ)

/-- The kernel's result from the entries. -/
theorem kernel_half (hc : ∀ c p, cntE m c b p = ((cnt valid dc pc c p : ℝ) : EReal))
    (hs : ∀ c k, scE m c h b k = ((σ c (kp k) (kt k) : ℝ) : EReal)) {j₀ : Fin 128} (hj : valid j₀) :
    ∃ top : ℝ, ∀ l : Fin 64, outVal m (ix4 b 0 h l)
      = ∑ k : Fin 2048, (((if valid (kp k) then Real.exp (σ (dc (kp k)) (pc (kp k)) (kt k) - top) else 0)
          / (∑ k : Fin 2048, if valid (kp k) then Real.exp (σ (dc (kp k)) (pc (kp k)) (kt k) - top) else 0) : ℝ) : EReal)
        * argV m (dc (kp k)) (ix4 (pc (kp k)) (kt k) h l) := by
  obtain ⟨neg, hneg⟩ := ofBits_masked
  have hmask : ∀ c k, maskE m c h b k = ((mask valid dc pc σ neg c (kp k) (kt k) : ℝ) : EReal) := by
    intro c k
    unfold maskE mask
    rw [hs, hneg, show cntE m c b ⟨k.val / 16, by omega⟩ = ((cnt valid dc pc c (kp k) : ℝ) : EReal) from hc c (kp k)]
    by_cases hp : 0 < cnt valid dc pc c (kp k)
    · rw [if_pos hp, if_pos (EReal.coe_pos.2 hp)]
    · rw [if_neg hp, if_neg (fun h' => hp (EReal.coe_pos.1 h'))]
  have hmx : ∀ c, ∃ r : ℝ, mxE m c h b = (r : EReal) := fun c => by
    unfold mxE
    simp only [hmask]
    exact fold_max_real _ (fun k => EReal.coe_ne_top _) 0 (EReal.coe_ne_bot _)
  choose mx hmx using hmx
  obtain ⟨top, htop⟩ : ∃ r : ℝ, topE m h b = (r : EReal) := by
    unfold topE
    simp only [hmx]
    exact fold_max_real _ (fun k => EReal.coe_ne_top _) (0 : Dev nD) (EReal.coe_ne_bot _)
  have hwt : ∀ c k, wtE m c h b k = ((cnt valid dc pc c (kp k) * Real.exp (mask valid dc pc σ neg c (kp k) (kt k) - mx c) : ℝ) : EReal) := by
    intro c k
    unfold wtE
    rw [hmask, hmx, exp_sub_coe, show cntE m c b ⟨k.val / 16, by omega⟩ = ((cnt valid dc pc c (kp k) : ℝ) : EReal) from hc c (kp k), ← EReal.coe_mul]
  have hgen : ∀ v : Dev nD → Fin 128 → Fin 16 → EReal,
      ∑ c : Dev nD, (∑ k : Fin 2048, wtE m c h b k * v c (kp k) (kt k)) * Ideal.exp (mxE m c h b - topE m h b)
        = ∑ k : Fin 2048, ((if valid (kp k) then Real.exp (σ (dc (kp k)) (pc (kp k)) (kt k) - top) else 0 : ℝ) : EReal) * v (dc (kp k)) (pc (kp k)) (kt k) := by
    intro v
    rw [sum_pages (fun j t => ((if valid j then Real.exp (σ (dc j) (pc j) t - top) else 0 : ℝ) : EReal) * v (dc j) (pc j) t),
      ← merge valid dc pc σ neg mx top v]
    refine Finset.sum_congr rfl fun c _ => ?_
    rw [hmx, htop, exp_sub_coe]
    congr 1
    rw [← sum_pages (fun p t => ((cnt valid dc pc c p * Real.exp (mask valid dc pc σ neg c p t - mx c) : ℝ) : EReal) * v c p t)]
    exact Finset.sum_congr rfl fun k _ => by rw [hwt]
  have hpos : 0 < ∑ k : Fin 2048, if valid (kp k) then Real.exp (σ (dc (kp k)) (pc (kp k)) (kt k) - top) else 0 :=
    weights_pos (fun k => valid (kp k)) (fun k => σ (dc (kp k)) (pc (kp k)) (kt k)) top (i₀ := ⟨16 * j₀.val + 0, by omega⟩)
      (by show valid (kp ⟨16 * j₀.val + (0 : Fin 16).val, _⟩); rw [kp_mk]; exact hj)
  refine ⟨top, fun l => ?_⟩
  rw [outVal_apply]
  have hnum := hgen (fun c p t => argV m c (ix4 p t h l))
  have hden := hgen (fun _ _ _ => 1)
  simp only [mul_one] at hden
  rw [← coe_sum] at hden
  unfold accE sumE
  rw [hden]
  refine (congrArg (fun x => Ideal.div x _) hnum).trans ?_
  exact div_sum _ (fun k => by split <;> [exact (Real.exp_pos _).le; exact le_rfl]) hpos _

end Cert.KernelIdeal.Attn

end
-- ==== Proof.RVal.lean ====
/-
The reference's result at an index, over the extended reals.

The reference gathers, for each batch row, the keys and the values of the 128 pages its block table names (2048 keys),
scores the keys, puts minus infinity at the keys past the row's length, and takes the softmax-weighted sum of the values.
-/
module

public import proofs.«01_k».proof.Proof.Gen.ReferenceIdeal.Run
public import Idealize.ShloMosaic.Lib.Pointwise

@[expose] public section

set_option maxRecDepth 4000

noncomputable section

namespace Cert.ReferenceIdeal.Attn

open Cert.ReferenceIdeal Cert.ReferenceIdeal.Gen
open Idealize.ShloMosaic Idealize.ShloMosaic.TcCoe
open Idealize.SL.Sem

attribute [local instance] Cert.ReferenceIdeal.Gen.facts

variable (m : (ℓ : Loc nD τ sig) → Buf (Elt Ideal) ℓ)

abbrev argQ : S16x1x16x64.Idx → EReal := m (((0 : Dev nD).tc : Thread nD τ).loc main_arg0)
abbrev argK : S4096x16x16x64.Idx → EReal := m (((0 : Dev nD).tc : Thread nD τ).loc main_arg1)
abbrev argV : S4096x16x16x64.Idx → EReal := m (((0 : Dev nD).tc : Thread nD τ).loc main_arg2)
abbrev argB : S16x128.Idx → BitVec 32 := m (((0 : Dev nD).tc : Thread nD τ).loc main_arg3)
abbrev argL : S16.Idx → BitVec 32 := m (((0 : Dev nD).tc : Thread nD τ).loc main_arg4)

/-- The pattern of minus infinity. -/
theorem ofBits_ninf : Ideal.ofBits .f32 0xFF800000#32 = ⊥ := by simp [Ideal.ofBits, Ideal.ieee]
/-- A lane selected by a signed comparison. -/
theorem select_slt {α : Type} (u v : BitVec 32) (a b : α) : Scalar.select (IntOp.cmpi .slt u v) a b = if u.slt v = true then a else b := by
  unfold Scalar.select IntOp.cmpi
  cases hs : u.slt v <;> simp

/-- The page index as the gather takes it: a negative one counts from the end. -/
def wrap (B : IVec S16x128 32) : IVec S16x128 32 :=
  select (cmpi .slt B (broadcastInDim S16x128 ![] bcast_S_S16x128 (constantI S_ 32 0#32))) (addi B (broadcastInDim S16x128 ![] bcast_S_S16x128 (constantI S_ 32 4096#32))) B
/-- The rows' keys (or values), one page after another. -/
def gat (X : FVec Ideal S4096x16x16x64 .f32) (B : IVec S16x128 32) : FVec Ideal S16x2048x16x64 .f32 :=
  shapeCast _ (Host.gather gather_S4096x16x16x64_S16x128x1_S16x128x16x16x64_234_0_n_n_0_2_1161664 X
    (broadcastInDim S16x128x1 ![0, 1] bcast_S16x128_S16x128x1_0_1 (wrap B))) shapeCasts_S16x128x16x16x64_S16x2048x16x64
/-- The scores, minus infinity past the rows' lengths. -/
def scr (Q : FVec Ideal S16x1x16x64 .f32) (K : FVec Ideal S4096x16x16x64 .f32) (B : IVec S16x128 32) (L : IVec S16 32) : FVec Ideal S16x16x2048 .f32 :=
  select (broadcastInDim S16x16x2048 ![0, 1, 2] bcast_S16x1x2048_S16x16x2048_0_1_2 (broadcastInDim S16x1x2048 ![0, 2] bcast_S16x2048_S16x1x2048_0_2
      (shapeCast _ (broadcastInDim S16x128x16 ![0, 1] bcast_S16x128_S16x128x16_0_1 (cmpi .slt (iotaInDim S16x128 32 1)
        (broadcastInDim S16x128 ![0, 1] bcast_S16x1_S16x128_0_1 (broadcastInDim S16x1 ![0] bcast_S16_S16x1_0 L)))) shapeCasts_S16x128x16_S16x2048)))
    (mulf (Host.dotGeneral dot_S16x16x64_S16x2048x16x64_S16x16x2048_2_3_n_1_01_02 none (shapeCast _ Q shapeCasts_S16x1x16x64_S16x16x64) (gat K B))
      (broadcastInDim S16x16x2048 ![] bcast_S_S16x16x2048 (constant S_ .f32 0x3E000000#32)))
    (broadcastInDim S16x16x2048 ![] bcast_S_S16x16x2048 (id (constant S_ .f32 0xFF800000#32)))
/-- The exponentials of the scores less their maximum. -/
def exs (s : FVec Ideal S16x16x2048 .f32) : FVec Ideal S16x16x2048 .f32 :=
  Host.exp (subf s (broadcastInDim S16x16x2048 ![0, 1, 2] bcast_S16x16x1_S16x16x2048_0_1_2 (broadcastInDim S16x16x1 ![0, 1] bcast_S16x16_S16x16x1_0_1
    (Host.reduce FloatOps.maximumf s (constant S_ .f32 0xFF800000#32) reducesTo_S16x16x2048_S16x16_d2 h_S_))))
/-- The weights: the exponentials over their sum. -/
def wts (e : FVec Ideal S16x16x2048 .f32) : FVec Ideal S16x16x2048 .f32 :=
  Host.divf e (broadcastInDim S16x16x2048 ![0, 1, 2] bcast_S16x16x1_S16x16x2048_0_1_2 (broadcastInDim S16x16x1 ![0, 1] bcast_S16x16_S16x16x1_0_1
    (Host.reduceAdd e (constant S_ .f32 0x00000000#32) reducesTo_S16x16x2048_S16x16_d2 h_S_)))

/-- The reference's result from these. -/
theorem res_eq : Value.res_main_v38 m 0 = broadcastInDim S16x1x16x64 ![0, 2, 3] bcast_S16x16x64_S16x1x16x64_0_2_3
    (Host.dotGeneral dot_S16x16x2048_S16x2048x16x64_S16x16x64_2_1_n_3_01_02 none (wts (exs (scr (argQ m) (argK m) (argB m) (argL m)))) (gat (argV m) (argB m))) := rfl

/-- The gather read at an index: the page the start index names (clamped into the pages there are), at the same place. -/
theorem gather_apply (X : FVec Ideal S4096x16x16x64 .f32) (I : IVec S16x128x1 32) (b : Fin 16) (j : Fin 128) (t h : Fin 16) (d : Fin 64) :
    Host.gather gather_S4096x16x16x64_S16x128x1_S16x128x16x16x64_234_0_n_n_0_2_1161664 X I (ix5 b j t h d)
      = X (ix4 ⟨min (I (ix3 b j 0)).toInt.toNat 4095, by omega⟩ t h d) := by
  set D := gather_S4096x16x16x64_S16x128x1_S16x128x16x16x64_234_0_n_n_0_2_1161664 with hD
  set y : S16x128x16x16x64.Idx := ix5 b j t h d with hy
  unfold Host.gather
  congr 1
  funext a
  refine Fin.ext ?_
  show D.start y I a + D.batchCoord y a + D.offCoord y a = _
  rw [GatherDims.batchCoord_eq_zero _ _ _ List.not_mem_nil, Nat.add_zero]
  by_cases ha : a = 0
  · subst ha
    rw [GatherDims.offCoord_eq_zero _ _ _ (fun h => ((GatherDims.mem_sKept _ _).mp h).1 (List.mem_singleton.mpr rfl)), Nat.add_zero]
    unfold GatherDims.start
    rw [dif_pos (show (0 : Fin 4) ∈ D.startIndexMap from List.mem_singleton.mpr rfl)]
    have hsi : D.siIdx y ⟨List.idxOf (0 : Fin 4) D.startIndexMap, List.idxOf_lt_length_iff.2 (List.mem_singleton.mpr rfl)⟩ = ix3 b j 0 := by
      funext e; refine Fin.ext ?_
      fin_cases e <;> rfl
    rw [hsi]
    rfl
  · have hs : D.start y I a = 0 := by
      unfold GatherDims.start
      rw [dif_neg (show a ∉ D.startIndexMap from fun h => ha (List.mem_singleton.mp h))]
    rw [hs, Nat.zero_add]
    fin_cases a
    · exact absurd rfl ha
    all_goals rfl

/-- A gathered key, read at an index: the key at its place in the page that the entry names, the page number clamped. -/
theorem gat_apply (X : FVec Ideal S4096x16x16x64 .f32) (B : IVec S16x128 32) (b : Fin 16) (k : Fin 2048) (h : Fin 16) (d : Fin 64) :
    gat X B (ix4 b k h d) = X (ix4 ⟨min (wrap B (ix2 b ⟨k.val / 16, by omega⟩)).toInt.toNat 4095, by omega⟩ ⟨k.val % 16, by omega⟩ h d) := by
  pointwise [gat]
  rw [gather_apply]
  congr 1
  pointwise

/-- The exponential of a score less the row's maximum. -/
theorem exs_apply (s : FVec Ideal S16x16x2048 .f32) (b h : Fin 16) (k : Fin 2048) :
    exs s (ix3 b h k) = Ideal.exp (s (ix3 b h k) - Finset.univ.fold max ⊥ (fun k' : Fin 2048 => s (ix3 b h k'))) := by
  pointwise [exs]
  rw [ofBits_ninf]

/-- The weight of a key: its exponential over the sum of the row's. -/
theorem wts_apply (e : FVec Ideal S16x16x2048 .f32) (b h : Fin 16) (k : Fin 2048) :
    wts e (ix3 b h k) = Ideal.div (e (ix3 b h k)) (∑ k' : Fin 2048, e (ix3 b h k')) := by
  pointwise [wts]

/-- The score of a key: the scaled product of query and key below the row's length, and past it minus infinity. -/
theorem scr_apply (Q : FVec Ideal S16x1x16x64 .f32) (K : FVec Ideal S4096x16x16x64 .f32) (B : IVec S16x128 32) (L : IVec S16 32) (b h : Fin 16) (k : Fin 2048) :
    scr Q K B L (ix3 b h k) = if (BitVec.ofNat 32 (k.val / 16)).slt (L (ix1 b)) = true then
      (∑ d : Fin 64, Q (ix4 b 0 h d) * gat K B (ix4 b k h d)) * Ideal.ofBits .f32 0x3E000000#32 else ⊥ := by
  pointwise [scr]
  have e : id (constant (F := Ideal) S_ .f32 0xFF800000#32) ix0 = ⊥ := ofBits_ninf
  rw [e]
  exact select_slt _ _ _ _

/-- The result, read at an index: the weighted sum of the gathered values. -/
theorem out_apply (w : FVec Ideal S16x16x2048 .f32) (v : FVec Ideal S16x2048x16x64 .f32) (b h : Fin 16) (l : Fin 64) :
    broadcastInDim S16x1x16x64 ![0, 2, 3] bcast_S16x16x64_S16x1x16x64_0_2_3
      (Host.dotGeneral dot_S16x16x2048_S16x2048x16x64_S16x16x64_2_1_n_3_01_02 none w v) (ix4 b 0 h l)
      = ∑ k : Fin 2048, w (ix3 b h k) * v (ix4 b k h l) := by
  pointwise

end Cert.ReferenceIdeal.Attn

end
-- ==== Proof.RHalf.lean ====
/-
The reference's result as a softmax-weighted sum over the gathered keys.

If the scores of the keys below a row's length are reals and there is such a key, the reference's result is the sum of the
gathered values, weighted by the exponential of the score over the sum of the exponentials, the keys past the length at
weight zero.
-/
module

public import proofs.«01_k».proof.Proof.RVal
public import proofs.«01_k».proof.Proof.Math

@[expose] public section

noncomputable section

namespace Cert.ReferenceIdeal.Attn

open Cert.ReferenceIdeal Cert.ReferenceIdeal.Gen Cert.Attn
open Idealize.ShloMosaic Idealize.ShloMosaic.TcCoe
open Idealize.SL.Sem

variable (m : (ℓ : Loc nD τ sig) → Buf (Elt Ideal) ℓ) (h b : Fin 16)
variable (ok : Fin 2048 → Prop) [DecidablePred ok] (s : Fin 2048 → ℝ)

/-- The reference's result from the scores. -/
theorem reference_half (hok : ∀ k, ok k ↔ (BitVec.ofNat 32 (k.val / 16)).slt (argL m (ix1 b)) = true)
    (hs : ∀ k, ok k → (∑ d : Fin 64, argQ m (ix4 b 0 h d) * gat (argK m) (argB m) (ix4 b k h d)) * Ideal.ofBits .f32 0x3E000000#32 = ((s k : ℝ) : EReal))
    {k₀ : Fin 2048} (h0 : ok k₀) :
    ∃ top : ℝ, ∀ l : Fin 64, @Eq EReal (Value.res_main_v38 m 0 (ix4 b 0 h l))
      (∑ k : Fin 2048, (((if ok k then Real.exp (s k - top) else 0) / (∑ k : Fin 2048, if ok k then Real.exp (s k - top) else 0) : ℝ) : EReal)
        * gat (argV m) (argB m) (ix4 b k h l)) := by
  set S := scr (argQ m) (argK m) (argB m) (argL m) with hS
  have hscr : ∀ k, S (ix3 b h k) = if ok k then ((s k : ℝ) : EReal) else ⊥ := by
    intro k
    rw [hS, scr_apply]
    by_cases hk : ok k
    · rw [if_pos hk, if_pos ((hok k).1 hk), hs k hk]
    · rw [if_neg hk, if_neg (fun h' => hk ((hok k).2 h'))]
  obtain ⟨top, htop⟩ : ∃ r : ℝ, Finset.univ.fold max ⊥ (fun k' : Fin 2048 => S (ix3 b h k')) = (r : EReal) := by
    refine fold_max_real _ (fun k => ?_) k₀ ?_
    · rw [hscr]; split
      · exact EReal.coe_ne_top _
      · exact bot_ne_top
    · rw [hscr, if_pos h0]; exact EReal.coe_ne_bot _
  have hexs : ∀ k, exs S (ix3 b h k) = ((if ok k then Real.exp (s k - top) else 0 : ℝ) : EReal) := by
    intro k
    rw [exs_apply, htop, hscr]
    by_cases hk : ok k
    · rw [if_pos hk, if_pos hk, exp_sub_coe]
    · rw [if_neg hk, if_neg hk, EReal.bot_sub, Ideal.exp_bot, EReal.coe_zero]
  have hpos := weights_pos ok s top h0
  refine ⟨top, fun l => ?_⟩
  refine Eq.trans (congrFun (res_eq m) _) ?_
  refine Eq.trans (out_apply _ _ b h l) ?_
  refine Finset.sum_congr rfl fun k _ => ?_
  rw [wts_apply, ← hS]
  simp only [hexs]
  rw [← coe_sum, Ideal.div_coe hpos.ne', ← EReal.coe_mul, mul_one_div]

end Cert.ReferenceIdeal.Attn

end
-- ==== Proof.Equal.lean ====
/-
The kernel's result is the reference's.

Under the precondition, a valid block-table entry names one page of one device; the kernel's counts are the counts of the
entries naming its pages, and both results are the same softmax-weighted sum over the valid entries' keys.
-/
module

public import proofs.«01_k».proof.Proof.KHalf
public import proofs.«01_k».proof.Proof.RHalf
public import proofs.«01_k».proof.Proof.PreVal
public import Idealize.ShloMosaic.Lib.Layout

@[expose] public section

set_option maxRecDepth 4000

noncomputable section

namespace Cert.Attn

open Idealize.ShloMosaic Idealize.ShloMosaic.TcCoe
open Idealize.SL.Sem

/-! ## Words -/

/-- The kernel's number of its device is the device's number. -/
theorem vw_eq : ∀ c : Fin 32, Cert.KernelIdeal.Attn.vw c = BitVec.ofNat 32 c.val := by decide +kernel

/-- A page number read off a word between 0 and 4096. -/
theorem page_word {w : BitVec 32} (h0 : (0#32).sle w = true) (h1 : w.slt 4096#32 = true) : w.toNat < 4096 ∧ w.toInt.toNat = w.toNat ∧ w.slt 0#32 = false := by
  rw [BitVec.sle_iff_toInt_le] at h0
  rw [BitVec.slt_iff_toInt_lt] at h1
  have e0 : (0#32).toInt = 0 := by decide
  have e1 : (4096#32).toInt = 4096 := by decide
  rw [e0] at h0; rw [e1] at h1
  have e := BitVec.toInt_eq_toNat_cond w
  have hlt := w.isLt
  have ht : w.toInt = w.toNat := by
    rw [e]; split
    · rfl
    · rename_i hh
      rw [e, if_neg hh] at h0
      omega
  refine ⟨by omega, by omega, ?_⟩
  cases hs : w.slt 0#32
  · rfl
  · rw [BitVec.slt_iff_toInt_lt, e0] at hs; omega

/-- A page's word less the first page of device `c` is the word of `p` just when the page is page `p` of device `c`. -/
theorem page_of {w : BitVec 32} (hw : w.toNat < 4096) (c : Fin 32) (p : Fin 128) :
    w - BitVec.ofNat 32 c.val * 128#32 = BitVec.ofNat 32 p.val ↔ w.toNat / 128 = c.val ∧ w.toNat % 128 = p.val := by
  have e : BitVec.ofNat 32 p.val + BitVec.ofNat 32 c.val * 128#32 = BitVec.ofNat 32 (p.val + c.val * 128) := by
    apply BitVec.eq_of_toNat_eq
    simp only [BitVec.toNat_add, BitVec.toNat_mul, BitVec.toNat_ofNat]
    omega
  rw [BitVec.sub_eq_iff_eq_add, e]
  constructor
  · intro h
    have := congrArg BitVec.toNat h
    rw [BitVec.toNat_ofNat, Nat.mod_eq_of_lt (by omega)] at this
    omega
  · rintro ⟨h1, h2⟩
    apply BitVec.eq_of_toNat_eq
    rw [BitVec.toNat_ofNat, Nat.mod_eq_of_lt (by omega)]
    omega

/-! ## Reals -/

/-- A sum of products of reals is a real. -/
theorem sum_real {n : ℕ} (x y : Fin n → EReal) (hx : ∀ i, x i ≠ ⊤ ∧ x i ≠ ⊥) (hy : ∀ i, y i ≠ ⊤ ∧ y i ≠ ⊥) (a : ℝ) :
    ∃ r : ℝ, (∑ i, x i * y i) * (a : EReal) = (r : EReal) := by
  refine ⟨(∑ i, (x i).toReal * (y i).toReal) * a, ?_⟩
  rw [EReal.coe_mul, coe_sum]
  congr 1
  refine Finset.sum_congr rfl fun i _ => ?_
  rw [EReal.coe_mul, EReal.coe_toReal (hx i).1 (hx i).2, EReal.coe_toReal (hy i).1 (hy i).2]

/-! ## The two results -/

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Device `c`'s block of an array of pages, at an index. -/
theorem block_at (X : (⟨4, ![4096, 16, 16, 64]⟩ : Shape).Idx → EReal) (c : Fin 32) (p : Fin 128) (t h : Fin 16) (d : Fin 64) :
    (Layout.block (α := EReal) ⟨4, ![128, 16, 16, 64]⟩ ⟨4, ![4096, 16, 16, 64]⟩ 0 32 (c := c) (v := X)) (ix4 p t h d)
      = X (ix4 ⟨c.val * 128 + p.val, by omega⟩ t h d) := by
  rw [Layout.block_apply]
  congr 1; funext a; apply Fin.ext
  rw [Layout.Tiles.idx_val]
  fin_cases a <;> rfl

/-- A gathered key at a page number between 0 and 4096 is the page's key. -/
theorem gat_page (X : (⟨4, ![4096, 16, 16, 64]⟩ : Shape).Idx → EReal) (B : (⟨2, ![16, 128]⟩ : Shape).Idx → BitVec 32)
    (b : Fin 16) (k : Fin 2048) (h : Fin 16) (d : Fin 64)
    (h0 : (0#32).sle (B (ix2 b ⟨k.val / 16, by omega⟩)) = true) (h1 : (B (ix2 b ⟨k.val / 16, by omega⟩)).slt 4096#32 = true) :
    Cert.ReferenceIdeal.Attn.gat X B (ix4 b k h d)
      = X (ix4 ⟨(B (ix2 b ⟨k.val / 16, by omega⟩)).toNat, (page_word h0 h1).1⟩ ⟨k.val % 16, by omega⟩ h d) := by
  obtain ⟨e1, e2, e3⟩ := page_word h0 h1
  rw [Cert.ReferenceIdeal.Attn.gat_apply]
  have e : Cert.ReferenceIdeal.Attn.wrap B (ix2 b ⟨k.val / 16, by omega⟩) = B (ix2 b ⟨k.val / 16, by omega⟩) := by
    refine (Cert.ReferenceIdeal.Attn.select_slt _ _ _ _).trans (if_neg ?_)
    rw [Bool.not_eq_true]; exact e3
  congr 2
  apply Fin.ext
  simp only [e, e2]
  omega

/-- The result of the kernel is the result of the reference. -/
theorem results_eq
    (hLp : ∀ b, (0#32).slt (Cert.ReferenceIdeal.Attn.argL m' (ix1 b)) = true)
    (hBr : ∀ b (j : Fin 128), (BitVec.ofNat 32 j.val).slt (Cert.ReferenceIdeal.Attn.argL m' (ix1 b)) = true →
      (0#32).sle (Cert.ReferenceIdeal.Attn.argB m' (ix2 b j)) = true ∧ (Cert.ReferenceIdeal.Attn.argB m' (ix2 b j)).slt 4096#32 = true)
    (hQf : ∀ c i, Cert.KernelIdeal.Attn.argQ m c i ≠ ⊤ ∧ Cert.KernelIdeal.Attn.argQ m c i ≠ ⊥)
    (hKf : ∀ c i, Cert.KernelIdeal.Attn.argK m c i ≠ ⊤ ∧ Cert.KernelIdeal.Attn.argK m c i ≠ ⊥)
    (hQ : ∀ c, Cert.KernelIdeal.Attn.argQ m c = Cert.ReferenceIdeal.Attn.argQ m')
    (hK : ∀ c : Fin 32, Cert.KernelIdeal.Attn.argK m c = Layout.block (α := EReal) ⟨4, ![128, 16, 16, 64]⟩ ⟨4, ![4096, 16, 16, 64]⟩ 0 32 (c := c) (v := Cert.ReferenceIdeal.Attn.argK m'))
    (hV : ∀ c : Fin 32, Cert.KernelIdeal.Attn.argV m c = Layout.block (α := EReal) ⟨4, ![128, 16, 16, 64]⟩ ⟨4, ![4096, 16, 16, 64]⟩ 0 32 (c := c) (v := Cert.ReferenceIdeal.Attn.argV m'))
    (hB : ∀ c, Cert.KernelIdeal.Attn.argB m c = Cert.ReferenceIdeal.Attn.argB m')
    (hL : ∀ c, Cert.KernelIdeal.Attn.argL m c = Cert.ReferenceIdeal.Attn.argL m')
    (b h : Fin 16) (l : Fin 64) :
    @Eq EReal (Cert.KernelIdeal.Attn.outVal m (ix4 b 0 h l)) (Cert.ReferenceIdeal.Value.res_main_v38 m' 0 (ix4 b 0 h l)) := by
  set B := Cert.ReferenceIdeal.Attn.argB m' with hBdef
  set L := Cert.ReferenceIdeal.Attn.argL m' with hLdef
  obtain ⟨sc, hsc⟩ := Cert.KernelIdeal.Attn.ofBits_scale
  -- The entries below the row's length, and the device and the page an entry names.
  let valid : Fin 128 → Prop := fun j => (BitVec.ofNat 32 j.val).slt (L (ix1 b)) = true
  let dc : Fin 128 → Fin 32 := fun j => ⟨(B (ix2 b j)).toNat / 128 % 32, Nat.mod_lt _ (by omega)⟩
  let pc : Fin 128 → Fin 128 := fun j => ⟨(B (ix2 b j)).toNat % 128, Nat.mod_lt _ (by omega)⟩
  have hin : ∀ j, valid j → (B (ix2 b j)).toNat < 4096 := fun j hj => (page_word (hBr b j hj).1 (hBr b j hj).2).1
  have h0 : valid 0 := hLp b
  -- The counts.
  have hc : ∀ c p, Cert.KernelIdeal.Attn.cntE m c b p = ((cnt valid dc pc c p : ℝ) : EReal) := by
    intro c p
    rw [Cert.KernelIdeal.Attn.cntE, cnt, coe_sum]
    refine Finset.sum_congr rfl fun j _ => ?_
    rw [hB, hL, vw_eq]
    have hiff : (B (ix2 b j) - BitVec.ofNat 32 c.val * 128#32 = BitVec.ofNat 32 p.val ∧ (BitVec.ofNat 32 j.val).slt (L (ix1 b)) = true)
        ↔ (valid j ∧ dc j = c ∧ pc j = p) := by
      rw [and_comm]
      refine and_congr_right fun hj => ?_
      have hlt := hin j hj
      rw [page_of hlt, Fin.ext_iff, Fin.ext_iff]
      show _ ↔ (B (ix2 b j)).toNat / 128 % 32 = c.val ∧ (B (ix2 b j)).toNat % 128 = p.val
      rw [Nat.mod_eq_of_lt (by omega : (B (ix2 b j)).toNat / 128 < 32)]
    by_cases hh : valid j ∧ dc j = c ∧ pc j = p
    · rw [if_pos hh, if_pos (hiff.2 hh), EReal.coe_one]
    · rw [if_neg hh, if_neg (fun h' => hh (hiff.1 h')), EReal.coe_zero]
  -- The scores.
  have hsx : ∀ (c : Fin 32) (p : Fin 128) (t : Fin 16), ∃ r : ℝ,
      (∑ d : Fin 64, Cert.KernelIdeal.Attn.argQ m c (ix4 b 0 h d) * Cert.KernelIdeal.Attn.argK m c (ix4 p t h d))
        * Ideal.ofBits .f32 0x3E000000#32 = (r : EReal) := by
    intro c p t
    rw [hsc]
    exact sum_real _ _ (fun d => hQf c _) (fun d => hKf c _) sc
  choose σ hσ using hsx
  have hs : ∀ c k, Cert.KernelIdeal.Attn.scE m c h b k = ((σ c (Cert.KernelIdeal.Attn.kp k) (Cert.KernelIdeal.Attn.kt k) : ℝ) : EReal) :=
    fun c k => hσ c _ _
  -- The page an entry names, in the whole array and on its device.
  have hblk : ∀ (X : (⟨4, ![4096, 16, 16, 64]⟩ : Shape).Idx → EReal) (k : Fin 2048) (d : Fin 64), valid (Cert.KernelIdeal.Attn.kp k) →
      Cert.ReferenceIdeal.Attn.gat X B (ix4 b k h d)
        = (Layout.block (α := EReal) ⟨4, ![128, 16, 16, 64]⟩ ⟨4, ![4096, 16, 16, 64]⟩ 0 32 (c := dc (Cert.KernelIdeal.Attn.kp k)) (v := X))
            (ix4 (pc (Cert.KernelIdeal.Attn.kp k)) (Cert.KernelIdeal.Attn.kt k) h d) := by
    intro X k d hk
    have hr := hBr b _ hk
    rw [block_at, gat_page X B b k h d hr.1 hr.2]
    have hlt := hin _ hk
    congr 2
    apply Fin.ext
    show (B (ix2 b (Cert.KernelIdeal.Attn.kp k))).toNat = (B (ix2 b (Cert.KernelIdeal.Attn.kp k))).toNat / 128 % 32 * 128 + (B (ix2 b (Cert.KernelIdeal.Attn.kp k))).toNat % 128
    omega
  obtain ⟨a, ha⟩ := Cert.KernelIdeal.Attn.kernel_half m h b valid dc pc σ hc hs h0
  obtain ⟨a', ha'⟩ := Cert.ReferenceIdeal.Attn.reference_half m' h b (fun k => valid (Cert.KernelIdeal.Attn.kp k))
    (fun k => σ (dc (Cert.KernelIdeal.Attn.kp k)) (pc (Cert.KernelIdeal.Attn.kp k)) (Cert.KernelIdeal.Attn.kt k))
    (fun k => Iff.rfl) (fun k hk => by
      rw [← hσ, hK, ← hQ (dc (Cert.KernelIdeal.Attn.kp k))]
      congr 1
      refine Finset.sum_congr rfl fun d _ => ?_
      rw [← hBdef, hblk _ k d hk]) (k₀ := 0) h0
  refine (ha l).trans (Eq.trans ?_ (ha' l).symm)
  refine Finset.sum_congr rfl fun k _ => ?_
  rw [weight_shift (fun k => valid (Cert.KernelIdeal.Attn.kp k)) (fun k => σ (dc (Cert.KernelIdeal.Attn.kp k)) (pc (Cert.KernelIdeal.Attn.kp k)) (Cert.KernelIdeal.Attn.kt k)) a a' k]
  by_cases hk : valid (Cert.KernelIdeal.Attn.kp k)
  · rw [← hBdef, hblk _ k l hk, hV]
  · rw [if_neg hk, zero_div, EReal.coe_zero, zero_mul, zero_mul]

end

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Start
public import proofs.«01_k».proof.Proof.Same
public import proofs.«01_k».proof.Proof.KFinal
public import proofs.«01_k».proof.Proof.PreVal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The printed kernel runs to its end on all devices, its arguments unchanged and every semaphore back at zero: it has
    the text of its idealized form, whose run is proved over any float values. -/
theorem frame_kernel : Cert.quiescent_Kernel := by
  intro m ρ _
  have h := Cert.KernelIdeal.Attn.run_frame (F := Bits) m ρ
  rw [← defs_same, ← main_same] at h
  exact h

/-- The same of the idealized kernel, over the extended reals. -/
theorem frame_ideal : Cert.quiescent_KernelIdeal := fun m ρ _ => Cert.KernelIdeal.Attn.run_frame (F := Ideal) m ρ

/-- The reference runs to its end with its arguments unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel's result on every device is the reference's, where the page numbers below each row's length are
    in range, every row has a key, and the queries and keys are finite. -/
theorem equal_results : Cert.algebraic_KernelIdeal_ReferenceIdeal_pre_pages_in_range_KernelIdeal
    (hPre_pages_in_range_KernelIdeal := Cert.Attn.preFacts) := by
  intro m ρ m' ρ' hpre hag
  have hr := fun c => Cert.Attn.pre_read _ _ _ _ _ (hpre c)
  have hB := fun c => (hag c).2.2.2.1
  have hL := fun c => (hag c).2.2.2.2
  have e : Cert.KernelIdeal.Attn.outVal m = Cert.ReferenceIdeal.Value.res_main_v38 m' 0 := by
    funext i
    have hi : i = ix4 (i 0) 0 (i 2) (i 3) := by
      funext a
      fin_cases a
      · rfl
      · exact Subsingleton.elim (α := Fin 1) _ _
      · rfl
      · rfl
    rw [hi]
    refine Cert.Attn.results_eq m m' (fun b => ?_) (fun b j hj => ?_) (fun c => (hr c).2.2.1) (fun c => (hr c).2.2.2)
      (fun c => (hag c).1) (fun c => (hag c).2.1) (fun c => (hag c).2.2.1) hB hL _ _ _
    · have h := (hr 0).1 b
      rw [hL 0] at h
      exact h
    · have h := (hr 0).2.1 b j
      rw [hL 0, hB 0] at h
      exact h hj
  refine ⟨Cert.ReferenceIdeal.Value.res_main_v38 m' 0, ?_, ?_⟩
  · have h := Cert.KernelIdeal.Attn.run_value (F := Ideal) m ρ
    rw [e] at h
    exact h
  · exact (θ_run Cert.ReferenceIdeal.defs _ _).mono (fun _ h => h 0) (Cert.ReferenceIdeal.Value.run (F := Ideal) m' ρ')

/-- Everything claimed; the frames under the precondition are the frames that take none. -/
theorem claim : Cert.Claim := ⟨Cert.Kernel.Gen.facts, Cert.KernelIdeal.Gen.facts, Cert.ReferenceIdeal.Gen.facts,
  Cert.Attn.preFacts, Cert.Attn.preFactsR,
  frame_kernel, frame_ideal, fun m ρ _ => frame_ideal m ρ trivial, frame_reference, fun m ρ _ => frame_reference m ρ trivial,
  trivial, equal_results⟩

end Cert.Proof

end
